-- ==== Defs.lean ====
def Pre_Main (m : (ℓ : Loc Cert.Main.nD Cert.Main.τ Cert.Main.sig) → Buf (Elt Bits) ℓ) : Prop :=
  True

def Pre_MainIdeal (m : (ℓ : Loc Cert.MainIdeal.nD Cert.MainIdeal.τ Cert.MainIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Delta (m : (ℓ : Loc Cert.Delta.nD Cert.Delta.τ Cert.Delta.sig) → Buf (Elt Bits) ℓ) : Prop :=
  True

def Pre_DeltaIdeal (m : (ℓ : Loc Cert.DeltaIdeal.nD Cert.DeltaIdeal.τ Cert.DeltaIdeal.sig) → Buf (Elt Ideal) ℓ) : Prop :=
  True

def Pre_DeltaIdeal_scale_finite [hPre_scale_finite : Cert.Pre_scale_finite.Facts] (m : (ℓ : Loc Cert.DeltaIdeal.nD Cert.DeltaIdeal.τ Cert.DeltaIdeal.sig) → Buf (Elt Ideal) ℓ) : Prop :=
  ∀ c : Dev Cert.DeltaIdeal.nD,
    (Cert.Pre_scale_finite.fn (F := Ideal) (m ((c.tc : Thread Cert.DeltaIdeal.nD Cert.DeltaIdeal.τ).loc Cert.DeltaIdeal.main_arg0)) (m ((c.tc : Thread Cert.DeltaIdeal.nD Cert.DeltaIdeal.τ).loc Cert.DeltaIdeal.main_arg1)) (m ((c.tc : Thread Cert.DeltaIdeal.nD Cert.DeltaIdeal.τ).loc Cert.DeltaIdeal.main_arg2))) = (fun _ => 1#1)

def Pre_DeltaRefIdeal (m : (ℓ : Loc Cert.DeltaRefIdeal.nD Cert.DeltaRefIdeal.τ Cert.DeltaRefIdeal.sig) → Buf (Elt Ideal) ℓ) : Prop :=
  True

def Pre_DeltaRefIdeal_scale_finite [hPre_scale_finite : Cert.Pre_scale_finite.Facts] (m : (ℓ : Loc Cert.DeltaRefIdeal.nD Cert.DeltaRefIdeal.τ Cert.DeltaRefIdeal.sig) → Buf (Elt Ideal) ℓ) : Prop :=
  ∀ c : Dev Cert.DeltaRefIdeal.nD,
    (Cert.Pre_scale_finite.fn (F := Ideal) (m ((c.tc : Thread Cert.DeltaRefIdeal.nD Cert.DeltaRefIdeal.τ).loc Cert.DeltaRefIdeal.main_arg0)) (m ((c.tc : Thread Cert.DeltaRefIdeal.nD Cert.DeltaRefIdeal.τ).loc Cert.DeltaRefIdeal.main_arg1)) (m ((c.tc : Thread Cert.DeltaRefIdeal.nD Cert.DeltaRefIdeal.τ).loc Cert.DeltaRefIdeal.main_arg2))) = (fun _ => 1#1)

def quiescent_Main [hMain : Cert.Main.Facts] : Prop :=
  ∀ (m : (ℓ : Loc Cert.Main.nD Cert.Main.τ Cert.Main.sig) → Buf (Elt Bits) ℓ) (g : Dev Cert.Main.nD → PrngReg), Pre_Main m →
    θ_run (Cert.Main.defs (F := Bits)) (onTc (τ := Cert.Main.τ) (Cert.Main.main (F := Bits))) ⟨m, fun _ => 0, g⟩ (fun r => (∀ c : Dev Cert.Main.nD,
      r.2.mem ((c.tc : Thread Cert.Main.nD Cert.Main.τ).loc Cert.Main.main_arg0) = m ((c.tc : Thread Cert.Main.nD Cert.Main.τ).loc Cert.Main.main_arg0)
      ∧ r.2.mem ((c.tc : Thread Cert.Main.nD Cert.Main.τ).loc Cert.Main.main_arg1) = m ((c.tc : Thread Cert.Main.nD Cert.Main.τ).loc Cert.Main.main_arg1)
      ∧ r.2.mem ((c.tc : Thread Cert.Main.nD Cert.Main.τ).loc Cert.Main.main_arg2) = m ((c.tc : Thread Cert.Main.nD Cert.Main.τ).loc Cert.Main.main_arg2)
      ∧ r.2.mem ((c.tc : Thread Cert.Main.nD Cert.Main.τ).loc Cert.Main.main_arg3) = m ((c.tc : Thread Cert.Main.nD Cert.Main.τ).loc Cert.Main.main_arg3)
      ∧ r.2.mem ((c.tc : Thread Cert.Main.nD Cert.Main.τ).loc Cert.Main.main_arg4) = m ((c.tc : Thread Cert.Main.nD Cert.Main.τ).loc Cert.Main.main_arg4)
      ∧ r.2.mem ((c.tc : Thread Cert.Main.nD Cert.Main.τ).loc Cert.Main.main_arg5) = m ((c.tc : Thread Cert.Main.nD Cert.Main.τ).loc Cert.Main.main_arg5)
      ∧ r.2.mem ((c.tc : Thread Cert.Main.nD Cert.Main.τ).loc Cert.Main.main_arg6) = m ((c.tc : Thread Cert.Main.nD Cert.Main.τ).loc Cert.Main.main_arg6)
      ∧ r.2.mem ((c.tc : Thread Cert.Main.nD Cert.Main.τ).loc Cert.Main.main_arg7) = m ((c.tc : Thread Cert.Main.nD Cert.Main.τ).loc Cert.Main.main_arg7)
      ∧ r.2.mem ((c.tc : Thread Cert.Main.nD Cert.Main.τ).loc Cert.Main.main_arg8) = m ((c.tc : Thread Cert.Main.nD Cert.Main.τ).loc Cert.Main.main_arg8)
      ∧ r.2.mem ((c.tc : Thread Cert.Main.nD Cert.Main.τ).loc Cert.Main.main_arg9) = m ((c.tc : Thread Cert.Main.nD Cert.Main.τ).loc Cert.Main.main_arg9))
      ∧ r.2.sem = fun _ => 0)

def quiescent_MainIdeal [hMainIdeal : Cert.MainIdeal.Facts] : Prop :=
  ∀ (m : (ℓ : Loc Cert.MainIdeal.nD Cert.MainIdeal.τ Cert.MainIdeal.sig) → Buf (Elt Ideal) ℓ) (g : Dev Cert.MainIdeal.nD → PrngReg), Pre_MainIdeal m →
    θ_run (Cert.MainIdeal.defs (F := Ideal)) (onTc (τ := Cert.MainIdeal.τ) (Cert.MainIdeal.main (F := Ideal))) ⟨m, fun _ => 0, g⟩ (fun r => (∀ c : Dev Cert.MainIdeal.nD,
      r.2.mem ((c.tc : Thread Cert.MainIdeal.nD Cert.MainIdeal.τ).loc Cert.MainIdeal.main_arg0) = m ((c.tc : Thread Cert.MainIdeal.nD Cert.MainIdeal.τ).loc Cert.MainIdeal.main_arg0)
      ∧ r.2.mem ((c.tc : Thread Cert.MainIdeal.nD Cert.MainIdeal.τ).loc Cert.MainIdeal.main_arg1) = m ((c.tc : Thread Cert.MainIdeal.nD Cert.MainIdeal.τ).loc Cert.MainIdeal.main_arg1)
      ∧ r.2.mem ((c.tc : Thread Cert.MainIdeal.nD Cert.MainIdeal.τ).loc Cert.MainIdeal.main_arg2) = m ((c.tc : Thread Cert.MainIdeal.nD Cert.MainIdeal.τ).loc Cert.MainIdeal.main_arg2)
      ∧ r.2.mem ((c.tc : Thread Cert.MainIdeal.nD Cert.MainIdeal.τ).loc Cert.MainIdeal.main_arg3) = m ((c.tc : Thread Cert.MainIdeal.nD Cert.MainIdeal.τ).loc Cert.MainIdeal.main_arg3)
      ∧ r.2.mem ((c.tc : Thread Cert.MainIdeal.nD Cert.MainIdeal.τ).loc Cert.MainIdeal.main_arg4) = m ((c.tc : Thread Cert.MainIdeal.nD Cert.MainIdeal.τ).loc Cert.MainIdeal.main_arg4)
      ∧ r.2.mem ((c.tc : Thread Cert.MainIdeal.nD Cert.MainIdeal.τ).loc Cert.MainIdeal.main_arg5) = m ((c.tc : Thread Cert.MainIdeal.nD Cert.MainIdeal.τ).loc Cert.MainIdeal.main_arg5)
      ∧ r.2.mem ((c.tc : Thread Cert.MainIdeal.nD Cert.MainIdeal.τ).loc Cert.MainIdeal.main_arg6) = m ((c.tc : Thread Cert.MainIdeal.nD Cert.MainIdeal.τ).loc Cert.MainIdeal.main_arg6)
      ∧ r.2.mem ((c.tc : Thread Cert.MainIdeal.nD Cert.MainIdeal.τ).loc Cert.MainIdeal.main_arg7) = m ((c.tc : Thread Cert.MainIdeal.nD Cert.MainIdeal.τ).loc Cert.MainIdeal.main_arg7)
      ∧ r.2.mem ((c.tc : Thread Cert.MainIdeal.nD Cert.MainIdeal.τ).loc Cert.MainIdeal.main_arg8) = m ((c.tc : Thread Cert.MainIdeal.nD Cert.MainIdeal.τ).loc Cert.MainIdeal.main_arg8)
      ∧ r.2.mem ((c.tc : Thread Cert.MainIdeal.nD Cert.MainIdeal.τ).loc Cert.MainIdeal.main_arg9) = m ((c.tc : Thread Cert.MainIdeal.nD Cert.MainIdeal.τ).loc Cert.MainIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_Delta [hDelta : Cert.Delta.Facts] : Prop :=
  ∀ (m : (ℓ : Loc Cert.Delta.nD Cert.Delta.τ Cert.Delta.sig) → Buf (Elt Bits) ℓ) (g : Dev Cert.Delta.nD → PrngReg), Pre_Delta m →
    θ_run (Cert.Delta.defs (F := Bits)) (onTc (τ := Cert.Delta.τ) (Cert.Delta.main (F := Bits))) ⟨m, fun _ => 0, g⟩ (fun r => (∀ c : Dev Cert.Delta.nD,
      r.2.mem ((c.tc : Thread Cert.Delta.nD Cert.Delta.τ).loc Cert.Delta.main_arg0) = m ((c.tc : Thread Cert.Delta.nD Cert.Delta.τ).loc Cert.Delta.main_arg0)
      ∧ r.2.mem ((c.tc : Thread Cert.Delta.nD Cert.Delta.τ).loc Cert.Delta.main_arg1) = m ((c.tc : Thread Cert.Delta.nD Cert.Delta.τ).loc Cert.Delta.main_arg1)
      ∧ r.2.mem ((c.tc : Thread Cert.Delta.nD Cert.Delta.τ).loc Cert.Delta.main_arg2) = m ((c.tc : Thread Cert.Delta.nD Cert.Delta.τ).loc Cert.Delta.main_arg2))
      ∧ r.2.sem = fun _ => 0)

def quiescent_DeltaIdeal [hDeltaIdeal : Cert.DeltaIdeal.Facts] : Prop :=
  ∀ (m : (ℓ : Loc Cert.DeltaIdeal.nD Cert.DeltaIdeal.τ Cert.DeltaIdeal.sig) → Buf (Elt Ideal) ℓ) (g : Dev Cert.DeltaIdeal.nD → PrngReg), Pre_DeltaIdeal m →
    θ_run (Cert.DeltaIdeal.defs (F := Ideal)) (onTc (τ := Cert.DeltaIdeal.τ) (Cert.DeltaIdeal.main (F := Ideal))) ⟨m, fun _ => 0, g⟩ (fun r => (∀ c : Dev Cert.DeltaIdeal.nD,
      r.2.mem ((c.tc : Thread Cert.DeltaIdeal.nD Cert.DeltaIdeal.τ).loc Cert.DeltaIdeal.main_arg0) = m ((c.tc : Thread Cert.DeltaIdeal.nD Cert.DeltaIdeal.τ).loc Cert.DeltaIdeal.main_arg0)
      ∧ r.2.mem ((c.tc : Thread Cert.DeltaIdeal.nD Cert.DeltaIdeal.τ).loc Cert.DeltaIdeal.main_arg1) = m ((c.tc : Thread Cert.DeltaIdeal.nD Cert.DeltaIdeal.τ).loc Cert.DeltaIdeal.main_arg1)
      ∧ r.2.mem ((c.tc : Thread Cert.DeltaIdeal.nD Cert.DeltaIdeal.τ).loc Cert.DeltaIdeal.main_arg2) = m ((c.tc : Thread Cert.DeltaIdeal.nD Cert.DeltaIdeal.τ).loc Cert.DeltaIdeal.main_arg2))
      ∧ r.2.sem = fun _ => 0)

def quiescent_DeltaIdeal_pre_scale_finite [hDeltaIdeal : Cert.DeltaIdeal.Facts] [hPre_scale_finite : Cert.Pre_scale_finite.Facts] : Prop :=
  ∀ (m : (ℓ : Loc Cert.DeltaIdeal.nD Cert.DeltaIdeal.τ Cert.DeltaIdeal.sig) → Buf (Elt Ideal) ℓ) (g : Dev Cert.DeltaIdeal.nD → PrngReg), Pre_DeltaIdeal_scale_finite m →
    θ_run (Cert.DeltaIdeal.defs (F := Ideal)) (onTc (τ := Cert.DeltaIdeal.τ) (Cert.DeltaIdeal.main (F := Ideal))) ⟨m, fun _ => 0, g⟩ (fun r => (∀ c : Dev Cert.DeltaIdeal.nD,
      r.2.mem ((c.tc : Thread Cert.DeltaIdeal.nD Cert.DeltaIdeal.τ).loc Cert.DeltaIdeal.main_arg0) = m ((c.tc : Thread Cert.DeltaIdeal.nD Cert.DeltaIdeal.τ).loc Cert.DeltaIdeal.main_arg0)
      ∧ r.2.mem ((c.tc : Thread Cert.DeltaIdeal.nD Cert.DeltaIdeal.τ).loc Cert.DeltaIdeal.main_arg1) = m ((c.tc : Thread Cert.DeltaIdeal.nD Cert.DeltaIdeal.τ).loc Cert.DeltaIdeal.main_arg1)
      ∧ r.2.mem ((c.tc : Thread Cert.DeltaIdeal.nD Cert.DeltaIdeal.τ).loc Cert.DeltaIdeal.main_arg2) = m ((c.tc : Thread Cert.DeltaIdeal.nD Cert.DeltaIdeal.τ).loc Cert.DeltaIdeal.main_arg2))
      ∧ r.2.sem = fun _ => 0)

def quiescent_DeltaRefIdeal [hDeltaRefIdeal : Cert.DeltaRefIdeal.Facts] : Prop :=
  ∀ (m : (ℓ : Loc Cert.DeltaRefIdeal.nD Cert.DeltaRefIdeal.τ Cert.DeltaRefIdeal.sig) → Buf (Elt Ideal) ℓ) (g : Dev Cert.DeltaRefIdeal.nD → PrngReg), Pre_DeltaRefIdeal m →
    θ_run (Cert.DeltaRefIdeal.defs (F := Ideal)) (onTc (τ := Cert.DeltaRefIdeal.τ) (Cert.DeltaRefIdeal.main (F := Ideal))) ⟨m, fun _ => 0, g⟩ (fun r => (∀ c : Dev Cert.DeltaRefIdeal.nD,
      r.2.mem ((c.tc : Thread Cert.DeltaRefIdeal.nD Cert.DeltaRefIdeal.τ).loc Cert.DeltaRefIdeal.main_arg0) = m ((c.tc : Thread Cert.DeltaRefIdeal.nD Cert.DeltaRefIdeal.τ).loc Cert.DeltaRefIdeal.main_arg0)
      ∧ r.2.mem ((c.tc : Thread Cert.DeltaRefIdeal.nD Cert.DeltaRefIdeal.τ).loc Cert.DeltaRefIdeal.main_arg1) = m ((c.tc : Thread Cert.DeltaRefIdeal.nD Cert.DeltaRefIdeal.τ).loc Cert.DeltaRefIdeal.main_arg1)
      ∧ r.2.mem ((c.tc : Thread Cert.DeltaRefIdeal.nD Cert.DeltaRefIdeal.τ).loc Cert.DeltaRefIdeal.main_arg2) = m ((c.tc : Thread Cert.DeltaRefIdeal.nD Cert.DeltaRefIdeal.τ).loc Cert.DeltaRefIdeal.main_arg2))
      ∧ r.2.sem = fun _ => 0)

def quiescent_DeltaRefIdeal_pre_scale_finite [hDeltaRefIdeal : Cert.DeltaRefIdeal.Facts] [hPre_scale_finite : Cert.Pre_scale_finite.Facts] : Prop :=
  ∀ (m : (ℓ : Loc Cert.DeltaRefIdeal.nD Cert.DeltaRefIdeal.τ Cert.DeltaRefIdeal.sig) → Buf (Elt Ideal) ℓ) (g : Dev Cert.DeltaRefIdeal.nD → PrngReg), Pre_DeltaRefIdeal_scale_finite m →
    θ_run (Cert.DeltaRefIdeal.defs (F := Ideal)) (onTc (τ := Cert.DeltaRefIdeal.τ) (Cert.DeltaRefIdeal.main (F := Ideal))) ⟨m, fun _ => 0, g⟩ (fun r => (∀ c : Dev Cert.DeltaRefIdeal.nD,
      r.2.mem ((c.tc : Thread Cert.DeltaRefIdeal.nD Cert.DeltaRefIdeal.τ).loc Cert.DeltaRefIdeal.main_arg0) = m ((c.tc : Thread Cert.DeltaRefIdeal.nD Cert.DeltaRefIdeal.τ).loc Cert.DeltaRefIdeal.main_arg0)
      ∧ r.2.mem ((c.tc : Thread Cert.DeltaRefIdeal.nD Cert.DeltaRefIdeal.τ).loc Cert.DeltaRefIdeal.main_arg1) = m ((c.tc : Thread Cert.DeltaRefIdeal.nD Cert.DeltaRefIdeal.τ).loc Cert.DeltaRefIdeal.main_arg1)
      ∧ r.2.mem ((c.tc : Thread Cert.DeltaRefIdeal.nD Cert.DeltaRefIdeal.τ).loc Cert.DeltaRefIdeal.main_arg2) = m ((c.tc : Thread Cert.DeltaRefIdeal.nD Cert.DeltaRefIdeal.τ).loc Cert.DeltaRefIdeal.main_arg2))
      ∧ r.2.sem = fun _ => 0)

def preserves_Main_MainIdeal : Prop :=
  IdealRules.named_const.Statement Cert.MainIdeal.κ "log2e" .f32 0x3FB8AA3B#32 (((Real.log 2)⁻¹ : ℝ) : EReal)
  ∧ IdealRules.named_const.Statement Cert.MainIdeal.κ "scale_over_cap" .f32 0x3C4CCCCD#32 ((1 / 80 : ℝ) : EReal)
  ∧ IdealRules.named_const.Statement Cert.MainIdeal.κ "cap_log2e" .f32 0x40E6D4CA#32 ((5 * (Real.log 2)⁻¹ : ℝ) : EReal)

def algebraic_MainIdeal_ReferenceIdeal [hMainIdeal : Cert.MainIdeal.Facts] [hReferenceIdeal : Cert.ReferenceIdeal.Facts] : Prop :=
  ∀ (m : (ℓ : Loc Cert.MainIdeal.nD Cert.MainIdeal.τ Cert.MainIdeal.sig) → Buf (Elt Ideal) ℓ) (g : Dev Cert.MainIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_MainIdeal m →
    (∀ c : Dev Cert.MainIdeal.nD,
      m' ((c.tc : Thread Cert.ReferenceIdeal.nD Cert.ReferenceIdeal.τ).loc Cert.ReferenceIdeal.main_arg0) = m ((c.tc : Thread Cert.MainIdeal.nD Cert.MainIdeal.τ).loc Cert.MainIdeal.main_arg0)
      ∧ m' ((c.tc : Thread Cert.ReferenceIdeal.nD Cert.ReferenceIdeal.τ).loc Cert.ReferenceIdeal.main_arg1) = m ((c.tc : Thread Cert.MainIdeal.nD Cert.MainIdeal.τ).loc Cert.MainIdeal.main_arg1)
      ∧ m' ((c.tc : Thread Cert.ReferenceIdeal.nD Cert.ReferenceIdeal.τ).loc Cert.ReferenceIdeal.main_arg2) = m ((c.tc : Thread Cert.MainIdeal.nD Cert.MainIdeal.τ).loc Cert.MainIdeal.main_arg2)
      ∧ m' ((c.tc : Thread Cert.ReferenceIdeal.nD Cert.ReferenceIdeal.τ).loc Cert.ReferenceIdeal.main_arg3) = m ((c.tc : Thread Cert.MainIdeal.nD Cert.MainIdeal.τ).loc Cert.MainIdeal.main_arg3)
      ∧ m' ((c.tc : Thread Cert.ReferenceIdeal.nD Cert.ReferenceIdeal.τ).loc Cert.ReferenceIdeal.main_arg4) = m ((c.tc : Thread Cert.MainIdeal.nD Cert.MainIdeal.τ).loc Cert.MainIdeal.main_arg4)
      ∧ m' ((c.tc : Thread Cert.ReferenceIdeal.nD Cert.ReferenceIdeal.τ).loc Cert.ReferenceIdeal.main_arg5) = m ((c.tc : Thread Cert.MainIdeal.nD Cert.MainIdeal.τ).loc Cert.MainIdeal.main_arg5)
      ∧ m' ((c.tc : Thread Cert.ReferenceIdeal.nD Cert.ReferenceIdeal.τ).loc Cert.ReferenceIdeal.main_arg6) = m ((c.tc : Thread Cert.MainIdeal.nD Cert.MainIdeal.τ).loc Cert.MainIdeal.main_arg6)
      ∧ m' ((c.tc : Thread Cert.ReferenceIdeal.nD Cert.ReferenceIdeal.τ).loc Cert.ReferenceIdeal.main_arg7) = m ((c.tc : Thread Cert.MainIdeal.nD Cert.MainIdeal.τ).loc Cert.MainIdeal.main_arg7)
      ∧ m' ((c.tc : Thread Cert.ReferenceIdeal.nD Cert.ReferenceIdeal.τ).loc Cert.ReferenceIdeal.main_arg8) = m ((c.tc : Thread Cert.MainIdeal.nD Cert.MainIdeal.τ).loc Cert.MainIdeal.main_arg8)
      ∧ m' ((c.tc : Thread Cert.ReferenceIdeal.nD Cert.ReferenceIdeal.τ).loc Cert.ReferenceIdeal.main_arg9) = m ((c.tc : Thread Cert.MainIdeal.nD Cert.MainIdeal.τ).loc Cert.MainIdeal.main_arg9)) →
    ∃ (v0 : (c : Dev Cert.MainIdeal.nD) → Buf (Elt Ideal) ((c.tc : Thread Cert.MainIdeal.nD Cert.MainIdeal.τ).loc Cert.MainIdeal.main_v21_0)) (v1 : (c : Dev Cert.MainIdeal.nD) → Buf (Elt Ideal) ((c.tc : Thread Cert.MainIdeal.nD Cert.MainIdeal.τ).loc Cert.MainIdeal.main_v21_1)) (v2 : (c : Dev Cert.MainIdeal.nD) → Buf (Elt Ideal) ((c.tc : Thread Cert.MainIdeal.nD Cert.MainIdeal.τ).loc Cert.MainIdeal.main_v21_2)),
      θ_run (Cert.MainIdeal.defs (F := Ideal)) (onTc (τ := Cert.MainIdeal.τ) (Cert.MainIdeal.main (F := Ideal))) ⟨m, fun _ => 0, g⟩ (fun r => ∀ c : Dev Cert.MainIdeal.nD,
          r.2.mem ((c.tc : Thread Cert.MainIdeal.nD Cert.MainIdeal.τ).loc Cert.MainIdeal.main_v21_0) = v0 c
          ∧ r.2.mem ((c.tc : Thread Cert.MainIdeal.nD Cert.MainIdeal.τ).loc Cert.MainIdeal.main_v21_1) = v1 c
          ∧ r.2.mem ((c.tc : Thread Cert.MainIdeal.nD Cert.MainIdeal.τ).loc Cert.MainIdeal.main_v21_2) = v2 c
          ∧ r.2.mem ((c.tc : Thread Cert.MainIdeal.nD Cert.MainIdeal.τ).loc Cert.MainIdeal.main_arg0) = m ((c.tc : Thread Cert.MainIdeal.nD Cert.MainIdeal.τ).loc Cert.MainIdeal.main_arg0)
          ∧ r.2.mem ((c.tc : Thread Cert.MainIdeal.nD Cert.MainIdeal.τ).loc Cert.MainIdeal.main_arg1) = m ((c.tc : Thread Cert.MainIdeal.nD Cert.MainIdeal.τ).loc Cert.MainIdeal.main_arg1)
          ∧ r.2.mem ((c.tc : Thread Cert.MainIdeal.nD Cert.MainIdeal.τ).loc Cert.MainIdeal.main_arg2) = m ((c.tc : Thread Cert.MainIdeal.nD Cert.MainIdeal.τ).loc Cert.MainIdeal.main_arg2)
          ∧ r.2.mem ((c.tc : Thread Cert.MainIdeal.nD Cert.MainIdeal.τ).loc Cert.MainIdeal.main_arg3) = m ((c.tc : Thread Cert.MainIdeal.nD Cert.MainIdeal.τ).loc Cert.MainIdeal.main_arg3)
          ∧ r.2.mem ((c.tc : Thread Cert.MainIdeal.nD Cert.MainIdeal.τ).loc Cert.MainIdeal.main_arg4) = m ((c.tc : Thread Cert.MainIdeal.nD Cert.MainIdeal.τ).loc Cert.MainIdeal.main_arg4)
          ∧ r.2.mem ((c.tc : Thread Cert.MainIdeal.nD Cert.MainIdeal.τ).loc Cert.MainIdeal.main_arg5) = m ((c.tc : Thread Cert.MainIdeal.nD Cert.MainIdeal.τ).loc Cert.MainIdeal.main_arg5)
          ∧ r.2.mem ((c.tc : Thread Cert.MainIdeal.nD Cert.MainIdeal.τ).loc Cert.MainIdeal.main_arg6) = m ((c.tc : Thread Cert.MainIdeal.nD Cert.MainIdeal.τ).loc Cert.MainIdeal.main_arg6)
          ∧ r.2.mem ((c.tc : Thread Cert.MainIdeal.nD Cert.MainIdeal.τ).loc Cert.MainIdeal.main_arg7) = m ((c.tc : Thread Cert.MainIdeal.nD Cert.MainIdeal.τ).loc Cert.MainIdeal.main_arg7)
          ∧ r.2.mem ((c.tc : Thread Cert.MainIdeal.nD Cert.MainIdeal.τ).loc Cert.MainIdeal.main_arg8) = m ((c.tc : Thread Cert.MainIdeal.nD Cert.MainIdeal.τ).loc Cert.MainIdeal.main_arg8)
          ∧ r.2.mem ((c.tc : Thread Cert.MainIdeal.nD Cert.MainIdeal.τ).loc Cert.MainIdeal.main_arg9) = m ((c.tc : Thread Cert.MainIdeal.nD Cert.MainIdeal.τ).loc Cert.MainIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7_0) = v0 c
          ∧ r.2.mem ((c.tc : Thread Cert.ReferenceIdeal.nD Cert.ReferenceIdeal.τ).loc Cert.ReferenceIdeal.main_v7_1) = v1 c
          ∧ r.2.mem ((c.tc : Thread Cert.ReferenceIdeal.nD Cert.ReferenceIdeal.τ).loc Cert.ReferenceIdeal.main_v7_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def preserves_Delta_DeltaIdeal : Prop :=
  True

def algebraic_DeltaIdeal_DeltaRefIdeal_pre_scale_finite [hDeltaIdeal : Cert.DeltaIdeal.Facts] [hDeltaRefIdeal : Cert.DeltaRefIdeal.Facts] [hPre_scale_finite : Cert.Pre_scale_finite.Facts] : Prop :=
  ∀ (m : (ℓ : Loc Cert.DeltaIdeal.nD Cert.DeltaIdeal.τ Cert.DeltaIdeal.sig) → Buf (Elt Ideal) ℓ) (g : Dev Cert.DeltaIdeal.nD → PrngReg)
    (m' : (ℓ : Loc Cert.DeltaRefIdeal.nD Cert.DeltaRefIdeal.τ Cert.DeltaRefIdeal.sig) → Buf (Elt Ideal) ℓ) (g' : Dev Cert.DeltaRefIdeal.nD → PrngReg), Pre_DeltaIdeal_scale_finite m →
    (∀ c : Dev Cert.DeltaIdeal.nD,
      m' ((c.tc : Thread Cert.DeltaRefIdeal.nD Cert.DeltaRefIdeal.τ).loc Cert.DeltaRefIdeal.main_arg0) = m ((c.tc : Thread Cert.DeltaIdeal.nD Cert.DeltaIdeal.τ).loc Cert.DeltaIdeal.main_arg0)
      ∧ m' ((c.tc : Thread Cert.DeltaRefIdeal.nD Cert.DeltaRefIdeal.τ).loc Cert.DeltaRefIdeal.main_arg1) = m ((c.tc : Thread Cert.DeltaIdeal.nD Cert.DeltaIdeal.τ).loc Cert.DeltaIdeal.main_arg1)
      ∧ m' ((c.tc : Thread Cert.DeltaRefIdeal.nD Cert.DeltaRefIdeal.τ).loc Cert.DeltaRefIdeal.main_arg2) = m ((c.tc : Thread Cert.DeltaIdeal.nD Cert.DeltaIdeal.τ).loc Cert.DeltaIdeal.main_arg2)) →
    ∃ (v0 : (c : Dev Cert.DeltaIdeal.nD) → Buf (Elt Ideal) ((c.tc : Thread Cert.DeltaIdeal.nD Cert.DeltaIdeal.τ).loc Cert.DeltaIdeal.main_v1)),
      θ_run (Cert.DeltaIdeal.defs (F := Ideal)) (onTc (τ := Cert.DeltaIdeal.τ) (Cert.DeltaIdeal.main (F := Ideal))) ⟨m, fun _ => 0, g⟩ (fun r => ∀ c : Dev Cert.DeltaIdeal.nD,
          r.2.mem ((c.tc : Thread Cert.DeltaIdeal.nD Cert.DeltaIdeal.τ).loc Cert.DeltaIdeal.main_v1) = v0 c
          ∧ r.2.mem ((c.tc : Thread Cert.DeltaIdeal.nD Cert.DeltaIdeal.τ).loc Cert.DeltaIdeal.main_arg0) = m ((c.tc : Thread Cert.DeltaIdeal.nD Cert.DeltaIdeal.τ).loc Cert.DeltaIdeal.main_arg0)
          ∧ r.2.mem ((c.tc : Thread Cert.DeltaIdeal.nD Cert.DeltaIdeal.τ).loc Cert.DeltaIdeal.main_arg1) = m ((c.tc : Thread Cert.DeltaIdeal.nD Cert.DeltaIdeal.τ).loc Cert.DeltaIdeal.main_arg1)
          ∧ r.2.mem ((c.tc : Thread Cert.DeltaIdeal.nD Cert.DeltaIdeal.τ).loc Cert.DeltaIdeal.main_arg2) = m ((c.tc : Thread Cert.DeltaIdeal.nD Cert.DeltaIdeal.τ).loc Cert.DeltaIdeal.main_arg2))
      ∧ θ_run (Cert.DeltaRefIdeal.defs (F := Ideal)) (onTc (τ := Cert.DeltaRefIdeal.τ) (Cert.DeltaRefIdeal.main (F := Ideal))) ⟨m', fun _ => 0, g'⟩ (fun r => ∀ c : Dev Cert.DeltaRefIdeal.nD,
          r.2.mem ((c.tc : Thread Cert.DeltaRefIdeal.nD Cert.DeltaRefIdeal.τ).loc Cert.DeltaRefIdeal.main_v0) = v0 c
          ∧ r.2.mem ((c.tc : Thread Cert.DeltaRefIdeal.nD Cert.DeltaRefIdeal.τ).loc Cert.DeltaRefIdeal.main_arg0) = m' ((c.tc : Thread Cert.DeltaRefIdeal.nD Cert.DeltaRefIdeal.τ).loc Cert.DeltaRefIdeal.main_arg0)
          ∧ r.2.mem ((c.tc : Thread Cert.DeltaRefIdeal.nD Cert.DeltaRefIdeal.τ).loc Cert.DeltaRefIdeal.main_arg1) = m' ((c.tc : Thread Cert.DeltaRefIdeal.nD Cert.DeltaRefIdeal.τ).loc Cert.DeltaRefIdeal.main_arg1)
          ∧ r.2.mem ((c.tc : Thread Cert.DeltaRefIdeal.nD Cert.DeltaRefIdeal.τ).loc Cert.DeltaRefIdeal.main_arg2) = m' ((c.tc : Thread Cert.DeltaRefIdeal.nD Cert.DeltaRefIdeal.τ).loc Cert.DeltaRefIdeal.main_arg2))

def Claim : Prop :=
  ∃ (hMain : Cert.Main.Facts) (hMainIdeal : Cert.MainIdeal.Facts) (hReferenceIdeal : Cert.ReferenceIdeal.Facts) (hDelta : Cert.Delta.Facts) (hDeltaIdeal : Cert.DeltaIdeal.Facts) (hDeltaRefIdeal : Cert.DeltaRefIdeal.Facts) (hPre_scale_finite : Cert.Pre_scale_finite.Facts),
    quiescent_Main (hMain := hMain)
    ∧ quiescent_MainIdeal (hMainIdeal := hMainIdeal)
    ∧ quiescent_ReferenceIdeal (hReferenceIdeal := hReferenceIdeal)
    ∧ quiescent_Delta (hDelta := hDelta)
    ∧ quiescent_DeltaIdeal (hDeltaIdeal := hDeltaIdeal)
    ∧ quiescent_DeltaIdeal_pre_scale_finite (hDeltaIdeal := hDeltaIdeal) (hPre_scale_finite := hPre_scale_finite)
    ∧ quiescent_DeltaRefIdeal (hDeltaRefIdeal := hDeltaRefIdeal)
    ∧ quiescent_DeltaRefIdeal_pre_scale_finite (hDeltaRefIdeal := hDeltaRefIdeal) (hPre_scale_finite := hPre_scale_finite)
    ∧ preserves_Main_MainIdeal
    ∧ algebraic_MainIdeal_ReferenceIdeal (hMainIdeal := hMainIdeal) (hReferenceIdeal := hReferenceIdeal)
    ∧ preserves_Delta_DeltaIdeal
    ∧ algebraic_DeltaIdeal_DeltaRefIdeal_pre_scale_finite (hDeltaIdeal := hDeltaIdeal) (hDeltaRefIdeal := hDeltaRefIdeal) (hPre_scale_finite := hPre_scale_finite)
-- ==== Pre_scale_finite.lean ====
abbrev S16 : Shape := ⟨1, ![16]⟩
abbrev S2x16384x16x256 : Shape := ⟨4, ![2, 16384, 16, 256]⟩
abbrev S_ : Shape := ⟨0, ![]⟩

class Facts : Prop where
  bcast_S_S16 : S_.BroadcastsInDim S16 (![] : Fin 0 → Fin S16.rank)

variable [Facts]

def fn {F : FTy → Type} [FloatOps F] (main_arg0 : FVec F S16 .f32) (main_arg1 : FVec F S2x16384x16x256 .fp8e5m2) (main_arg2 : FVec F S2x16384x16x256 .bf16) : IVec S16 1 :=
  let main_cst : FVec F S_ .f32 := constant S_ .f32 0x00000000#32
  let main_v0 : FVec F S16 .f32 := broadcastInDim S16 ![] bcast_S_S16 main_cst
  let main_v1 : IVec S16 1 := cmpf .oge main_arg0 main_v0
  let main_cst_0 : FVec F S_ .f32 := constant S_ .f32 0x7F800000#32
  let main_v2 : FVec F S16 .f32 := broadcastInDim S16 ![] bcast_S_S16 main_cst_0
  let main_v3 : IVec S16 1 := cmpf .olt main_arg0 main_v2
  let main_v4 : IVec S16 1 := andi main_v1 main_v3
  main_v4
-- ==== Main.lean ====
abbrev S2x16384x16x256 : Shape := ⟨4, ![2, 16384, 16, 256]⟩
abbrev S16 : Shape := ⟨1, ![16]⟩
abbrev S2x16384x8x256 : Shape := ⟨4, ![2, 16384, 8, 256]⟩
abbrev S8 : Shape := ⟨1, ![8]⟩
abbrev S2x16x16384 : Shape := ⟨3, ![2, 16, 16384]⟩
abbrev S2x16384x16 : Shape := ⟨3, ![2, 16384, 16]⟩
abbrev S8x2 : Shape := ⟨2, ![8, 2]⟩
abbrev S_ : Shape := ⟨0, ![]⟩
abbrev S1x16 : Shape := ⟨2, ![1, 16]⟩
abbrev S5x16 : Shape := ⟨2, ![5, 16]⟩
abbrev S2x16x16384x256 : Shape := ⟨4, ![2, 16, 16384, 256]⟩
abbrev S2x8x16384x256 : Shape := ⟨4, ![2, 8, 16384, 256]⟩
abbrev S1x16x256x256 : Shape := ⟨4, ![1, 16, 256, 256]⟩
abbrev S1x8x256x256 : Shape := ⟨4, ![1, 8, 256, 256]⟩
abbrev S1x16x256 : Shape := ⟨3, ![1, 16, 256]⟩
abbrev S5x16x256x256 : Shape := ⟨4, ![5, 16, 256, 256]⟩
abbrev S5x16x256 : Shape := ⟨3, ![5, 16, 256]⟩
abbrev S256x256 : Shape := ⟨2, ![256, 256]⟩
abbrev S1x1x256x256 : Shape := ⟨4, ![1, 1, 256, 256]⟩
abbrev S16x256 : Shape := ⟨2, ![16, 256]⟩
abbrev S1x1 : Shape := ⟨2, ![1, 1]⟩
abbrev S1x1x256 : Shape := ⟨3, ![1, 1, 256]⟩
abbrev S1x256 : Shape := ⟨2, ![1, 256]⟩

abbrev nBuf : Space → Nat
  | .hbm => 36
  | .vmem => 25
  | .smem => 1
  | _ => 0

abbrev bufTy : (tb : Table) → Fin (tcTables nBuf tb) → BufTy
  | .hbm, ⟨0, _⟩ => ⟨S2x16384x16x256, .fp8e4m3⟩
  | .hbm, ⟨1, _⟩ => ⟨S16, .f32⟩
  | .hbm, ⟨2, _⟩ => ⟨S2x16384x8x256, .fp8e4m3⟩
  | .hbm, ⟨3, _⟩ => ⟨S8, .f32⟩
  | .hbm, ⟨4, _⟩ => ⟨S2x16384x8x256, .fp8e4m3⟩
  | .hbm, ⟨5, _⟩ => ⟨S8, .f32⟩
  | .hbm, ⟨6, _⟩ => ⟨S2x16384x16x256, .fp8e5m2⟩
  | .hbm, ⟨7, _⟩ => ⟨S16, .f32⟩
  | .hbm, ⟨8, _⟩ => ⟨S2x16x16384, .f32⟩
  | .hbm, ⟨9, _⟩ => ⟨S2x16384x16, .f32⟩
  | .hbm, ⟨10, _⟩ => ⟨S2x16x16384, .f32⟩
  | .hbm, ⟨11, _⟩ => ⟨S8x2, .f32⟩
  | .hbm, ⟨12, _⟩ => ⟨S16, .f32⟩
  | .hbm, ⟨13, _⟩ => ⟨S8x2, .f32⟩
  | .hbm, ⟨14, _⟩ => ⟨S16, .f32⟩
  | .hbm, ⟨15, _⟩ => ⟨S16, .f32⟩
  | .hbm, ⟨16, _⟩ => ⟨S16, .f32⟩
  | .hbm, ⟨17, _⟩ => ⟨S_, .f32⟩
  | .hbm, ⟨18, _⟩ => ⟨S16, .f32⟩
  | .hbm, ⟨19, _⟩ => ⟨S16, .f32⟩
  | .hbm, ⟨20, _⟩ => ⟨S_, .f32⟩
  | .hbm, ⟨21, _⟩ => ⟨S16, .f32⟩
  | .hbm, ⟨22, _⟩ => ⟨S16, .f32⟩
  | .hbm, ⟨23, _⟩ => ⟨S1x16, .f32⟩
  | .hbm, ⟨24, _⟩ => ⟨S1x16, .f32⟩
  | .hbm, ⟨25, _⟩ => ⟨S1x16, .f32⟩
  | .hbm, ⟨26, _⟩ => ⟨S1x16, .f32⟩
  | .hbm, ⟨27, _⟩ => ⟨S1x16, .f32⟩
  | .hbm, ⟨28, _⟩ => ⟨S5x16, .f32⟩
  | .hbm, ⟨29, _⟩ => ⟨S2x16x16384x256, .fp8e4m3⟩
  | .hbm, ⟨30, _⟩ => ⟨S2x16x16384x256, .fp8e5m2⟩
  | .hbm, ⟨31, _⟩ => ⟨S2x8x16384x256, .fp8e4m3⟩
  | .hbm, ⟨32, _⟩ => ⟨S2x8x16384x256, .fp8e4m3⟩
  | .hbm, ⟨33, _⟩ => ⟨S2x16x16384x256, .bf16⟩
  | .hbm, ⟨34, _⟩ => ⟨S2x8x16384x256, .bf16⟩
  | .hbm, ⟨35, _⟩ => ⟨S2x8x16384x256, .bf16⟩
  | .local _ .vmem, ⟨0, _⟩ => ⟨S1x16x256x256, .fp8e4m3⟩
  | .local _ .vmem, ⟨1, _⟩ => ⟨S1x16x256x256, .fp8e4m3⟩
  | .local _ .vmem, ⟨2, _⟩ => ⟨S1x16x256x256, .fp8e5m2⟩
  | .local _ .vmem, ⟨3, _⟩ => ⟨S1x16x256x256, .fp8e5m2⟩
  | .local _ .vmem, ⟨4, _⟩ => ⟨S1x8x256x256, .fp8e4m3⟩
  | .local _ .vmem, ⟨5, _⟩ => ⟨S1x8x256x256, .fp8e4m3⟩
  | .local _ .vmem, ⟨6, _⟩ => ⟨S1x8x256x256, .fp8e4m3⟩
  | .local _ .vmem, ⟨7, _⟩ => ⟨S1x8x256x256, .fp8e4m3⟩
  | .local _ .vmem, ⟨8, _⟩ => ⟨S1x16x256, .f32⟩
  | .local _ .vmem, ⟨9, _⟩ => ⟨S1x16x256, .f32⟩
  | .local _ .vmem, ⟨10, _⟩ => ⟨S1x16x256, .f32⟩
  | .local _ .vmem, ⟨11, _⟩ => ⟨S1x16x256, .f32⟩
  | .local _ .vmem, ⟨12, _⟩ => ⟨S1x16x256x256, .bf16⟩
  | .local _ .vmem, ⟨13, _⟩ => ⟨S1x16x256x256, .bf16⟩
  | .local _ .vmem, ⟨14, _⟩ => ⟨S1x8x256x256, .bf16⟩
  | .local _ .vmem, ⟨15, _⟩ => ⟨S1x8x256x256, .bf16⟩
  | .local _ .vmem, ⟨16, _⟩ => ⟨S1x8x256x256, .bf16⟩
  | .local _ .vmem, ⟨17, _⟩ => ⟨S1x8x256x256, .bf16⟩
  | .local _ .vmem, ⟨18, _⟩ => ⟨S5x16x256x256, .fp8e4m3⟩
  | .local _ .vmem, ⟨19, _⟩ => ⟨S5x16x256x256, .fp8e5m2⟩
  | .local _ .vmem, ⟨20, _⟩ => ⟨S5x16x256, .f32⟩
  | .local _ .vmem, ⟨21, _⟩ => ⟨S5x16x256, .f32⟩
  | .local _ .vmem, ⟨22, _⟩ => ⟨S5x16x256x256, .f32⟩
  | .local _ .vmem, ⟨23, _⟩ => ⟨S256x256, .f32⟩
  | .local _ .vmem, ⟨24, _⟩ => ⟨S256x256, .f32⟩
  | .local _ .smem, ⟨0, _⟩ => ⟨S5x16, .f32⟩
  | _, _ => ⟨S2x16384x16x256, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .smem, ⟨0, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_v8 : Ref sig .tc := ⟨.hbm, 19, rfl⟩
abbrev main_cst_0 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21_0 : Ref sig .tc := ⟨.hbm, 33, rfl⟩
abbrev main_v21_1 : Ref sig .tc := ⟨.hbm, 34, rfl⟩
abbrev main_v21_2 : Ref sig .tc := ⟨.hbm, 35, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_scratch3 : Ref sig .tc := ⟨.vmem, 21, rfl⟩
abbrev cc0_scratch4 : Ref sig .tc := ⟨.vmem, 22, rfl⟩
abbrev cc0_scratch5 : Ref sig .tc := ⟨.vmem, 23, rfl⟩
abbrev cc0_scratch6 : Ref sig .tc := ⟨.vmem, 24, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18

abbrev nD : Nat := 1
abbrev τ : Topo := Topo.v7x

variable {F : FTy → Type} [FloatOps F]

abbrev grid0 : Pipeline.Grid := ⟨2, ![2, 68], ![false, false]⟩

def k0_cond1 (i : grid0.Coords) : BitVec 1 :=
  let arg1 : BitVec 32 := BitVec.ofNat 32 (i 1).val
  let c0_i32 : BitVec 32 := 0#32
  let v1 : BitVec 1 := Scalar.cmpi .eq arg1 c0_i32
  let v2 : BitVec 32 := Scalar.extui v1
  let c0_i32_0 : BitVec 32 := 0#32
  let v3 : BitVec 1 := Scalar.cmpi .ne v2 c0_i32_0
  v3

@[reducible] def k0_t1_loop : Scf.Loop 32 :=
  let c0_i32_3 : BitVec 32 := 0#32
  let c16_i32 : BitVec 32 := 16#32
  let v10 : BitVec 32 := Scalar.addi c0_i32_3 c16_i32
  let c1_i32 : BitVec 32 := 1#32
  ⟨c0_i32_3, v10, c1_i32⟩
def k0_off1 (k0_t1 : Fin k0_t1_loop.trips) : Fin 4 → Nat :=
  let c0_56 : Index := 0#32
  let c0_i32_3 : BitVec 32 := 0#32
  let c1_i32 : BitVec 32 := 1#32
  let arg19 : BitVec 32 := Scf.iv c0_i32_3 c1_i32 k0_t1
  let v56 : Index := Scalar.indexCast arg19
  let c0_57 : Index := 0#32
  let c0_58 : Index := 0#32
  ![0, v56.toNat, 0, 0]
@[reducible] def k0_t2_loop : Scf.Loop 32 :=
  let c0_i32_11 : BitVec 32 := 0#32
  let c16_i32_12 : BitVec 32 := 16#32
  let v19 : BitVec 32 := Scalar.addi c0_i32_11 c16_i32_12
  let c1_i32_13 : BitVec 32 := 1#32
  ⟨c0_i32_11, v19, c1_i32_13⟩
def k0_off2 (k0_t2 : Fin k0_t2_loop.trips) : Fin 4 → Nat :=
  let c1_56 : Index := 1#32
  let c0_i32_11 : BitVec 32 := 0#32
  let c1_i32_13 : BitVec 32 := 1#32
  let arg19 : BitVec 32 := Scf.iv c0_i32_11 c1_i32_13 k0_t2
  let v56 : Index := Scalar.indexCast arg19
  let c0_57 : Index := 0#32
  let c0_58 : Index := 0#32
  ![1, v56.toNat, 0, 0]
@[reducible] def k0_t3_loop : Scf.Loop 32 :=
  let c0_i32_22 : BitVec 32 := 0#32
  let c16_i32_23 : BitVec 32 := 16#32
  let v28 : BitVec 32 := Scalar.addi c0_i32_22 c16_i32_23
  let c1_i32_24 : BitVec 32 := 1#32
  ⟨c0_i32_22, v28, c1_i32_24⟩
def k0_off3 (k0_t3 : Fin k0_t3_loop.trips) : Fin 4 → Nat :=
  let c2_56 : Index := 2#32
  let c0_i32_22 : BitVec 32 := 0#32
  let c1_i32_24 : BitVec 32 := 1#32
  let arg19 : BitVec 32 := Scf.iv c0_i32_22 c1_i32_24 k0_t3
  let v56 : Index := Scalar.indexCast arg19
  let c0_57 : Index := 0#32
  let c0_58 : Index := 0#32
  ![2, v56.toNat, 0, 0]
@[reducible] def k0_t4_loop : Scf.Loop 32 :=
  let c0_i32_33 : BitVec 32 := 0#32
  let c16_i32_34 : BitVec 32 := 16#32
  let v37 : BitVec 32 := Scalar.addi c0_i32_33 c16_i32_34
  let c1_i32_35 : BitVec 32 := 1#32
  ⟨c0_i32_33, v37, c1_i32_35⟩
def k0_off4 (k0_t4 : Fin k0_t4_loop.trips) : Fin 4 → Nat :=
  let c3_56 : Index := 3#32
  let c0_i32_33 : BitVec 32 := 0#32
  let c1_i32_35 : BitVec 32 := 1#32
  let arg19 : BitVec 32 := Scf.iv c0_i32_33 c1_i32_35 k0_t4
  let v56 : Index := Scalar.indexCast arg19
  let c0_57 : Index := 0#32
  let c0_58 : Index := 0#32
  ![3, v56.toNat, 0, 0]
@[reducible] def k0_t5_loop : Scf.Loop 32 :=
  let c0_i32_44 : BitVec 32 := 0#32
  let c16_i32_45 : BitVec 32 := 16#32
  let v46 : BitVec 32 := Scalar.addi c0_i32_44 c16_i32_45
  let c1_i32_46 : BitVec 32 := 1#32
  ⟨c0_i32_44, v46, c1_i32_46⟩
def k0_off5 (k0_t5 : Fin k0_t5_loop.trips) : Fin 4 → Nat :=
  let c4_56 : Index := 4#32
  let c0_i32_44 : BitVec 32 := 0#32
  let c1_i32_46 : BitVec 32 := 1#32
  let arg19 : BitVec 32 := Scf.iv c0_i32_44 c1_i32_46 k0_t5
  let v56 : Index := Scalar.indexCast arg19
  let c0_57 : Index := 0#32
  let c0_58 : Index := 0#32
  ![4, v56.toNat, 0, 0]
def k0_cond2 (i : grid0.Coords) : BitVec 1 :=
  let arg1 : BitVec 32 := BitVec.ofNat 32 (i 1).val
  let c64_i32 : BitVec 32 := 64#32
  let v4 : BitVec 1 := Scalar.cmpi .slt arg1 c64_i32
  let v5 : BitVec 32 := Scalar.extui v4
  let c0_i32_1 : BitVec 32 := 0#32
  let v6 : BitVec 1 := Scalar.cmpi .ne v5 c0_i32_1
  v6

def k0_off6 (i : grid0.Coords) : Fin 3 → Nat :=
  let c63_i32 : BitVec 32 := 63#32
  let arg1 : BitVec 32 := BitVec.ofNat 32 (i 1).val
  let v0 : BitVec 32 := Scalar.subi c63_i32 arg1
  let c5_i32 : BitVec 32 := 5#32
  let v10 : BitVec 32 := Scalar.remsi v0 c5_i32
  let v15 : Index := Scalar.indexCast v10
  let c0_5 : Index := 0#32
  let c0_6 : Index := 0#32
  ![v15.toNat, 0, 0]
@[reducible] def k0_t6_loop : Scf.Loop 32 :=
  let c0_i32_12 : BitVec 32 := 0#32
  let c16_i32 : BitVec 32 := 16#32
  let v25 : BitVec 32 := Scalar.addi c0_i32_12 c16_i32
  let c1_i32 : BitVec 32 := 1#32
  ⟨c0_i32_12, v25, c1_i32⟩
def k0_off7 (k0_t6 : Fin k0_t6_loop.trips) : Fin 4 → Nat :=
  let c0_18 : Index := 0#32
  let c0_i32_12 : BitVec 32 := 0#32
  let c1_i32 : BitVec 32 := 1#32
  let arg19 : BitVec 32 := Scf.iv c0_i32_12 c1_i32 k0_t6
  let v29 : Index := Scalar.indexCast arg19
  let c0_19 : Index := 0#32
  let c0_20 : Index := 0#32
  ![0, v29.toNat, 0, 0]
def k0_off8 (i : grid0.Coords) (k0_t6 : Fin k0_t6_loop.trips) : Fin 4 → Nat :=
  let c63_i32 : BitVec 32 := 63#32
  let arg1 : BitVec 32 := BitVec.ofNat 32 (i 1).val
  let v0 : BitVec 32 := Scalar.subi c63_i32 arg1
  let c5_i32 : BitVec 32 := 5#32
  let v10 : BitVec 32 := Scalar.remsi v0 c5_i32
  let v32 : Index := Scalar.indexCast v10
  let c0_i32_12 : BitVec 32 := 0#32
  let c1_i32 : BitVec 32 := 1#32
  let arg19 : BitVec 32 := Scf.iv c0_i32_12 c1_i32 k0_t6
  let v33 : Index := Scalar.indexCast arg19
  let c0_21 : Index := 0#32
  let c0_22 : Index := 0#32
  ![v32.toNat, v33.toNat, 0, 0]
@[reducible] def k0_t7_loop : Scf.Loop 32 :=
  let c0_i32_14 : BitVec 32 := 0#32
  let c16_i32_15 : BitVec 32 := 16#32
  let v28 : BitVec 32 := Scalar.addi c0_i32_14 c16_i32_15
  let c1_i32_16 : BitVec 32 := 1#32
  ⟨c0_i32_14, v28, c1_i32_16⟩
def k0_off9 (k0_t7 : Fin k0_t7_loop.trips) : Fin 2 → Nat :=
  let c0_18 : Index := 0#32
  let c0_i32_14 : BitVec 32 := 0#32
  let c1_i32_16 : BitVec 32 := 1#32
  let arg19 : BitVec 32 := Scf.iv c0_i32_14 c1_i32_16 k0_t7
  let v30 : Index := Scalar.indexCast arg19
  ![0, v30.toNat]
def k0_off10 (k0_t7 : Fin k0_t7_loop.trips) : Fin 2 → Nat :=
  let c1 : Index := 1#32
  let c0_i32_14 : BitVec 32 := 0#32
  let c1_i32_16 : BitVec 32 := 1#32
  let arg19 : BitVec 32 := Scf.iv c0_i32_14 c1_i32_16 k0_t7
  let v33 : Index := Scalar.indexCast arg19
  ![1, v33.toNat]
def k0_off11 (k0_t7 : Fin k0_t7_loop.trips) : Fin 4 → Nat :=
  let c0_20 : Index := 0#32
  let c0_i32_14 : BitVec 32 := 0#32
  let c1_i32_16 : BitVec 32 := 1#32
  let arg19 : BitVec 32 := Scf.iv c0_i32_14 c1_i32_16 k0_t7
  let c2_i32 : BitVec 32 := 2#32
  let v29 : BitVec 32 := Scalar.divsi arg19 c2_i32
  let v35 : Index := Scalar.indexCast v29
  let c0_21 : Index := 0#32
  let c0_22 : Index := 0#32
  ![0, v35.toNat, 0, 0]
def k0_off12 (i : grid0.Coords) (k0_t7 : Fin k0_t7_loop.trips) (c0_i32_26 : BitVec 32) : Fin 4 → Nat :=
  let c63_i32 : BitVec 32 := 63#32
  let arg1 : BitVec 32 := BitVec.ofNat 32 (i 1).val
  let v0 : BitVec 32 := Scalar.subi c63_i32 arg1
  let v43 : BitVec 32 := Scalar.addi v0 c0_i32_26
  let c5_i32_27 : BitVec 32 := 5#32
  let v44 : BitVec 32 := Scalar.remsi v43 c5_i32_27
  let v45 : Index := Scalar.indexCast v44
  let c0_i32_14 : BitVec 32 := 0#32
  let c1_i32_16 : BitVec 32 := 1#32
  let arg19 : BitVec 32 := Scf.iv c0_i32_14 c1_i32_16 k0_t7
  let v46 : Index := Scalar.indexCast arg19
  let c0_28 : Index := 0#32
  let c0_29 : Index := 0#32
  ![v45.toNat, v46.toNat, 0, 0]
def k0_off13 (i : grid0.Coords) (k0_t7 : Fin k0_t7_loop.trips) (c0_i32_26 : BitVec 32) : Fin 3 → Nat :=
  let c63_i32 : BitVec 32 := 63#32
  let arg1 : BitVec 32 := BitVec.ofNat 32 (i 1).val
  let v0 : BitVec 32 := Scalar.subi c63_i32 arg1
  let v43 : BitVec 32 := Scalar.addi v0 c0_i32_26
  let c5_i32_27 : BitVec 32 := 5#32
  let v44 : BitVec 32 := Scalar.remsi v43 c5_i32_27
  let v53 : Index := Scalar.indexCast v44
  let c0_i32_14 : BitVec 32 := 0#32
  let c1_i32_16 : BitVec 32 := 1#32
  let arg19 : BitVec 32 := Scf.iv c0_i32_14 c1_i32_16 k0_t7
  let v54 : Index := Scalar.indexCast arg19
  let c0_32 : Index := 0#32
  ![v53.toNat, v54.toNat, 0]
def k0_off14 (k0_t7 : Fin k0_t7_loop.trips) : Fin 2 → Nat :=
  let c2 : Index := 2#32
  let c0_i32_14 : BitVec 32 := 0#32
  let c1_i32_16 : BitVec 32 := 1#32
  let arg19 : BitVec 32 := Scf.iv c0_i32_14 c1_i32_16 k0_t7
  let v322 : Index := Scalar.indexCast arg19
  ![2, v322.toNat]
def k0_off15 (k0_t7 : Fin k0_t7_loop.trips) : Fin 2 → Nat :=
  let c3 : Index := 3#32
  let c0_i32_14 : BitVec 32 := 0#32
  let c1_i32_16 : BitVec 32 := 1#32
  let arg19 : BitVec 32 := Scf.iv c0_i32_14 c1_i32_16 k0_t7
  let v326 : Index := Scalar.indexCast arg19
  ![3, v326.toNat]
def k0_cond4 (k0_t7 : Fin k0_t7_loop.trips) : BitVec 1 :=
  let c0_i32_14 : BitVec 32 := 0#32
  let c1_i32_16 : BitVec 32 := 1#32
  let arg19 : BitVec 32 := Scf.iv c0_i32_14 c1_i32_16 k0_t7
  let c2_i32_123 : BitVec 32 := 2#32
  let v334 : BitVec 32 := Scalar.remsi arg19 c2_i32_123
  let c1_i32_124 : BitVec 32 := 1#32
  let v335 : BitVec 1 := Scalar.cmpi .eq v334 c1_i32_124
  let v336 : BitVec 32 := Scalar.extui v335
  let c0_i32_125 : BitVec 32 := 0#32
  let v337 : BitVec 1 := Scalar.cmpi .ne v336 c0_i32_125
  v337

def k0_off16 (k0_t7 : Fin k0_t7_loop.trips) : Fin 4 → Nat :=
  let c0_128 : Index := 0#32
  let c0_i32_14 : BitVec 32 := 0#32
  let c1_i32_16 : BitVec 32 := 1#32
  let arg19 : BitVec 32 := Scf.iv c0_i32_14 c1_i32_16 k0_t7
  let c2_i32 : BitVec 32 := 2#32
  let v29 : BitVec 32 := Scalar.divsi arg19 c2_i32
  let v341 : Index := Scalar.indexCast v29
  let c0_129 : Index := 0#32
  let c0_130 : Index := 0#32
  ![0, v341.toNat, 0, 0]
def k0_cond5 (i : grid0.Coords) : BitVec 1 :=
  let arg1 : BitVec 32 := BitVec.ofNat 32 (i 1).val
  let c4_i32 : BitVec 32 := 4#32
  let v7 : BitVec 1 := Scalar.cmpi .sge arg1 c4_i32
  let v8 : BitVec 32 := Scalar.extui v7
  let c0_i32_2 : BitVec 32 := 0#32
  let v9 : BitVec 1 := Scalar.cmpi .ne v8 c0_i32_2
  v9

@[reducible] def k0_t8_loop : Scf.Loop 32 :=
  let c0_i32_4 : BitVec 32 := 0#32
  let c16_i32 : BitVec 32 := 16#32
  let v13 : BitVec 32 := Scalar.addi c0_i32_4 c16_i32
  let c1_i32_5 : BitVec 32 := 1#32
  ⟨c0_i32_4, v13, c1_i32_5⟩
def k0_off17 (i : grid0.Coords) (k0_t8 : Fin k0_t8_loop.trips) : Fin 4 → Nat :=
  let c63_i32 : BitVec 32 := 63#32
  let arg1 : BitVec 32 := BitVec.ofNat 32 (i 1).val
  let v0 : BitVec 32 := Scalar.subi c63_i32 arg1
  let c5_i32 : BitVec 32 := 5#32
  let v10 : BitVec 32 := Scalar.addi v0 c5_i32
  let c1_i32 : BitVec 32 := 1#32
  let v11 : BitVec 32 := Scalar.subi v10 c1_i32
  let c5_i32_3 : BitVec 32 := 5#32
  let v12 : BitVec 32 := Scalar.remsi v11 c5_i32_3
  let v14 : Index := Scalar.indexCast v12
  let c0_i32_4 : BitVec 32 := 0#32
  let c1_i32_5 : BitVec 32 := 1#32
  let arg19 : BitVec 32 := Scf.iv c0_i32_4 c1_i32_5 k0_t8
  let v15 : Index := Scalar.indexCast arg19
  let c0 : Index := 0#32
  let c0_7 : Index := 0#32
  ![v14.toNat, v15.toNat, 0, 0]
def k0_off18 (k0_t8 : Fin k0_t8_loop.trips) : Fin 2 → Nat :=
  let c4 : Index := 4#32
  let c0_i32_4 : BitVec 32 := 0#32
  let c1_i32_5 : BitVec 32 := 1#32
  let arg19 : BitVec 32 := Scf.iv c0_i32_4 c1_i32_5 k0_t8
  let v18 : Index := Scalar.indexCast arg19
  ![4, v18.toNat]
def k0_off19 (k0_t8 : Fin k0_t8_loop.trips) : Fin 4 → Nat :=
  let c0_8 : Index := 0#32
  let c0_i32_4 : BitVec 32 := 0#32
  let c1_i32_5 : BitVec 32 := 1#32
  let arg19 : BitVec 32 := Scf.iv c0_i32_4 c1_i32_5 k0_t8
  let v24 : Index := Scalar.indexCast arg19
  let c0_9 : Index := 0#32
  let c0_10 : Index := 0#32
  ![0, v24.toNat, 0, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c63_i32 : BitVec 32 := 63#32
  let v0 : BitVec 32 := Scalar.subi c63_i32 arg1
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  ![arg0.toNat, c0_i32_0.toNat, v1.toNat, c0_i32_1.toNat]

def cc0_transform_2 (i : grid0.Coords) : Fin 4 → Nat :=
  let arg0 : BitVec 32 := BitVec.ofNat 32 (i 0).val
  let arg1 : BitVec 32 := BitVec.ofNat 32 (i 1).val
  let c63_i32 : BitVec 32 := 63#32
  let v0 : BitVec 32 := Scalar.subi c63_i32 arg1
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  ![arg0.toNat, c0_i32_0.toNat, v1.toNat, c0_i32_1.toNat]

def cc0_transform_3 (i : grid0.Coords) : Fin 4 → Nat :=
  let arg0 : BitVec 32 := BitVec.ofNat 32 (i 0).val
  let arg1 : BitVec 32 := BitVec.ofNat 32 (i 1).val
  let c63_i32 : BitVec 32 := 63#32
  let v0 : BitVec 32 := Scalar.subi c63_i32 arg1
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  ![arg0.toNat, c0_i32_0.toNat, v1.toNat, c0_i32_1.toNat]

def cc0_transform_4 (i : grid0.Coords) : Fin 4 → Nat :=
  let arg0 : BitVec 32 := BitVec.ofNat 32 (i 0).val
  let arg1 : BitVec 32 := BitVec.ofNat 32 (i 1).val
  let c63_i32 : BitVec 32 := 63#32
  let v0 : BitVec 32 := Scalar.subi c63_i32 arg1
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  ![arg0.toNat, c0_i32_0.toNat, v1.toNat, c0_i32_1.toNat]

def cc0_transform_5 (i : grid0.Coords) : Fin 3 → Nat :=
  let arg0 : BitVec 32 := BitVec.ofNat 32 (i 0).val
  let arg1 : BitVec 32 := BitVec.ofNat 32 (i 1).val
  let c63_i32 : BitVec 32 := 63#32
  let v0 : BitVec 32 := Scalar.subi c63_i32 arg1
  let c0_i32 : BitVec 32 := 0#32
  let v1 : BitVec 32 := Scalar.maxsi v0 c0_i32
  let c0_i32_0 : BitVec 32 := 0#32
  let c0_i32_1 : BitVec 32 := 0#32
  ![arg0.toNat, c0_i32_0.toNat, v1.toNat]

def cc0_transform_6 (i : grid0.Coords) : Fin 3 → Nat :=
  let arg0 : BitVec 32 := BitVec.ofNat 32 (i 0).val
  let arg1 : BitVec 32 := BitVec.ofNat 32 (i 1).val
  let c63_i32 : BitVec 32 := 63#32
  let v0 : BitVec 32 := Scalar.subi c63_i32 arg1
  let c0_i32 : BitVec 32 := 0#32
  let v1 : BitVec 32 := Scalar.maxsi v0 c0_i32
  let c0_i32_0 : BitVec 32 := 0#32
  let c0_i32_1 : BitVec 32 := 0#32
  ![arg0.toNat, c0_i32_0.toNat, v1.toNat]

def cc0_transform_7 (i : grid0.Coords) : Fin 4 → Nat :=
  let arg0 : BitVec 32 := BitVec.ofNat 32 (i 0).val
  let arg1 : BitVec 32 := BitVec.ofNat 32 (i 1).val
  let c67_i32 : BitVec 32 := 67#32
  let v0 : BitVec 32 := Scalar.subi c67_i32 arg1
  let c63_i32 : BitVec 32 := 63#32
  let v1 : BitVec 32 := Scalar.minsi v0 c63_i32
  let c0_i32 : BitVec 32 := 0#32
  let c0_i32_0 : BitVec 32 := 0#32
  let c0_i32_1 : BitVec 32 := 0#32
  ![arg0.toNat, c0_i32.toNat, v1.toNat, c0_i32_0.toNat]

def cc0_transform_8 (i : grid0.Coords) : Fin 4 → Nat :=
  let arg0 : BitVec 32 := BitVec.ofNat 32 (i 0).val
  let arg1 : BitVec 32 := BitVec.ofNat 32 (i 1).val
  let c63_i32 : BitVec 32 := 63#32
  let v0 : BitVec 32 := Scalar.subi c63_i32 arg1
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  ![arg0.toNat, c0_i32_0.toNat, v1.toNat, c0_i32_1.toNat]

def cc0_transform_9 (i : grid0.Coords) : Fin 4 → Nat :=
  let arg0 : BitVec 32 := BitVec.ofNat 32 (i 0).val
  let arg1 : BitVec 32 := BitVec.ofNat 32 (i 1).val
  let c63_i32 : BitVec 32 := 63#32
  let v0 : BitVec 32 := Scalar.subi c63_i32 arg1
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  ![arg0.toNat, c0_i32_0.toNat, v1.toNat, c0_i32_1.toNat]

abbrev stage0_0 : Fin 1 → Memref sig .tc .smem S5x16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x16x256x256 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x16x256x256 .fp8e5m2 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x256x256 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x8x256x256 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x16x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x16x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x16x256x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x8x256x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x8x256x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== MainIdeal.lean ====
variable {F : FTy → Type} [FloatOps F] [Named F]
def κ : String → Option EReal := fun
  | "cap_log2e" => some ((5 * (Real.log 2)⁻¹ : ℝ) : EReal)
  | "log2e" => some (((Real.log 2)⁻¹ : ℝ) : EReal)
  | "scale_over_cap" => some ((1 / 80 : ℝ) : EReal)
  | _ => none
-- ==== ReferenceIdeal.lean ====
abbrev S2x16384x16x256 : Shape := ⟨4, ![2, 16384, 16, 256]⟩
abbrev S16 : Shape := ⟨1, ![16]⟩
abbrev S2x16384x8x256 : Shape := ⟨4, ![2, 16384, 8, 256]⟩
abbrev S8 : Shape := ⟨1, ![8]⟩
abbrev S2x16x16384 : Shape := ⟨3, ![2, 16, 16384]⟩
abbrev S2x16384x16 : Shape := ⟨3, ![2, 16384, 16]⟩
abbrev S2x16384x8x2x256 : Shape := ⟨5, ![2, 16384, 8, 2, 256]⟩
abbrev S8x2 : Shape := ⟨2, ![8, 2]⟩
abbrev S2x8x2x16384 : Shape := ⟨4, ![2, 8, 2, 16384]⟩
abbrev S2x16384x8x2 : Shape := ⟨4, ![2, 16384, 8, 2]⟩
abbrev S2x16x16384x256 : Shape := ⟨4, ![2, 16, 16384, 256]⟩
abbrev S2x8x16384x256 : Shape := ⟨4, ![2, 8, 16384, 256]⟩
abbrev S16384x16384 : Shape := ⟨2, ![16384, 16384]⟩
abbrev S2x8x16384x16384x2 : Shape := ⟨5, ![2, 8, 16384, 16384, 2]⟩
abbrev S2x8x2x16384x16384 : Shape := ⟨5, ![2, 8, 2, 16384, 16384]⟩
abbrev S8x1 : Shape := ⟨2, ![8, 1]⟩
abbrev S8x2x1x1 : Shape := ⟨4, ![8, 2, 1, 1]⟩
abbrev S1x8x2x1x1 : Shape := ⟨5, ![1, 8, 2, 1, 1]⟩
abbrev S2x8x2x16384x1 : Shape := ⟨5, ![2, 8, 2, 16384, 1]⟩
abbrev S1x1x1x16384x16384 : Shape := ⟨5, ![1, 1, 1, 16384, 16384]⟩
abbrev S2x8x2x16384x256 : Shape := ⟨5, ![2, 8, 2, 16384, 256]⟩
abbrev S8x1x1x1 : Shape := ⟨4, ![8, 1, 1, 1]⟩
abbrev S1x8x1x1x1 : Shape := ⟨5, ![1, 8, 1, 1, 1]⟩

abbrev nBuf : Space → Nat
  | .hbm => 20
  | .vmem => 13
  | .smem => 0
  | _ => 0

abbrev bufTy : (tb : Table) → Fin (tcTables nBuf tb) → BufTy
  | .hbm, ⟨0, _⟩ => ⟨S2x16384x16x256, .fp8e4m3⟩
  | .hbm, ⟨1, _⟩ => ⟨S16, .f32⟩
  | .hbm, ⟨2, _⟩ => ⟨S2x16384x8x256, .fp8e4m3⟩
  | .hbm, ⟨3, _⟩ => ⟨S8, .f32⟩
  | .hbm, ⟨4, _⟩ => ⟨S2x16384x8x256, .fp8e4m3⟩
  | .hbm, ⟨5, _⟩ => ⟨S8, .f32⟩
  | .hbm, ⟨6, _⟩ => ⟨S2x16384x16x256, .fp8e5m2⟩
  | .hbm, ⟨7, _⟩ => ⟨S16, .f32⟩
  | .hbm, ⟨8, _⟩ => ⟨S2x16x16384, .f32⟩
  | .hbm, ⟨9, _⟩ => ⟨S2x16384x16, .f32⟩
  | .hbm, ⟨10, _⟩ => ⟨S2x16384x8x2x256, .fp8e4m3⟩
  | .hbm, ⟨11, _⟩ => ⟨S8x2, .f32⟩
  | .hbm, ⟨12, _⟩ => ⟨S2x16384x8x2x256, .fp8e5m2⟩
  | .hbm, ⟨13, _⟩ => ⟨S8x2, .f32⟩
  | .hbm, ⟨14, _⟩ => ⟨S2x8x2x16384, .f32⟩
  | .hbm, ⟨15, _⟩ => ⟨S2x16384x8x2, .f32⟩
  | .hbm, ⟨16, _⟩ => ⟨S2x8x2x16384, .f32⟩
  | .hbm, ⟨17, _⟩ => ⟨S2x16x16384x256, .bf16⟩
  | .hbm, ⟨18, _⟩ => ⟨S2x8x16384x256, .bf16⟩
  | .hbm, ⟨19, _⟩ => ⟨S2x8x16384x256, .bf16⟩
  | .local _ .vmem, ⟨0, _⟩ => ⟨S2x16384x8x2x256, .fp8e4m3⟩
  | .local _ .vmem, ⟨1, _⟩ => ⟨S8x2, .f32⟩
  | .local _ .vmem, ⟨2, _⟩ => ⟨S2x16384x8x256, .fp8e4m3⟩
  | .local _ .vmem, ⟨3, _⟩ => ⟨S8, .f32⟩
  | .local _ .vmem, ⟨4, _⟩ => ⟨S2x16384x8x256, .fp8e4m3⟩
  | .local _ .vmem, ⟨5, _⟩ => ⟨S8, .f32⟩
  | .local _ .vmem, ⟨6, _⟩ => ⟨S2x16384x8x2x256, .fp8e5m2⟩
  | .local _ .vmem, ⟨7, _⟩ => ⟨S8x2, .f32⟩
  | .local _ .vmem, ⟨8, _⟩ => ⟨S2x8x2x16384, .f32⟩
  | .local _ .vmem, ⟨9, _⟩ => ⟨S2x8x2x16384, .f32⟩
  | .local _ .vmem, ⟨10, _⟩ => ⟨S2x16x16384x256, .bf16⟩
  | .local _ .vmem, ⟨11, _⟩ => ⟨S2x8x16384x256, .bf16⟩
  | .local _ .vmem, ⟨12, _⟩ => ⟨S2x8x16384x256, .bf16⟩
  | _, _ => ⟨S2x16384x16x256, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7_0 : Ref sig .tc := ⟨.hbm, 17, rfl⟩
abbrev main_v7_1 : Ref sig .tc := ⟨.hbm, 18, rfl⟩
abbrev main_v7_2 : Ref sig .tc := ⟨.hbm, 19, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12

abbrev nD : Nat := 1
abbrev τ : Topo := Topo.v7x

variable {F : FTy → Type} [FloatOps F]

abbrev grid0 : Pipeline.Grid := .none

abbrev stage0_0 : Fin 1 → Memref sig .tc .vmem S2x16384x8x2x256 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x2 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x16384x8x256 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x16384x8x256 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S8 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2x16384x8x2x256 .fp8e5m2 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S8x2 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S2x8x2x16384 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S2x8x2x16384 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S2x16x16384x256 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S2x8x16384x256 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S2x8x16384x256 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
-- ==== Delta.lean ====
abbrev S16 : Shape := ⟨1, ![16]⟩
abbrev S2x16384x16x256 : Shape := ⟨4, ![2, 16384, 16, 256]⟩
abbrev S1x16 : Shape := ⟨2, ![1, 16]⟩
abbrev S2x16384x16 : Shape := ⟨3, ![2, 16384, 16]⟩
abbrev S1x128x16x256 : Shape := ⟨4, ![1, 128, 16, 256]⟩
abbrev S1x128x16 : Shape := ⟨3, ![1, 128, 16]⟩
abbrev S128x16x256 : Shape := ⟨3, ![128, 16, 256]⟩
abbrev S128x16 : Shape := ⟨2, ![128, 16]⟩

abbrev nBuf : Space → Nat
  | .hbm => 5
  | .vmem => 7
  | .smem => 0
  | _ => 0

abbrev bufTy : (tb : Table) → Fin (tcTables nBuf tb) → BufTy
  | .hbm, ⟨0, _⟩ => ⟨S16, .f32⟩
  | .hbm, ⟨1, _⟩ => ⟨S2x16384x16x256, .fp8e5m2⟩
  | .hbm, ⟨2, _⟩ => ⟨S2x16384x16x256, .bf16⟩
  | .hbm, ⟨3, _⟩ => ⟨S1x16, .f32⟩
  | .hbm, ⟨4, _⟩ => ⟨S2x16384x16, .f32⟩
  | .local _ .vmem, ⟨0, _⟩ => ⟨S1x128x16x256, .fp8e5m2⟩
  | .local _ .vmem, ⟨1, _⟩ => ⟨S1x128x16x256, .fp8e5m2⟩
  | .local _ .vmem, ⟨2, _⟩ => ⟨S1x128x16x256, .bf16⟩
  | .local _ .vmem, ⟨3, _⟩ => ⟨S1x128x16x256, .bf16⟩
  | .local _ .vmem, ⟨4, _⟩ => ⟨S1x16, .f32⟩
  | .local _ .vmem, ⟨5, _⟩ => ⟨S1x128x16, .f32⟩
  | .local _ .vmem, ⟨6, _⟩ => ⟨S1x128x16, .f32⟩
  | _, _ => ⟨S16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 128], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x16x256 .fp8e5m2 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x16x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x128x16 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== DeltaRefIdeal.lean ====
abbrev S16 : Shape := ⟨1, ![16]⟩
abbrev S2x16384x16x256 : Shape := ⟨4, ![2, 16384, 16, 256]⟩
abbrev S2x16384x16 : Shape := ⟨3, ![2, 16384, 16]⟩
abbrev S16x1 : Shape := ⟨2, ![16, 1]⟩
abbrev S1x1x16x1 : Shape := ⟨4, ![1, 1, 16, 1]⟩

abbrev nBuf : Space → Nat
  | .hbm => 4
  | .vmem => 4
  | .smem => 0
  | _ => 0

abbrev bufTy : (tb : Table) → Fin (tcTables nBuf tb) → BufTy
  | .hbm, ⟨0, _⟩ => ⟨S16, .f32⟩
  | .hbm, ⟨1, _⟩ => ⟨S2x16384x16x256, .fp8e5m2⟩
  | .hbm, ⟨2, _⟩ => ⟨S2x16384x16x256, .bf16⟩
  | .hbm, ⟨3, _⟩ => ⟨S2x16384x16, .f32⟩
  | .local _ .vmem, ⟨0, _⟩ => ⟨S2x16384x16x256, .fp8e5m2⟩
  | .local _ .vmem, ⟨1, _⟩ => ⟨S16, .f32⟩
  | .local _ .vmem, ⟨2, _⟩ => ⟨S2x16384x16x256, .bf16⟩
  | .local _ .vmem, ⟨3, _⟩ => ⟨S2x16384x16, .f32⟩
  | _, _ => ⟨S16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S2x16384x16x256 .fp8e5m2 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x16384x16x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x16384x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== Proof.MainState.lean ====
/- The body of the pallas_call `main` as a state transformer: its operands' contents as one record (`St`), what it means for a
   program to take that record to another (`Runs`), and the rule of every operation the body uses. -/
module

public import proofs.«01_k».proof.Proof.Gen.Main.Skeleton
public import proofs.«01_k».proof.Proof.Gen.Main.Frame
public import Idealize.ShloMosaic.Lib.Memref
public import Idealize.ShloMosaic.Lib.VecWindow
public import Idealize.ShloMosaic.Lib.Scf

@[expose] public section

set_option maxRecDepth 16384

noncomputable section

namespace Cert.Main.Body

open Cert.Main Cert.Main.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open VecWindow (window put)

variable {F : FTy → Type} [FloatOps F]

local notation "𝕄" => MT nD τ sig Unit (Elt F) ℕ (UR sig nD τ) ℕ

/-- No loop variants. -/
abbrev 𝒱₀ : Variants := Variants.none

/-- The memory references the body is called with, each a whole buffer. -/
structure Args where
  arg2 : Memref sig .tc .smem S5x16 .f32
  harg2 : arg2.IsWhole
  arg3 : Memref sig .tc .vmem S1x16x256x256 .fp8e4m3
  harg3 : arg3.IsWhole
  arg4 : Memref sig .tc .vmem S1x16x256x256 .fp8e5m2
  harg4 : arg4.IsWhole
  arg5 : Memref sig .tc .vmem S1x8x256x256 .fp8e4m3
  harg5 : arg5.IsWhole
  arg6 : Memref sig .tc .vmem S1x8x256x256 .fp8e4m3
  harg6 : arg6.IsWhole
  arg7 : Memref sig .tc .vmem S1x16x256 .f32
  harg7 : arg7.IsWhole
  arg8 : Memref sig .tc .vmem S1x16x256 .f32
  harg8 : arg8.IsWhole
  arg9 : Memref sig .tc .vmem S1x16x256x256 .bf16
  harg9 : arg9.IsWhole
  arg10 : Memref sig .tc .vmem S1x8x256x256 .bf16
  harg10 : arg10.IsWhole
  arg11 : Memref sig .tc .vmem S1x8x256x256 .bf16
  harg11 : arg11.IsWhole
  arg12 : Memref sig .tc .vmem S5x16x256x256 .fp8e4m3
  harg12 : arg12.IsWhole
  arg13 : Memref sig .tc .vmem S5x16x256x256 .fp8e5m2
  harg13 : arg13.IsWhole
  arg14 : Memref sig .tc .vmem S5x16x256 .f32
  harg14 : arg14.IsWhole
  arg15 : Memref sig .tc .vmem S5x16x256 .f32
  harg15 : arg15.IsWhole
  arg16 : Memref sig .tc .vmem S5x16x256x256 .f32
  harg16 : arg16.IsWhole
  arg17 : Memref sig .tc .vmem S256x256 .f32
  harg17 : arg17.IsWhole
  arg18 : Memref sig .tc .vmem S256x256 .f32
  harg18 : arg18.IsWhole

/-- The contents of every operand of the body. -/
structure St (F : FTy → Type) where
  a2 : Vec F S5x16 .f32
  a3 : Vec F S1x16x256x256 .fp8e4m3
  a4 : Vec F S1x16x256x256 .fp8e5m2
  a5 : Vec F S1x8x256x256 .fp8e4m3
  a6 : Vec F S1x8x256x256 .fp8e4m3
  a7 : Vec F S1x16x256 .f32
  a8 : Vec F S1x16x256 .f32
  a9 : Vec F S1x16x256x256 .bf16
  a10 : Vec F S1x8x256x256 .bf16
  a11 : Vec F S1x8x256x256 .bf16
  a12 : Vec F S5x16x256x256 .fp8e4m3
  a13 : Vec F S5x16x256x256 .fp8e5m2
  a14 : Vec F S5x16x256 .f32
  a15 : Vec F S5x16x256 .f32
  a16 : Vec F S5x16x256x256 .f32
  a17 : Vec F S256x256 .f32
  a18 : Vec F S256x256 .f32

/-- The operands, all held, at the contents `s`. -/
def Own (c : Dev nD) (A : Args) (s : St F) : sProp 𝕄 :=
  iprop(owns (c : Thread nD τ) A.arg2 fullShare s.a2 ∗
    owns (c : Thread nD τ) A.arg3 fullShare s.a3 ∗
    owns (c : Thread nD τ) A.arg4 fullShare s.a4 ∗
    owns (c : Thread nD τ) A.arg5 fullShare s.a5 ∗
    owns (c : Thread nD τ) A.arg6 fullShare s.a6 ∗
    owns (c : Thread nD τ) A.arg7 fullShare s.a7 ∗
    owns (c : Thread nD τ) A.arg8 fullShare s.a8 ∗
    owns (c : Thread nD τ) A.arg9 fullShare s.a9 ∗
    owns (c : Thread nD τ) A.arg10 fullShare s.a10 ∗
    owns (c : Thread nD τ) A.arg11 fullShare s.a11 ∗
    owns (c : Thread nD τ) A.arg12 fullShare s.a12 ∗
    owns (c : Thread nD τ) A.arg13 fullShare s.a13 ∗
    owns (c : Thread nD τ) A.arg14 fullShare s.a14 ∗
    owns (c : Thread nD τ) A.arg15 fullShare s.a15 ∗
    owns (c : Thread nD τ) A.arg16 fullShare s.a16 ∗
    owns (c : Thread nD τ) A.arg17 fullShare s.a17 ∗
    owns (c : Thread nD τ) A.arg18 fullShare s.a18)

/-- Operand 2 taken out of the state, to be given back at any contents. -/
theorem own_2 (c : Dev nD) (A : Args) (s : St F) :
    Own c A s ⊢ iprop(owns (c : Thread nD τ) A.arg2 fullShare s.a2 ∗ ∀ X, owns (c : Thread nD τ) A.arg2 fullShare X -∗ Own c A {s with a2 := X}) := by
  unfold Own
  iintro ⟨H2, H3, H4, H5, H6, H7, H8, H9, H10, H11, H12, H13, H14, H15, H16, H17, H18⟩
  isplitl [H2]
  · iexact H2
  · iintro %X HX
    isplitl [HX]
    · iexact HX
    isplitl [H3]
    · iexact H3
    isplitl [H4]
    · iexact H4
    isplitl [H5]
    · iexact H5
    isplitl [H6]
    · iexact H6
    isplitl [H7]
    · iexact H7
    isplitl [H8]
    · iexact H8
    isplitl [H9]
    · iexact H9
    isplitl [H10]
    · iexact H10
    isplitl [H11]
    · iexact H11
    isplitl [H12]
    · iexact H12
    isplitl [H13]
    · iexact H13
    isplitl [H14]
    · iexact H14
    isplitl [H15]
    · iexact H15
    isplitl [H16]
    · iexact H16
    isplitl [H17]
    · iexact H17
    iexact H18

/-- Operand 3 taken out of the state, to be given back at any contents. -/
theorem own_3 (c : Dev nD) (A : Args) (s : St F) :
    Own c A s ⊢ iprop(owns (c : Thread nD τ) A.arg3 fullShare s.a3 ∗ ∀ X, owns (c : Thread nD τ) A.arg3 fullShare X -∗ Own c A {s with a3 := X}) := by
  unfold Own
  iintro ⟨H2, H3, H4, H5, H6, H7, H8, H9, H10, H11, H12, H13, H14, H15, H16, H17, H18⟩
  isplitl [H3]
  · iexact H3
  · iintro %X HX
    isplitl [H2]
    · iexact H2
    isplitl [HX]
    · iexact HX
    isplitl [H4]
    · iexact H4
    isplitl [H5]
    · iexact H5
    isplitl [H6]
    · iexact H6
    isplitl [H7]
    · iexact H7
    isplitl [H8]
    · iexact H8
    isplitl [H9]
    · iexact H9
    isplitl [H10]
    · iexact H10
    isplitl [H11]
    · iexact H11
    isplitl [H12]
    · iexact H12
    isplitl [H13]
    · iexact H13
    isplitl [H14]
    · iexact H14
    isplitl [H15]
    · iexact H15
    isplitl [H16]
    · iexact H16
    isplitl [H17]
    · iexact H17
    iexact H18

/-- Operand 4 taken out of the state, to be given back at any contents. -/
theorem own_4 (c : Dev nD) (A : Args) (s : St F) :
    Own c A s ⊢ iprop(owns (c : Thread nD τ) A.arg4 fullShare s.a4 ∗ ∀ X, owns (c : Thread nD τ) A.arg4 fullShare X -∗ Own c A {s with a4 := X}) := by
  unfold Own
  iintro ⟨H2, H3, H4, H5, H6, H7, H8, H9, H10, H11, H12, H13, H14, H15, H16, H17, H18⟩
  isplitl [H4]
  · iexact H4
  · iintro %X HX
    isplitl [H2]
    · iexact H2
    isplitl [H3]
    · iexact H3
    isplitl [HX]
    · iexact HX
    isplitl [H5]
    · iexact H5
    isplitl [H6]
    · iexact H6
    isplitl [H7]
    · iexact H7
    isplitl [H8]
    · iexact H8
    isplitl [H9]
    · iexact H9
    isplitl [H10]
    · iexact H10
    isplitl [H11]
    · iexact H11
    isplitl [H12]
    · iexact H12
    isplitl [H13]
    · iexact H13
    isplitl [H14]
    · iexact H14
    isplitl [H15]
    · iexact H15
    isplitl [H16]
    · iexact H16
    isplitl [H17]
    · iexact H17
    iexact H18

/-- Operand 5 taken out of the state, to be given back at any contents. -/
theorem own_5 (c : Dev nD) (A : Args) (s : St F) :
    Own c A s ⊢ iprop(owns (c : Thread nD τ) A.arg5 fullShare s.a5 ∗ ∀ X, owns (c : Thread nD τ) A.arg5 fullShare X -∗ Own c A {s with a5 := X}) := by
  unfold Own
  iintro ⟨H2, H3, H4, H5, H6, H7, H8, H9, H10, H11, H12, H13, H14, H15, H16, H17, H18⟩
  isplitl [H5]
  · iexact H5
  · iintro %X HX
    isplitl [H2]
    · iexact H2
    isplitl [H3]
    · iexact H3
    isplitl [H4]
    · iexact H4
    isplitl [HX]
    · iexact HX
    isplitl [H6]
    · iexact H6
    isplitl [H7]
    · iexact H7
    isplitl [H8]
    · iexact H8
    isplitl [H9]
    · iexact H9
    isplitl [H10]
    · iexact H10
    isplitl [H11]
    · iexact H11
    isplitl [H12]
    · iexact H12
    isplitl [H13]
    · iexact H13
    isplitl [H14]
    · iexact H14
    isplitl [H15]
    · iexact H15
    isplitl [H16]
    · iexact H16
    isplitl [H17]
    · iexact H17
    iexact H18

/-- Operand 6 taken out of the state, to be given back at any contents. -/
theorem own_6 (c : Dev nD) (A : Args) (s : St F) :
    Own c A s ⊢ iprop(owns (c : Thread nD τ) A.arg6 fullShare s.a6 ∗ ∀ X, owns (c : Thread nD τ) A.arg6 fullShare X -∗ Own c A {s with a6 := X}) := by
  unfold Own
  iintro ⟨H2, H3, H4, H5, H6, H7, H8, H9, H10, H11, H12, H13, H14, H15, H16, H17, H18⟩
  isplitl [H6]
  · iexact H6
  · iintro %X HX
    isplitl [H2]
    · iexact H2
    isplitl [H3]
    · iexact H3
    isplitl [H4]
    · iexact H4
    isplitl [H5]
    · iexact H5
    isplitl [HX]
    · iexact HX
    isplitl [H7]
    · iexact H7
    isplitl [H8]
    · iexact H8
    isplitl [H9]
    · iexact H9
    isplitl [H10]
    · iexact H10
    isplitl [H11]
    · iexact H11
    isplitl [H12]
    · iexact H12
    isplitl [H13]
    · iexact H13
    isplitl [H14]
    · iexact H14
    isplitl [H15]
    · iexact H15
    isplitl [H16]
    · iexact H16
    isplitl [H17]
    · iexact H17
    iexact H18

/-- Operand 7 taken out of the state, to be given back at any contents. -/
theorem own_7 (c : Dev nD) (A : Args) (s : St F) :
    Own c A s ⊢ iprop(owns (c : Thread nD τ) A.arg7 fullShare s.a7 ∗ ∀ X, owns (c : Thread nD τ) A.arg7 fullShare X -∗ Own c A {s with a7 := X}) := by
  unfold Own
  iintro ⟨H2, H3, H4, H5, H6, H7, H8, H9, H10, H11, H12, H13, H14, H15, H16, H17, H18⟩
  isplitl [H7]
  · iexact H7
  · iintro %X HX
    isplitl [H2]
    · iexact H2
    isplitl [H3]
    · iexact H3
    isplitl [H4]
    · iexact H4
    isplitl [H5]
    · iexact H5
    isplitl [H6]
    · iexact H6
    isplitl [HX]
    · iexact HX
    isplitl [H8]
    · iexact H8
    isplitl [H9]
    · iexact H9
    isplitl [H10]
    · iexact H10
    isplitl [H11]
    · iexact H11
    isplitl [H12]
    · iexact H12
    isplitl [H13]
    · iexact H13
    isplitl [H14]
    · iexact H14
    isplitl [H15]
    · iexact H15
    isplitl [H16]
    · iexact H16
    isplitl [H17]
    · iexact H17
    iexact H18

/-- Operand 8 taken out of the state, to be given back at any contents. -/
theorem own_8 (c : Dev nD) (A : Args) (s : St F) :
    Own c A s ⊢ iprop(owns (c : Thread nD τ) A.arg8 fullShare s.a8 ∗ ∀ X, owns (c : Thread nD τ) A.arg8 fullShare X -∗ Own c A {s with a8 := X}) := by
  unfold Own
  iintro ⟨H2, H3, H4, H5, H6, H7, H8, H9, H10, H11, H12, H13, H14, H15, H16, H17, H18⟩
  isplitl [H8]
  · iexact H8
  · iintro %X HX
    isplitl [H2]
    · iexact H2
    isplitl [H3]
    · iexact H3
    isplitl [H4]
    · iexact H4
    isplitl [H5]
    · iexact H5
    isplitl [H6]
    · iexact H6
    isplitl [H7]
    · iexact H7
    isplitl [HX]
    · iexact HX
    isplitl [H9]
    · iexact H9
    isplitl [H10]
    · iexact H10
    isplitl [H11]
    · iexact H11
    isplitl [H12]
    · iexact H12
    isplitl [H13]
    · iexact H13
    isplitl [H14]
    · iexact H14
    isplitl [H15]
    · iexact H15
    isplitl [H16]
    · iexact H16
    isplitl [H17]
    · iexact H17
    iexact H18

/-- Operand 9 taken out of the state, to be given back at any contents. -/
theorem own_9 (c : Dev nD) (A : Args) (s : St F) :
    Own c A s ⊢ iprop(owns (c : Thread nD τ) A.arg9 fullShare s.a9 ∗ ∀ X, owns (c : Thread nD τ) A.arg9 fullShare X -∗ Own c A {s with a9 := X}) := by
  unfold Own
  iintro ⟨H2, H3, H4, H5, H6, H7, H8, H9, H10, H11, H12, H13, H14, H15, H16, H17, H18⟩
  isplitl [H9]
  · iexact H9
  · iintro %X HX
    isplitl [H2]
    · iexact H2
    isplitl [H3]
    · iexact H3
    isplitl [H4]
    · iexact H4
    isplitl [H5]
    · iexact H5
    isplitl [H6]
    · iexact H6
    isplitl [H7]
    · iexact H7
    isplitl [H8]
    · iexact H8
    isplitl [HX]
    · iexact HX
    isplitl [H10]
    · iexact H10
    isplitl [H11]
    · iexact H11
    isplitl [H12]
    · iexact H12
    isplitl [H13]
    · iexact H13
    isplitl [H14]
    · iexact H14
    isplitl [H15]
    · iexact H15
    isplitl [H16]
    · iexact H16
    isplitl [H17]
    · iexact H17
    iexact H18

/-- Operand 10 taken out of the state, to be given back at any contents. -/
theorem own_10 (c : Dev nD) (A : Args) (s : St F) :
    Own c A s ⊢ iprop(owns (c : Thread nD τ) A.arg10 fullShare s.a10 ∗ ∀ X, owns (c : Thread nD τ) A.arg10 fullShare X -∗ Own c A {s with a10 := X}) := by
  unfold Own
  iintro ⟨H2, H3, H4, H5, H6, H7, H8, H9, H10, H11, H12, H13, H14, H15, H16, H17, H18⟩
  isplitl [H10]
  · iexact H10
  · iintro %X HX
    isplitl [H2]
    · iexact H2
    isplitl [H3]
    · iexact H3
    isplitl [H4]
    · iexact H4
    isplitl [H5]
    · iexact H5
    isplitl [H6]
    · iexact H6
    isplitl [H7]
    · iexact H7
    isplitl [H8]
    · iexact H8
    isplitl [H9]
    · iexact H9
    isplitl [HX]
    · iexact HX
    isplitl [H11]
    · iexact H11
    isplitl [H12]
    · iexact H12
    isplitl [H13]
    · iexact H13
    isplitl [H14]
    · iexact H14
    isplitl [H15]
    · iexact H15
    isplitl [H16]
    · iexact H16
    isplitl [H17]
    · iexact H17
    iexact H18

/-- Operand 11 taken out of the state, to be given back at any contents. -/
theorem own_11 (c : Dev nD) (A : Args) (s : St F) :
    Own c A s ⊢ iprop(owns (c : Thread nD τ) A.arg11 fullShare s.a11 ∗ ∀ X, owns (c : Thread nD τ) A.arg11 fullShare X -∗ Own c A {s with a11 := X}) := by
  unfold Own
  iintro ⟨H2, H3, H4, H5, H6, H7, H8, H9, H10, H11, H12, H13, H14, H15, H16, H17, H18⟩
  isplitl [H11]
  · iexact H11
  · iintro %X HX
    isplitl [H2]
    · iexact H2
    isplitl [H3]
    · iexact H3
    isplitl [H4]
    · iexact H4
    isplitl [H5]
    · iexact H5
    isplitl [H6]
    · iexact H6
    isplitl [H7]
    · iexact H7
    isplitl [H8]
    · iexact H8
    isplitl [H9]
    · iexact H9
    isplitl [H10]
    · iexact H10
    isplitl [HX]
    · iexact HX
    isplitl [H12]
    · iexact H12
    isplitl [H13]
    · iexact H13
    isplitl [H14]
    · iexact H14
    isplitl [H15]
    · iexact H15
    isplitl [H16]
    · iexact H16
    isplitl [H17]
    · iexact H17
    iexact H18

/-- Operand 12 taken out of the state, to be given back at any contents. -/
theorem own_12 (c : Dev nD) (A : Args) (s : St F) :
    Own c A s ⊢ iprop(owns (c : Thread nD τ) A.arg12 fullShare s.a12 ∗ ∀ X, owns (c : Thread nD τ) A.arg12 fullShare X -∗ Own c A {s with a12 := X}) := by
  unfold Own
  iintro ⟨H2, H3, H4, H5, H6, H7, H8, H9, H10, H11, H12, H13, H14, H15, H16, H17, H18⟩
  isplitl [H12]
  · iexact H12
  · iintro %X HX
    isplitl [H2]
    · iexact H2
    isplitl [H3]
    · iexact H3
    isplitl [H4]
    · iexact H4
    isplitl [H5]
    · iexact H5
    isplitl [H6]
    · iexact H6
    isplitl [H7]
    · iexact H7
    isplitl [H8]
    · iexact H8
    isplitl [H9]
    · iexact H9
    isplitl [H10]
    · iexact H10
    isplitl [H11]
    · iexact H11
    isplitl [HX]
    · iexact HX
    isplitl [H13]
    · iexact H13
    isplitl [H14]
    · iexact H14
    isplitl [H15]
    · iexact H15
    isplitl [H16]
    · iexact H16
    isplitl [H17]
    · iexact H17
    iexact H18

/-- Operand 13 taken out of the state, to be given back at any contents. -/
theorem own_13 (c : Dev nD) (A : Args) (s : St F) :
    Own c A s ⊢ iprop(owns (c : Thread nD τ) A.arg13 fullShare s.a13 ∗ ∀ X, owns (c : Thread nD τ) A.arg13 fullShare X -∗ Own c A {s with a13 := X}) := by
  unfold Own
  iintro ⟨H2, H3, H4, H5, H6, H7, H8, H9, H10, H11, H12, H13, H14, H15, H16, H17, H18⟩
  isplitl [H13]
  · iexact H13
  · iintro %X HX
    isplitl [H2]
    · iexact H2
    isplitl [H3]
    · iexact H3
    isplitl [H4]
    · iexact H4
    isplitl [H5]
    · iexact H5
    isplitl [H6]
    · iexact H6
    isplitl [H7]
    · iexact H7
    isplitl [H8]
    · iexact H8
    isplitl [H9]
    · iexact H9
    isplitl [H10]
    · iexact H10
    isplitl [H11]
    · iexact H11
    isplitl [H12]
    · iexact H12
    isplitl [HX]
    · iexact HX
    isplitl [H14]
    · iexact H14
    isplitl [H15]
    · iexact H15
    isplitl [H16]
    · iexact H16
    isplitl [H17]
    · iexact H17
    iexact H18

/-- Operand 14 taken out of the state, to be given back at any contents. -/
theorem own_14 (c : Dev nD) (A : Args) (s : St F) :
    Own c A s ⊢ iprop(owns (c : Thread nD τ) A.arg14 fullShare s.a14 ∗ ∀ X, owns (c : Thread nD τ) A.arg14 fullShare X -∗ Own c A {s with a14 := X}) := by
  unfold Own
  iintro ⟨H2, H3, H4, H5, H6, H7, H8, H9, H10, H11, H12, H13, H14, H15, H16, H17, H18⟩
  isplitl [H14]
  · iexact H14
  · iintro %X HX
    isplitl [H2]
    · iexact H2
    isplitl [H3]
    · iexact H3
    isplitl [H4]
    · iexact H4
    isplitl [H5]
    · iexact H5
    isplitl [H6]
    · iexact H6
    isplitl [H7]
    · iexact H7
    isplitl [H8]
    · iexact H8
    isplitl [H9]
    · iexact H9
    isplitl [H10]
    · iexact H10
    isplitl [H11]
    · iexact H11
    isplitl [H12]
    · iexact H12
    isplitl [H13]
    · iexact H13
    isplitl [HX]
    · iexact HX
    isplitl [H15]
    · iexact H15
    isplitl [H16]
    · iexact H16
    isplitl [H17]
    · iexact H17
    iexact H18

/-- Operand 15 taken out of the state, to be given back at any contents. -/
theorem own_15 (c : Dev nD) (A : Args) (s : St F) :
    Own c A s ⊢ iprop(owns (c : Thread nD τ) A.arg15 fullShare s.a15 ∗ ∀ X, owns (c : Thread nD τ) A.arg15 fullShare X -∗ Own c A {s with a15 := X}) := by
  unfold Own
  iintro ⟨H2, H3, H4, H5, H6, H7, H8, H9, H10, H11, H12, H13, H14, H15, H16, H17, H18⟩
  isplitl [H15]
  · iexact H15
  · iintro %X HX
    isplitl [H2]
    · iexact H2
    isplitl [H3]
    · iexact H3
    isplitl [H4]
    · iexact H4
    isplitl [H5]
    · iexact H5
    isplitl [H6]
    · iexact H6
    isplitl [H7]
    · iexact H7
    isplitl [H8]
    · iexact H8
    isplitl [H9]
    · iexact H9
    isplitl [H10]
    · iexact H10
    isplitl [H11]
    · iexact H11
    isplitl [H12]
    · iexact H12
    isplitl [H13]
    · iexact H13
    isplitl [H14]
    · iexact H14
    isplitl [HX]
    · iexact HX
    isplitl [H16]
    · iexact H16
    isplitl [H17]
    · iexact H17
    iexact H18

/-- Operand 16 taken out of the state, to be given back at any contents. -/
theorem own_16 (c : Dev nD) (A : Args) (s : St F) :
    Own c A s ⊢ iprop(owns (c : Thread nD τ) A.arg16 fullShare s.a16 ∗ ∀ X, owns (c : Thread nD τ) A.arg16 fullShare X -∗ Own c A {s with a16 := X}) := by
  unfold Own
  iintro ⟨H2, H3, H4, H5, H6, H7, H8, H9, H10, H11, H12, H13, H14, H15, H16, H17, H18⟩
  isplitl [H16]
  · iexact H16
  · iintro %X HX
    isplitl [H2]
    · iexact H2
    isplitl [H3]
    · iexact H3
    isplitl [H4]
    · iexact H4
    isplitl [H5]
    · iexact H5
    isplitl [H6]
    · iexact H6
    isplitl [H7]
    · iexact H7
    isplitl [H8]
    · iexact H8
    isplitl [H9]
    · iexact H9
    isplitl [H10]
    · iexact H10
    isplitl [H11]
    · iexact H11
    isplitl [H12]
    · iexact H12
    isplitl [H13]
    · iexact H13
    isplitl [H14]
    · iexact H14
    isplitl [H15]
    · iexact H15
    isplitl [HX]
    · iexact HX
    isplitl [H17]
    · iexact H17
    iexact H18

/-- Operand 17 taken out of the state, to be given back at any contents. -/
theorem own_17 (c : Dev nD) (A : Args) (s : St F) :
    Own c A s ⊢ iprop(owns (c : Thread nD τ) A.arg17 fullShare s.a17 ∗ ∀ X, owns (c : Thread nD τ) A.arg17 fullShare X -∗ Own c A {s with a17 := X}) := by
  unfold Own
  iintro ⟨H2, H3, H4, H5, H6, H7, H8, H9, H10, H11, H12, H13, H14, H15, H16, H17, H18⟩
  isplitl [H17]
  · iexact H17
  · iintro %X HX
    isplitl [H2]
    · iexact H2
    isplitl [H3]
    · iexact H3
    isplitl [H4]
    · iexact H4
    isplitl [H5]
    · iexact H5
    isplitl [H6]
    · iexact H6
    isplitl [H7]
    · iexact H7
    isplitl [H8]
    · iexact H8
    isplitl [H9]
    · iexact H9
    isplitl [H10]
    · iexact H10
    isplitl [H11]
    · iexact H11
    isplitl [H12]
    · iexact H12
    isplitl [H13]
    · iexact H13
    isplitl [H14]
    · iexact H14
    isplitl [H15]
    · iexact H15
    isplitl [H16]
    · iexact H16
    isplitl [HX]
    · iexact HX
    iexact H18

/-- Operand 18 taken out of the state, to be given back at any contents. -/
theorem own_18 (c : Dev nD) (A : Args) (s : St F) :
    Own c A s ⊢ iprop(owns (c : Thread nD τ) A.arg18 fullShare s.a18 ∗ ∀ X, owns (c : Thread nD τ) A.arg18 fullShare X -∗ Own c A {s with a18 := X}) := by
  unfold Own
  iintro ⟨H2, H3, H4, H5, H6, H7, H8, H9, H10, H11, H12, H13, H14, H15, H16, H17, H18⟩
  isplitl [H18]
  · iexact H18
  · iintro %X HX
    isplitl [H2]
    · iexact H2
    isplitl [H3]
    · iexact H3
    isplitl [H4]
    · iexact H4
    isplitl [H5]
    · iexact H5
    isplitl [H6]
    · iexact H6
    isplitl [H7]
    · iexact H7
    isplitl [H8]
    · iexact H8
    isplitl [H9]
    · iexact H9
    isplitl [H10]
    · iexact H10
    isplitl [H11]
    · iexact H11
    isplitl [H12]
    · iexact H12
    isplitl [H13]
    · iexact H13
    isplitl [H14]
    · iexact H14
    isplitl [H15]
    · iexact H15
    isplitl [H16]
    · iexact H16
    isplitl [H17]
    · iexact H17
    iexact HX

/-- From the state `s` the program `p` runs to the value `a` and the state `s'`. -/
def Runs (c : Dev nD) (A : Args) {α : Type} (p : Prog (TpuEff nD τ sig (Elt F) Λ₀ .tc) α) (s : St F) (a : α) (s' : St F) : Prop :=
  Own c A s ⊢ wp frame (wpE defs₀ 𝒱₀ (c : Thread nD τ) none) Set.univ p (fun r => iprop(⌜r = a⌝ ∗ Own c A s'))

theorem runs_pure (c : Dev nD) (A : Args) {α : Type} (a : α) (s : St F) : Runs c A (pure a) s a s := by
  unfold Runs
  rw [wp_pure]
  iintro H
  imodintro
  isplitr
  · ipureintro; rfl
  · iexact H

theorem runs_bind {c : Dev nD} {A : Args} {α β : Type} {p : Prog (TpuEff nD τ sig (Elt F) Λ₀ .tc) α} {k : α → Prog (TpuEff nD τ sig (Elt F) Λ₀ .tc) β}
    {s s' s'' : St F} {a : α} {b : β} (h : Runs c A p s a s') (h' : Runs c A (k a) s' b s'') : Runs c A (p >>= k) s b s'' := by
  unfold Runs at *
  rw [wp_bind]
  refine h.trans (wp_mono _ _ _ fun r => ?_)
  iintro ⟨%hr, H⟩
  subst hr
  iapply h' $$ H

/-- A loop with nothing carried: the state after `n` trips is the trip's function iterated. -/
theorem runs_for {c : Dev nD} {A : Args} (lp : Scf.Loop 32) (hok : lp.OK) (body : Fin lp.trips → Unit → Prog (TpuEff nD τ sig (Elt F) Λ₀ .tc) Unit)
    (st : ℕ → St F) (h : ∀ k : Fin lp.trips, Runs c A (body k ⟨⟩) (st k.val) ⟨⟩ (st (k.val + 1))) :
    Runs c A (Scf.Loop.for lp hok ⟨⟩ body) (st 0) ⟨⟩ (st lp.trips) := by
  unfold Runs
  refine .trans ?_ (Scf.wp_for _ _ _ _ _ _ hok ⟨⟩ body (fun k _ => Own c A (st k)) (fun k acc => ?_))
  · iintro H
    isplitl [H]
    · iexact H
    · iintro %acc H
      isplitr
      · ipureintro; rfl
      · iexact H
  · refine (h k).trans (wp_mono _ _ _ fun r => ?_)
    iintro ⟨-, H⟩
    iexact H

theorem own_load (c : Dev nD) {sh : Shape} {e : EltTy} (m : Memref sig .tc .vmem sh e) (off size : Fin sh.rank → ℕ) (inb : ∀ a, off a + size a ≤ sh.size a)
    (hl : m.view.LoadsAt (Rect.unit off size inb).toLoadRect) (X : sh.Idx → Elt F e) :
    owns (c : Thread nD τ) m fullShare X ⊢ wp frame (wpE defs₀ 𝒱₀ (c : Thread nD τ) none) Set.univ
      (Prog.lift (.load m (Rect.unit off size inb).toLoadRect hl)) (fun r => iprop(⌜r = window X off size inb⌝ ∗ (owns (c : Thread nD τ) m fullShare X : sProp 𝕄))) := by
  unfold owns
  iintro ⟨%f, %hf, Hpt⟩
  iapply (wp_load 𝒱₀ (c : Thread nD τ) none Set.univ (hl := hl) (k := .ret) (View.setOn_subset_set _ _)) $$ Hpt
  iintro Hpt
  rw [wp_ret]
  imodintro
  isplitr
  · ipureintro; subst hf; rfl
  · iexists f
    isplitr
    · ipureintro; exact hf
    · iexact Hpt

theorem own_store (c : Dev nD) {sh : Shape} {e : EltTy} (m : Memref sig .tc .vmem sh e) (off size : Fin sh.rank → ℕ) (inb : ∀ a, off a + size a ≤ sh.size a)
    (w : (Rect.unit off size inb).shape.Idx → Elt F e) (hx : (m.access (Rect.unit off size inb)).Stores Finset.univ) (hm) (X : sh.Idx → Elt F e) :
    owns (c : Thread nD τ) m fullShare X ⊢ wp frame (wpE defs₀ 𝒱₀ (c : Thread nD τ) none) Set.univ
      (Prog.lift (.store m (Rect.unit off size inb) w Finset.univ hx hm)) (fun r => iprop(⌜r = ⟨⟩⌝ ∗ (owns (c : Thread nD τ) m fullShare (put X off size w) : sProp 𝕄))) := by
  unfold owns
  iintro ⟨%f, %hf, Hpt⟩
  iapply (wp_store 𝒱₀ (c : Thread nD τ) none Set.univ (hx := hx) (hm := hm) (k := .ret) (S := m.view.set)
    ((View.setOn_subset_set _ _).trans (View.set_slice_subset _ _))) $$ Hpt
  iintro Hpt
  rw [wp_ret]
  imodintro
  isplitr
  · ipureintro; rfl
  · iexists _
    isplitr
    rotate_left
    · iexact Hpt
    · ipureintro; subst hf; exact View.read_writes_cons_put m.view f inb w [] rfl

theorem own_smem (c : Dev nD) {sh : Shape} {e : EltTy} (m : Memref sig .tc .smem sh e) (off size : Fin sh.rank → ℕ) (inb : ∀ a, off a + size a ≤ sh.size a)
    (h1 : (Rect.unit off size inb).shape.numel = 1) (hp : e.packing = 1) (X : sh.Idx → Elt F e) :
    owns (c : Thread nD τ) m fullShare X ⊢ wp frame (wpE defs₀ 𝒱₀ (c : Thread nD τ) none) Set.univ
      (smemLoad m (Rect.unit off size inb) h1 hp)
      (fun r => iprop(⌜r = window X off size inb (Shape.Idx.first (h1.symm ▸ Nat.one_pos))⌝ ∗ (owns (c : Thread nD τ) m fullShare X : sProp 𝕄))) := by
  unfold owns
  iintro ⟨%f, %hf, Hpt⟩
  unfold smemLoad smemLoadElt
  iapply (wp_load 𝒱₀ (c : Thread nD τ) none Set.univ (m := m) (r := (Rect.unit off size inb).toLoadRect) (View.setOn_subset_set _ _)) $$ Hpt
  iintro Hpt
  rw [wp_ret]
  imodintro
  isplitr
  · ipureintro; subst hf; rfl
  · iexists f
    isplitr
    · ipureintro; exact hf
    · iexact Hpt

/-- The word of the table of scales at row `off 0`, column `off 1`. -/
theorem runs_smem {c : Dev nD} {A : Args} {s : St F} (off size : Fin (S5x16).rank → ℕ) (inb h1 hp) :
    Runs c A (smemLoad A.arg2 (Rect.unit (s := S5x16) off size inb) h1 hp) s (window s.a2 off size inb (Shape.Idx.first (h1.symm ▸ Nat.one_pos))) s := by
  unfold Runs
  refine (own_2 c A s).trans ((BI.sep_mono_l (own_smem c A.arg2 off size inb h1 hp s.a2)).trans
    ((wp_frame_r _ _ _).trans (wp_mono _ _ _ fun r => ?_)))
  iintro ⟨⟨%hr, H⟩, Hr⟩
  isplitr
  · ipureintro; exact hr
  · iapply Hr $$ H

theorem runs_load_3 {c : Dev nD} {A : Args} {s : St F} (off size : Fin (S1x16x256x256).rank → ℕ) (inb hl) :
    Runs c A (Prog.lift (.load A.arg3 (Rect.unit (s := S1x16x256x256) off size inb).toLoadRect hl)) s (window s.a3 off size inb) s := by
  unfold Runs
  refine (own_3 c A s).trans ((BI.sep_mono_l (own_load c A.arg3 off size inb hl s.a3)).trans
    ((wp_frame_r _ _ _).trans (wp_mono _ _ _ fun r => ?_)))
  iintro ⟨⟨%hr, H⟩, Hr⟩
  isplitr
  · ipureintro; exact hr
  · iapply Hr $$ H

theorem runs_store_3 {c : Dev nD} {A : Args} {s : St F} (off size : Fin (S1x16x256x256).rank → ℕ) (inb w hx hm) :
    Runs c A (Prog.lift (.store A.arg3 (Rect.unit (s := S1x16x256x256) off size inb) w Finset.univ hx hm)) s ⟨⟩ {s with a3 := put s.a3 off size w} := by
  unfold Runs
  refine (own_3 c A s).trans ((BI.sep_mono_l (own_store c A.arg3 off size inb w hx hm s.a3)).trans
    ((wp_frame_r _ _ _).trans (wp_mono _ _ _ fun r => ?_)))
  iintro ⟨⟨%hr, H⟩, Hr⟩
  isplitr
  · ipureintro; exact hr
  · iapply Hr $$ H

theorem runs_load_4 {c : Dev nD} {A : Args} {s : St F} (off size : Fin (S1x16x256x256).rank → ℕ) (inb hl) :
    Runs c A (Prog.lift (.load A.arg4 (Rect.unit (s := S1x16x256x256) off size inb).toLoadRect hl)) s (window s.a4 off size inb) s := by
  unfold Runs
  refine (own_4 c A s).trans ((BI.sep_mono_l (own_load c A.arg4 off size inb hl s.a4)).trans
    ((wp_frame_r _ _ _).trans (wp_mono _ _ _ fun r => ?_)))
  iintro ⟨⟨%hr, H⟩, Hr⟩
  isplitr
  · ipureintro; exact hr
  · iapply Hr $$ H

theorem runs_store_4 {c : Dev nD} {A : Args} {s : St F} (off size : Fin (S1x16x256x256).rank → ℕ) (inb w hx hm) :
    Runs c A (Prog.lift (.store A.arg4 (Rect.unit (s := S1x16x256x256) off size inb) w Finset.univ hx hm)) s ⟨⟩ {s with a4 := put s.a4 off size w} := by
  unfold Runs
  refine (own_4 c A s).trans ((BI.sep_mono_l (own_store c A.arg4 off size inb w hx hm s.a4)).trans
    ((wp_frame_r _ _ _).trans (wp_mono _ _ _ fun r => ?_)))
  iintro ⟨⟨%hr, H⟩, Hr⟩
  isplitr
  · ipureintro; exact hr
  · iapply Hr $$ H

theorem runs_load_5 {c : Dev nD} {A : Args} {s : St F} (off size : Fin (S1x8x256x256).rank → ℕ) (inb hl) :
    Runs c A (Prog.lift (.load A.arg5 (Rect.unit (s := S1x8x256x256) off size inb).toLoadRect hl)) s (window s.a5 off size inb) s := by
  unfold Runs
  refine (own_5 c A s).trans ((BI.sep_mono_l (own_load c A.arg5 off size inb hl s.a5)).trans
    ((wp_frame_r _ _ _).trans (wp_mono _ _ _ fun r => ?_)))
  iintro ⟨⟨%hr, H⟩, Hr⟩
  isplitr
  · ipureintro; exact hr
  · iapply Hr $$ H

theorem runs_store_5 {c : Dev nD} {A : Args} {s : St F} (off size : Fin (S1x8x256x256).rank → ℕ) (inb w hx hm) :
    Runs c A (Prog.lift (.store A.arg5 (Rect.unit (s := S1x8x256x256) off size inb) w Finset.univ hx hm)) s ⟨⟩ {s with a5 := put s.a5 off size w} := by
  unfold Runs
  refine (own_5 c A s).trans ((BI.sep_mono_l (own_store c A.arg5 off size inb w hx hm s.a5)).trans
    ((wp_frame_r _ _ _).trans (wp_mono _ _ _ fun r => ?_)))
  iintro ⟨⟨%hr, H⟩, Hr⟩
  isplitr
  · ipureintro; exact hr
  · iapply Hr $$ H

theorem runs_load_6 {c : Dev nD} {A : Args} {s : St F} (off size : Fin (S1x8x256x256).rank → ℕ) (inb hl) :
    Runs c A (Prog.lift (.load A.arg6 (Rect.unit (s := S1x8x256x256) off size inb).toLoadRect hl)) s (window s.a6 off size inb) s := by
  unfold Runs
  refine (own_6 c A s).trans ((BI.sep_mono_l (own_load c A.arg6 off size inb hl s.a6)).trans
    ((wp_frame_r _ _ _).trans (wp_mono _ _ _ fun r => ?_)))
  iintro ⟨⟨%hr, H⟩, Hr⟩
  isplitr
  · ipureintro; exact hr
  · iapply Hr $$ H

theorem runs_store_6 {c : Dev nD} {A : Args} {s : St F} (off size : Fin (S1x8x256x256).rank → ℕ) (inb w hx hm) :
    Runs c A (Prog.lift (.store A.arg6 (Rect.unit (s := S1x8x256x256) off size inb) w Finset.univ hx hm)) s ⟨⟩ {s with a6 := put s.a6 off size w} := by
  unfold Runs
  refine (own_6 c A s).trans ((BI.sep_mono_l (own_store c A.arg6 off size inb w hx hm s.a6)).trans
    ((wp_frame_r _ _ _).trans (wp_mono _ _ _ fun r => ?_)))
  iintro ⟨⟨%hr, H⟩, Hr⟩
  isplitr
  · ipureintro; exact hr
  · iapply Hr $$ H

theorem runs_load_7 {c : Dev nD} {A : Args} {s : St F} (off size : Fin (S1x16x256).rank → ℕ) (inb hl) :
    Runs c A (Prog.lift (.load A.arg7 (Rect.unit (s := S1x16x256) off size inb).toLoadRect hl)) s (window s.a7 off size inb) s := by
  unfold Runs
  refine (own_7 c A s).trans ((BI.sep_mono_l (own_load c A.arg7 off size inb hl s.a7)).trans
    ((wp_frame_r _ _ _).trans (wp_mono _ _ _ fun r => ?_)))
  iintro ⟨⟨%hr, H⟩, Hr⟩
  isplitr
  · ipureintro; exact hr
  · iapply Hr $$ H

theorem runs_store_7 {c : Dev nD} {A : Args} {s : St F} (off size : Fin (S1x16x256).rank → ℕ) (inb w hx hm) :
    Runs c A (Prog.lift (.store A.arg7 (Rect.unit (s := S1x16x256) off size inb) w Finset.univ hx hm)) s ⟨⟩ {s with a7 := put s.a7 off size w} := by
  unfold Runs
  refine (own_7 c A s).trans ((BI.sep_mono_l (own_store c A.arg7 off size inb w hx hm s.a7)).trans
    ((wp_frame_r _ _ _).trans (wp_mono _ _ _ fun r => ?_)))
  iintro ⟨⟨%hr, H⟩, Hr⟩
  isplitr
  · ipureintro; exact hr
  · iapply Hr $$ H

theorem runs_load_8 {c : Dev nD} {A : Args} {s : St F} (off size : Fin (S1x16x256).rank → ℕ) (inb hl) :
    Runs c A (Prog.lift (.load A.arg8 (Rect.unit (s := S1x16x256) off size inb).toLoadRect hl)) s (window s.a8 off size inb) s := by
  unfold Runs
  refine (own_8 c A s).trans ((BI.sep_mono_l (own_load c A.arg8 off size inb hl s.a8)).trans
    ((wp_frame_r _ _ _).trans (wp_mono _ _ _ fun r => ?_)))
  iintro ⟨⟨%hr, H⟩, Hr⟩
  isplitr
  · ipureintro; exact hr
  · iapply Hr $$ H

theorem runs_store_8 {c : Dev nD} {A : Args} {s : St F} (off size : Fin (S1x16x256).rank → ℕ) (inb w hx hm) :
    Runs c A (Prog.lift (.store A.arg8 (Rect.unit (s := S1x16x256) off size inb) w Finset.univ hx hm)) s ⟨⟩ {s with a8 := put s.a8 off size w} := by
  unfold Runs
  refine (own_8 c A s).trans ((BI.sep_mono_l (own_store c A.arg8 off size inb w hx hm s.a8)).trans
    ((wp_frame_r _ _ _).trans (wp_mono _ _ _ fun r => ?_)))
  iintro ⟨⟨%hr, H⟩, Hr⟩
  isplitr
  · ipureintro; exact hr
  · iapply Hr $$ H

theorem runs_load_9 {c : Dev nD} {A : Args} {s : St F} (off size : Fin (S1x16x256x256).rank → ℕ) (inb hl) :
    Runs c A (Prog.lift (.load A.arg9 (Rect.unit (s := S1x16x256x256) off size inb).toLoadRect hl)) s (window s.a9 off size inb) s := by
  unfold Runs
  refine (own_9 c A s).trans ((BI.sep_mono_l (own_load c A.arg9 off size inb hl s.a9)).trans
    ((wp_frame_r _ _ _).trans (wp_mono _ _ _ fun r => ?_)))
  iintro ⟨⟨%hr, H⟩, Hr⟩
  isplitr
  · ipureintro; exact hr
  · iapply Hr $$ H

theorem runs_store_9 {c : Dev nD} {A : Args} {s : St F} (off size : Fin (S1x16x256x256).rank → ℕ) (inb w hx hm) :
    Runs c A (Prog.lift (.store A.arg9 (Rect.unit (s := S1x16x256x256) off size inb) w Finset.univ hx hm)) s ⟨⟩ {s with a9 := put s.a9 off size w} := by
  unfold Runs
  refine (own_9 c A s).trans ((BI.sep_mono_l (own_store c A.arg9 off size inb w hx hm s.a9)).trans
    ((wp_frame_r _ _ _).trans (wp_mono _ _ _ fun r => ?_)))
  iintro ⟨⟨%hr, H⟩, Hr⟩
  isplitr
  · ipureintro; exact hr
  · iapply Hr $$ H

theorem runs_load_10 {c : Dev nD} {A : Args} {s : St F} (off size : Fin (S1x8x256x256).rank → ℕ) (inb hl) :
    Runs c A (Prog.lift (.load A.arg10 (Rect.unit (s := S1x8x256x256) off size inb).toLoadRect hl)) s (window s.a10 off size inb) s := by
  unfold Runs
  refine (own_10 c A s).trans ((BI.sep_mono_l (own_load c A.arg10 off size inb hl s.a10)).trans
    ((wp_frame_r _ _ _).trans (wp_mono _ _ _ fun r => ?_)))
  iintro ⟨⟨%hr, H⟩, Hr⟩
  isplitr
  · ipureintro; exact hr
  · iapply Hr $$ H

theorem runs_store_10 {c : Dev nD} {A : Args} {s : St F} (off size : Fin (S1x8x256x256).rank → ℕ) (inb w hx hm) :
    Runs c A (Prog.lift (.store A.arg10 (Rect.unit (s := S1x8x256x256) off size inb) w Finset.univ hx hm)) s ⟨⟩ {s with a10 := put s.a10 off size w} := by
  unfold Runs
  refine (own_10 c A s).trans ((BI.sep_mono_l (own_store c A.arg10 off size inb w hx hm s.a10)).trans
    ((wp_frame_r _ _ _).trans (wp_mono _ _ _ fun r => ?_)))
  iintro ⟨⟨%hr, H⟩, Hr⟩
  isplitr
  · ipureintro; exact hr
  · iapply Hr $$ H

theorem runs_load_11 {c : Dev nD} {A : Args} {s : St F} (off size : Fin (S1x8x256x256).rank → ℕ) (inb hl) :
    Runs c A (Prog.lift (.load A.arg11 (Rect.unit (s := S1x8x256x256) off size inb).toLoadRect hl)) s (window s.a11 off size inb) s := by
  unfold Runs
  refine (own_11 c A s).trans ((BI.sep_mono_l (own_load c A.arg11 off size inb hl s.a11)).trans
    ((wp_frame_r _ _ _).trans (wp_mono _ _ _ fun r => ?_)))
  iintro ⟨⟨%hr, H⟩, Hr⟩
  isplitr
  · ipureintro; exact hr
  · iapply Hr $$ H

theorem runs_store_11 {c : Dev nD} {A : Args} {s : St F} (off size : Fin (S1x8x256x256).rank → ℕ) (inb w hx hm) :
    Runs c A (Prog.lift (.store A.arg11 (Rect.unit (s := S1x8x256x256) off size inb) w Finset.univ hx hm)) s ⟨⟩ {s with a11 := put s.a11 off size w} := by
  unfold Runs
  refine (own_11 c A s).trans ((BI.sep_mono_l (own_store c A.arg11 off size inb w hx hm s.a11)).trans
    ((wp_frame_r _ _ _).trans (wp_mono _ _ _ fun r => ?_)))
  iintro ⟨⟨%hr, H⟩, Hr⟩
  isplitr
  · ipureintro; exact hr
  · iapply Hr $$ H

theorem runs_load_12 {c : Dev nD} {A : Args} {s : St F} (off size : Fin (S5x16x256x256).rank → ℕ) (inb hl) :
    Runs c A (Prog.lift (.load A.arg12 (Rect.unit (s := S5x16x256x256) off size inb).toLoadRect hl)) s (window s.a12 off size inb) s := by
  unfold Runs
  refine (own_12 c A s).trans ((BI.sep_mono_l (own_load c A.arg12 off size inb hl s.a12)).trans
    ((wp_frame_r _ _ _).trans (wp_mono _ _ _ fun r => ?_)))
  iintro ⟨⟨%hr, H⟩, Hr⟩
  isplitr
  · ipureintro; exact hr
  · iapply Hr $$ H

theorem runs_store_12 {c : Dev nD} {A : Args} {s : St F} (off size : Fin (S5x16x256x256).rank → ℕ) (inb w hx hm) :
    Runs c A (Prog.lift (.store A.arg12 (Rect.unit (s := S5x16x256x256) off size inb) w Finset.univ hx hm)) s ⟨⟩ {s with a12 := put s.a12 off size w} := by
  unfold Runs
  refine (own_12 c A s).trans ((BI.sep_mono_l (own_store c A.arg12 off size inb w hx hm s.a12)).trans
    ((wp_frame_r _ _ _).trans (wp_mono _ _ _ fun r => ?_)))
  iintro ⟨⟨%hr, H⟩, Hr⟩
  isplitr
  · ipureintro; exact hr
  · iapply Hr $$ H

theorem runs_load_13 {c : Dev nD} {A : Args} {s : St F} (off size : Fin (S5x16x256x256).rank → ℕ) (inb hl) :
    Runs c A (Prog.lift (.load A.arg13 (Rect.unit (s := S5x16x256x256) off size inb).toLoadRect hl)) s (window s.a13 off size inb) s := by
  unfold Runs
  refine (own_13 c A s).trans ((BI.sep_mono_l (own_load c A.arg13 off size inb hl s.a13)).trans
    ((wp_frame_r _ _ _).trans (wp_mono _ _ _ fun r => ?_)))
  iintro ⟨⟨%hr, H⟩, Hr⟩
  isplitr
  · ipureintro; exact hr
  · iapply Hr $$ H

theorem runs_store_13 {c : Dev nD} {A : Args} {s : St F} (off size : Fin (S5x16x256x256).rank → ℕ) (inb w hx hm) :
    Runs c A (Prog.lift (.store A.arg13 (Rect.unit (s := S5x16x256x256) off size inb) w Finset.univ hx hm)) s ⟨⟩ {s with a13 := put s.a13 off size w} := by
  unfold Runs
  refine (own_13 c A s).trans ((BI.sep_mono_l (own_store c A.arg13 off size inb w hx hm s.a13)).trans
    ((wp_frame_r _ _ _).trans (wp_mono _ _ _ fun r => ?_)))
  iintro ⟨⟨%hr, H⟩, Hr⟩
  isplitr
  · ipureintro; exact hr
  · iapply Hr $$ H

theorem runs_load_14 {c : Dev nD} {A : Args} {s : St F} (off size : Fin (S5x16x256).rank → ℕ) (inb hl) :
    Runs c A (Prog.lift (.load A.arg14 (Rect.unit (s := S5x16x256) off size inb).toLoadRect hl)) s (window s.a14 off size inb) s := by
  unfold Runs
  refine (own_14 c A s).trans ((BI.sep_mono_l (own_load c A.arg14 off size inb hl s.a14)).trans
    ((wp_frame_r _ _ _).trans (wp_mono _ _ _ fun r => ?_)))
  iintro ⟨⟨%hr, H⟩, Hr⟩
  isplitr
  · ipureintro; exact hr
  · iapply Hr $$ H

theorem runs_store_14 {c : Dev nD} {A : Args} {s : St F} (off size : Fin (S5x16x256).rank → ℕ) (inb w hx hm) :
    Runs c A (Prog.lift (.store A.arg14 (Rect.unit (s := S5x16x256) off size inb) w Finset.univ hx hm)) s ⟨⟩ {s with a14 := put s.a14 off size w} := by
  unfold Runs
  refine (own_14 c A s).trans ((BI.sep_mono_l (own_store c A.arg14 off size inb w hx hm s.a14)).trans
    ((wp_frame_r _ _ _).trans (wp_mono _ _ _ fun r => ?_)))
  iintro ⟨⟨%hr, H⟩, Hr⟩
  isplitr
  · ipureintro; exact hr
  · iapply Hr $$ H

theorem runs_load_15 {c : Dev nD} {A : Args} {s : St F} (off size : Fin (S5x16x256).rank → ℕ) (inb hl) :
    Runs c A (Prog.lift (.load A.arg15 (Rect.unit (s := S5x16x256) off size inb).toLoadRect hl)) s (window s.a15 off size inb) s := by
  unfold Runs
  refine (own_15 c A s).trans ((BI.sep_mono_l (own_load c A.arg15 off size inb hl s.a15)).trans
    ((wp_frame_r _ _ _).trans (wp_mono _ _ _ fun r => ?_)))
  iintro ⟨⟨%hr, H⟩, Hr⟩
  isplitr
  · ipureintro; exact hr
  · iapply Hr $$ H

theorem runs_store_15 {c : Dev nD} {A : Args} {s : St F} (off size : Fin (S5x16x256).rank → ℕ) (inb w hx hm) :
    Runs c A (Prog.lift (.store A.arg15 (Rect.unit (s := S5x16x256) off size inb) w Finset.univ hx hm)) s ⟨⟩ {s with a15 := put s.a15 off size w} := by
  unfold Runs
  refine (own_15 c A s).trans ((BI.sep_mono_l (own_store c A.arg15 off size inb w hx hm s.a15)).trans
    ((wp_frame_r _ _ _).trans (wp_mono _ _ _ fun r => ?_)))
  iintro ⟨⟨%hr, H⟩, Hr⟩
  isplitr
  · ipureintro; exact hr
  · iapply Hr $$ H

theorem runs_load_16 {c : Dev nD} {A : Args} {s : St F} (off size : Fin (S5x16x256x256).rank → ℕ) (inb hl) :
    Runs c A (Prog.lift (.load A.arg16 (Rect.unit (s := S5x16x256x256) off size inb).toLoadRect hl)) s (window s.a16 off size inb) s := by
  unfold Runs
  refine (own_16 c A s).trans ((BI.sep_mono_l (own_load c A.arg16 off size inb hl s.a16)).trans
    ((wp_frame_r _ _ _).trans (wp_mono _ _ _ fun r => ?_)))
  iintro ⟨⟨%hr, H⟩, Hr⟩
  isplitr
  · ipureintro; exact hr
  · iapply Hr $$ H

theorem runs_store_16 {c : Dev nD} {A : Args} {s : St F} (off size : Fin (S5x16x256x256).rank → ℕ) (inb w hx hm) :
    Runs c A (Prog.lift (.store A.arg16 (Rect.unit (s := S5x16x256x256) off size inb) w Finset.univ hx hm)) s ⟨⟩ {s with a16 := put s.a16 off size w} := by
  unfold Runs
  refine (own_16 c A s).trans ((BI.sep_mono_l (own_store c A.arg16 off size inb w hx hm s.a16)).trans
    ((wp_frame_r _ _ _).trans (wp_mono _ _ _ fun r => ?_)))
  iintro ⟨⟨%hr, H⟩, Hr⟩
  isplitr
  · ipureintro; exact hr
  · iapply Hr $$ H

theorem runs_load_17 {c : Dev nD} {A : Args} {s : St F} (off size : Fin (S256x256).rank → ℕ) (inb hl) :
    Runs c A (Prog.lift (.load A.arg17 (Rect.unit (s := S256x256) off size inb).toLoadRect hl)) s (window s.a17 off size inb) s := by
  unfold Runs
  refine (own_17 c A s).trans ((BI.sep_mono_l (own_load c A.arg17 off size inb hl s.a17)).trans
    ((wp_frame_r _ _ _).trans (wp_mono _ _ _ fun r => ?_)))
  iintro ⟨⟨%hr, H⟩, Hr⟩
  isplitr
  · ipureintro; exact hr
  · iapply Hr $$ H

theorem runs_store_17 {c : Dev nD} {A : Args} {s : St F} (off size : Fin (S256x256).rank → ℕ) (inb w hx hm) :
    Runs c A (Prog.lift (.store A.arg17 (Rect.unit (s := S256x256) off size inb) w Finset.univ hx hm)) s ⟨⟩ {s with a17 := put s.a17 off size w} := by
  unfold Runs
  refine (own_17 c A s).trans ((BI.sep_mono_l (own_store c A.arg17 off size inb w hx hm s.a17)).trans
    ((wp_frame_r _ _ _).trans (wp_mono _ _ _ fun r => ?_)))
  iintro ⟨⟨%hr, H⟩, Hr⟩
  isplitr
  · ipureintro; exact hr
  · iapply Hr $$ H

theorem runs_load_18 {c : Dev nD} {A : Args} {s : St F} (off size : Fin (S256x256).rank → ℕ) (inb hl) :
    Runs c A (Prog.lift (.load A.arg18 (Rect.unit (s := S256x256) off size inb).toLoadRect hl)) s (window s.a18 off size inb) s := by
  unfold Runs
  refine (own_18 c A s).trans ((BI.sep_mono_l (own_load c A.arg18 off size inb hl s.a18)).trans
    ((wp_frame_r _ _ _).trans (wp_mono _ _ _ fun r => ?_)))
  iintro ⟨⟨%hr, H⟩, Hr⟩
  isplitr
  · ipureintro; exact hr
  · iapply Hr $$ H

theorem runs_store_18 {c : Dev nD} {A : Args} {s : St F} (off size : Fin (S256x256).rank → ℕ) (inb w hx hm) :
    Runs c A (Prog.lift (.store A.arg18 (Rect.unit (s := S256x256) off size inb) w Finset.univ hx hm)) s ⟨⟩ {s with a18 := put s.a18 off size w} := by
  unfold Runs
  refine (own_18 c A s).trans ((BI.sep_mono_l (own_store c A.arg18 off size inb w hx hm s.a18)).trans
    ((wp_frame_r _ _ _).trans (wp_mono _ _ _ fun r => ?_)))
  iintro ⟨⟨%hr, H⟩, Hr⟩
  isplitr
  · ipureintro; exact hr
  · iapply Hr $$ H

end Cert.Main.Body

end
-- ==== Proof.MainRun.lean ====
/- What the body of the pallas_call `main` does to its operands, generated part by part from its skeleton: every loop and every
   part as a function on the operands' contents. -/
module

public import proofs.«01_k».proof.Proof.MainState

@[expose] public section

set_option maxRecDepth 16384

noncomputable section

namespace Cert.Main.Body

open Cert.Main Cert.Main.Gen
open Idealize.ShloMosaic Idealize.ShloMosaic.TcCoe Idealize.ShloMosaic.Tactic
open Idealize.SL Idealize.SL.RA Idealize.SL.BI Idealize.SL.Sem
open VecWindow (window put)

variable {F : FTy → Type} [FloatOps F]

/-- The scalar read from the table of scales. -/
def smem (x : Vec F S5x16 .f32) (off : Fin (S5x16).rank → ℕ) (inb : ∀ a, off a + S1x1.size a ≤ S5x16.size a) : Elt F .f32 :=
  window x off S1x1.size inb (Shape.Idx.first (numel1_S1x1.symm ▸ Nat.one_pos))

/-- A trip function iterated over the trips of a loop. -/
def iter {N : ℕ} (f : Fin N → St F → St F) (s : St F) : ℕ → St F
  | 0 => s
  | n + 1 => if h : n < N then f ⟨n, h⟩ (iter f s n) else iter f s n

/-- A loop's state is its trip function iterated. -/
theorem runs_iter {c : Dev nD} {A : Args} (lp : Scf.Loop 32) (hok : lp.OK) (body : Fin lp.trips → Unit → Prog (TpuEff nD τ sig (Elt F) Λ₀ .tc) Unit)
    (f : Fin lp.trips → St F → St F) (h : ∀ k s, Runs c A (body k ⟨⟩) s ⟨⟩ (f k s)) (s : St F) :
    Runs c A (Scf.Loop.for lp hok ⟨⟩ body) s ⟨⟩ (iter f s lp.trips) := by
  refine runs_for lp hok body (iter f s) fun k => ?_
  have e : iter f s (k.val + 1) = f k (iter f s k.val) := by
    rw [iter, dif_pos k.isLt]
  rw [e]
  exact h k _

/-- A conditional whose two branches run to one continuation `T` of the state. -/
theorem runs_dite {c : Dev nD} {A : Args} {α : Type} {b : Prop} [Decidable b] {p : b → Prog (TpuEff nD τ sig (Elt F) Λ₀ .tc) α}
    {q : ¬b → Prog (TpuEff nD τ sig (Elt F) Λ₀ .tc) α} {s : St F} {a : α} (T : St F → St F) (s1 : b → St F) (s2 : ¬b → St F)
    (hp : ∀ h, Runs c A (p h) s a (T (s1 h))) (hq : ∀ h, Runs c A (q h) s a (T (s2 h))) :
    Runs c A (if h : b then p h else q h) s a (T (if h : b then s1 h else s2 h)) := by
  by_cases h : b
  · rw [dif_pos h, dif_pos h]; exact hp h
  · rw [dif_neg h, dif_neg h]; exact hq h

/-- Trip of loop 1: what it stores. -/
def t1St (i : grid0.Coords) (k0_h1 : k0_cond1 i = 1#1) (k0_t1 : Fin k0_t1_loop.trips) (s : St F) : St F :=
  {s with a12 := (put s.a12 ((k0_off1 k0_t1)) S1x1x256x256.size ((k0_pay10 (F := F)))), a13 := (put s.a13 ((k0_off1 k0_t1)) S1x1x256x256.size ((k0_pay11 (F := F))))}

theorem run_t1 (c : Dev nD) (A : Args) (i : grid0.Coords) (k0_h1 : k0_cond1 i = 1#1)  (k0_t1 : Fin k0_t1_loop.trips) (s : St F) :
    Runs c A (k0_t1_body (F := F) i A.arg2 A.harg2 A.arg3 A.harg3 A.arg4 A.harg4 A.arg5 A.harg5 A.arg6 A.harg6 A.arg7 A.harg7 A.arg8 A.harg8 A.arg9 A.harg9 A.arg10 A.harg10 A.arg11 A.harg11 A.arg12 A.harg12 A.arg13 A.harg13 A.arg14 A.harg14 A.arg15 A.harg15 A.arg16 A.harg16 A.arg17 A.harg17 A.arg18 A.harg18 k0_h1  k0_t1 ⟨⟩) s ⟨⟩ (t1St i k0_h1 k0_t1 s) := by
  unfold k0_t1_body
  refine runs_bind (runs_load_12 _ _ _ _) ?_
  refine runs_bind (runs_store_12 _ _ _ _ _ _) ?_
  refine runs_bind (runs_load_13 _ _ _ _) ?_
  refine runs_bind (runs_store_13 _ _ _ _ _ _) ?_
  exact runs_pure _ _ _ _

/-- Trip of loop 2: what it stores. -/
def t2St (i : grid0.Coords) (k0_h1 : k0_cond1 i = 1#1) (k0_t2 : Fin k0_t2_loop.trips) (s : St F) : St F :=
  {s with a12 := (put s.a12 ((k0_off2 k0_t2)) S1x1x256x256.size ((k0_pay14 (F := F)))), a13 := (put s.a13 ((k0_off2 k0_t2)) S1x1x256x256.size ((k0_pay15 (F := F))))}

theorem run_t2 (c : Dev nD) (A : Args) (i : grid0.Coords) (k0_h1 : k0_cond1 i = 1#1)  (k0_t2 : Fin k0_t2_loop.trips) (s : St F) :
    Runs c A (k0_t2_body (F := F) i A.arg2 A.harg2 A.arg3 A.harg3 A.arg4 A.harg4 A.arg5 A.harg5 A.arg6 A.harg6 A.arg7 A.harg7 A.arg8 A.harg8 A.arg9 A.harg9 A.arg10 A.harg10 A.arg11 A.harg11 A.arg12 A.harg12 A.arg13 A.harg13 A.arg14 A.harg14 A.arg15 A.harg15 A.arg16 A.harg16 A.arg17 A.harg17 A.arg18 A.harg18 k0_h1  k0_t2 ⟨⟩) s ⟨⟩ (t2St i k0_h1 k0_t2 s) := by
  unfold k0_t2_body
  refine runs_bind (runs_load_12 _ _ _ _) ?_
  refine runs_bind (runs_store_12 _ _ _ _ _ _) ?_
  refine runs_bind (runs_load_13 _ _ _ _) ?_
  refine runs_bind (runs_store_13 _ _ _ _ _ _) ?_
  exact runs_pure _ _ _ _

/-- Trip of loop 3: what it stores. -/
def t3St (i : grid0.Coords) (k0_h1 : k0_cond1 i = 1#1) (k0_t3 : Fin k0_t3_loop.trips) (s : St F) : St F :=
  {s with a12 := (put s.a12 ((k0_off3 k0_t3)) S1x1x256x256.size ((k0_pay18 (F := F)))), a13 := (put s.a13 ((k0_off3 k0_t3)) S1x1x256x256.size ((k0_pay19 (F := F))))}

theorem run_t3 (c : Dev nD) (A : Args) (i : grid0.Coords) (k0_h1 : k0_cond1 i = 1#1)  (k0_t3 : Fin k0_t3_loop.trips) (s : St F) :
    Runs c A (k0_t3_body (F := F) i A.arg2 A.harg2 A.arg3 A.harg3 A.arg4 A.harg4 A.arg5 A.harg5 A.arg6 A.harg6 A.arg7 A.harg7 A.arg8 A.harg8 A.arg9 A.harg9 A.arg10 A.harg10 A.arg11 A.harg11 A.arg12 A.harg12 A.arg13 A.harg13 A.arg14 A.harg14 A.arg15 A.harg15 A.arg16 A.harg16 A.arg17 A.harg17 A.arg18 A.harg18 k0_h1  k0_t3 ⟨⟩) s ⟨⟩ (t3St i k0_h1 k0_t3 s) := by
  unfold k0_t3_body
  refine runs_bind (runs_load_12 _ _ _ _) ?_
  refine runs_bind (runs_store_12 _ _ _ _ _ _) ?_
  refine runs_bind (runs_load_13 _ _ _ _) ?_
  refine runs_bind (runs_store_13 _ _ _ _ _ _) ?_
  exact runs_pure _ _ _ _

/-- Trip of loop 4: what it stores. -/
def t4St (i : grid0.Coords) (k0_h1 : k0_cond1 i = 1#1) (k0_t4 : Fin k0_t4_loop.trips) (s : St F) : St F :=
  {s with a12 := (put s.a12 ((k0_off4 k0_t4)) S1x1x256x256.size ((k0_pay23 (F := F)))), a13 := (put s.a13 ((k0_off4 k0_t4)) S1x1x256x256.size ((k0_pay24 (F := F))))}

theorem run_t4 (c : Dev nD) (A : Args) (i : grid0.Coords) (k0_h1 : k0_cond1 i = 1#1) (v29 : FVec F S16x256 .f32) (v30 : Vec F S1x16x256 .f32) (k0_t4 : Fin k0_t4_loop.trips) (s : St F) :
    Runs c A (k0_t4_body (F := F) i A.arg2 A.harg2 A.arg3 A.harg3 A.arg4 A.harg4 A.arg5 A.harg5 A.arg6 A.harg6 A.arg7 A.harg7 A.arg8 A.harg8 A.arg9 A.harg9 A.arg10 A.harg10 A.arg11 A.harg11 A.arg12 A.harg12 A.arg13 A.harg13 A.arg14 A.harg14 A.arg15 A.harg15 A.arg16 A.harg16 A.arg17 A.harg17 A.arg18 A.harg18 k0_h1 v29 v30 k0_t4 ⟨⟩) s ⟨⟩ (t4St i k0_h1 k0_t4 s) := by
  unfold k0_t4_body
  refine runs_bind (runs_load_12 _ _ _ _) ?_
  refine runs_bind (runs_store_12 _ _ _ _ _ _) ?_
  refine runs_bind (runs_load_13 _ _ _ _) ?_
  refine runs_bind (runs_store_13 _ _ _ _ _ _) ?_
  exact runs_pure _ _ _ _

/-- Trip of loop 5: what it stores. -/
def t5St (i : grid0.Coords) (k0_h1 : k0_cond1 i = 1#1) (k0_t5 : Fin k0_t5_loop.trips) (s : St F) : St F :=
  {s with a12 := (put s.a12 ((k0_off5 k0_t5)) S1x1x256x256.size ((k0_pay27 (F := F)))), a13 := (put s.a13 ((k0_off5 k0_t5)) S1x1x256x256.size ((k0_pay28 (F := F))))}

theorem run_t5 (c : Dev nD) (A : Args) (i : grid0.Coords) (k0_h1 : k0_cond1 i = 1#1) (v29 : FVec F S16x256 .f32) (v30 : Vec F S1x16x256 .f32) (k0_t5 : Fin k0_t5_loop.trips) (s : St F) :
    Runs c A (k0_t5_body (F := F) i A.arg2 A.harg2 A.arg3 A.harg3 A.arg4 A.harg4 A.arg5 A.harg5 A.arg6 A.harg6 A.arg7 A.harg7 A.arg8 A.harg8 A.arg9 A.harg9 A.arg10 A.harg10 A.arg11 A.harg11 A.arg12 A.harg12 A.arg13 A.harg13 A.arg14 A.harg14 A.arg15 A.harg15 A.arg16 A.harg16 A.arg17 A.harg17 A.arg18 A.harg18 k0_h1 v29 v30 k0_t5 ⟨⟩) s ⟨⟩ (t5St i k0_h1 k0_t5 s) := by
  unfold k0_t5_body
  refine runs_bind (runs_load_12 _ _ _ _) ?_
  refine runs_bind (runs_store_12 _ _ _ _ _ _) ?_
  refine runs_bind (runs_load_13 _ _ _ _) ?_
  refine runs_bind (runs_store_13 _ _ _ _ _ _) ?_
  exact runs_pure _ _ _ _

/-- Trip of loop 6: what it stores. -/
def t6St (i : grid0.Coords) (k0_h2 : k0_cond2 i = 1#1) (k0_t6 : Fin k0_t6_loop.trips) (s : St F) : St F :=
  {s with a12 := (put s.a12 ((k0_off8 i k0_t6)) S1x1x256x256.size ((k0_pay3 (window s.a3 ((k0_off7 k0_t6)) S1x1x256x256.size ((k0_off7_inb i k0_t6 k0_h2)))))), a13 := (put s.a13 ((k0_off8 i k0_t6)) S1x1x256x256.size ((k0_pay4 (window s.a4 ((k0_off7 k0_t6)) S1x1x256x256.size ((k0_off7_inb i k0_t6 k0_h2))))))}

theorem run_t6 (c : Dev nD) (A : Args) (i : grid0.Coords) (k0_h2 : k0_cond2 i = 1#1)  (k0_t6 : Fin k0_t6_loop.trips) (s : St F) :
    Runs c A (k0_t6_body (F := F) i A.arg2 A.harg2 A.arg3 A.harg3 A.arg4 A.harg4 A.arg5 A.harg5 A.arg6 A.harg6 A.arg7 A.harg7 A.arg8 A.harg8 A.arg9 A.harg9 A.arg10 A.harg10 A.arg11 A.harg11 A.arg12 A.harg12 A.arg13 A.harg13 A.arg14 A.harg14 A.arg15 A.harg15 A.arg16 A.harg16 A.arg17 A.harg17 A.arg18 A.harg18 k0_h2  k0_t6 ⟨⟩) s ⟨⟩ (t6St i k0_h2 k0_t6 s) := by
  unfold k0_t6_body
  refine runs_bind (runs_load_3 _ _ _ _) ?_
  refine runs_bind (runs_load_12 _ _ _ _) ?_
  refine runs_bind (runs_store_12 _ _ _ _ _ _) ?_
  refine runs_bind (runs_load_4 _ _ _ _) ?_
  refine runs_bind (runs_load_13 _ _ _ _) ?_
  refine runs_bind (runs_store_13 _ _ _ _ _ _) ?_
  exact runs_pure _ _ _ _

/-- Trip of loop 8: what it stores. -/
def t8St (i : grid0.Coords) (k0_h5 : k0_cond5 i = 1#1) (k0_t8 : Fin k0_t8_loop.trips) (s : St F) : St F :=
  {s with a9 := (put s.a9 ((k0_off19 k0_t8)) S1x1x256x256.size ((k0_pay9 (window s.a16 ((k0_off17 i k0_t8)) S1x1x256x256.size ((k0_off17_inb i k0_t8 k0_h5))) (smem s.a2 ((k0_off18 k0_t8)) ((k0_off18_inb i k0_t8 k0_h5))))))}

theorem run_t8 (c : Dev nD) (A : Args) (i : grid0.Coords) (k0_h5 : k0_cond5 i = 1#1)  (k0_t8 : Fin k0_t8_loop.trips) (s : St F) :
    Runs c A (k0_t8_body (F := F) i A.arg2 A.harg2 A.arg3 A.harg3 A.arg4 A.harg4 A.arg5 A.harg5 A.arg6 A.harg6 A.arg7 A.harg7 A.arg8 A.harg8 A.arg9 A.harg9 A.arg10 A.harg10 A.arg11 A.harg11 A.arg12 A.harg12 A.arg13 A.harg13 A.arg14 A.harg14 A.arg15 A.harg15 A.arg16 A.harg16 A.arg17 A.harg17 A.arg18 A.harg18 k0_h5  k0_t8 ⟨⟩) s ⟨⟩ (t8St i k0_h5 k0_t8 s) := by
  unfold k0_t8_body
  refine runs_bind (runs_load_16 _ _ _ _) ?_
  refine runs_bind (runs_smem _ _ _ _ _) ?_
  refine runs_bind (runs_load_9 _ _ _ _) ?_
  refine runs_bind (runs_store_9 _ _ _ _ _ _) ?_
  exact runs_pure _ _ _ _

/-- The first part of clearing the ring. -/
def part1St (i : grid0.Coords) (k0_h1 : k0_cond1 i = 1#1) (s : St F) : St F :=
  let s1 : St F := iter (t1St i k0_h1) s k0_t1_loop.trips
  let s2 : St F := {s1 with a14 := put s1.a14 (![0, 0, 0]) S1x16x256.size ((k0_pay12 (F := F)))}
  let s3 : St F := {s2 with a15 := put s2.a15 (![0, 0, 0]) S1x16x256.size ((k0_pay13 (F := F)))}
  let s4 : St F := iter (t2St i k0_h1) s3 k0_t2_loop.trips
  let s5 : St F := {s4 with a14 := put s4.a14 (![1, 0, 0]) S1x16x256.size ((k0_pay16 (F := F)))}
  let s6 : St F := {s5 with a15 := put s5.a15 (![1, 0, 0]) S1x16x256.size ((k0_pay17 (F := F)))}
  let s7 : St F := iter (t3St i k0_h1) s6 k0_t3_loop.trips
  s7

theorem run_part1 (c : Dev nD) (A : Args) (i : grid0.Coords) (k0_h1 : k0_cond1 i = 1#1) (s : St F) :
    Runs c A (k0_part1 (F := F) i A.arg2 A.harg2 A.arg3 A.harg3 A.arg4 A.harg4 A.arg5 A.harg5 A.arg6 A.harg6 A.arg7 A.harg7 A.arg8 A.harg8 A.arg9 A.harg9 A.arg10 A.harg10 A.arg11 A.harg11 A.arg12 A.harg12 A.arg13 A.harg13 A.arg14 A.harg14 A.arg15 A.harg15 A.arg16 A.harg16 A.arg17 A.harg17 A.arg18 A.harg18 k0_h1) s ⟨k0_pay20 (F := F), window (part1St i k0_h1 s).a14 ![2, 0, 0] S1x16x256.size inb_S5x16x256_S1x16x256_2_0_0⟩ (part1St i k0_h1 s) := by
  rw [k0_part1_eq_skeleton]
  unfold k0_part1_skel
  refine runs_bind (runs_iter k0_t1_loop _ _ _ (fun k s => run_t1 c A i k0_h1 k s) _) ?_
  refine runs_bind (runs_load_14 _ _ _ _) ?_
  refine runs_bind (runs_store_14 _ _ _ _ _ _) ?_
  refine runs_bind (runs_load_15 _ _ _ _) ?_
  refine runs_bind (runs_store_15 _ _ _ _ _ _) ?_
  refine runs_bind (runs_iter k0_t2_loop _ _ _ (fun k s => run_t2 c A i k0_h1 k s) _) ?_
  refine runs_bind (runs_load_14 _ _ _ _) ?_
  refine runs_bind (runs_store_14 _ _ _ _ _ _) ?_
  refine runs_bind (runs_load_15 _ _ _ _) ?_
  refine runs_bind (runs_store_15 _ _ _ _ _ _) ?_
  refine runs_bind (runs_iter k0_t3_loop _ _ _ (fun k s => run_t3 c A i k0_h1 k s) _) ?_
  refine runs_bind (runs_load_14 _ _ _ _) ?_
  exact runs_pure _ _ _ _

/-- The second part of clearing the ring. -/
def part2St (i : grid0.Coords) (k0_h1 : k0_cond1 i = 1#1) (v29 : FVec F S16x256 .f32) (s : St F) : St F :=
  let s1 : St F := {s with a14 := put s.a14 (![2, 0, 0]) S1x16x256.size ((k0_pay21 v29))}
  let s2 : St F := {s1 with a15 := put s1.a15 (![2, 0, 0]) S1x16x256.size ((k0_pay22 (F := F)))}
  let s3 : St F := iter (t4St i k0_h1) s2 k0_t4_loop.trips
  let s4 : St F := {s3 with a14 := put s3.a14 (![3, 0, 0]) S1x16x256.size ((k0_pay25 (F := F)))}
  let s5 : St F := {s4 with a15 := put s4.a15 (![3, 0, 0]) S1x16x256.size ((k0_pay26 (F := F)))}
  let s6 : St F := iter (t5St i k0_h1) s5 k0_t5_loop.trips
  let s7 : St F := {s6 with a14 := put s6.a14 (![4, 0, 0]) S1x16x256.size ((k0_pay29 (F := F)))}
  let s8 : St F := {s7 with a15 := put s7.a15 (![4, 0, 0]) S1x16x256.size ((k0_pay30 (F := F)))}
  s8

theorem run_part2 (c : Dev nD) (A : Args) (i : grid0.Coords) (k0_h1 : k0_cond1 i = 1#1) (v29 : FVec F S16x256 .f32) (v30 : Vec F S1x16x256 .f32) (s : St F) :
    Runs c A (k0_part2 (F := F) i A.arg2 A.harg2 A.arg3 A.harg3 A.arg4 A.harg4 A.arg5 A.harg5 A.arg6 A.harg6 A.arg7 A.harg7 A.arg8 A.harg8 A.arg9 A.harg9 A.arg10 A.harg10 A.arg11 A.harg11 A.arg12 A.harg12 A.arg13 A.harg13 A.arg14 A.harg14 A.arg15 A.harg15 A.arg16 A.harg16 A.arg17 A.harg17 A.arg18 A.harg18 k0_h1 v29 v30) s ⟨⟩ (part2St i k0_h1 v29 s) := by
  rw [k0_part2_eq_skeleton]
  unfold k0_part2_skel
  refine runs_bind (runs_store_14 _ _ _ _ _ _) ?_
  refine runs_bind (runs_load_15 _ _ _ _) ?_
  refine runs_bind (runs_store_15 _ _ _ _ _ _) ?_
  refine runs_bind (runs_iter k0_t4_loop _ _ _ (fun k s => run_t4 c A i k0_h1 _ _ k s) _) ?_
  refine runs_bind (runs_load_14 _ _ _ _) ?_
  refine runs_bind (runs_store_14 _ _ _ _ _ _) ?_
  refine runs_bind (runs_load_15 _ _ _ _) ?_
  refine runs_bind (runs_store_15 _ _ _ _ _ _) ?_
  refine runs_bind (runs_iter k0_t5_loop _ _ _ (fun k s => run_t5 c A i k0_h1 _ _ k s) _) ?_
  refine runs_bind (runs_load_14 _ _ _ _) ?_
  refine runs_bind (runs_store_14 _ _ _ _ _ _) ?_
  refine runs_bind (runs_load_15 _ _ _ _) ?_
  refine runs_bind (runs_store_15 _ _ _ _ _ _) ?_
  exact runs_pure _ _ _ _

theorem run_part3 (c : Dev nD) (A : Args) (i : grid0.Coords) (v0 : BitVec 32) (k0_h2 : k0_cond2 i = 1#1) (c0_i32_14 : BitVec 32) (c1_i32_16 : BitVec 32) (k0_t7 : Fin k0_t7_loop.trips) (s : St F) :
    Runs c A (k0_part3 (F := F) i A.arg2 A.harg2 A.arg3 A.harg3 A.arg4 A.harg4 A.arg5 A.harg5 A.arg6 A.harg6 A.arg7 A.harg7 A.arg8 A.harg8 A.arg9 A.harg9 A.arg10 A.harg10 A.arg11 A.harg11 A.arg12 A.harg12 A.arg13 A.harg13 A.arg14 A.harg14 A.arg15 A.harg15 A.arg16 A.harg16 A.arg17 A.harg17 A.arg18 A.harg18 v0 k0_h2 c0_i32_14 c1_i32_16 k0_t7) s
      ⟨(Scf.iv c0_i32_14 c1_i32_16 k0_t7), (Scalar.divsi (Scf.iv c0_i32_14 c1_i32_16 k0_t7) 2#32), k0_pay31 (smem s.a2 ((k0_off9 k0_t7)) ((k0_off9_inb i k0_t7 k0_h2))), (smem s.a2 ((k0_off10 k0_t7)) ((k0_off10_inb i k0_t7 k0_h2))), k0_pay32 (window s.a5 ((k0_off11 k0_t7)) S1x1x256x256.size ((k0_off11_inb i k0_t7 k0_h2))), k0_pay33 (window s.a6 ((k0_off11 k0_t7)) S1x1x256x256.size ((k0_off11_inb i k0_t7 k0_h2))), k0_pay34 (window s.a5 ((k0_off11 k0_t7)) S1x1x256x256.size ((k0_off11_inb i k0_t7 k0_h2))), (Scalar.remsi (Scalar.addi v0 0#32) 5#32), k0_pay35 (window s.a12 ((k0_off12 i k0_t7 0#32)) S1x1x256x256.size ((k0_off12_inb i k0_t7 k0_h2 0))), k0_pay36 (window s.a13 ((k0_off12 i k0_t7 0#32)) S1x1x256x256.size ((k0_off12_inb i k0_t7 k0_h2 0))), k0_pay37 (window s.a15 ((k0_off13 i k0_t7 0#32)) S1x1x256.size ((k0_off13_inb i k0_t7 k0_h2 0))), k0_pay38 (smem s.a2 ((k0_off9 k0_t7)) ((k0_off9_inb i k0_t7 k0_h2))) (window s.a5 ((k0_off11 k0_t7)) S1x1x256x256.size ((k0_off11_inb i k0_t7 k0_h2))) (window s.a12 ((k0_off12 i k0_t7 0#32)) S1x1x256x256.size ((k0_off12_inb i k0_t7 k0_h2 0))), k0_pay39 (smem s.a2 ((k0_off9 k0_t7)) ((k0_off9_inb i k0_t7 k0_h2))) (window s.a5 ((k0_off11 k0_t7)) S1x1x256x256.size ((k0_off11_inb i k0_t7 k0_h2))) (window s.a12 ((k0_off12 i k0_t7 0#32)) S1x1x256x256.size ((k0_off12_inb i k0_t7 k0_h2 0))), k0_pay40 (window s.a14 ((k0_off13 i k0_t7 0#32)) S1x1x256.size ((k0_off13_inb i k0_t7 k0_h2 0)))⟩
      s := by
  rw [k0_part3_eq_skeleton]
  unfold k0_part3_skel
  refine runs_bind (runs_smem _ _ _ _ _) ?_
  refine runs_bind (runs_smem _ _ _ _ _) ?_
  refine runs_bind (runs_load_5 _ _ _ _) ?_
  refine runs_bind (runs_load_6 _ _ _ _) ?_
  refine runs_bind (runs_load_12 _ _ _ _) ?_
  refine runs_bind (runs_load_13 _ _ _ _) ?_
  refine runs_bind (runs_load_14 _ _ _ _) ?_
  refine runs_bind (runs_load_15 _ _ _ _) ?_
  exact runs_pure _ _ _ _

theorem run_part4 (c : Dev nD) (A : Args) (i : grid0.Coords) (v0 : BitVec 32) (k0_h2 : k0_cond2 i = 1#1) (v26 : IVec S256x256 32) (v27 : IVec S256x256 32) (k0_t7 : Fin k0_t7_loop.trips) (arg19 : BitVec 32) (v34 : Elt F .f32) (v40 : FVec F S256x256 .fp8e4m3) (v42 : FVec F S256x256 .bf16) (v44 : BitVec 32) (v48 : FVec F S256x256 .fp8e4m3) (v52 : FVec F S256x256 .fp8e5m2) (v60 : FVec F S1x256 .f32) (v64 : FVec F S256x256 .f32) (v66 : FVec F S256x256 .f32) (v67 : FVec F S256x256 .f32) (s : St F) :
    Runs c A (k0_part4 (F := F) i A.arg2 A.harg2 A.arg3 A.harg3 A.arg4 A.harg4 A.arg5 A.harg5 A.arg6 A.harg6 A.arg7 A.harg7 A.arg8 A.harg8 A.arg9 A.harg9 A.arg10 A.harg10 A.arg11 A.harg11 A.arg12 A.harg12 A.arg13 A.harg13 A.arg14 A.harg14 A.arg15 A.harg15 A.arg16 A.harg16 A.arg17 A.harg17 A.arg18 A.harg18 v0 k0_h2 v26 v27 k0_t7 arg19 v34 v40 v42 v44 v48 v52 v60 v64 v66 v67) s
      ⟨k0_pay43 v26 v27 v52 v66 v67, k0_pay44 v26 v27 v34 v40 v48 v52 v60 v64 v66 v67, (Scalar.remsi (Scalar.addi v0 1#32) 5#32), k0_pay46 (window s.a12 ((k0_off12 i k0_t7 1#32)) S1x1x256x256.size ((k0_off12_inb i k0_t7 k0_h2 1))), k0_pay47 (window s.a13 ((k0_off12 i k0_t7 1#32)) S1x1x256x256.size ((k0_off12_inb i k0_t7 k0_h2 1))), k0_pay48 (window s.a14 ((k0_off13 i k0_t7 1#32)) S1x1x256.size ((k0_off13_inb i k0_t7 k0_h2 1)))⟩
      {s with a16 := (put s.a16 ((k0_off12 i k0_t7 0#32)) S1x1x256x256.size ((k0_pay45 v26 v27 v34 v40 v42 v52 v60 v64 v66 v67)))} := by
  rw [k0_part4_eq_skeleton]
  unfold k0_part4_skel
  refine runs_bind (runs_load_16 _ _ _ _) ?_
  refine runs_bind (runs_store_16 _ _ _ _ _ _) ?_
  refine runs_bind (runs_load_12 _ _ _ _) ?_
  refine runs_bind (runs_load_13 _ _ _ _) ?_
  refine runs_bind (runs_load_14 _ _ _ _) ?_
  exact runs_pure _ _ _ _

theorem run_part5 (c : Dev nD) (A : Args) (i : grid0.Coords) (v0 : BitVec 32) (k0_h2 : k0_cond2 i = 1#1) (k0_t7 : Fin k0_t7_loop.trips) (arg19 : BitVec 32) (v32 : F .f32) (v34 : Elt F .f32) (v37 : FVec F S256x256 .fp8e4m3) (v40 : FVec F S256x256 .fp8e4m3) (v42 : FVec F S256x256 .bf16) (v86 : FVec F S256x256 .f32) (v88 : FVec F S256x256 .f32) (v96 : BitVec 32) (v100 : FVec F S256x256 .fp8e4m3) (v104 : FVec F S256x256 .fp8e5m2) (v108 : FVec F S1x256 .f32) (s : St F) :
    Runs c A (k0_part5 (F := F) i A.arg2 A.harg2 A.arg3 A.harg3 A.arg4 A.harg4 A.arg5 A.harg5 A.arg6 A.harg6 A.arg7 A.harg7 A.arg8 A.harg8 A.arg9 A.harg9 A.arg10 A.harg10 A.arg11 A.harg11 A.arg12 A.harg12 A.arg13 A.harg13 A.arg14 A.harg14 A.arg15 A.harg15 A.arg16 A.harg16 A.arg17 A.harg17 A.arg18 A.harg18 v0 k0_h2 k0_t7 arg19 v32 v34 v37 v40 v42 v86 v88 v96 v100 v104 v108) s
      ⟨k0_pay52 v32 v34 v37 v40 v88 v100 v104 v108 (window s.a15 ((k0_off13 i k0_t7 1#32)) S1x1x256.size ((k0_off13_inb i k0_t7 k0_h2 1))), k0_pay53 v32 v37 v86 v100 v104 v108, (Scalar.remsi (Scalar.addi v0 2#32) 5#32)⟩
      {s with a16 := (put s.a16 ((k0_off12 i k0_t7 1#32)) S1x1x256x256.size ((k0_pay54 v32 v34 v37 v40 v42 v100 v104 v108 (window s.a15 ((k0_off13 i k0_t7 1#32)) S1x1x256.size ((k0_off13_inb i k0_t7 k0_h2 1))) (window s.a16 ((k0_off12 i k0_t7 1#32)) S1x1x256x256.size ((k0_off12_inb i k0_t7 k0_h2 1))))))} := by
  rw [k0_part5_eq_skeleton]
  unfold k0_part5_skel
  refine runs_bind (runs_load_15 _ _ _ _) ?_
  refine runs_bind (runs_load_16 _ _ _ _) ?_
  refine runs_bind (runs_load_16 _ _ _ _) ?_
  refine runs_bind (runs_store_16 _ _ _ _ _ _) ?_
  exact runs_pure _ _ _ _

theorem run_part6 (c : Dev nD) (A : Args) (i : grid0.Coords) (k0_h2 : k0_cond2 i = 1#1) (k0_t7 : Fin k0_t7_loop.trips) (arg19 : BitVec 32) (v32 : F .f32) (v34 : Elt F .f32) (v37 : FVec F S256x256 .fp8e4m3) (v40 : FVec F S256x256 .fp8e4m3) (v42 : FVec F S256x256 .bf16) (v138 : FVec F S256x256 .f32) (v139 : FVec F S256x256 .f32) (v152 : BitVec 32) (s : St F) :
    Runs c A (k0_part6 (F := F) i A.arg2 A.harg2 A.arg3 A.harg3 A.arg4 A.harg4 A.arg5 A.harg5 A.arg6 A.harg6 A.arg7 A.harg7 A.arg8 A.harg8 A.arg9 A.harg9 A.arg10 A.harg10 A.arg11 A.harg11 A.arg12 A.harg12 A.arg13 A.harg13 A.arg14 A.harg14 A.arg15 A.harg15 A.arg16 A.harg16 A.arg17 A.harg17 A.arg18 A.harg18 k0_h2 k0_t7 arg19 v32 v34 v37 v40 v42 v138 v139 v152) s
      ⟨k0_pay60 v32 v34 v37 v40 v138 (window s.a12 ((k0_off12 i k0_t7 2#32)) S1x1x256x256.size ((k0_off12_inb i k0_t7 k0_h2 2))) (window s.a13 ((k0_off12 i k0_t7 2#32)) S1x1x256x256.size ((k0_off12_inb i k0_t7 k0_h2 2))) (window s.a14 ((k0_off13 i k0_t7 2#32)) S1x1x256.size ((k0_off13_inb i k0_t7 k0_h2 2))) (window s.a15 ((k0_off13 i k0_t7 2#32)) S1x1x256.size ((k0_off13_inb i k0_t7 k0_h2 2))), k0_pay61 v32 v37 v139 (window s.a12 ((k0_off12 i k0_t7 2#32)) S1x1x256x256.size ((k0_off12_inb i k0_t7 k0_h2 2))) (window s.a13 ((k0_off12 i k0_t7 2#32)) S1x1x256x256.size ((k0_off12_inb i k0_t7 k0_h2 2))) (window s.a14 ((k0_off13 i k0_t7 2#32)) S1x1x256.size ((k0_off13_inb i k0_t7 k0_h2 2))), k0_pay62 v32 v34 v37 v40 v42 (window s.a12 ((k0_off12 i k0_t7 2#32)) S1x1x256x256.size ((k0_off12_inb i k0_t7 k0_h2 2))) (window s.a13 ((k0_off12 i k0_t7 2#32)) S1x1x256x256.size ((k0_off12_inb i k0_t7 k0_h2 2))) (window s.a14 ((k0_off13 i k0_t7 2#32)) S1x1x256.size ((k0_off13_inb i k0_t7 k0_h2 2))) (window s.a15 ((k0_off13 i k0_t7 2#32)) S1x1x256.size ((k0_off13_inb i k0_t7 k0_h2 2))) (window s.a16 ((k0_off12 i k0_t7 2#32)) S1x1x256x256.size ((k0_off12_inb i k0_t7 k0_h2 2)))⟩
      s := by
  rw [k0_part6_eq_skeleton]
  unfold k0_part6_skel
  refine runs_bind (runs_load_12 _ _ _ _) ?_
  refine runs_bind (runs_load_13 _ _ _ _) ?_
  refine runs_bind (runs_load_14 _ _ _ _) ?_
  refine runs_bind (runs_load_15 _ _ _ _) ?_
  refine runs_bind (runs_load_16 _ _ _ _) ?_
  exact runs_pure _ _ _ _

theorem run_part7 (c : Dev nD) (A : Args) (i : grid0.Coords) (v0 : BitVec 32) (k0_h2 : k0_cond2 i = 1#1) (k0_t7 : Fin k0_t7_loop.trips) (arg19 : BitVec 32) (v32 : F .f32) (v34 : Elt F .f32) (v37 : FVec F S256x256 .fp8e4m3) (v40 : FVec F S256x256 .fp8e4m3) (v152 : BitVec 32) (v201 : FVec F S256x256 .f32) (s : St F) :
    Runs c A (k0_part7 (F := F) i A.arg2 A.harg2 A.arg3 A.harg3 A.arg4 A.harg4 A.arg5 A.harg5 A.arg6 A.harg6 A.arg7 A.harg7 A.arg8 A.harg8 A.arg9 A.harg9 A.arg10 A.harg10 A.arg11 A.harg11 A.arg12 A.harg12 A.arg13 A.harg13 A.arg14 A.harg14 A.arg15 A.harg15 A.arg16 A.harg16 A.arg17 A.harg17 A.arg18 A.harg18 v0 k0_h2 k0_t7 arg19 v32 v34 v37 v40 v152 v201) s
      ⟨(Scalar.remsi (Scalar.addi v0 3#32) 5#32), k0_pay64 (window s.a12 ((k0_off12 i k0_t7 3#32)) S1x1x256x256.size ((k0_off12_inb i k0_t7 k0_h2 3))), k0_pay68 v32 v34 v37 v40 (window s.a12 ((k0_off12 i k0_t7 3#32)) S1x1x256x256.size ((k0_off12_inb i k0_t7 k0_h2 3))) (window s.a13 ((k0_off12 i k0_t7 3#32)) S1x1x256x256.size ((k0_off12_inb i k0_t7 k0_h2 3))) (window s.a14 ((k0_off13 i k0_t7 3#32)) S1x1x256.size ((k0_off13_inb i k0_t7 k0_h2 3))) (window s.a15 ((k0_off13 i k0_t7 3#32)) S1x1x256.size ((k0_off13_inb i k0_t7 k0_h2 3))), k0_pay69 v32 v37 (window s.a12 ((k0_off12 i k0_t7 3#32)) S1x1x256x256.size ((k0_off12_inb i k0_t7 k0_h2 3))) (window s.a14 ((k0_off13 i k0_t7 3#32)) S1x1x256.size ((k0_off13_inb i k0_t7 k0_h2 3))), k0_pay70 (window s.a13 ((k0_off12 i k0_t7 3#32)) S1x1x256x256.size ((k0_off12_inb i k0_t7 k0_h2 3)))⟩
      {s with a16 := (put s.a16 ((k0_off12 i k0_t7 2#32)) S1x1x256x256.size ((k0_pay63 v201)))} := by
  rw [k0_part7_eq_skeleton]
  unfold k0_part7_skel
  refine runs_bind (runs_load_16 _ _ _ _) ?_
  refine runs_bind (runs_store_16 _ _ _ _ _ _) ?_
  refine runs_bind (runs_load_12 _ _ _ _) ?_
  refine runs_bind (runs_load_13 _ _ _ _) ?_
  refine runs_bind (runs_load_14 _ _ _ _) ?_
  refine runs_bind (runs_load_15 _ _ _ _) ?_
  exact runs_pure _ _ _ _

theorem run_part8 (c : Dev nD) (A : Args) (i : grid0.Coords) (v0 : BitVec 32) (k0_h2 : k0_cond2 i = 1#1) (k0_t7 : Fin k0_t7_loop.trips) (arg19 : BitVec 32) (v32 : F .f32) (v37 : FVec F S256x256 .fp8e4m3) (v42 : FVec F S256x256 .bf16) (v194 : FVec F S256x256 .f32) (v195 : FVec F S256x256 .f32) (v208 : BitVec 32) (v212 : FVec F S256x256 .fp8e4m3) (v244 : FVec F S256x256 .bf16) (v245 : FVec F S256x256 .bf16) (v246 : FVec F S256x256 .bf16) (s : St F) :
    Runs c A (k0_part8 (F := F) i A.arg2 A.harg2 A.arg3 A.harg3 A.arg4 A.harg4 A.arg5 A.harg5 A.arg6 A.harg6 A.arg7 A.harg7 A.arg8 A.harg8 A.arg9 A.harg9 A.arg10 A.harg10 A.arg11 A.harg11 A.arg12 A.harg12 A.arg13 A.harg13 A.arg14 A.harg14 A.arg15 A.harg15 A.arg16 A.harg16 A.arg17 A.harg17 A.arg18 A.harg18 v0 k0_h2 k0_t7 arg19 v32 v37 v42 v194 v195 v208 v212 v244 v245 v246) s
      ⟨k0_pay71 v194 v212 v244, k0_pay72 v195 v245 v246, (Scalar.remsi (Scalar.addi v0 4#32) 5#32), k0_pay74 (window s.a12 ((k0_off12 i k0_t7 4#32)) S1x1x256x256.size ((k0_off12_inb i k0_t7 k0_h2 4))), k0_pay75 (window s.a13 ((k0_off12 i k0_t7 4#32)) S1x1x256x256.size ((k0_off12_inb i k0_t7 k0_h2 4))), k0_pay76 (window s.a15 ((k0_off13 i k0_t7 4#32)) S1x1x256.size ((k0_off13_inb i k0_t7 k0_h2 4))), k0_pay77 v32 v37 (window s.a12 ((k0_off12 i k0_t7 4#32)) S1x1x256x256.size ((k0_off12_inb i k0_t7 k0_h2 4))), k0_pay78 v32 v37 (window s.a12 ((k0_off12 i k0_t7 4#32)) S1x1x256x256.size ((k0_off12_inb i k0_t7 k0_h2 4))) (window s.a14 ((k0_off13 i k0_t7 4#32)) S1x1x256.size ((k0_off13_inb i k0_t7 k0_h2 4)))⟩
      {s with a16 := (put s.a16 ((k0_off12 i k0_t7 3#32)) S1x1x256x256.size ((k0_pay73 v42 v244 (window s.a16 ((k0_off12 i k0_t7 3#32)) S1x1x256x256.size ((k0_off12_inb i k0_t7 k0_h2 3))))))} := by
  rw [k0_part8_eq_skeleton]
  unfold k0_part8_skel
  refine runs_bind (runs_load_16 _ _ _ _) ?_
  refine runs_bind (runs_load_16 _ _ _ _) ?_
  refine runs_bind (runs_store_16 _ _ _ _ _ _) ?_
  refine runs_bind (runs_load_12 _ _ _ _) ?_
  refine runs_bind (runs_load_13 _ _ _ _) ?_
  refine runs_bind (runs_load_14 _ _ _ _) ?_
  refine runs_bind (runs_load_15 _ _ _ _) ?_
  exact runs_pure _ _ _ _

theorem run_part9 (c : Dev nD) (A : Args) (i : grid0.Coords) (k0_h2 : k0_cond2 i = 1#1) (v26 : IVec S256x256 32) (v27 : IVec S256x256 32) (k0_t7 : Fin k0_t7_loop.trips) (arg19 : BitVec 32) (v34 : Elt F .f32) (v40 : FVec F S256x256 .fp8e4m3) (v42 : FVec F S256x256 .bf16) (v250 : FVec F S256x256 .f32) (v251 : FVec F S256x256 .f32) (v264 : BitVec 32) (v268 : FVec F S256x256 .fp8e4m3) (v272 : FVec F S256x256 .fp8e5m2) (v280 : FVec F S1x256 .f32) (v284 : FVec F S256x256 .f32) (v288 : FVec F S256x256 .f32) (s : St F) :
    Runs c A (k0_part9 (F := F) i A.arg2 A.harg2 A.arg3 A.harg3 A.arg4 A.harg4 A.arg5 A.harg5 A.arg6 A.harg6 A.arg7 A.harg7 A.arg8 A.harg8 A.arg9 A.harg9 A.arg10 A.harg10 A.arg11 A.harg11 A.arg12 A.harg12 A.arg13 A.harg13 A.arg14 A.harg14 A.arg15 A.harg15 A.arg16 A.harg16 A.arg17 A.harg17 A.arg18 A.harg18 k0_h2 v26 v27 k0_t7 arg19 v34 v40 v42 v250 v251 v264 v268 v272 v280 v284 v288) s
      ⟨k0_pay82 v26 v27 v34 v40 v250 v268 v272 v280 v284 v288 (smem s.a2 ((k0_off14 k0_t7)) ((k0_off14_inb i k0_t7 k0_h2))), k0_pay83 v26 v27 v251 v272 v288 (smem s.a2 ((k0_off15 k0_t7)) ((k0_off15_inb i k0_t7 k0_h2))), (Scalar.extui (Scalar.cmpi .eq (Scalar.remsi arg19 2#32) 0#32)), 0#32⟩
      {s with a16 := (put s.a16 ((k0_off12 i k0_t7 4#32)) S1x1x256x256.size ((k0_pay81 v26 v27 v34 v40 v42 v272 v280 v284 v288 (window s.a16 ((k0_off12 i k0_t7 4#32)) S1x1x256x256.size ((k0_off12_inb i k0_t7 k0_h2 4))))))} := by
  rw [k0_part9_eq_skeleton]
  unfold k0_part9_skel
  refine runs_bind (runs_load_16 _ _ _ _) ?_
  refine runs_bind (runs_load_16 _ _ _ _) ?_
  refine runs_bind (runs_store_16 _ _ _ _ _ _) ?_
  refine runs_bind (runs_smem _ _ _ _ _) ?_
  refine runs_bind (runs_smem _ _ _ _ _) ?_
  exact runs_pure _ _ _ _

/-- The key block's values for one head: its block of k and v, and the four scale factors of the head. -/
structure KBlk (F : FTy → Type) where
  qs : Elt F .f32
  ds : Elt F .f32
  c2 : Elt F .f32
  c3 : Elt F .f32
  k : Vec F S1x1x256x256 .fp8e4m3
  v : Vec F S1x1x256x256 .fp8e4m3

/-- The query block's values for one head: its blocks of q and d_out, its log-sum-exp and delta. -/
structure QBlk (F : FTy → Type) where
  q : Vec F S1x1x256x256 .fp8e4m3
  d : Vec F S1x1x256x256 .fp8e5m2
  l : Vec F S1x1x256 .f32
  e : Vec F S1x1x256 .f32

/-- The row index within a block. -/
def iota0 : IVec S256x256 32 := iota .tc S256x256 32 [0] iota_S256x256_d0_w32
/-- The column index within a block. -/
def iota1 : IVec S256x256 32 := iota .tc S256x256 32 [1] iota_S256x256_d1_w32

/-- What is stored for dq of the query block 0 blocks after the key block. -/
def dq0 (K : KBlk F) (S0 : QBlk F) : FVec F S1x1x256x256 .f32 :=
  let x3 := k0_pay33 K.v
  let x4 := k0_pay34 K.k
  let x6 := k0_pay36 S0.d
  let x7 := k0_pay37 S0.e
  let x8 := k0_pay38 K.qs K.k S0.q
  let x9 := k0_pay39 K.qs K.k S0.q
  let x10 := k0_pay40 S0.l
  k0_pay45 iota0 iota1 K.ds x3 x4 x6 x7 x8 x9 x10

/-- What is stored for dq of the query block 1 blocks after the key block. -/
def dq1 (K : KBlk F) (S1 : QBlk F) (old1 : Vec F S1x1x256x256 .f32) : FVec F S1x1x256x256 .f32 :=
  let x1 := k0_pay31 K.qs
  let x2 := k0_pay32 K.k
  let x3 := k0_pay33 K.v
  let x4 := k0_pay34 K.k
  let x13 := k0_pay46 S1.q
  let x14 := k0_pay47 S1.d
  let x15 := k0_pay48 S1.l
  k0_pay54 x1 K.ds x2 x3 x4 x13 x14 x15 S1.e old1

/-- What is stored for dq of the query block 2 blocks after the key block. -/
def dq2 (K : KBlk F) (S2 : QBlk F) (old2 : Vec F S1x1x256x256 .f32) : FVec F S1x1x256x256 .f32 :=
  let x1 := k0_pay31 K.qs
  let x2 := k0_pay32 K.k
  let x3 := k0_pay33 K.v
  let x4 := k0_pay34 K.k
  let x20 := k0_pay62 x1 K.ds x2 x3 x4 S2.q S2.d S2.l S2.e old2
  k0_pay63 x20

/-- What is stored for dq of the query block 3 blocks after the key block. -/
def dq3 (K : KBlk F) (S3 : QBlk F) (old3 : Vec F S1x1x256x256 .f32) : FVec F S1x1x256x256 .f32 :=
  let x4 := k0_pay34 K.k
  let x1 := k0_pay31 K.qs
  let x2 := k0_pay32 K.k
  let x3 := k0_pay33 K.v
  let x22 := k0_pay68 x1 K.ds x2 x3 S3.q S3.d S3.l S3.e
  k0_pay73 x4 x22 old3

/-- What is stored for dq of the query block 4 blocks after the key block. -/
def dq4 (K : KBlk F) (S4 : QBlk F) (old4 : Vec F S1x1x256x256 .f32) : FVec F S1x1x256x256 .f32 :=
  let x3 := k0_pay33 K.v
  let x4 := k0_pay34 K.k
  let x28 := k0_pay75 S4.d
  let x29 := k0_pay76 S4.e
  let x1 := k0_pay31 K.qs
  let x2 := k0_pay32 K.k
  let x30 := k0_pay77 x1 x2 S4.q
  let x31 := k0_pay78 x1 x2 S4.q S4.l
  k0_pay81 iota0 iota1 K.ds x3 x4 x28 x29 x30 x31 old4

/-- One head's contribution to dk of the key block. -/
def dkHead (K : KBlk F) (S0 S1 S2 S3 S4 : QBlk F) : FVec F S256x256 .f32 :=
  let x3 := k0_pay33 K.v
  let x1 := k0_pay31 K.qs
  let x2 := k0_pay32 K.k
  let x5 := k0_pay35 S0.q
  let x6 := k0_pay36 S0.d
  let x7 := k0_pay37 S0.e
  let x8 := k0_pay38 K.qs K.k S0.q
  let x9 := k0_pay39 K.qs K.k S0.q
  let x10 := k0_pay40 S0.l
  let x12 := k0_pay44 iota0 iota1 K.ds x3 x5 x6 x7 x8 x9 x10
  let x13 := k0_pay46 S1.q
  let x14 := k0_pay47 S1.d
  let x15 := k0_pay48 S1.l
  let x16 := k0_pay52 x1 K.ds x2 x3 x12 x13 x14 x15 S1.e
  let x18 := k0_pay60 x1 K.ds x2 x3 x16 S2.q S2.d S2.l S2.e
  let x21 := k0_pay64 S3.q
  let x22 := k0_pay68 x1 K.ds x2 x3 S3.q S3.d S3.l S3.e
  let x25 := k0_pay71 x18 x21 x22
  let x27 := k0_pay74 S4.q
  let x28 := k0_pay75 S4.d
  let x29 := k0_pay76 S4.e
  let x30 := k0_pay77 x1 x2 S4.q
  let x31 := k0_pay78 x1 x2 S4.q S4.l
  let x32 := k0_pay82 iota0 iota1 K.ds x3 x25 x27 x28 x29 x30 x31 K.c2
  x32

/-- One head's contribution to dv of the key block. -/
def dvHead (K : KBlk F) (S0 S1 S2 S3 S4 : QBlk F) : FVec F S256x256 .f32 :=
  let x1 := k0_pay31 K.qs
  let x2 := k0_pay32 K.k
  let x6 := k0_pay36 S0.d
  let x9 := k0_pay39 K.qs K.k S0.q
  let x10 := k0_pay40 S0.l
  let x11 := k0_pay43 iota0 iota1 x6 x9 x10
  let x13 := k0_pay46 S1.q
  let x14 := k0_pay47 S1.d
  let x15 := k0_pay48 S1.l
  let x17 := k0_pay53 x1 x2 x11 x13 x14 x15
  let x19 := k0_pay61 x1 x2 x17 S2.q S2.d S2.l
  let x23 := k0_pay69 x1 x2 S3.q S3.l
  let x24 := k0_pay70 S3.d
  let x26 := k0_pay72 x19 x23 x24
  let x28 := k0_pay75 S4.d
  let x31 := k0_pay78 x1 x2 S4.q S4.l
  let x33 := k0_pay83 iota0 iota1 x26 x28 x31 K.c3
  x33

/-- The query block in the ring that is `m` blocks after the key block of the iteration, for head `k0_t7`. -/
def qblk (i : grid0.Coords) (k0_h2 : k0_cond2 i = 1#1) (k0_t7 : Fin k0_t7_loop.trips) (m : Fin 5) (s : St F) : QBlk F where
  q := window s.a12 (k0_off12 i k0_t7 (BitVec.ofNat 32 m.val)) S1x1x256x256.size (k0_off12_inb i k0_t7 k0_h2 m)
  d := window s.a13 (k0_off12 i k0_t7 (BitVec.ofNat 32 m.val)) S1x1x256x256.size (k0_off12_inb i k0_t7 k0_h2 m)
  l := window s.a14 (k0_off13 i k0_t7 (BitVec.ofNat 32 m.val)) S1x1x256.size (k0_off13_inb i k0_t7 k0_h2 m)
  e := window s.a15 (k0_off13 i k0_t7 (BitVec.ofNat 32 m.val)) S1x1x256.size (k0_off13_inb i k0_t7 k0_h2 m)

/-- The key block of the iteration, for head `k0_t7`. -/
def kblk (i : grid0.Coords) (k0_h2 : k0_cond2 i = 1#1) (k0_t7 : Fin k0_t7_loop.trips) (s : St F) : KBlk F where
  qs := smem s.a2 (k0_off9 k0_t7) (k0_off9_inb i k0_t7 k0_h2)
  ds := smem s.a2 (k0_off10 k0_t7) (k0_off10_inb i k0_t7 k0_h2)
  c2 := smem s.a2 (k0_off14 k0_t7) (k0_off14_inb i k0_t7 k0_h2)
  c3 := smem s.a2 (k0_off15 k0_t7) (k0_off15_inb i k0_t7 k0_h2)
  k := window s.a5 (k0_off11 k0_t7) S1x1x256x256.size (k0_off11_inb i k0_t7 k0_h2)
  v := window s.a6 (k0_off11 k0_t7) S1x1x256x256.size (k0_off11_inb i k0_t7 k0_h2)

/-- The dq accumulator of the query block `m` blocks after the key block. -/
def dqWin (i : grid0.Coords) (k0_h2 : k0_cond2 i = 1#1) (k0_t7 : Fin k0_t7_loop.trips) (m : Fin 5) (x : Vec F S5x16x256x256 .f32) : Vec F S1x1x256x256 .f32 :=
  window x (k0_off12 i k0_t7 (BitVec.ofNat 32 m.val)) S1x1x256x256.size (k0_off12_inb i k0_t7 k0_h2 m)

/-- The dq accumulator with that block stored. -/
def dqPut (i : grid0.Coords) (k0_t7 : Fin k0_t7_loop.trips) (m : Fin 5) (x : Vec F S5x16x256x256 .f32) (w : FVec F S1x1x256x256 .f32) : Vec F S5x16x256x256 .f32 :=
  put x (k0_off12 i k0_t7 (BitVec.ofNat 32 m.val)) S1x1x256x256.size w

/-- The dq accumulators after one head. -/
def dqRing (i : grid0.Coords) (k0_h2 : k0_cond2 i = 1#1) (k0_t7 : Fin k0_t7_loop.trips) (s : St F) : Vec F S5x16x256x256 .f32 :=
  let K := kblk i k0_h2 k0_t7 s
  let x0 := dqPut i k0_t7 0 s.a16 (dq0 K (qblk i k0_h2 k0_t7 0 s))
  let x1 := dqPut i k0_t7 1 x0 (dq1 K (qblk i k0_h2 k0_t7 1 s) (dqWin i k0_h2 k0_t7 1 x0))
  let x2 := dqPut i k0_t7 2 x1 (dq2 K (qblk i k0_h2 k0_t7 2 s) (dqWin i k0_h2 k0_t7 2 x1))
  let x3 := dqPut i k0_t7 3 x2 (dq3 K (qblk i k0_h2 k0_t7 3 s) (dqWin i k0_h2 k0_t7 3 x2))
  dqPut i k0_t7 4 x3 (dq4 K (qblk i k0_h2 k0_t7 4 s) (dqWin i k0_h2 k0_t7 4 x3))

/-- The head's contribution to dk. -/
def dkTrip (i : grid0.Coords) (k0_h2 : k0_cond2 i = 1#1) (k0_t7 : Fin k0_t7_loop.trips) (s : St F) : FVec F S256x256 .f32 :=
  dkHead (kblk i k0_h2 k0_t7 s) (qblk i k0_h2 k0_t7 0 s) (qblk i k0_h2 k0_t7 1 s) (qblk i k0_h2 k0_t7 2 s) (qblk i k0_h2 k0_t7 3 s) (qblk i k0_h2 k0_t7 4 s)

/-- The head's contribution to dv. -/
def dvTrip (i : grid0.Coords) (k0_h2 : k0_cond2 i = 1#1) (k0_t7 : Fin k0_t7_loop.trips) (s : St F) : FVec F S256x256 .f32 :=
  dvHead (kblk i k0_h2 k0_t7 s) (qblk i k0_h2 k0_t7 0 s) (qblk i k0_h2 k0_t7 1 s) (qblk i k0_h2 k0_t7 2 s) (qblk i k0_h2 k0_t7 3 s) (qblk i k0_h2 k0_t7 4 s)

/-- Whether the head is even, as the body computes it. -/
def evenBit (k0_t7 : Fin k0_t7_loop.trips) : BitVec 1 :=
  Scalar.cmpi (w := 32) .ne (Scalar.extui (Scalar.cmpi .eq (Scalar.remsi (Scf.iv (0#32) 1#32 k0_t7) 2#32) (0#32))) (0#32)

/-- An even head leaves its dk and dv aside. -/
def evenSt (k0_t7 : Fin k0_t7_loop.trips) (dk dv : FVec F S256x256 .f32) (s : St F) : St F :=
  if _h : evenBit k0_t7 = 1#1 then
    {s with a17 := put s.a17 ![0, 0] S256x256.size (k0_pay5 dk), a18 := put s.a18 ![0, 0] S256x256.size (k0_pay6 dv)}
  else s

/-- An odd head adds its dk and dv to those left aside and stores the sums. -/
def oddSt (k0_t7 : Fin k0_t7_loop.trips) (dk dv : FVec F S256x256 .f32) (s : St F) : St F :=
  if _h : k0_cond4 k0_t7 = 1#1 then
    {s with
      a10 := put s.a10 (k0_off16 k0_t7) S1x1x256x256.size (k0_pay7 dk (window s.a17 ![0, 0] S256x256.size inb_S256x256_S256x256_0_0))
      a11 := put s.a11 (k0_off16 k0_t7) S1x1x256x256.size (k0_pay8 dv (window s.a18 ![0, 0] S256x256.size inb_S256x256_S256x256_0_0))}
  else s

/-- One head of the backward pass. -/
def t7St (i : grid0.Coords) (k0_h2 : k0_cond2 i = 1#1) (k0_t7 : Fin k0_t7_loop.trips) (s : St F) : St F :=
  oddSt k0_t7 (dkTrip i k0_h2 k0_t7 s) (dvTrip i k0_h2 k0_t7 s) (evenSt k0_t7 (dkTrip i k0_h2 k0_t7 s) (dvTrip i k0_h2 k0_t7 s) {s with a16 := dqRing i k0_h2 k0_t7 s})

theorem run_t7 (c : Dev nD) (A : Args) (i : grid0.Coords) (v0 : BitVec 32) (k0_h2 : k0_cond2 i = 1#1) (k0_t7 : Fin k0_t7_loop.trips) (s : St F) :
    Runs c A (k0_t7_body (F := F) i A.arg2 A.harg2 A.arg3 A.harg3 A.arg4 A.harg4 A.arg5 A.harg5 A.arg6 A.harg6 A.arg7 A.harg7 A.arg8 A.harg8 A.arg9 A.harg9 A.arg10 A.harg10 A.arg11 A.harg11 A.arg12 A.harg12 A.arg13 A.harg13 A.arg14 A.harg14 A.arg15 A.harg15 A.arg16 A.harg16 A.arg17 A.harg17 A.arg18 A.harg18 v0 k0_h2 iota0 iota1 k0_t7 ⟨⟩) s ⟨⟩ (t7St i k0_h2 k0_t7 s) := by
  unfold k0_t7_body

  refine runs_bind (run_part3 c A _ _ _ _ _ _ _) ?_
  dsimp only
  refine runs_bind (run_part4 c A _ _ _ _ _ _ _ _ _ _ _ _ _ _ _ _ _ _) ?_
  dsimp only
  refine runs_bind (run_part5 c A _ _ _ _ _ _ _ _ _ _ _ _ _ _ _ _ _) ?_
  dsimp only
  refine runs_bind (run_part6 c A _ _ _ _ _ _ _ _ _ _ _ _ _) ?_
  dsimp only
  refine runs_bind (run_part7 c A _ _ _ _ _ _ _ _ _ _ _ _) ?_
  dsimp only
  refine runs_bind (run_part8 c A _ _ _ _ _ _ _ _ _ _ _ _ _ _ _ _) ?_
  dsimp only
  refine runs_bind (run_part9 c A _ _ _ _ _ _ _ _ _ _ _ _ _ _ _ _ _ _) ?_
  dsimp only
  refine runs_dite (oddSt k0_t7 (dkTrip i k0_h2 k0_t7 s) (dvTrip i k0_h2 k0_t7 s)) _ _ (fun h => ?_) (fun h => ?_)
  · refine runs_bind (runs_load_17 _ _ _ _) (runs_bind (runs_store_17 _ _ _ _ _ _)
      (runs_bind (runs_load_18 _ _ _ _) (runs_bind (runs_store_18 _ _ _ _ _ _) ?_)))
    exact runs_dite id _ _ (fun h => runs_bind (runs_load_17 _ _ _ _) (runs_bind (runs_load_10 _ _ _ _) (runs_bind (runs_store_10 _ _ _ _ _ _)
      (runs_bind (runs_load_18 _ _ _ _) (runs_bind (runs_load_11 _ _ _ _) (runs_bind (runs_store_11 _ _ _ _ _ _) (runs_pure _ _ _ _))))))) (fun h => runs_pure _ _ _ _)
  · exact runs_dite id _ _ (fun h => runs_bind (runs_load_17 _ _ _ _) (runs_bind (runs_load_10 _ _ _ _) (runs_bind (runs_store_10 _ _ _ _ _ _)
      (runs_bind (runs_load_18 _ _ _ _) (runs_bind (runs_load_11 _ _ _ _) (runs_bind (runs_store_11 _ _ _ _ _ _) (runs_pure _ _ _ _))))))) (fun h => runs_pure _ _ _ _)

/-- One iteration of the grid as a function on the operands' contents. -/
def clearSt (i : grid0.Coords) (s : St F) : St F :=
  if h : k0_cond1 i = 1#1 then part2St i h (k0_pay20 (F := F)) (part1St i h s) else s

/-- A key block enters: its query block goes into the ring, and every head is processed. -/
def mainSt (i : grid0.Coords) (k0_h2 : k0_cond2 i = 1#1) (s : St F) : St F :=
  let s1 : St F := {s with a14 := put s.a14 (k0_off6 i) S1x16x256.size (k0_pay1 (window s.a7 ![0, 0, 0] S1x16x256.size inb_S1x16x256_S1x16x256_0_0_0))}
  let s2 : St F := {s1 with a15 := put s1.a15 (k0_off6 i) S1x16x256.size (k0_pay2 (window s1.a8 ![0, 0, 0] S1x16x256.size inb_S1x16x256_S1x16x256_0_0_0))}
  let s3 : St F := iter (t6St i k0_h2) s2 k0_t6_loop.trips
  iter (t7St i k0_h2) s3 k0_t7_loop.trips

/-- A finished dq block leaves. -/
def emitSt (i : grid0.Coords) (s : St F) : St F :=
  if h : k0_cond5 i = 1#1 then iter (t8St i h) s k0_t8_loop.trips else s

/-- The key block's iteration and the leaving dq block. -/
def tailSt (i : grid0.Coords) (s : St F) : St F :=
  emitSt i (if h : k0_cond2 i = 1#1 then mainSt i h s else s)

/-- The whole body of one iteration. -/
def bodySt (i : grid0.Coords) (s : St F) : St F :=
  tailSt i (clearSt i s)

/-- The last conditional. -/
theorem run_emit (c : Dev nD) (A : Args) (i : grid0.Coords) (s : St F) :
    Runs c A (if k0_h5 : k0_cond5 i = 1#1 then (do
      Scf.Loop.for k0_t8_loop (k0_t8_ok i k0_h5) ⟨⟩ (k0_t8_body (F := F) i A.arg2 A.harg2 A.arg3 A.harg3 A.arg4 A.harg4 A.arg5 A.harg5 A.arg6 A.harg6 A.arg7 A.harg7 A.arg8 A.harg8 A.arg9 A.harg9 A.arg10 A.harg10 A.arg11 A.harg11 A.arg12 A.harg12 A.arg13 A.harg13 A.arg14 A.harg14 A.arg15 A.harg15 A.arg16 A.harg16 A.arg17 A.harg17 A.arg18 A.harg18 k0_h5)
      pure ⟨⟩) else (pure ⟨⟩)) s (PUnit.unit) (emitSt i s) :=
  runs_dite id _ _ (fun h => runs_bind (runs_iter k0_t8_loop _ _ _ (fun k s => run_t8 c A i h k s) _) (runs_pure _ _ _ _)) (fun h => runs_pure _ _ _ _)

/-- The last two conditionals. -/
theorem run_tail (c : Dev nD) (A : Args) (i : grid0.Coords) (s : St F) :
    Runs c A (if k0_h2 : k0_cond2 i = 1#1 then (do
      let v11 : Vec F S1x16x256 .f32 ← Prog.lift (.load A.arg7 (Rect.unit (s := S1x16x256) ![0, 0, 0] S1x16x256.size inb_S1x16x256_S1x16x256_0_0_0).toLoadRect (View.loadsAt_vmem h_S1x16x256))
      let v16 : Vec F S1x16x256 .f32 ← Prog.lift (.load A.arg14 (Rect.unit (s := S5x16x256) (k0_off6 i) S1x16x256.size (k0_off6_inb i k0_h2)).toLoadRect (View.loadsAt_vmem h_S1x16x256))
      Prog.lift (.store A.arg14 (Rect.unit (s := S5x16x256) (k0_off6 i) S1x16x256.size (k0_off6_inb i k0_h2)) (k0_pay1 v11) Finset.univ (View.stores_vmem_bits_univ h_S1x16x256 rfl) (.inl rfl))
      let v19 : Vec F S1x16x256 .f32 ← Prog.lift (.load A.arg8 (Rect.unit (s := S1x16x256) ![0, 0, 0] S1x16x256.size inb_S1x16x256_S1x16x256_0_0_0).toLoadRect (View.loadsAt_vmem h_S1x16x256))
      let v22 : Vec F S1x16x256 .f32 ← Prog.lift (.load A.arg15 (Rect.unit (s := S5x16x256) (k0_off6 i) S1x16x256.size (k0_off6_inb i k0_h2)).toLoadRect (View.loadsAt_vmem h_S1x16x256))
      Prog.lift (.store A.arg15 (Rect.unit (s := S5x16x256) (k0_off6 i) S1x16x256.size (k0_off6_inb i k0_h2)) (k0_pay2 v19) Finset.univ (View.stores_vmem_bits_univ h_S1x16x256 rfl) (.inl rfl))
      Scf.Loop.for k0_t6_loop (k0_t6_ok i k0_h2) ⟨⟩ (k0_t6_body i A.arg2 A.harg2 A.arg3 A.harg3 A.arg4 A.harg4 A.arg5 A.harg5 A.arg6 A.harg6 A.arg7 A.harg7 A.arg8 A.harg8 A.arg9 A.harg9 A.arg10 A.harg10 A.arg11 A.harg11 A.arg12 A.harg12 A.arg13 A.harg13 A.arg14 A.harg14 A.arg15 A.harg15 A.arg16 A.harg16 A.arg17 A.harg17 A.arg18 A.harg18 k0_h2)
      Scf.Loop.for k0_t7_loop (k0_t7_ok i k0_h2) ⟨⟩ (k0_t7_body i A.arg2 A.harg2 A.arg3 A.harg3 A.arg4 A.harg4 A.arg5 A.harg5 A.arg6 A.harg6 A.arg7 A.harg7 A.arg8 A.harg8 A.arg9 A.harg9 A.arg10 A.harg10 A.arg11 A.harg11 A.arg12 A.harg12 A.arg13 A.harg13 A.arg14 A.harg14 A.arg15 A.harg15 A.arg16 A.harg16 A.arg17 A.harg17 A.arg18 A.harg18 (Scalar.subi 63#32 (BitVec.ofNat 32 (i 1).val)) k0_h2 iota0 iota1)
      if k0_h5 : k0_cond5 i = 1#1 then (do
        Scf.Loop.for k0_t8_loop (k0_t8_ok i k0_h5) ⟨⟩ (k0_t8_body (F := F) i A.arg2 A.harg2 A.arg3 A.harg3 A.arg4 A.harg4 A.arg5 A.harg5 A.arg6 A.harg6 A.arg7 A.harg7 A.arg8 A.harg8 A.arg9 A.harg9 A.arg10 A.harg10 A.arg11 A.harg11 A.arg12 A.harg12 A.arg13 A.harg13 A.arg14 A.harg14 A.arg15 A.harg15 A.arg16 A.harg16 A.arg17 A.harg17 A.arg18 A.harg18 k0_h5)
        pure ⟨⟩) else (pure ⟨⟩)) else
      (if k0_h5 : k0_cond5 i = 1#1 then (do
        Scf.Loop.for k0_t8_loop (k0_t8_ok i k0_h5) ⟨⟩ (k0_t8_body (F := F) i A.arg2 A.harg2 A.arg3 A.harg3 A.arg4 A.harg4 A.arg5 A.harg5 A.arg6 A.harg6 A.arg7 A.harg7 A.arg8 A.harg8 A.arg9 A.harg9 A.arg10 A.harg10 A.arg11 A.harg11 A.arg12 A.harg12 A.arg13 A.harg13 A.arg14 A.harg14 A.arg15 A.harg15 A.arg16 A.harg16 A.arg17 A.harg17 A.arg18 A.harg18 k0_h5)
        pure ⟨⟩) else (pure ⟨⟩))) s (PUnit.unit) (tailSt i s) := by
  refine runs_dite (emitSt i) (fun h => mainSt i h s) (fun _ => s) (fun h => ?_) (fun h => run_emit c A i s)
  refine runs_bind (runs_load_7 _ _ _ _) ?_
  refine runs_bind (runs_load_14 _ _ _ _) ?_
  refine runs_bind (runs_store_14 _ _ _ _ _ _) ?_
  refine runs_bind (runs_load_8 _ _ _ _) ?_
  refine runs_bind (runs_load_15 _ _ _ _) ?_
  refine runs_bind (runs_store_15 _ _ _ _ _ _) ?_
  refine runs_bind (runs_iter k0_t6_loop _ _ _ (fun k s => run_t6 c A i h k s) _) ?_
  refine runs_bind (runs_iter k0_t7_loop _ _ _ (fun k s => run_t7 c A i _ h k s) _) ?_
  exact run_emit c A i _

/-- The body of the pallas_call, on operands with contents `s`, leaves them with contents `bodySt i s`. -/
theorem run_body (c : Dev nD) (A : Args) (i : grid0.Coords) (s : St F) :
    Runs c A (cc0_main (F := F) i A.arg2 A.harg2 A.arg3 A.harg3 A.arg4 A.harg4 A.arg5 A.harg5 A.arg6 A.harg6 A.arg7 A.harg7 A.arg8 A.harg8 A.arg9 A.harg9 A.arg10 A.harg10 A.arg11 A.harg11 A.arg12 A.harg12 A.arg13 A.harg13 A.arg14 A.harg14 A.arg15 A.harg15 A.arg16 A.harg16 A.arg17 A.harg17 A.arg18 A.harg18) s ⟨⟩ (bodySt i s) := by
  rw [cc0_main_eq_skeleton]
  unfold cc0_main_skel
  exact runs_dite (tailSt i) (fun h => part2St i h (k0_pay20 (F := F)) (part1St i h s)) (fun _ => s)
    (fun h => runs_bind (run_part1 c A i h s) (runs_bind (run_part2 c A i h _ _ _) (run_tail c A i _))) (fun h => run_tail c A i s)

end Cert.Main.Body
-- ==== Proof.MainOff.lean ====
/- Where the body of the pallas_call `main` reads and writes: every computed offset and condition as plain arithmetic on the
   iteration's number and the head's. -/
module

public import proofs.«01_k».proof.Proof.MainRun

@[expose] public section

set_option maxRecDepth 16384

noncomputable section

namespace Cert.Main.Body

open Cert.Main Cert.Main.Gen
open Idealize.ShloMosaic Idealize.ShloMosaic.TcCoe
open VecWindow (window put)

theorem trips1 : k0_t1_loop.trips = 16 := by decide
theorem trips2 : k0_t2_loop.trips = 16 := by decide
theorem trips3 : k0_t3_loop.trips = 16 := by decide
theorem trips4 : k0_t4_loop.trips = 16 := by decide
theorem trips5 : k0_t5_loop.trips = 16 := by decide
theorem trips6 : k0_t6_loop.trips = 16 := by decide
theorem trips7 : k0_t7_loop.trips = 16 := by decide
theorem trips8 : k0_t8_loop.trips = 16 := by decide

/-- The iteration's second coordinate. -/
abbrev tt (i : grid0.Coords) : ℕ := (i 1).val

theorem tt_lt (i : grid0.Coords) : tt i < 68 := (i 1).isLt

theorem cond1_iff (i : grid0.Coords) : k0_cond1 i = 1#1 ↔ tt i = 0 :=
  (show ∀ t : Fin 68, Scalar.cmpi (w := 32) .ne (Scalar.extui (Scalar.cmpi .eq (BitVec.ofNat 32 t.val) 0#32)) 0#32 = 1#1 ↔ t.val = 0 from by decide) (i 1)

theorem cond2_iff (i : grid0.Coords) : k0_cond2 i = 1#1 ↔ tt i < 64 :=
  (show ∀ t : Fin 68, Scalar.cmpi (w := 32) .ne (Scalar.extui (Scalar.cmpi .slt (BitVec.ofNat 32 t.val) 64#32)) 0#32 = 1#1 ↔ t.val < 64 from by decide) (i 1)

theorem cond5_iff (i : grid0.Coords) : k0_cond5 i = 1#1 ↔ 4 ≤ tt i :=
  (show ∀ t : Fin 68, Scalar.cmpi (w := 32) .ne (Scalar.extui (Scalar.cmpi .sge (BitVec.ofNat 32 t.val) 4#32)) 0#32 = 1#1 ↔ 4 ≤ t.val from by decide) (i 1)

theorem even_iff : ∀ k : Fin k0_t7_loop.trips, evenBit k = 1#1 ↔ k.val % 2 = 0 := by decide

theorem cond4_iff : ∀ k : Fin k0_t7_loop.trips, k0_cond4 k = 1#1 ↔ k.val % 2 = 1 := by decide

theorem iv_toNat : ∀ k : Fin 16, (Scalar.indexCast (Scf.iv 0#32 1#32 k.val)).toNat = k.val := by decide

theorem slot_toNat : ∀ t : Fin 68, ∀ m : Fin 5, t.val < 64 →
    (Scalar.indexCast (Scalar.remsi (Scalar.addi (Scalar.subi 63#32 (BitVec.ofNat 32 t.val)) (BitVec.ofNat 32 m.val)) 5#32)).toNat = (63 - t.val + m.val) % 5 := by decide

theorem slot0_toNat : ∀ t : Fin 68, t.val < 64 →
    (Scalar.indexCast (Scalar.remsi (Scalar.subi 63#32 (BitVec.ofNat 32 t.val)) 5#32)).toNat = (63 - t.val) % 5 := by decide

theorem slot4_toNat : ∀ t : Fin 68,
    (Scalar.indexCast (Scalar.remsi (Scalar.subi (Scalar.addi (Scalar.subi 63#32 (BitVec.ofNat 32 t.val)) 5#32) 1#32) 5#32)).toNat = (67 - t.val) % 5 := by decide

theorem off1_eq : ∀ k : Fin k0_t1_loop.trips, k0_off1 k = ![0, k.val, 0, 0] := fun k => congrArg (fun n => ![0, n, 0, 0]) (iv_toNat (k.cast trips1))
theorem off2_eq : ∀ k : Fin k0_t2_loop.trips, k0_off2 k = ![1, k.val, 0, 0] := fun k => congrArg (fun n => ![1, n, 0, 0]) (iv_toNat (k.cast trips2))
theorem off3_eq : ∀ k : Fin k0_t3_loop.trips, k0_off3 k = ![2, k.val, 0, 0] := fun k => congrArg (fun n => ![2, n, 0, 0]) (iv_toNat (k.cast trips3))
theorem off4_eq : ∀ k : Fin k0_t4_loop.trips, k0_off4 k = ![3, k.val, 0, 0] := fun k => congrArg (fun n => ![3, n, 0, 0]) (iv_toNat (k.cast trips4))
theorem off5_eq : ∀ k : Fin k0_t5_loop.trips, k0_off5 k = ![4, k.val, 0, 0] := fun k => congrArg (fun n => ![4, n, 0, 0]) (iv_toNat (k.cast trips5))

theorem off6_eq (i : grid0.Coords) (h : k0_cond2 i = 1#1) : k0_off6 i = ![(63 - tt i) % 5, 0, 0] :=
  congrArg (fun n => ![n, 0, 0]) (slot0_toNat (i 1) ((cond2_iff i).1 h))

theorem off7_eq (k : Fin k0_t6_loop.trips) : k0_off7 k = ![0, k.val, 0, 0] := congrArg (fun n => ![0, n, 0, 0]) (iv_toNat (k.cast trips6))

theorem off8_eq (i : grid0.Coords) (h : k0_cond2 i = 1#1) (k : Fin k0_t6_loop.trips) : k0_off8 i k = ![(63 - tt i) % 5, k.val, 0, 0] := by
  have e1 := slot0_toNat (i 1) ((cond2_iff i).1 h)
  have e2 := iv_toNat (k.cast trips6)
  show ![_, _, 0, 0] = _
  exact congrArg₂ (fun a b => ![a, b, 0, 0]) e1 e2

theorem off9_eq (k : Fin k0_t7_loop.trips) : k0_off9 k = ![0, k.val] := congrArg (fun n => ![0, n]) (iv_toNat (k.cast trips7))
theorem off10_eq (k : Fin k0_t7_loop.trips) : k0_off10 k = ![1, k.val] := congrArg (fun n => ![1, n]) (iv_toNat (k.cast trips7))
theorem off14_eq (k : Fin k0_t7_loop.trips) : k0_off14 k = ![2, k.val] := congrArg (fun n => ![2, n]) (iv_toNat (k.cast trips7))
theorem off15_eq (k : Fin k0_t7_loop.trips) : k0_off15 k = ![3, k.val] := congrArg (fun n => ![3, n]) (iv_toNat (k.cast trips7))
theorem off18_eq (k : Fin k0_t8_loop.trips) : k0_off18 k = ![4, k.val] := congrArg (fun n => ![4, n]) (iv_toNat (k.cast trips8))
theorem off19_eq (k : Fin k0_t8_loop.trips) : k0_off19 k = ![0, k.val, 0, 0] := congrArg (fun n => ![0, n, 0, 0]) (iv_toNat (k.cast trips8))

theorem half_toNat : ∀ k : Fin 16, (Scalar.indexCast (Scalar.divsi (Scf.iv 0#32 1#32 k.val) 2#32)).toNat = k.val / 2 := by decide

theorem off11_eq (k : Fin k0_t7_loop.trips) : k0_off11 k = ![0, k.val / 2, 0, 0] := congrArg (fun n => ![0, n, 0, 0]) (half_toNat (k.cast trips7))
theorem off16_eq (k : Fin k0_t7_loop.trips) : k0_off16 k = ![0, k.val / 2, 0, 0] := congrArg (fun n => ![0, n, 0, 0]) (half_toNat (k.cast trips7))

theorem off12_eq (i : grid0.Coords) (h : k0_cond2 i = 1#1) (k : Fin k0_t7_loop.trips) (m : Fin 5) :
    k0_off12 i k (BitVec.ofNat 32 m.val) = ![(63 - tt i + m.val) % 5, k.val, 0, 0] :=
  congrArg₂ (fun a b => ![a, b, 0, 0]) (slot_toNat (i 1) m ((cond2_iff i).1 h)) (iv_toNat (k.cast trips7))

theorem off13_eq (i : grid0.Coords) (h : k0_cond2 i = 1#1) (k : Fin k0_t7_loop.trips) (m : Fin 5) :
    k0_off13 i k (BitVec.ofNat 32 m.val) = ![(63 - tt i + m.val) % 5, k.val, 0] :=
  congrArg₂ (fun a b => ![a, b, 0]) (slot_toNat (i 1) m ((cond2_iff i).1 h)) (iv_toNat (k.cast trips7))

theorem off17_eq (i : grid0.Coords) (k : Fin k0_t8_loop.trips) : k0_off17 i k = ![(67 - tt i) % 5, k.val, 0, 0] :=
  congrArg₂ (fun a b => ![a, b, 0, 0]) (slot4_toNat (i 1)) (iv_toNat (k.cast trips8))

end Cert.Main.Body
-- ==== Proof.MainRing.lean ====
/- The windows of the operands of the pallas_call `main` that its body reads and writes: a head of a ring slot, a row of scalars, a
   head of a block; and what a loop over the heads leaves in them. -/
module

public import proofs.«01_k».proof.Proof.MainOff

@[expose] public section

set_option maxRecDepth 16384

noncomputable section

namespace Cert.Main.Body

open Cert.Main Cert.Main.Gen
open Idealize.ShloMosaic Idealize.ShloMosaic.TcCoe
open VecWindow (window put)

section Windows

variable {α : Type}

theorem window_congr {s : Shape} (x : s.Idx → α) {off off' size : Fin s.rank → ℕ} (e : off = off') (inb : ∀ a, off a + size a ≤ s.size a) (inb' : ∀ a, off' a + size a ≤ s.size a) :
    window x off size inb = window x off' size inb' := by subst e; rfl

theorem inb4 (r : Fin 5) (h : Fin 16) : ∀ a, (![r.val, h.val, 0, 0] : Fin 4 → ℕ) a + S1x1x256x256.size a ≤ S5x16x256x256.size a := by
  have := r.isLt; have := h.isLt
  intro a
  match a with
  | 0 => show r.val + 1 ≤ 5; omega
  | 1 => show h.val + 1 ≤ 16; omega
  | 2 => show 0 + 256 ≤ 256; omega
  | 3 => show 0 + 256 ≤ 256; omega

theorem inb16 (h : Fin 16) : ∀ a, (![0, h.val, 0, 0] : Fin 4 → ℕ) a + S1x1x256x256.size a ≤ S1x16x256x256.size a := by
  have := h.isLt
  intro a
  match a with
  | 0 => show 0 + 1 ≤ 1; omega
  | 1 => show h.val + 1 ≤ 16; omega
  | 2 => show 0 + 256 ≤ 256; omega
  | 3 => show 0 + 256 ≤ 256; omega

theorem inb8 (g : Fin 8) : ∀ a, (![0, g.val, 0, 0] : Fin 4 → ℕ) a + S1x1x256x256.size a ≤ S1x8x256x256.size a := by
  have := g.isLt
  intro a
  match a with
  | 0 => show 0 + 1 ≤ 1; omega
  | 1 => show g.val + 1 ≤ 8; omega
  | 2 => show 0 + 256 ≤ 256; omega
  | 3 => show 0 + 256 ≤ 256; omega

theorem inb3 (r : Fin 5) (h : Fin 16) : ∀ a, (![r.val, h.val, 0] : Fin 3 → ℕ) a + S1x1x256.size a ≤ S5x16x256.size a := by
  have := r.isLt; have := h.isLt
  intro a
  match a with
  | 0 => show r.val + 1 ≤ 5; omega
  | 1 => show h.val + 1 ≤ 16; omega
  | 2 => show 0 + 256 ≤ 256; omega

theorem inb3row (h : Fin 16) : ∀ a, (![0, h.val, 0] : Fin 3 → ℕ) a + S1x1x256.size a ≤ S1x16x256.size a := by
  have := h.isLt
  intro a
  match a with
  | 0 => show 0 + 1 ≤ 1; omega
  | 1 => show h.val + 1 ≤ 16; omega
  | 2 => show 0 + 256 ≤ 256; omega

theorem inb2 (r : Fin 5) (h : Fin 16) : ∀ a, (![r.val, h.val] : Fin 2 → ℕ) a + S1x1.size a ≤ S5x16.size a := by
  have := r.isLt; have := h.isLt
  intro a
  match a with
  | 0 => show r.val + 1 ≤ 5; omega
  | 1 => show h.val + 1 ≤ 16; omega

/-- Head `h` of ring slot `r`. -/
def x4 (x : S5x16x256x256.Idx → α) (r : Fin 5) (h : Fin 16) : S1x1x256x256.Idx → α := window x ![r.val, h.val, 0, 0] S1x1x256x256.size (inb4 r h)
/-- The ring with head `h` of slot `r` replaced. -/
def p4 (x : S5x16x256x256.Idx → α) (r : Fin 5) (h : Fin 16) (w : S1x1x256x256.Idx → α) : S5x16x256x256.Idx → α := put x ![r.val, h.val, 0, 0] S1x1x256x256.size w
/-- Head `h` of a block of 16 heads. -/
def z4 (x : S1x16x256x256.Idx → α) (h : Fin 16) : S1x1x256x256.Idx → α := window x ![0, h.val, 0, 0] S1x1x256x256.size (inb16 h)
/-- Head `g` of a block of 8 heads. -/
def y4 (x : S1x8x256x256.Idx → α) (g : Fin 8) : S1x1x256x256.Idx → α := window x ![0, g.val, 0, 0] S1x1x256x256.size (inb8 g)
/-- Head `h` of slot `r` of a ring of rows. -/
def x3 (x : S5x16x256.Idx → α) (r : Fin 5) (h : Fin 16) : S1x1x256.Idx → α := window x ![r.val, h.val, 0] S1x1x256.size (inb3 r h)
/-- Head `h` of a block of rows. -/
def z3 (x : S1x16x256.Idx → α) (h : Fin 16) : S1x1x256.Idx → α := window x ![0, h.val, 0] S1x1x256.size (inb3row h)

theorem window_x4 (x : S5x16x256x256.Idx → α) (off) (inb) (r : Fin 5) (h : Fin 16) (e : off = ![r.val, h.val, 0, 0]) :
    window x off S1x1x256x256.size inb = x4 x r h := window_congr x e _ _

theorem put_p4 (x : S5x16x256x256.Idx → α) (off) (w) (r : Fin 5) (h : Fin 16) (e : off = ![r.val, h.val, 0, 0]) :
    put x off S1x1x256x256.size w = p4 x r h w := by subst e; rfl

theorem x4_p4 (x : S5x16x256x256.Idx → α) (r r' : Fin 5) (h h' : Fin 16) (w : S1x1x256x256.Idx → α) :
    x4 (p4 x r h w) r' h' = if r' = r ∧ h' = h then w else x4 x r' h' := by
  split
  · rename_i e; obtain ⟨rfl, rfl⟩ := e
    exact VecWindow.window_put_same x _ _ _ w
  · rename_i e
    unfold x4 p4
    by_cases hr : r' = r
    · have hh : h'.val ≠ h.val := fun hh => e ⟨hr, Fin.ext hh⟩
      exact VecWindow.window_put_of_disjoint x _ _ _ _ _ w 1 (by show h'.val + 1 ≤ h.val ∨ h.val + 1 ≤ h'.val; omega)
    · have hh : r'.val ≠ r.val := fun hh => hr (Fin.ext hh)
      exact VecWindow.window_put_of_disjoint x _ _ _ _ _ w 0 (by show r'.val + 1 ≤ r.val ∨ r.val + 1 ≤ r'.val; omega)

/-- The block of 16 heads with head `h` replaced. -/
def pz4 (x : S1x16x256x256.Idx → α) (h : Fin 16) (w : S1x1x256x256.Idx → α) : S1x16x256x256.Idx → α := put x ![0, h.val, 0, 0] S1x1x256x256.size w
/-- The block of 8 heads with head `g` replaced. -/
def py4 (x : S1x8x256x256.Idx → α) (g : Fin 8) (w : S1x1x256x256.Idx → α) : S1x8x256x256.Idx → α := put x ![0, g.val, 0, 0] S1x1x256x256.size w

theorem z4_pz4 (x : S1x16x256x256.Idx → α) (h h' : Fin 16) (w : S1x1x256x256.Idx → α) :
    z4 (pz4 x h w) h' = if h' = h then w else z4 x h' := by
  split
  · rename_i e; subst e
    exact VecWindow.window_put_same x _ _ _ w
  · rename_i e
    have hh : h'.val ≠ h.val := fun hh => e (Fin.ext hh)
    exact VecWindow.window_put_of_disjoint x _ _ _ _ _ w 1 (by show h'.val + 1 ≤ h.val ∨ h.val + 1 ≤ h'.val; omega)

theorem y4_py4 (x : S1x8x256x256.Idx → α) (h h' : Fin 8) (w : S1x1x256x256.Idx → α) :
    y4 (py4 x h w) h' = if h' = h then w else y4 x h' := by
  split
  · rename_i e; subst e
    exact VecWindow.window_put_same x _ _ _ w
  · rename_i e
    have hh : h'.val ≠ h.val := fun hh => e (Fin.ext hh)
    exact VecWindow.window_put_of_disjoint x _ _ _ _ _ w 1 (by show h'.val + 1 ≤ h.val ∨ h.val + 1 ≤ h'.val; omega)

/-- The slot of a ring of rows replaced. -/
def p3 (x : S5x16x256.Idx → α) (r : Fin 5) (w : S1x16x256.Idx → α) : S5x16x256.Idx → α := put x ![r.val, 0, 0] S1x16x256.size w

theorem put_p3 (x : S5x16x256.Idx → α) (off) (w) (r : Fin 5) (e : off = ![r.val, 0, 0]) :
    put x off S1x16x256.size w = p3 x r w := by subst e; rfl

theorem x3_p3 (x : S5x16x256.Idx → α) (r r' : Fin 5) (h : Fin 16) (w : S1x16x256.Idx → α) :
    x3 (p3 x r w) r' h = if r' = r then z3 w h else x3 x r' h := by
  split
  · rename_i e; subst e
    refine (VecWindow.window_put_of_inside x ![r'.val, 0, 0] S1x16x256.size ![r'.val, h.val, 0] S1x1x256.size (inb3 r' h) w ?_).trans ?_
    · have := h.isLt
      intro a
      match a with
      | 0 => show r'.val ≤ r'.val ∧ r'.val + 1 ≤ r'.val + 1; omega
      | 1 => show 0 ≤ h.val ∧ h.val + 1 ≤ 0 + 16; omega
      | 2 => show 0 ≤ 0 ∧ 0 + 256 ≤ 0 + 256; omega
    · refine window_congr (s := S1x16x256) w ?_ _ _
      funext a
      match a with
      | 0 => show r'.val - r'.val = 0; omega
      | 1 => show h.val - 0 = h.val; omega
      | 2 => rfl
  · rename_i e
    have hh : r'.val ≠ r.val := fun hh => e (Fin.ext hh)
    exact VecWindow.window_put_of_disjoint x _ _ _ _ _ w 0 (by show r'.val + 1 ≤ r.val ∨ r.val + 1 ≤ r'.val; omega)

/-- The index within a head. -/
def in2 (a b : Fin 256) : S1x1x256x256.Idx := fun
  | 0 => (0 : Fin 1)
  | 1 => (0 : Fin 1)
  | 2 => a
  | 3 => b

/-- A block of 16 heads from its heads. -/
def glue16 (f : Fin 16 → S1x1x256x256.Idx → α) : S1x16x256x256.Idx → α := fun y => f (y 1) (in2 (y 2) (y 3))
/-- A block of 8 heads from its heads. -/
def glue8 (f : Fin 8 → S1x1x256x256.Idx → α) : S1x8x256x256.Idx → α := fun y => f (y 1) (in2 (y 2) (y 3))

theorem eq_glue16 (x : S1x16x256x256.Idx → α) (f : Fin 16 → S1x1x256x256.Idx → α) (hf : ∀ h, z4 x h = f h) : x = glue16 f := by
  funext y
  have e := congrFun (hf (y 1)) (in2 (y 2) (y 3))
  refine Eq.trans (congrArg x (funext fun a => ?_)) e
  match a with
  | 0 => exact Subsingleton.elim (α := Fin 1) _ _
  | 1 => exact Fin.ext (show (y 1).val = (y 1).val + 1 * 0 by omega)
  | 2 => exact Fin.ext (show (y 2).val = 0 + 1 * (y 2).val by omega)
  | 3 => exact Fin.ext (show (y 3).val = 0 + 1 * (y 3).val by omega)

theorem eq_glue8 (x : S1x8x256x256.Idx → α) (f : Fin 8 → S1x1x256x256.Idx → α) (hf : ∀ h, y4 x h = f h) : x = glue8 f := by
  funext y
  have e := congrFun (hf (y 1)) (in2 (y 2) (y 3))
  refine Eq.trans (congrArg x (funext fun a => ?_)) e
  match a with
  | 0 => exact Subsingleton.elim (α := Fin 1) _ _
  | 1 => exact Fin.ext (show (y 1).val = (y 1).val + 1 * 0 by omega)
  | 2 => exact Fin.ext (show (y 2).val = 0 + 1 * (y 2).val by omega)
  | 3 => exact Fin.ext (show (y 3).val = 0 + 1 * (y 3).val by omega)

end Windows

variable {F : FTy → Type} [FloatOps F]

/-- An entry of the table of scales. -/
def x2 (x : Vec F S5x16 .f32) (r : Fin 5) (h : Fin 16) : Elt F .f32 := smem x ![r.val, h.val] (inb2 r h)

theorem smem_x2 (x : Vec F S5x16 .f32) (off) (inb) (r : Fin 5) (h : Fin 16) (e : off = ![r.val, h.val]) : smem x off inb = x2 x r h := by subst e; rfl

/-- A loop over the heads that replaces head after head of one slot of the two rings of blocks. -/
theorem ring_loop {N : ℕ} (hN : N = 16) (f : Fin N → St F → St F) (r : Fin 5) (u : Fin 16 → Vec F S1x1x256x256 .fp8e4m3)
    (v : Fin 16 → Vec F S1x1x256x256 .fp8e5m2) (s : St F)
    (hf : ∀ k X Y, f k {s with a12 := X, a13 := Y} = {s with a12 := p4 X r (k.cast hN) (u (k.cast hN)), a13 := p4 Y r (k.cast hN) (v (k.cast hN))}) :
    ∃ X Y, iter f s N = {s with a12 := X, a13 := Y} ∧ (∀ r' h, x4 X r' h = if r' = r then u h else x4 s.a12 r' h)
      ∧ (∀ r' h, x4 Y r' h = if r' = r then v h else x4 s.a13 r' h) := by
  subst hN
  have key : ∀ n, n ≤ 16 → ∃ X Y, iter f s n = {s with a12 := X, a13 := Y} ∧ (∀ r' h, x4 X r' h = if r' = r ∧ h.val < n then u h else x4 s.a12 r' h)
      ∧ (∀ r' h, x4 Y r' h = if r' = r ∧ h.val < n then v h else x4 s.a13 r' h) := by
    intro n
    induction n with
    | zero =>
      intro _
      refine ⟨s.a12, s.a13, rfl, fun r' h => ?_, fun r' h => ?_⟩
      · rw [if_neg (by omega)]
      · rw [if_neg (by omega)]
    | succ n ih =>
      intro hn
      obtain ⟨X, Y, e, hX, hY⟩ := ih (by omega)
      refine ⟨p4 X r ⟨n, hn⟩ (u ⟨n, hn⟩), p4 Y r ⟨n, hn⟩ (v ⟨n, hn⟩), ?_, fun r' h => ?_, fun r' h => ?_⟩
      · rw [iter, dif_pos (show n < 16 by omega), e]
        exact hf ⟨n, hn⟩ X Y
      · rw [x4_p4, hX]
        by_cases c1 : r' = r
        · by_cases c2 : h.val = n
          · obtain rfl : h = ⟨n, hn⟩ := Fin.ext c2
            rw [if_pos ⟨c1, rfl⟩, if_pos ⟨c1, by show n < n + 1; omega⟩]
          · rw [if_neg (fun hh => c2 (congrArg Fin.val hh.2))]
            by_cases c3 : h.val < n
            · rw [if_pos ⟨c1, c3⟩, if_pos ⟨c1, by omega⟩]
            · rw [if_neg (fun hh => c3 hh.2), if_neg (fun hh => by omega)]
        · rw [if_neg (fun hh => c1 hh.1), if_neg (fun hh => c1 hh.1), if_neg (fun hh => c1 hh.1)]
      · rw [x4_p4, hY]
        by_cases c1 : r' = r
        · by_cases c2 : h.val = n
          · obtain rfl : h = ⟨n, hn⟩ := Fin.ext c2
            rw [if_pos ⟨c1, rfl⟩, if_pos ⟨c1, by show n < n + 1; omega⟩]
          · rw [if_neg (fun hh => c2 (congrArg Fin.val hh.2))]
            by_cases c3 : h.val < n
            · rw [if_pos ⟨c1, c3⟩, if_pos ⟨c1, by omega⟩]
            · rw [if_neg (fun hh => c3 hh.2), if_neg (fun hh => by omega)]
        · rw [if_neg (fun hh => c1 hh.1), if_neg (fun hh => c1 hh.1), if_neg (fun hh => c1 hh.1)]
  obtain ⟨X, Y, e, hX, hY⟩ := key 16 (Nat.le_refl _)
  refine ⟨X, Y, e, fun r' h => ?_, fun r' h => ?_⟩
  · rw [hX]
    by_cases c : r' = r
    · rw [if_pos ⟨c, h.isLt⟩, if_pos c]
    · rw [if_neg (fun hh => c hh.1), if_neg c]
  · rw [hY]
    by_cases c : r' = r
    · rw [if_pos ⟨c, h.isLt⟩, if_pos c]
    · rw [if_neg (fun hh => c hh.1), if_neg c]

/-- The query block held in slot `r` of the rings, head `h`. -/
def slotQ (s : St F) (r : Fin 5) (h : Fin 16) : QBlk F := ⟨x4 s.a12 r h, x4 s.a13 r h, x3 s.a14 r h, x3 s.a15 r h⟩

/-- The block the rings are cleared to. -/
def zeroQ (h : Fin 16) : QBlk F := ⟨k0_pay10, k0_pay11, z3 (k0_pay12 (F := F)) h, z3 (k0_pay13 (F := F)) h⟩

/-- A slot of the rings, the number of blocks counted from block `n`. -/
def sl (n : ℕ) (m : Fin 5) : Fin 5 := ⟨(n + m.val) % 5, Nat.mod_lt _ (by omega)⟩

theorem sl_inj (n : ℕ) (a b : Fin 5) : sl n a = sl n b ↔ a = b := by
  constructor
  · intro e
    have e' : (n + a.val) % 5 = (n + b.val) % 5 := congrArg Fin.val e
    have := a.isLt; have := b.isLt
    exact Fin.ext (by omega)
  · rintro rfl; rfl

theorem sl_surj (n : ℕ) (r : Fin 5) : ∃ m, sl n m = r := by
  have := r.isLt
  refine ⟨⟨(r.val + 5 - n % 5) % 5, Nat.mod_lt _ (by omega)⟩, Fin.ext ?_⟩
  show (n + (r.val + 5 - n % 5) % 5) % 5 = r.val
  omega

/-- Clearing leaves every slot of the four rings cleared, and nothing else changed. -/
theorem clear_spec (i : grid0.Coords) (h1 : k0_cond1 i = 1#1) (s : St F) :
    ∃ X Y L E, part2St i h1 (k0_pay20 (F := F)) (part1St i h1 s) = {s with a12 := X, a13 := Y, a14 := L, a15 := E}
      ∧ ∀ r h, slotQ (F := F) {s with a12 := X, a13 := Y, a14 := L, a15 := E} r h = zeroQ h := by
  obtain ⟨X1, Y1, e1, hX1, hY1⟩ := ring_loop trips1 (t1St i h1) 0 (fun _ => k0_pay10) (fun _ => k0_pay11) s
    (fun k X Y => by simp only [t1St]; rw [put_p4 X _ _ 0 (k.cast trips1) (off1_eq k), put_p4 Y _ _ 0 (k.cast trips1) (off1_eq k)])
  obtain ⟨X2, Y2, e2, hX2, hY2⟩ := ring_loop trips2 (t2St i h1) 1 (fun _ => k0_pay10) (fun _ => k0_pay11)
    {s with a12 := X1, a13 := Y1, a14 := p3 s.a14 0 (k0_pay12 (F := F)), a15 := p3 s.a15 0 (k0_pay13 (F := F))}
    (fun k X Y => by simp only [t2St]; rw [put_p4 X _ _ 1 (k.cast trips2) (off2_eq k), put_p4 Y _ _ 1 (k.cast trips2) (off2_eq k)]; rfl)
  obtain ⟨X3, Y3, e3, hX3, hY3⟩ := ring_loop trips3 (t3St i h1) 2 (fun _ => k0_pay10) (fun _ => k0_pay11)
    {s with a12 := X2, a13 := Y2, a14 := p3 (p3 s.a14 0 (k0_pay12 (F := F))) 1 (k0_pay12 (F := F)), a15 := p3 (p3 s.a15 0 (k0_pay13 (F := F))) 1 (k0_pay13 (F := F))}
    (fun k X Y => by simp only [t3St]; rw [put_p4 X _ _ 2 (k.cast trips3) (off3_eq k), put_p4 Y _ _ 2 (k.cast trips3) (off3_eq k)]; rfl)
  obtain ⟨X4, Y4, e4, hX4, hY4⟩ := ring_loop trips4 (t4St i h1) 3 (fun _ => k0_pay10) (fun _ => k0_pay11)
    {s with a12 := X3, a13 := Y3, a14 := p3 (p3 (p3 s.a14 0 (k0_pay12 (F := F))) 1 (k0_pay12 (F := F))) 2 (k0_pay12 (F := F)), a15 := p3 (p3 (p3 s.a15 0 (k0_pay13 (F := F))) 1 (k0_pay13 (F := F))) 2 (k0_pay13 (F := F))}
    (fun k X Y => by simp only [t4St]; rw [put_p4 X _ _ 3 (k.cast trips4) (off4_eq k), put_p4 Y _ _ 3 (k.cast trips4) (off4_eq k)]; rfl)
  obtain ⟨X5, Y5, e5, hX5, hY5⟩ := ring_loop trips5 (t5St i h1) 4 (fun _ => k0_pay10) (fun _ => k0_pay11)
    {s with a12 := X4, a13 := Y4, a14 := p3 (p3 (p3 (p3 s.a14 0 (k0_pay12 (F := F))) 1 (k0_pay12 (F := F))) 2 (k0_pay12 (F := F))) 3 (k0_pay12 (F := F)), a15 := p3 (p3 (p3 (p3 s.a15 0 (k0_pay13 (F := F))) 1 (k0_pay13 (F := F))) 2 (k0_pay13 (F := F))) 3 (k0_pay13 (F := F))}
    (fun k X Y => by simp only [t5St]; rw [put_p4 X _ _ 4 (k.cast trips5) (off5_eq k), put_p4 Y _ _ 4 (k.cast trips5) (off5_eq k)]; rfl)
  refine ⟨X5, Y5, p3 (p3 (p3 (p3 (p3 s.a14 0 (k0_pay12 (F := F))) 1 (k0_pay12 (F := F))) 2 (k0_pay12 (F := F))) 3 (k0_pay12 (F := F))) 4 (k0_pay12 (F := F)),
    p3 (p3 (p3 (p3 (p3 s.a15 0 (k0_pay13 (F := F))) 1 (k0_pay13 (F := F))) 2 (k0_pay13 (F := F))) 3 (k0_pay13 (F := F))) 4 (k0_pay13 (F := F)), ?_, fun r h => ?_⟩
  · have p1 : part1St i h1 s = {s with a12 := X3, a13 := Y3, a14 := p3 (p3 s.a14 0 (k0_pay12 (F := F))) 1 (k0_pay12 (F := F)), a15 := p3 (p3 s.a15 0 (k0_pay13 (F := F))) 1 (k0_pay13 (F := F))} := by
      unfold part1St
      dsimp only
      rw [e1]
      refine Eq.trans ?_ e3
      refine congrArg (fun u => iter (t3St i h1) u k0_t3_loop.trips) ?_
      have e2' : iter (t2St i h1) {s with a12 := X1, a13 := Y1, a14 := put s.a14 ![0, 0, 0] S1x16x256.size (k0_pay12 (F := F)), a15 := put s.a15 ![0, 0, 0] S1x16x256.size (k0_pay13 (F := F))} k0_t2_loop.trips = _ := e2
      rw [e2']
      rfl
    rw [p1]
    unfold part2St
    dsimp only
    have e4' : iter (t4St i h1) {s with a12 := X3, a13 := Y3, a14 := put (p3 (p3 s.a14 0 (k0_pay12 (F := F))) 1 (k0_pay12 (F := F))) ![2, 0, 0] S1x16x256.size (k0_pay21 (k0_pay20 (F := F))), a15 := put (p3 (p3 s.a15 0 (k0_pay13 (F := F))) 1 (k0_pay13 (F := F))) ![2, 0, 0] S1x16x256.size (k0_pay22 (F := F))} k0_t4_loop.trips = _ := e4
    rw [e4']
    dsimp only
    have e5' : iter (t5St i h1) {s with a12 := X4, a13 := Y4, a14 := put (p3 (p3 (p3 s.a14 0 (k0_pay12 (F := F))) 1 (k0_pay12 (F := F))) 2 (k0_pay12 (F := F))) ![3, 0, 0] S1x16x256.size (k0_pay25 (F := F)), a15 := put (p3 (p3 (p3 s.a15 0 (k0_pay13 (F := F))) 1 (k0_pay13 (F := F))) 2 (k0_pay13 (F := F))) ![3, 0, 0] S1x16x256.size (k0_pay26 (F := F))} k0_t5_loop.trips = _ := e5
    rw [e5']
    rfl
  · unfold slotQ zeroQ
    dsimp only
    rw [hX5, hY5]
    dsimp only
    rw [hX4, hY4]
    dsimp only
    rw [hX3, hY3]
    dsimp only
    rw [hX2, hY2]
    dsimp only
    rw [hX1, hY1, x3_p3, x3_p3, x3_p3, x3_p3, x3_p3, x3_p3, x3_p3, x3_p3, x3_p3, x3_p3]
    match r with
    | 0 => rfl
    | 1 => rfl
    | 2 => rfl
    | 3 => rfl
    | 4 => rfl

end Cert.Main.Body
-- ==== Proof.MainLoop.lean ====
/- What the loops over the heads in the body of the pallas_call `main` leave: the new query block in its ring slot, the five query
   blocks' dq advanced, the finished heads of dk and dv, and the finished dq block. -/
module

public import proofs.«01_k».proof.Proof.MainRing

@[expose] public section

set_option maxRecDepth 16384

noncomputable section

namespace Cert.Main.Body

open Cert.Main Cert.Main.Gen
open Idealize.ShloMosaic Idealize.ShloMosaic.TcCoe
open VecWindow (window put)

variable {F : FTy → Type} [FloatOps F]

/-- The key head of a query head. -/
def half (h : Fin 16) : Fin 8 := ⟨h.val / 2, by have := h.isLt; omega⟩
/-- The first query head of a key head. -/
def ev (g : Fin 8) : Fin 16 := ⟨2 * g.val, by have := g.isLt; omega⟩
/-- The second query head of a key head. -/
def od (g : Fin 8) : Fin 16 := ⟨2 * g.val + 1, by have := g.isLt; omega⟩

/-- The key block's values for one head. -/
def kb (a2 : Vec F S5x16 .f32) (a5 a6 : Vec F S1x8x256x256 .fp8e4m3) (h : Fin 16) : KBlk F :=
  ⟨x2 a2 0 h, x2 a2 1 h, x2 a2 2 h, x2 a2 3 h, y4 a5 (half h), y4 a6 (half h)⟩

theorem kblk_eq (i : grid0.Coords) (h2 : k0_cond2 i = 1#1) (k : Fin k0_t7_loop.trips) (s : St F) : kblk i h2 k s = kb s.a2 s.a5 s.a6 (k.cast trips7) := by
  unfold kblk kb
  rw [smem_x2 s.a2 _ _ 0 (k.cast trips7) (off9_eq k), smem_x2 s.a2 _ _ 1 (k.cast trips7) (off10_eq k), smem_x2 s.a2 _ _ 2 (k.cast trips7) (off14_eq k),
    smem_x2 s.a2 _ _ 3 (k.cast trips7) (off15_eq k)]
  have e5 : window s.a5 (k0_off11 k) S1x1x256x256.size (k0_off11_inb i k h2) = y4 s.a5 (half (k.cast trips7)) := window_congr _ (off11_eq k) _ _
  have e6 : window s.a6 (k0_off11 k) S1x1x256x256.size (k0_off11_inb i k h2) = y4 s.a6 (half (k.cast trips7)) := window_congr _ (off11_eq k) _ _
  rw [e5, e6]

theorem qblk_eq (i : grid0.Coords) (h2 : k0_cond2 i = 1#1) (k : Fin k0_t7_loop.trips) (m : Fin 5) (s : St F) :
    qblk i h2 k m s = slotQ s (sl (63 - tt i) m) (k.cast trips7) := by
  unfold qblk slotQ
  rw [window_x4 s.a12 _ _ (sl (63 - tt i) m) (k.cast trips7) (off12_eq i h2 k m), window_x4 s.a13 _ _ (sl (63 - tt i) m) (k.cast trips7) (off12_eq i h2 k m)]
  have e5 : window s.a14 (k0_off13 i k (BitVec.ofNat 32 m.val)) S1x1x256.size (k0_off13_inb i k h2 m) = x3 s.a14 (sl (63 - tt i) m) (k.cast trips7) := window_congr _ (off13_eq i h2 k m) _ _
  have e6 : window s.a15 (k0_off13 i k (BitVec.ofNat 32 m.val)) S1x1x256.size (k0_off13_inb i k h2 m) = x3 s.a15 (sl (63 - tt i) m) (k.cast trips7) := window_congr _ (off13_eq i h2 k m) _ _
  rw [e5, e6]

/-- What is stored for dq of the query block `m` blocks after the key block. -/
def dqU (m : Fin 5) (K : KBlk F) (Q : QBlk F) (old : Vec F S1x1x256x256 .f32) : Vec F S1x1x256x256 .f32 :=
  match m with
  | 0 => dq0 K Q
  | 1 => dq1 K Q old
  | 2 => dq2 K Q old
  | 3 => dq3 K Q old
  | 4 => dq4 K Q old

theorem dqPut_eq (i : grid0.Coords) (h2 : k0_cond2 i = 1#1) (k : Fin k0_t7_loop.trips) (m : Fin 5) (x : Vec F S5x16x256x256 .f32) (w) :
    dqPut i k m x w = p4 x (sl (63 - tt i) m) (k.cast trips7) w := put_p4 x _ w (sl (63 - tt i) m) (k.cast trips7) (off12_eq i h2 k m)

theorem dqWin_eq (i : grid0.Coords) (h2 : k0_cond2 i = 1#1) (k : Fin k0_t7_loop.trips) (m : Fin 5) (x : Vec F S5x16x256x256 .f32) :
    dqWin i h2 k m x = x4 x (sl (63 - tt i) m) (k.cast trips7) := window_x4 x _ _ (sl (63 - tt i) m) (k.cast trips7) (off12_eq i h2 k m)

theorem dqRing_spec (i : grid0.Coords) (h2 : k0_cond2 i = 1#1) (k : Fin k0_t7_loop.trips) (s : St F) (m : Fin 5) (h : Fin 16) :
    x4 (dqRing i h2 k s) (sl (63 - tt i) m) h = if h = k.cast trips7 then
        dqU m (kb s.a2 s.a5 s.a6 h) (slotQ s (sl (63 - tt i) m) h) (x4 s.a16 (sl (63 - tt i) m) h)
      else x4 s.a16 (sl (63 - tt i) m) h := by
  unfold dqRing
  simp only [kblk_eq, qblk_eq, dqPut_eq i h2, dqWin_eq, x4_p4, sl_inj]
  by_cases e : h = k.cast trips7
  · subst e
    match m with
    | 0 => simp [dqU]
    | 1 => simp [dqU]
    | 2 => simp [dqU]
    | 3 => simp [dqU]
    | 4 => simp [dqU]
  · simp only [e, and_false, if_false]

/-- One head's contribution to dk of the key block, from the five slots of the rings. -/
def dkH (n : ℕ) (s : St F) (h : Fin 16) : FVec F S256x256 .f32 :=
  dkHead (kb s.a2 s.a5 s.a6 h) (slotQ s (sl n 0) h) (slotQ s (sl n 1) h) (slotQ s (sl n 2) h) (slotQ s (sl n 3) h) (slotQ s (sl n 4) h)

/-- One head's contribution to dv of the key block, from the five slots of the rings. -/
def dvH (n : ℕ) (s : St F) (h : Fin 16) : FVec F S256x256 .f32 :=
  dvHead (kb s.a2 s.a5 s.a6 h) (slotQ s (sl n 0) h) (slotQ s (sl n 1) h) (slotQ s (sl n 2) h) (slotQ s (sl n 3) h) (slotQ s (sl n 4) h)

theorem dkTrip_eq (i : grid0.Coords) (h2 : k0_cond2 i = 1#1) (k : Fin k0_t7_loop.trips) (s : St F) : dkTrip i h2 k s = dkH (63 - tt i) s (k.cast trips7) := by
  unfold dkTrip dkH
  simp only [kblk_eq, qblk_eq]

theorem dvTrip_eq (i : grid0.Coords) (h2 : k0_cond2 i = 1#1) (k : Fin k0_t7_loop.trips) (s : St F) : dvTrip i h2 k s = dvH (63 - tt i) s (k.cast trips7) := by
  unfold dvTrip dvH
  simp only [kblk_eq, qblk_eq]

theorem put_py4 {α : Type} (x : S1x8x256x256.Idx → α) (off) (w) (g : Fin 8) (e : off = ![0, g.val, 0, 0]) :
    put x off S1x1x256x256.size w = py4 x g w := by subst e; rfl

/-- The loop that processes the heads of one key block. -/
theorem t7_spec (i : grid0.Coords) (h2 : k0_cond2 i = 1#1) (s : St F) :
    ∃ R C D, iter (t7St i h2) s k0_t7_loop.trips = {s with
          a10 := glue8 fun g => k0_pay7 (dkH (63 - tt i) s (od g)) (k0_pay5 (dkH (63 - tt i) s (ev g)))
          a11 := glue8 fun g => k0_pay8 (dvH (63 - tt i) s (od g)) (k0_pay6 (dvH (63 - tt i) s (ev g)))
          a16 := R, a17 := C, a18 := D}
      ∧ ∀ m h, x4 R (sl (63 - tt i) m) h = dqU m (kb s.a2 s.a5 s.a6 h) (slotQ s (sl (63 - tt i) m) h) (x4 s.a16 (sl (63 - tt i) m) h) := by
  have key : ∀ n, n ≤ 16 → ∃ A B R C D, iter (t7St i h2) s n = {s with a10 := A, a11 := B, a16 := R, a17 := C, a18 := D}
      ∧ (∀ m h, x4 R (sl (63 - tt i) m) h = if h.val < n then dqU m (kb s.a2 s.a5 s.a6 h) (slotQ s (sl (63 - tt i) m) h) (x4 s.a16 (sl (63 - tt i) m) h)
          else x4 s.a16 (sl (63 - tt i) m) h)
      ∧ (∀ g : Fin 8, 2 * g.val + 1 < n → y4 A g = k0_pay7 (dkH (63 - tt i) s (od g)) (k0_pay5 (dkH (63 - tt i) s (ev g))))
      ∧ (∀ g : Fin 8, 2 * g.val + 1 < n → y4 B g = k0_pay8 (dvH (63 - tt i) s (od g)) (k0_pay6 (dvH (63 - tt i) s (ev g))))
      ∧ (∀ g : Fin 8, n = 2 * g.val + 1 → window C ![0, 0] S256x256.size inb_S256x256_S256x256_0_0 = k0_pay5 (dkH (63 - tt i) s (ev g)))
      ∧ (∀ g : Fin 8, n = 2 * g.val + 1 → window D ![0, 0] S256x256.size inb_S256x256_S256x256_0_0 = k0_pay6 (dvH (63 - tt i) s (ev g))) := by
    intro n
    induction n with
    | zero =>
      intro _
      refine ⟨s.a10, s.a11, s.a16, s.a17, s.a18, rfl, fun m h => ?_, fun g hg => ?_, fun g hg => ?_, fun g hg => ?_, fun g hg => ?_⟩
      · rw [if_neg (by omega)]
      all_goals omega
    | succ n ih =>
      intro hn
      obtain ⟨A, B, R, C, D, e, hR, hA, hB, hC, hD⟩ := ih (by omega)
      have hN : n < k0_t7_loop.trips := by rw [trips7]; omega
      have hR' : ∀ m h, x4 (dqRing i h2 ⟨n, hN⟩ {s with a10 := A, a11 := B, a16 := R, a17 := C, a18 := D}) (sl (63 - tt i) m) h =
          if h.val < n + 1 then dqU m (kb s.a2 s.a5 s.a6 h) (slotQ s (sl (63 - tt i) m) h) (x4 s.a16 (sl (63 - tt i) m) h)
          else x4 s.a16 (sl (63 - tt i) m) h := by
        intro m h
        refine (dqRing_spec i h2 ⟨n, hN⟩ {s with a10 := A, a11 := B, a16 := R, a17 := C, a18 := D} m h).trans ?_
        dsimp only
        rw [hR m h]
        by_cases c : h.val = n
        · obtain rfl : h = Fin.cast trips7 ⟨n, hN⟩ := Fin.ext c
          rw [if_pos rfl, if_neg (show ¬ (Fin.cast trips7 ⟨n, hN⟩).val < n from Nat.lt_irrefl n), if_pos (show (Fin.cast trips7 ⟨n, hN⟩).val < n + 1 from Nat.lt_succ_self n)]
          rfl
        · rw [if_neg (fun hh => c (congrArg Fin.val hh))]
          by_cases c3 : h.val < n
          · rw [if_pos c3, if_pos (by omega)]
          · rw [if_neg c3, if_neg (by omega)]
      have hk : dkTrip i h2 ⟨n, hN⟩ {s with a10 := A, a11 := B, a16 := R, a17 := C, a18 := D} = dkH (63 - tt i) s (Fin.cast trips7 ⟨n, hN⟩) := dkTrip_eq i h2 ⟨n, hN⟩ _
      have hv : dvTrip i h2 ⟨n, hN⟩ {s with a10 := A, a11 := B, a16 := R, a17 := C, a18 := D} = dvH (63 - tt i) s (Fin.cast trips7 ⟨n, hN⟩) := dvTrip_eq i h2 ⟨n, hN⟩ _
      rw [iter, dif_pos hN, e]
      unfold t7St
      rw [hk, hv]
      by_cases c : n % 2 = 0
      · have ce : evenBit ⟨n, hN⟩ = 1#1 := (even_iff _).2 c
        have co : ¬ k0_cond4 ⟨n, hN⟩ = 1#1 := fun h => by have := (cond4_iff _).1 h; dsimp only at this; omega
        unfold oddSt evenSt
        rw [dif_neg co, dif_pos ce]
        refine ⟨A, B, _, _, _, rfl, hR', fun g hg => hA g (by omega), fun g hg => hB g (by omega), fun g hg => ?_, fun g hg => ?_⟩
        · obtain rfl : n = 2 * g.val := by omega
          exact VecWindow.window_put_same C _ _ _ _
        · obtain rfl : n = 2 * g.val := by omega
          exact VecWindow.window_put_same D _ _ _ _
      · have ce : ¬ evenBit ⟨n, hN⟩ = 1#1 := fun h => c ((even_iff _).1 h)
        have co : k0_cond4 ⟨n, hN⟩ = 1#1 := (cond4_iff _).2 (by dsimp only; omega)
        unfold oddSt evenSt
        rw [dif_pos co, dif_neg ce]
        have hg2 : n / 2 < 8 := by omega
        refine ⟨py4 A ⟨n / 2, hg2⟩ (k0_pay7 (dkH (63 - tt i) s (Fin.cast trips7 ⟨n, hN⟩)) (window C ![0, 0] S256x256.size inb_S256x256_S256x256_0_0)),
          py4 B ⟨n / 2, hg2⟩ (k0_pay8 (dvH (63 - tt i) s (Fin.cast trips7 ⟨n, hN⟩)) (window D ![0, 0] S256x256.size inb_S256x256_S256x256_0_0)), _, C, D, ?_, hR', fun g hg => ?_, fun g hg => ?_, fun g hg => by omega, fun g hg => by omega⟩
        · dsimp only
          rw [put_py4 A _ _ ⟨n / 2, hg2⟩ (off16_eq _), put_py4 B _ _ ⟨n / 2, hg2⟩ (off16_eq _)]
        · rw [y4_py4]
          by_cases c2 : g.val = n / 2
          · obtain rfl : g = ⟨n / 2, hg2⟩ := Fin.ext c2
            rw [if_pos rfl, hC ⟨n / 2, hg2⟩ (by dsimp only; omega)]
            have : Fin.cast trips7 ⟨n, hN⟩ = od ⟨n / 2, hg2⟩ := Fin.ext (show n = 2 * (n / 2) + 1 by omega)
            rw [this]
          · rw [if_neg (fun hh => c2 (congrArg Fin.val hh))]
            exact hA g (by omega)
        · rw [y4_py4]
          by_cases c2 : g.val = n / 2
          · obtain rfl : g = ⟨n / 2, hg2⟩ := Fin.ext c2
            rw [if_pos rfl, hD ⟨n / 2, hg2⟩ (by dsimp only; omega)]
            have : Fin.cast trips7 ⟨n, hN⟩ = od ⟨n / 2, hg2⟩ := Fin.ext (show n = 2 * (n / 2) + 1 by omega)
            rw [this]
          · rw [if_neg (fun hh => c2 (congrArg Fin.val hh))]
            exact hB g (by omega)
  obtain ⟨A, B, R, C, D, e, hR, hA, hB, -, -⟩ := key 16 (Nat.le_refl _)
  refine ⟨R, C, D, ?_, fun m h => by rw [hR m h, if_pos h.isLt]⟩
  rw [← eq_glue8 A _ (fun g => hA g (by have := g.isLt; omega)), ← eq_glue8 B _ (fun g => hB g (by have := g.isLt; omega))]
  exact (congrArg (iter (t7St i h2) s) trips7).trans e

/-- The query block of a pair of input blocks, for one head. -/
def inQ (a3 : Vec F S1x16x256x256 .fp8e4m3) (a4 : Vec F S1x16x256x256 .fp8e5m2) (a7 a8 : Vec F S1x16x256 .f32) (h : Fin 16) : QBlk F :=
  ⟨k0_pay3 (z4 a3 h), k0_pay4 (z4 a4 h), z3 (k0_pay1 (window a7 ![0, 0, 0] S1x16x256.size inb_S1x16x256_S1x16x256_0_0_0)) h,
    z3 (k0_pay2 (window a8 ![0, 0, 0] S1x16x256.size inb_S1x16x256_S1x16x256_0_0_0)) h⟩

/-- The rows of the new query block put into their slot. -/
def midSt (n : ℕ) (s : St F) : St F :=
  {s with
    a14 := p3 s.a14 (sl n 0) (k0_pay1 (window s.a7 ![0, 0, 0] S1x16x256.size inb_S1x16x256_S1x16x256_0_0_0))
    a15 := p3 s.a15 (sl n 0) (k0_pay2 (window s.a8 ![0, 0, 0] S1x16x256.size inb_S1x16x256_S1x16x256_0_0_0))}

theorem mainSt_eq (i : grid0.Coords) (h2 : k0_cond2 i = 1#1) (s : St F) :
    mainSt i h2 s = iter (t7St i h2) (iter (t6St i h2) (midSt (63 - tt i) s) k0_t6_loop.trips) k0_t7_loop.trips := by
  have eoff : k0_off6 i = ![(sl (63 - tt i) 0).val, 0, 0] := off6_eq i h2
  unfold mainSt midSt
  rw [← put_p3 s.a14 _ _ _ eoff, ← put_p3 s.a15 _ _ _ eoff]

theorem t6St_eq (i : grid0.Coords) (h2 : k0_cond2 i = 1#1) (s : St F) (k : Fin k0_t6_loop.trips) (X Y) :
    t6St i h2 k {s with a12 := X, a13 := Y} = {s with a12 := p4 X (sl (63 - tt i) 0) (k.cast trips6) (k0_pay3 (z4 s.a3 (k.cast trips6))), a13 := p4 Y (sl (63 - tt i) 0) (k.cast trips6) (k0_pay4 (z4 s.a4 (k.cast trips6)))} := by
  have ea : window s.a3 (k0_off7 k) S1x1x256x256.size (k0_off7_inb i k h2) = z4 s.a3 (k.cast trips6) := window_congr _ (off7_eq k) _ _
  have eb : window s.a4 (k0_off7 k) S1x1x256x256.size (k0_off7_inb i k h2) = z4 s.a4 (k.cast trips6) := window_congr _ (off7_eq k) _ _
  rw [← put_p4 X _ _ (sl (63 - tt i) 0) (k.cast trips6) (off8_eq i h2 k), ← put_p4 Y _ _ (sl (63 - tt i) 0) (k.cast trips6) (off8_eq i h2 k), ← ea, ← eb]
  rfl

/-- A key block entering: what the operands then hold. -/
theorem mainSt_spec (i : grid0.Coords) (h2 : k0_cond2 i = 1#1) (s : St F) :
    ∃ (s1 : St F) (R C D : _), (∃ X Y L E, s1 = {s with a12 := X, a13 := Y, a14 := L, a15 := E}) ∧ mainSt i h2 s = {s1 with
          a10 := glue8 fun g => k0_pay7 (dkH (63 - tt i) s1 (od g)) (k0_pay5 (dkH (63 - tt i) s1 (ev g)))
          a11 := glue8 fun g => k0_pay8 (dvH (63 - tt i) s1 (od g)) (k0_pay6 (dvH (63 - tt i) s1 (ev g)))
          a16 := R, a17 := C, a18 := D}
      ∧ (∀ m h, slotQ s1 (sl (63 - tt i) m) h = if m = 0 then inQ s.a3 s.a4 s.a7 s.a8 h else slotQ s (sl (63 - tt i) m) h)
      ∧ ∀ m h, x4 R (sl (63 - tt i) m) h = dqU m (kb s.a2 s.a5 s.a6 h) (slotQ s1 (sl (63 - tt i) m) h) (x4 s.a16 (sl (63 - tt i) m) h) := by
  obtain ⟨X, Y, e1, hX, hY⟩ := ring_loop trips6 (t6St i h2) (sl (63 - tt i) 0) (fun h => k0_pay3 (z4 s.a3 h)) (fun h => k0_pay4 (z4 s.a4 h))
    (midSt (63 - tt i) s) (fun k X Y => t6St_eq i h2 (midSt (63 - tt i) s) k X Y)
  obtain ⟨R, C, D, e2, hR⟩ := t7_spec i h2 {midSt (63 - tt i) s with a12 := X, a13 := Y}
  refine ⟨{midSt (63 - tt i) s with a12 := X, a13 := Y}, R, C, D, ⟨X, Y, _, _, rfl⟩, ?_, fun m h => ?_, fun m h => ?_⟩
  · rw [mainSt_eq, e1]
    exact e2
  · unfold slotQ inQ
    dsimp only
    rw [hX, hY]
    unfold midSt
    dsimp only
    rw [x3_p3, x3_p3]
    simp only [sl_inj]
    split <;> rfl
  · exact hR m h

theorem put_pz4 {α : Type} (x : S1x16x256x256.Idx → α) (off) (w) (g : Fin 16) (e : off = ![0, g.val, 0, 0]) :
    put x off S1x1x256x256.size w = pz4 x g w := by subst e; rfl

/-- The loop that writes out a finished block of dq. -/
theorem emitSt_spec (i : grid0.Coords) (h5 : 4 ≤ tt i) (s : St F) :
    emitSt i s = {s with a9 := glue16 fun h => k0_pay9 (x4 s.a16 (sl (67 - tt i) 0) h) (x2 s.a2 4 h)} := by
  have c5 : k0_cond5 i = 1#1 := (cond5_iff i).2 h5
  unfold emitSt
  rw [dif_pos c5]
  have key : ∀ n, n ≤ 16 → ∃ A, iter (t8St i c5) s n = {s with a9 := A}
      ∧ ∀ h : Fin 16, h.val < n → z4 A h = k0_pay9 (x4 s.a16 (sl (67 - tt i) 0) h) (x2 s.a2 4 h) := by
    intro n
    induction n with
    | zero => exact fun _ => ⟨s.a9, rfl, fun h hh => by omega⟩
    | succ n ih =>
      intro hn
      obtain ⟨A, e, hA⟩ := ih (by omega)
      have hN : n < k0_t8_loop.trips := by rw [trips8]; omega
      refine ⟨pz4 A ⟨n, hn⟩ (k0_pay9 (x4 s.a16 (sl (67 - tt i) 0) ⟨n, hn⟩) (x2 s.a2 4 ⟨n, hn⟩)), ?_, fun h hh => ?_⟩
      · rw [iter, dif_pos hN, e]
        unfold t8St
        refine congrArg (fun a => ({s with a9 := a} : St F)) ?_
        refine (put_pz4 A _ _ ⟨n, hn⟩ (off19_eq ⟨n, hN⟩)).trans (congrArg (pz4 A ⟨n, hn⟩) (congrArg₂ k0_pay9 ?_ ?_))
        · exact window_x4 s.a16 _ _ (sl (67 - tt i) 0) ⟨n, hn⟩ (off17_eq i ⟨n, hN⟩)
        · exact smem_x2 s.a2 _ _ 4 ⟨n, hn⟩ (off18_eq ⟨n, hN⟩)
      · rw [z4_pz4]
        by_cases c : h.val = n
        · obtain rfl : h = ⟨n, hn⟩ := Fin.ext c
          rw [if_pos rfl]
        · rw [if_neg (fun hh => c (congrArg Fin.val hh))]
          exact hA h (by omega)
  obtain ⟨A, e, hA⟩ := key 16 (Nat.le_refl _)
  rw [← eq_glue16 A _ (fun h => hA h h.isLt)]
  exact (congrArg (iter (t8St i c5) s) trips8).trans e

theorem emitSt_early (i : grid0.Coords) (h5 : tt i < 4) (s : St F) : emitSt i s = s := by
  unfold emitSt
  rw [dif_neg (fun h => by have := (cond5_iff i).1 h; omega)]

end Cert.Main.Body
-- ==== Proof.MainInv.lean ====
/- What the scratch operands of the pallas_call `main` hold between two iterations, and one iteration's effect on it and on the
   three outputs' blocks. -/
module

public import proofs.«01_k».proof.Proof.MainLoop

@[expose] public section

set_option maxRecDepth 16384

noncomputable section

namespace Cert.Main.Body

open Cert.Main Cert.Main.Gen
open Idealize.ShloMosaic Idealize.ShloMosaic.TcCoe
open VecWindow (window put)

variable {F : FTy → Type} [FloatOps F]

/-- dq of query block `J` (unscaled), head `h`, after the key blocks `J`, `J - 1`, …, `J - n`. -/
def DQ (Kd : ℕ → Fin 16 → KBlk F) (Qd : ℕ → Fin 16 → QBlk F) (J : ℕ) (h : Fin 16) : ℕ → Vec F S1x1x256x256 .f32
  | 0 => dqU 0 (Kd J h) (Qd J h) (dq0 (Kd J h) (Qd J h))
  | n + 1 => dqU ⟨(n + 1) % 5, Nat.mod_lt _ (by omega)⟩ (Kd (J - (n + 1)) h) (Qd J h) (DQ Kd Qd J h n)

/-- dk of key block `n`, one head's part. -/
def DKh (Kd : ℕ → Fin 16 → KBlk F) (Qd : ℕ → Fin 16 → QBlk F) (n : ℕ) (h : Fin 16) : FVec F S256x256 .f32 :=
  dkHead (Kd n h) (Qd n h) (Qd (n + 1) h) (Qd (n + 2) h) (Qd (n + 3) h) (Qd (n + 4) h)
/-- dv of key block `n`, one head's part. -/
def DVh (Kd : ℕ → Fin 16 → KBlk F) (Qd : ℕ → Fin 16 → QBlk F) (n : ℕ) (h : Fin 16) : FVec F S256x256 .f32 :=
  dvHead (Kd n h) (Qd n h) (Qd (n + 1) h) (Qd (n + 2) h) (Qd (n + 3) h) (Qd (n + 4) h)

/-- The dk block of key block `n`. -/
def DKB (Kd : ℕ → Fin 16 → KBlk F) (Qd : ℕ → Fin 16 → QBlk F) (n : ℕ) : Vec F S1x8x256x256 .bf16 :=
  glue8 fun g => k0_pay7 (DKh Kd Qd n (od g)) (k0_pay5 (DKh Kd Qd n (ev g)))
/-- The dv block of key block `n`. -/
def DVB (Kd : ℕ → Fin 16 → KBlk F) (Qd : ℕ → Fin 16 → QBlk F) (n : ℕ) : Vec F S1x8x256x256 .bf16 :=
  glue8 fun g => k0_pay8 (DVh Kd Qd n (od g)) (k0_pay6 (DVh Kd Qd n (ev g)))
/-- The dq block of query block `J`, scaled by the row `a2` of factors. -/
def DQB (a2 : Vec F S5x16 .f32) (Kd : ℕ → Fin 16 → KBlk F) (Qd : ℕ → Fin 16 → QBlk F) (J : ℕ) : Vec F S1x16x256x256 .bf16 :=
  glue16 fun h => k0_pay9 (DQ Kd Qd J h (min J 4)) (x2 a2 4 h)

/-- After key block `n`: the rings hold query blocks `n … n + 4`, and the dq ring what the key blocks down to `n` give them. -/
def Inv (Kd : ℕ → Fin 16 → KBlk F) (Qd : ℕ → Fin 16 → QBlk F) (n : ℕ) (s : St F) : Prop :=
  ∀ (m : Fin 5) (h : Fin 16), slotQ s (sl n m) h = Qd (n + m.val) h ∧ (n + m.val ≤ 63 → x4 s.a16 (sl n m) h = DQ Kd Qd (n + m.val) h m.val)

theorem sl_succ (n : ℕ) (m : Fin 5) (hm : m ≠ 0) : sl n m = sl (n + 1) ⟨m.val - 1, by have := m.isLt; omega⟩ := by
  have : m.val ≠ 0 := fun h => hm (Fin.ext h)
  refine Fin.ext ?_
  show (n + m.val) % 5 = (n + 1 + (m.val - 1)) % 5
  congr 1; omega

theorem sl_add (n : ℕ) (m : Fin 5) : sl n m = sl (n + m.val) 0 := Fin.ext rfl

/-- The state before a key block enters. -/
def Before (Kd : ℕ → Fin 16 → KBlk F) (Qd : ℕ → Fin 16 → QBlk F) (n : ℕ) (s : St F) : Prop :=
  (n = 63 ∧ ∀ r h, slotQ s r h = zeroQ h) ∨ (n < 63 ∧ Inv Kd Qd (n + 1) s)

theorem main_step (Kd : ℕ → Fin 16 → KBlk F) (Qd : ℕ → Fin 16 → QBlk F) (hq : ∀ J h, 63 < J → Qd J h = zeroQ h)
    (i : grid0.Coords) (h2 : tt i < 64) (s : St F) (hs : Before Kd Qd (63 - tt i) s)
    (hin : ∀ h, inQ s.a3 s.a4 s.a7 s.a8 h = Qd (63 - tt i) h) (hk : ∀ h, kb s.a2 s.a5 s.a6 h = Kd (63 - tt i) h) :
    ∃ X Y L E R C D, mainSt i ((cond2_iff i).2 h2) s = {s with a10 := DKB Kd Qd (63 - tt i), a11 := DVB Kd Qd (63 - tt i), a12 := X, a13 := Y, a14 := L, a15 := E, a16 := R, a17 := C, a18 := D}
      ∧ Inv Kd Qd (63 - tt i) (mainSt i ((cond2_iff i).2 h2) s) := by
  obtain ⟨s1, R, C, D, ⟨X, Y, L, E, hs1⟩, e, hQ, hR⟩ := mainSt_spec i ((cond2_iff i).2 h2) s
  generalize hn : 63 - tt i = n at *
  have hn' : n ≤ 63 := by omega
  have hQ' : ∀ (m : Fin 5) h, slotQ s1 (sl n m) h = Qd (n + m.val) h := by
    intro m h
    rw [hQ m h]
    split
    · rename_i c; subst c; exact hin h
    · rename_i c
      rcases hs with ⟨e63, hz⟩ | ⟨hlt, hI⟩
      · have : m.val ≠ 0 := fun h => c (Fin.ext h)
        rw [hz, hq _ _ (by omega)]
      · have : m.val ≠ 0 := fun h => c (Fin.ext h)
        rw [sl_succ n m c, (hI _ h).1]
        congr 1
        show n + 1 + (m.val - 1) = _
        omega
  have hkS : ∀ h, kb s1.a2 s1.a5 s1.a6 h = Kd n h := by rw [hs1]; exact hk
  have hdk : ∀ h, dkH n s1 h = DKh Kd Qd n h := by
    intro h; unfold dkH DKh; rw [hkS, hQ', hQ', hQ', hQ', hQ']; rfl
  have hdv : ∀ h, dvH n s1 h = DVh Kd Qd n h := by
    intro h; unfold dvH DVh; rw [hkS, hQ', hQ', hQ', hQ', hQ']; rfl
  simp only [hdk, hdv] at e
  refine ⟨X, Y, L, E, R, C, D, ?_, ?_⟩
  · rw [e, hs1]; rfl
  · rw [e]
    intro m h
    refine ⟨hQ' m h, fun hm => ?_⟩
    refine (hR m h).trans ?_
    rw [hQ', hk]
    by_cases c : m = 0
    · subst c; rfl
    · have hm0 : m.val ≠ 0 := fun h => c (Fin.ext h)
      rcases hs with ⟨e63, hz⟩ | ⟨hlt, hI⟩
      · omega
      · have hold := (hI ⟨m.val - 1, by have := m.isLt; omega⟩ h).2 (by show n + 1 + (m.val - 1) ≤ 63; omega)
        rw [← sl_succ n m c] at hold
        rw [hold]
        obtain ⟨k, hk5⟩ : ∃ k, m.val = k + 1 := ⟨m.val - 1, by omega⟩
        have e1 : n + 1 + (m.val - 1) = n + m.val := by omega
        show dqU m (Kd n h) (Qd (n + m.val) h) (DQ Kd Qd (n + 1 + (m.val - 1)) h (m.val - 1)) = DQ Kd Qd (n + m.val) h m.val
        rw [e1]
        have e2 : m.val - 1 = k := by omega
        have e3 : (⟨(k + 1) % 5, Nat.mod_lt _ (by omega)⟩ : Fin 5) = m := Fin.ext (by have := m.isLt; show (k + 1) % 5 = m.val; omega)
        have e4 : n + m.val - (k + 1) = n := by omega
        have e5 : DQ Kd Qd (n + m.val) h (k + 1) = dqU ⟨(k + 1) % 5, Nat.mod_lt _ (by omega)⟩ (Kd (n + m.val - (k + 1)) h) (Qd (n + m.val) h) (DQ Kd Qd (n + m.val) h k) := rfl
        rw [e2, show DQ Kd Qd (n + m.val) h m.val = DQ Kd Qd (n + m.val) h (k + 1) from congrArg _ hk5, e5, e3, e4]

/-- One iteration's effect. -/
theorem body_spec (Kd : ℕ → Fin 16 → KBlk F) (Qd : ℕ → Fin 16 → QBlk F) (hq : ∀ J h, 63 < J → Qd J h = zeroQ h)
    (i : grid0.Coords) (s : St F) (hI : tt i ≠ 0 → Inv Kd Qd (64 - tt i) s)
    (hin : tt i < 64 → ∀ h, inQ s.a3 s.a4 s.a7 s.a8 h = Qd (63 - tt i) h) (hk : tt i < 64 → ∀ h, kb s.a2 s.a5 s.a6 h = Kd (63 - tt i) h) :
    ∃ A B C X Y L E R P Q, bodySt i s = {s with a9 := A, a10 := B, a11 := C, a12 := X, a13 := Y, a14 := L, a15 := E, a16 := R, a17 := P, a18 := Q}
      ∧ Inv Kd Qd (64 - (tt i + 1)) (bodySt i s)
      ∧ (A = if 4 ≤ tt i then DQB s.a2 Kd Qd (67 - tt i) else s.a9)
      ∧ (B = if tt i < 64 then DKB Kd Qd (63 - tt i) else s.a10)
      ∧ (C = if tt i < 64 then DVB Kd Qd (63 - tt i) else s.a11) := by
  have htt := tt_lt i
  -- after clearing
  have hc : ∃ X Y L E, clearSt i s = {s with a12 := X, a13 := Y, a14 := L, a15 := E} ∧ (tt i < 64 → Before Kd Qd (63 - tt i) (clearSt i s)) ∧ (64 ≤ tt i → Inv Kd Qd 0 (clearSt i s)) := by
    by_cases c : tt i = 0
    · obtain ⟨X, Y, L, E, e, hz⟩ := clear_spec i ((cond1_iff i).2 c) s
      have e' : clearSt i s = {s with a12 := X, a13 := Y, a14 := L, a15 := E} := by
        unfold clearSt; rw [dif_pos ((cond1_iff i).2 c)]; exact e
      refine ⟨X, Y, L, E, e', fun _ => .inl ⟨by omega, ?_⟩, fun h => by omega⟩
      rw [e']; exact hz
    · have e' : clearSt i s = s := by
        unfold clearSt; rw [dif_neg (fun h => c ((cond1_iff i).1 h))]
      refine ⟨s.a12, s.a13, s.a14, s.a15, e', fun h => .inr ⟨by omega, ?_⟩, fun h => ?_⟩
      · rw [e', show 63 - tt i + 1 = 64 - tt i by omega]; exact hI c
      · rw [e', show 0 = 64 - tt i by omega]; exact hI c
  obtain ⟨X, Y, L, E, ec, hB, hI0⟩ := hc
  -- after the key block
  have hm : ∃ B C X Y L E R P Q s2, tailSt i (clearSt i s) = emitSt i s2 ∧ s2 = {s with a10 := B, a11 := C, a12 := X, a13 := Y, a14 := L, a15 := E, a16 := R, a17 := P, a18 := Q}
      ∧ Inv Kd Qd (64 - (tt i + 1)) s2 ∧ (B = if tt i < 64 then DKB Kd Qd (63 - tt i) else s.a10)
      ∧ (C = if tt i < 64 then DVB Kd Qd (63 - tt i) else s.a11) := by
    by_cases c : tt i < 64
    · obtain ⟨X, Y, L, E, R, P, Q, e, hI'⟩ := main_step Kd Qd hq i c (clearSt i s) (hB c) (by rw [ec]; exact hin c) (by rw [ec]; exact hk c)
      refine ⟨_, _, X, Y, L, E, R, P, Q, mainSt i ((cond2_iff i).2 c) (clearSt i s), ?_, ?_, ?_, (if_pos c).symm, (if_pos c).symm⟩
      · unfold tailSt; rw [dif_pos ((cond2_iff i).2 c)]
      · rw [e, ec]
      · rw [show 64 - (tt i + 1) = 63 - tt i by omega]; exact hI'
    · refine ⟨_, _, X, Y, L, E, s.a16, s.a17, s.a18, clearSt i s, ?_, ?_, ?_, (if_neg c).symm, (if_neg c).symm⟩
      · unfold tailSt; rw [dif_neg (fun h => c ((cond2_iff i).1 h))]
      · rw [ec]
      · rw [show 64 - (tt i + 1) = 0 by omega]; exact hI0 (by omega)
  obtain ⟨B, C, X, Y, L, E, R, P, Q, s2, et, es2, hI2, hBB, hCC⟩ := hm
  have eb : bodySt i s = emitSt i s2 := et
  by_cases c : 4 ≤ tt i
  · have e4 := emitSt_spec i c s2
    have hdq : ∀ h, x4 s2.a16 (sl (67 - tt i) 0) h = DQ Kd Qd (67 - tt i) h (min (67 - tt i) 4) := by
      intro h
      by_cases c64 : tt i < 64
      · have := (hI2 4 h).2 (by show 64 - (tt i + 1) + 4 ≤ 63; omega)
        rw [sl_add] at this
        have e1 : 64 - (tt i + 1) + (4 : Fin 5).val = 67 - tt i := by show 64 - (tt i + 1) + 4 = _; omega
        rw [e1] at this
        rw [this, show min (67 - tt i) 4 = 4 by omega]; rfl
      · have := (hI2 ⟨67 - tt i, by omega⟩ h).2 (by show 64 - (tt i + 1) + (67 - tt i) ≤ 63; omega)
        rw [sl_add] at this
        have e1 : 64 - (tt i + 1) + (67 - tt i) = 67 - tt i := by omega
        dsimp only at this
        rw [e1] at this
        rw [this, show min (67 - tt i) 4 = 67 - tt i by omega]
    refine ⟨_, B, C, X, Y, L, E, R, P, Q, ?_, ?_, (if_pos c).symm, hBB, hCC⟩
    · rw [eb, e4]
      unfold DQB
      simp only [hdq]
      rw [es2]
    · rw [eb, e4]
      exact hI2
  · refine ⟨_, B, C, X, Y, L, E, R, P, Q, ?_, ?_, (if_neg c).symm, hBB, hCC⟩
    · rw [eb, emitSt_early i (by omega), es2]
    · rw [eb, emitSt_early i (by omega)]
      exact hI2

end Cert.Main.Body
-- ==== Proof.MainDat.lean ====
/- The proof data of the pallas_call `main`: what each operand's block and the scratch hold at every grid point. -/
module

public import proofs.«01_k».proof.Proof.MainInv
public import proofs.«01_k».proof.Proof.Gen.Main.Frame
public import Idealize.ShloMosaic.Lib.Pipeline.TableIdle

@[expose] public section

set_option maxRecDepth 16384

noncomputable section

namespace Cert.Main.Body

open Cert.Main Cert.Main.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The grid's points -/

theorem tt_coords : ∀ t : Fin cfg0.N, tt (grid0.coords t) = t.val % 68 :=
  (by decide +kernel : ∀ t : Fin grid0.N, tt (grid0.coords t) = t.val % 68)

theorem flush7 : ∀ t : Fin cfg0.N, t.val % 68 < 4 → (cfg0.win 7).flush t = false :=
  (by decide +kernel : ∀ t : Fin grid0.N, t.val % 68 < 4 → win0_7.flush t = false)
theorem flush8 : ∀ t : Fin cfg0.N, 64 ≤ t.val % 68 → t.val % 68 < 67 → (cfg0.win 8).flush t = false :=
  (by decide +kernel : ∀ t : Fin grid0.N, 64 ≤ t.val % 68 → t.val % 68 < 67 → win0_8.flush t = false)
theorem flush9 : ∀ t : Fin cfg0.N, 64 ≤ t.val % 68 → t.val % 68 < 67 → (cfg0.win 9).flush t = false :=
  (by decide +kernel : ∀ t : Fin grid0.N, 64 ≤ t.val % 68 → t.val % 68 < 67 → win0_9.flush t = false)
theorem flush8' : ∀ t : Fin cfg0.N, t.val % 68 = 67 → (cfg0.win 8).flush t = true :=
  (by decide +kernel : ∀ t : Fin grid0.N, t.val % 68 = 67 → win0_8.flush t = true)
theorem flush9' : ∀ t : Fin cfg0.N, t.val % 68 = 67 → (cfg0.win 9).flush t = true :=
  (by decide +kernel : ∀ t : Fin grid0.N, t.val % 68 = 67 → win0_9.flush t = true)
theorem flush8_63 : ∀ t : Fin cfg0.N, t.val % 68 = 63 → (cfg0.win 8).flush t = false :=
  (by decide +kernel : ∀ t : Fin grid0.N, t.val % 68 = 63 → win0_8.flush t = false)
theorem flush9_63 : ∀ t : Fin cfg0.N, t.val % 68 = 63 → (cfg0.win 9).flush t = false :=
  (by decide +kernel : ∀ t : Fin grid0.N, t.val % 68 = 63 → win0_9.flush t = false)

theorem not_one {b : BitVec 1} : (!(b == 1#1)) = true ↔ ¬ b = 1#1 := by simp

theorem idle7_iff (t : Fin cfg0.N) : cfg0.idle 7 (cfg0.grid.coords t) = true ↔ t.val % 68 < 4 := by
  refine (not_one (b := k0_cond5 (grid0.coords t))).trans ?_
  rw [cond5_iff, tt_coords]; omega
theorem idle8_iff (t : Fin cfg0.N) : cfg0.idle 8 (cfg0.grid.coords t) = true ↔ 64 ≤ t.val % 68 := by
  refine (not_one (b := k0_cond2 (grid0.coords t))).trans ?_
  rw [cond2_iff, tt_coords]; omega
theorem idle9_iff (t : Fin cfg0.N) : cfg0.idle 9 (cfg0.grid.coords t) = true ↔ 64 ≤ t.val % 68 := by
  refine (not_one (b := k0_cond2 (grid0.coords t))).trans ?_
  rw [cond2_iff, tt_coords]; omega

/-- The point at which batch `b`'s block `j` is fetched. -/
def pt (b j : ℕ) : Fin cfg0.N := ⟨(68 * b + (63 - j)) % 136, lt_of_lt_of_eq (Nat.mod_lt _ (by decide)) N_0.symm⟩

theorem pt_self (t : Fin cfg0.N) (h : t.val % 68 < 64) : pt (t.val / 68) (63 - t.val % 68) = t := by
  have : t.val < 136 := lt_of_lt_of_eq t.isLt N_0
  refine Fin.ext ?_
  show (68 * (t.val / 68) + (63 - (63 - t.val % 68))) % 136 = t.val
  omega

/-! ## The blocks -/

abbrev B0 (c : Dev nD) (t : Fin cfg0.N) : Vec F S5x16 .f32 := iblk m c 0 t
abbrev B1 (c : Dev nD) (t : Fin cfg0.N) : Vec F S1x16x256x256 .fp8e4m3 := iblk m c 1 t
abbrev B2 (c : Dev nD) (t : Fin cfg0.N) : Vec F S1x16x256x256 .fp8e5m2 := iblk m c 2 t
abbrev B3 (c : Dev nD) (t : Fin cfg0.N) : Vec F S1x8x256x256 .fp8e4m3 := iblk m c 3 t
abbrev B4 (c : Dev nD) (t : Fin cfg0.N) : Vec F S1x8x256x256 .fp8e4m3 := iblk m c 4 t
abbrev B5 (c : Dev nD) (t : Fin cfg0.N) : Vec F S1x16x256 .f32 := iblk m c 5 t
abbrev B6 (c : Dev nD) (t : Fin cfg0.N) : Vec F S1x16x256 .f32 := iblk m c 6 t

/-- Batch `b`'s query block `J` of head `h`: a block of zeros past the last one. -/
def Qd (c : Dev nD) (b J : ℕ) (h : Fin 16) : QBlk F :=
  if J ≤ 63 then inQ (B1 m c (pt b J)) (B2 m c (pt b J)) (B5 m c (pt b J)) (B6 m c (pt b J)) h else zeroQ h
/-- Batch `b`'s key block `j` of head `h`, with the scales. -/
def Kd (c : Dev nD) (b j : ℕ) (h : Fin 16) : KBlk F := kb (B0 m c (pt b j)) (B3 m c (pt b j)) (B4 m c (pt b j)) h

/-- The block of dq the body leaves at point `t`. -/
def out7 (c : Dev nD) (t : Fin cfg0.N) : Vec F S1x16x256x256 .bf16 :=
  DQB (B0 m c t) (Kd m c (t.val / 68)) (Qd m c (t.val / 68)) (67 - t.val % 68)
/-- The block of dk the body leaves at point `t`. -/
def out8 (c : Dev nD) (t : Fin cfg0.N) : Vec F S1x8x256x256 .bf16 :=
  DKB (Kd m c (t.val / 68)) (Qd m c (t.val / 68)) (63 - t.val % 68)
/-- The block of dv the body leaves at point `t`. -/
def out9 (c : Dev nD) (t : Fin cfg0.N) : Vec F S1x8x256x256 .bf16 :=
  DVB (Kd m c (t.val / 68)) (Qd m c (t.val / 68)) (63 - t.val % 68)

/-- The scratch operands at the contents `s`. -/
def Scr (c : Dev nD) (s : St F) : sProp 𝕄 :=
  iprop(owns (c : Thread nD τ) (Memref.whole cc0_scratch0) fullShare s.a12 ∗
    owns (c : Thread nD τ) (Memref.whole cc0_scratch1) fullShare s.a13 ∗
    owns (c : Thread nD τ) (Memref.whole cc0_scratch2) fullShare s.a14 ∗
    owns (c : Thread nD τ) (Memref.whole cc0_scratch3) fullShare s.a15 ∗
    owns (c : Thread nD τ) (Memref.whole cc0_scratch4) fullShare s.a16 ∗
    owns (c : Thread nD τ) (Memref.whole cc0_scratch5) fullShare s.a17 ∗
    owns (c : Thread nD τ) (Memref.whole cc0_scratch6) fullShare s.a18)

/-- What the scratch holds before point `T`. -/
def ScrInv (c : Dev nD) (T : ℕ) (s : St F) : Prop := T % 68 ≠ 0 → Inv (Kd m c (T / 68)) (Qd m c (T / 68)) (64 - T % 68) s

/-- The invariant before point `T`. -/
def ΦM (c : Dev nD) (T : ℕ) : sProp 𝕄 := iprop((∃ s : St F, ⌜ScrInv m c T s⌝ ∗ Scr c s) ∗ ∃ r, prngReg c r)

/-- The proof data of the pipeline. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => out7 m c t
    | ⟨8, _⟩ => out8 m c t
    | ⟨9, _⟩ => out9 m c t
  Φ T := ΦM m c T.val
  q _ := fullShare
  owed _ := 0

theorem before_0 (c : Dev nD) (t : Fin cfg0.N) (d) : (dats m 0 c).before 0 t d = iblk m c 0 t := before0_0_of m _ rfl (fun _ => rfl) t d
theorem before_1 (c : Dev nD) (t : Fin cfg0.N) (d) : (dats m 0 c).before 1 t d = iblk m c 1 t := before0_1_of m _ rfl (fun _ => rfl) t d
theorem before_2 (c : Dev nD) (t : Fin cfg0.N) (d) : (dats m 0 c).before 2 t d = iblk m c 2 t := before0_2_of m _ rfl (fun _ => rfl) t d
theorem before_3 (c : Dev nD) (t : Fin cfg0.N) (d) : (dats m 0 c).before 3 t d = iblk m c 3 t := before0_3_of m _ rfl (fun _ => rfl) t d
theorem before_4 (c : Dev nD) (t : Fin cfg0.N) (d) : (dats m 0 c).before 4 t d = iblk m c 4 t := before0_4_of m _ rfl (fun _ => rfl) t d
theorem before_5 (c : Dev nD) (t : Fin cfg0.N) (d) : (dats m 0 c).before 5 t d = iblk m c 5 t := before0_5_of m _ rfl (fun _ => rfl) t d
theorem before_6 (c : Dev nD) (t : Fin cfg0.N) (d) : (dats m 0 c).before 6 t d = iblk m c 6 t := before0_6_of m _ rfl (fun _ => rfl) t d

/-- The operands of the body at point `t`. -/
def argsAt (t : Fin cfg0.N) : Args :=
  ⟨win0_0.stage (cfg0.slots t 0), hstage0_0 ((cfg0.slots t 0).cast nbuf0_0), win0_1.stage (cfg0.slots t 1), hstage0_1 ((cfg0.slots t 1).cast nbuf0_1),
    win0_2.stage (cfg0.slots t 2), hstage0_2 ((cfg0.slots t 2).cast nbuf0_2), win0_3.stage (cfg0.slots t 3), hstage0_3 ((cfg0.slots t 3).cast nbuf0_3),
    win0_4.stage (cfg0.slots t 4), hstage0_4 ((cfg0.slots t 4).cast nbuf0_4), win0_5.stage (cfg0.slots t 5), hstage0_5 ((cfg0.slots t 5).cast nbuf0_5),
    win0_6.stage (cfg0.slots t 6), hstage0_6 ((cfg0.slots t 6).cast nbuf0_6), win0_7.stage (cfg0.slots t 7), hstage0_7 ((cfg0.slots t 7).cast nbuf0_7),
    win0_8.stage (cfg0.slots t 8), hstage0_8 ((cfg0.slots t 8).cast nbuf0_8), win0_9.stage (cfg0.slots t 9), hstage0_9 ((cfg0.slots t 9).cast nbuf0_9),
    Memref.whole cc0_scratch0, Memref.isWhole_whole _, Memref.whole cc0_scratch1, Memref.isWhole_whole _, Memref.whole cc0_scratch2, Memref.isWhole_whole _,
    Memref.whole cc0_scratch3, Memref.isWhole_whole _, Memref.whole cc0_scratch4, Memref.isWhole_whole _, Memref.whole cc0_scratch5, Memref.isWhole_whole _,
    Memref.whole cc0_scratch6, Memref.isWhole_whole _⟩

theorem defs_tc : (defs₀ (F := F)) .tc cfg0.body = fun a => cc0_main (grid0.coords a.1) (win0_0.stage (a.2 0)) (hstage0_0 ((a.2 0).cast nbuf0_0)) (win0_1.stage (a.2 1)) (hstage0_1 ((a.2 1).cast nbuf0_1)) (win0_2.stage (a.2 2)) (hstage0_2 ((a.2 2).cast nbuf0_2)) (win0_3.stage (a.2 3)) (hstage0_3 ((a.2 3).cast nbuf0_3)) (win0_4.stage (a.2 4)) (hstage0_4 ((a.2 4).cast nbuf0_4)) (win0_5.stage (a.2 5)) (hstage0_5 ((a.2 5).cast nbuf0_5)) (win0_6.stage (a.2 6)) (hstage0_6 ((a.2 6).cast nbuf0_6)) (win0_7.stage (a.2 7)) (hstage0_7 ((a.2 7).cast nbuf0_7)) (win0_8.stage (a.2 8)) (hstage0_8 ((a.2 8).cast nbuf0_8)) (win0_9.stage (a.2 9)) (hstage0_9 ((a.2 9).cast nbuf0_9)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) := rfl

/-- The body of the pipeline at point `t`. -/
theorem prog_eq (t : Fin cfg0.N) : (defs₀ (F := F)) .tc cfg0.body (cfg0.bodyArgs t (cfg0.slots t)) = bodyAt0 t := (congrFun defs_tc _).trans rfl

/-- One point of the pipeline, from its operands' contents. -/
theorem run_at (c : Dev nD) (t : Fin cfg0.N) (s : St F) : Runs c (argsAt t) (bodyAt0 t) s ⟨⟩ (bodySt (grid0.coords t) s) :=
  run_body c (argsAt t) (grid0.coords t) s

theorem idleF {b : Bool} (h : ¬ b = true) : b = false := by simpa using h

/-! ## Windows 8 and 9 at the point that writes their last block back -/

theorem fresh8 (t : Fin cfg0.N) (h : 64 ≤ t.val % 68) : cfg0.fresh 8 t.val = false := by
  have hN : t.val < 136 := lt_of_lt_of_eq t.isLt N_0
  have key : ∀ k b : ℕ, b < 2 → k < 4 → cfg0.fresh 8 (68 * b + 64 + k) = false := by
    intro k b hb
    induction k with
    | zero =>
      intro _
      have hl : 68 * b + 63 < cfg0.N := lt_of_lt_of_eq (by omega : 68 * b + 63 < 136) N_0.symm
      refine (Pipeline.Cfg.fresh_succ cfg0 8 (68 * b + 63) hl).trans ?_
      rw [flush8_63 ⟨_, hl⟩ (show (68 * b + 63) % 68 = 63 by omega), idleF (b := cfg0.idle 8 (cfg0.grid.coords ⟨_, hl⟩)) (fun hi => by
        have hi' : 64 ≤ (68 * b + 63) % 68 := (idle8_iff ⟨_, hl⟩).1 hi
        omega)]
      rfl
    | succ k ih =>
      intro hk
      have hl : 68 * b + 64 + k < cfg0.N := lt_of_lt_of_eq (by omega : 68 * b + 64 + k < 136) N_0.symm
      refine (Pipeline.Cfg.fresh_succ cfg0 8 (68 * b + 64 + k) hl).trans ?_
      rw [flush8 ⟨_, hl⟩ (show 64 ≤ (68 * b + 64 + k) % 68 by omega) (show (68 * b + 64 + k) % 68 < 67 by omega), ih (by omega), Bool.and_false]
      rfl
  have e : t.val = 68 * (t.val / 68) + 64 + (t.val % 68 - 64) := by omega
  rw [e]
  exact key _ _ (by omega) (by omega)

theorem fresh9 (t : Fin cfg0.N) (h : 64 ≤ t.val % 68) : cfg0.fresh 9 t.val = false := by
  have hN : t.val < 136 := lt_of_lt_of_eq t.isLt N_0
  have key : ∀ k b : ℕ, b < 2 → k < 4 → cfg0.fresh 9 (68 * b + 64 + k) = false := by
    intro k b hb
    induction k with
    | zero =>
      intro _
      have hl : 68 * b + 63 < cfg0.N := lt_of_lt_of_eq (by omega : 68 * b + 63 < 136) N_0.symm
      refine (Pipeline.Cfg.fresh_succ cfg0 9 (68 * b + 63) hl).trans ?_
      rw [flush9_63 ⟨_, hl⟩ (show (68 * b + 63) % 68 = 63 by omega), idleF (b := cfg0.idle 9 (cfg0.grid.coords ⟨_, hl⟩)) (fun hi => by
        have hi' : 64 ≤ (68 * b + 63) % 68 := (idle9_iff ⟨_, hl⟩).1 hi
        omega)]
      rfl
    | succ k ih =>
      intro hk
      have hl : 68 * b + 64 + k < cfg0.N := lt_of_lt_of_eq (by omega : 68 * b + 64 + k < 136) N_0.symm
      refine (Pipeline.Cfg.fresh_succ cfg0 9 (68 * b + 64 + k) hl).trans ?_
      rw [flush9 ⟨_, hl⟩ (show 64 ≤ (68 * b + 64 + k) % 68 by omega) (show (68 * b + 64 + k) % 68 < 67 by omega), ih (by omega), Bool.and_false]
      rfl
  have e : t.val = 68 * (t.val / 68) + 64 + (t.val % 68 - 64) := by omega
  rw [e]
  exact key _ _ (by omega) (by omega)

theorem out8_carry (c : Dev nD) (t : Fin cfg0.N) (h0 : t.val ≠ 0) (h : 64 ≤ t.val % 68) : out8 m c t = out8 m c ⟨t.val - 1, by omega⟩ := by
  unfold out8
  have e1 : (t.val - 1) / 68 = t.val / 68 := by omega
  have e2 : 63 - t.val % 68 = 63 - (t.val - 1) % 68 := by omega
  show _ = DKB (Kd m c ((t.val - 1) / 68)) (Qd m c ((t.val - 1) / 68)) (63 - (t.val - 1) % 68)
  rw [e1, e2]
theorem out9_carry (c : Dev nD) (t : Fin cfg0.N) (h0 : t.val ≠ 0) (h : 64 ≤ t.val % 68) : out9 m c t = out9 m c ⟨t.val - 1, by omega⟩ := by
  unfold out9
  have e1 : (t.val - 1) / 68 = t.val / 68 := by omega
  have e2 : 63 - t.val % 68 = 63 - (t.val - 1) % 68 := by omega
  show _ = DVB (Kd m c ((t.val - 1) / 68)) (Qd m c ((t.val - 1) / 68)) (63 - (t.val - 1) % 68)
  rw [e1, e2]

/-- At an idle point window 8's buffer still holds the last block of dk. -/
theorem before_8 (c : Dev nD) (t : Fin cfg0.N) (h : 64 ≤ t.val % 68) (d) : (dats m 0 c).before 8 t d = out8 m c t := by
  have h0 : t.val ≠ 0 := fun e => by rw [e] at h; omega
  refine ((dats m 0 c).before_out_traj 8 rfl (fun _ _ => rfl) (fun t' h0' hi _ => out8_carry m c t' h0' ((idle8_iff t').1 hi)) t.val t rfl d).trans ?_
  rw [fresh8 t h]
  exact (out8_carry m c t h0 h).symm
/-- At an idle point window 9's buffer still holds the last block of dv. -/
theorem before_9 (c : Dev nD) (t : Fin cfg0.N) (h : 64 ≤ t.val % 68) (d) : (dats m 0 c).before 9 t d = out9 m c t := by
  have h0 : t.val ≠ 0 := fun e => by rw [e] at h; omega
  refine ((dats m 0 c).before_out_traj 9 rfl (fun _ _ => rfl) (fun t' h0' hi _ => out9_carry m c t' h0' ((idle9_iff t').1 hi)) t.val t rfl d).trans ?_
  rw [fresh9 t h]
  exact (out9_carry m c t h0 h).symm

/-- What the body leaves in window 7's buffer is what its point leaves. -/
theorem leaves7 (c : Dev nD) (t : Fin cfg0.N) (d) (A : Vec F S1x16x256x256 .bf16)
    (hA : A = if 4 ≤ tt (grid0.coords t) then out7 m c t else (dats m 0 c).before 7 t d) :
    owns (c : Thread nD τ) (win0_7.stage (cfg0.slots t 7)) fullShare A ⊢ ((dats m 0 c).leavesExact 7 t : sProp 𝕄) := by
  rw [tt_coords] at hA
  by_cases h : 4 ≤ t.val % 68
  · rw [if_pos h] at hA
    unfold Dat.leavesExact
    rw [idleF (b := cfg0.idle 7 (cfg0.grid.coords t)) (fun hi => by have := (idle7_iff t).1 hi; omega), hA]
    exact .rfl
  · rw [if_neg h] at hA
    rw [(dats m 0 c).leavesExact_idle 7 t ((idle7_iff t).2 (by omega)) (flush7 t (by omega)), hA]
    iintro H; iexists d; iexact H
/-- What the body leaves in window 8's buffer is what its point leaves. -/
theorem leaves8 (c : Dev nD) (t : Fin cfg0.N) (d) (A : Vec F S1x8x256x256 .bf16)
    (hA : A = if tt (grid0.coords t) < 64 then out8 m c t else (dats m 0 c).before 8 t d) :
    owns (c : Thread nD τ) (win0_8.stage (cfg0.slots t 8)) fullShare A ⊢ ((dats m 0 c).leavesExact 8 t : sProp 𝕄) := by
  rw [tt_coords] at hA
  by_cases h : t.val % 68 < 64
  · rw [if_pos h] at hA
    unfold Dat.leavesExact
    rw [idleF (b := cfg0.idle 8 (cfg0.grid.coords t)) (fun hi => by have := (idle8_iff t).1 hi; omega), hA]
    exact .rfl
  · rw [if_neg h] at hA
    by_cases h' : t.val % 68 < 67
    · rw [(dats m 0 c).leavesExact_idle 8 t ((idle8_iff t).2 (by omega)) (flush8 t (by omega) h'), hA]
      iintro H; iexists d; iexact H
    · rw [before_8 m c t (by omega) d] at hA
      unfold Dat.leavesExact
      rw [(idle8_iff t).2 (by omega), flush8' t (by omega), hA]
      exact .rfl
/-- What the body leaves in window 9's buffer is what its point leaves. -/
theorem leaves9 (c : Dev nD) (t : Fin cfg0.N) (d) (A : Vec F S1x8x256x256 .bf16)
    (hA : A = if tt (grid0.coords t) < 64 then out9 m c t else (dats m 0 c).before 9 t d) :
    owns (c : Thread nD τ) (win0_9.stage (cfg0.slots t 9)) fullShare A ⊢ ((dats m 0 c).leavesExact 9 t : sProp 𝕄) := by
  rw [tt_coords] at hA
  by_cases h : t.val % 68 < 64
  · rw [if_pos h] at hA
    unfold Dat.leavesExact
    rw [idleF (b := cfg0.idle 9 (cfg0.grid.coords t)) (fun hi => by have := (idle9_iff t).1 hi; omega), hA]
    exact .rfl
  · rw [if_neg h] at hA
    by_cases h' : t.val % 68 < 67
    · rw [(dats m 0 c).leavesExact_idle 9 t ((idle9_iff t).2 (by omega)) (flush9 t (by omega) h'), hA]
      iintro H; iexists d; iexact H
    · rw [before_9 m c t (by omega) d] at hA
      unfold Dat.leavesExact
      rw [(idle9_iff t).2 (by omega), flush9' t (by omega), hA]
      exact .rfl

/-- The contents of the body's operands at point `t`, the scratch's those of `s`. -/
def stAt (c : Dev nD) (t : Fin cfg0.N) (s : St F) (X : Vec F S1x16x256x256 .bf16) (Y Z : Vec F S1x8x256x256 .bf16) : St F :=
  ⟨B0 m c t, B1 m c t, B2 m c t, B3 m c t, B4 m c t, B5 m c t, B6 m c t, X, Y, Z, s.a12, s.a13, s.a14, s.a15, s.a16, s.a17, s.a18⟩

/-- One point of the pipeline, from what its operands hold. -/
theorem point_spec (c : Dev nD) (t : Fin cfg0.N) (s : St F) (hs : ScrInv m c t.val s) (X : Vec F S1x16x256x256 .bf16) (Y Z : Vec F S1x8x256x256 .bf16) :
    ∃ A B C s', bodySt (grid0.coords t) (stAt m c t s X Y Z) = stAt m c t s' A B C ∧ ScrInv m c (t.val + 1) s'
      ∧ (A = if 4 ≤ tt (grid0.coords t) then out7 m c t else X)
      ∧ (B = if tt (grid0.coords t) < 64 then out8 m c t else Y)
      ∧ (C = if tt (grid0.coords t) < 64 then out9 m c t else Z) := by
  have ht := tt_coords t
  have hq : ∀ J h, 63 < J → Qd m c (t.val / 68) J h = zeroQ h := fun J h hJ => if_neg (by omega)
  obtain ⟨A, B, C, X', Y', L, E, R, P, Q, e, hI, hA, hB, hC⟩ := body_spec (Kd m c (t.val / 68)) (Qd m c (t.val / 68)) hq (grid0.coords t) (stAt m c t s X Y Z)
    (fun h => by rw [ht] at h ⊢; exact hs h)
    (fun h g => by
      rw [ht] at h ⊢
      unfold Qd
      rw [if_pos (by omega), pt_self t h]; rfl)
    (fun h g => by
      rw [ht] at h ⊢
      unfold Kd
      rw [pt_self t h]; rfl)
  refine ⟨A, B, C, bodySt (grid0.coords t) (stAt m c t s X Y Z), ?_, ?_, ?_, ?_, ?_⟩
  · rw [e]; rfl
  · intro h
    rw [ht] at hI
    have e1 : (t.val + 1) / 68 = t.val / 68 := by omega
    have e2 : (t.val + 1) % 68 = t.val % 68 + 1 := by omega
    rw [e1, e2]; exact hI
  · rw [hA, ht]; rfl
  · rw [hB, ht]; rfl
  · rw [hC, ht]; rfl

set_option maxHeartbeats 2000000 in
set_option backward.isDefEq.respectTransparency.types false in
/-- The body's obligation at every point. -/
theorem body_obligation (c : Dev nD) : BodyObligation (dats (F := F) m 0 c) (defs₀ (F := F)) 𝒱₀ () Set.univ := fun t => by
  rw [bigSep_W0, bigSep_W0]
  dsimp only
  simp only [before_0, before_1, before_2, before_3, before_4, before_5, before_6]
  rw [show (dats m 0 c).Φ t.castSucc = ΦM m c t.val from rfl, show (dats m 0 c).Φ t.succ = ΦM m c (t.val + 1) from rfl]
  unfold Dat.owesAt Pipeline.owesWithin
  rw [show (dats m 0 c).owed t.castSucc = 0 from rfl, show (dats m 0 c).owed t.succ = 0 from rfl]
  unfold ΦM
  iintro ⟨⟨⟨%s, %hs, HS⟩, HR⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  sl_rw [prog_eq t]
  obtain ⟨A, B, C, s', e, hI, hA, hB, hC⟩ := point_spec m c t s hs ((dats m 0 c).before 7 t d7) ((dats m 0 c).before 8 t d8) ((dats m 0 c).before 9 t d9)
  have hrun := run_at c t (stAt m c t s ((dats m 0 c).before 7 t d7) ((dats m 0 c).before 8 t d8) ((dats m 0 c).before 9 t d9))
  rw [e] at hrun
  unfold Runs at hrun
  iapply (wp_wand_r frame (wpE defs₀ 𝒱₀ (c : Thread nD τ) none))
  unfold Scr
  icases HS with ⟨S0, S1, S2, S3, S4, S5, S6⟩
  isplitl [H0 H1 H2 H3 H4 H5 H6 H7 H8 H9 S0 S1 S2 S3 S4 S5 S6]
  · iapply hrun
    unfold Own
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [S0]; · iexact S0
    isplitl [S1]; · iexact S1
    isplitl [S2]; · iexact S2
    isplitl [S3]; · iexact S3
    isplitl [S4]; · iexact S4
    isplitl [S5]; · iexact S5
    iexact S6
  iintro %r ⟨-, HO⟩
  unfold Own
  icases HO with ⟨H0, H1, H2, H3, H4, H5, H6, H7, H8, H9, S0, S1, S2, S3, S4, S5, S6⟩
  isplitl [HR S0 S1 S2 S3 S4 S5 S6]
  · isplitl [S0 S1 S2 S3 S4 S5 S6]
    · iexists s'
      isplitr; · ipureintro; exact hI
      isplitl [S0]; · iexact S0
      isplitl [S1]; · iexact S1
      isplitl [S2]; · iexact S2
      isplitl [S3]; · iexact S3
      isplitl [S4]; · iexact S4
      isplitl [S5]; · iexact S5
      iexact S6
    · iexact HR
  isplitl [HW]
  · iexists W; isplitr; · ipureintro; exact fun _ _ => Or.inl trivial
    iexact HW
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iapply (leaves7 m c t d7 A hA); iexact H7
  isplitl [H8]; · iapply (leaves8 m c t d8 B hB); iexact H8
  iapply (leaves9 m c t d9 C hC); iexact H9

/-! ## The run -/

/-- A buffer held at some contents is owned as a whole memref at some contents, -/
theorem scr_in (c : Dev nD) (r : Ref sig .tc) : iprop(∃ f : Buf (Elt F) ((c : Thread nD τ).loc r), ((c : Thread nD τ).loc r) ↦{fullShare} f)
    ⊢ (iprop(∃ X, owns (c : Thread nD τ) (Memref.whole r) fullShare X) : sProp 𝕄) := by
  iintro ⟨%f, H⟩
  iexists _
  unfold owns
  iexists f
  isplitr; · ipureintro; rfl
  rw [show (Memref.whole r).view.set = Finset.univ from View.set_whole r]
  iexact H
/-- and back. -/
theorem scr_out (c : Dev nD) (r : Ref sig .tc) (X) : (owns (c : Thread nD τ) (Memref.whole r) fullShare X : sProp 𝕄)
    ⊢ iprop(∃ f : Buf (Elt F) ((c : Thread nD τ).loc r), ((c : Thread nD τ).loc r) ↦{fullShare} f) := by
  unfold owns
  rw [show (Memref.whole r).view.set = Finset.univ from View.set_whole r]
  iintro ⟨%f, -, H⟩
  iexists f
  iexact H

theorem hin (c : Dev nD) : Pipeline.ΦA spec0 c ⊢ ((dats (F := F) m 0 c).Φ 0 : sProp 𝕄) := by
  rw [show (dats m 0 c).Φ 0 = ΦM m c 0 from rfl]
  unfold Pipeline.ΦA ΦM Scr
  rw [scopedRest0_eq]
  iintro ⟨⟨S0, S1, S2, S3, S4, S5, S6⟩, HR⟩
  ihave T0 := (scr_in c cc0_scratch0) $$ S0
  ihave T1 := (scr_in c cc0_scratch1) $$ S1
  ihave T2 := (scr_in c cc0_scratch2) $$ S2
  ihave T3 := (scr_in c cc0_scratch3) $$ S3
  ihave T4 := (scr_in c cc0_scratch4) $$ S4
  ihave T5 := (scr_in c cc0_scratch5) $$ S5
  ihave T6 := (scr_in c cc0_scratch6) $$ S6
  icases T0 with ⟨%X0, T0⟩
  icases T1 with ⟨%X1, T1⟩
  icases T2 with ⟨%X2, T2⟩
  icases T3 with ⟨%X3, T3⟩
  icases T4 with ⟨%X4, T4⟩
  icases T5 with ⟨%X5, T5⟩
  icases T6 with ⟨%X6, T6⟩
  isplitl [T0 T1 T2 T3 T4 T5 T6]
  · iexists (⟨B0 m c (pt 0 0), B1 m c (pt 0 0), B2 m c (pt 0 0), B3 m c (pt 0 0), B4 m c (pt 0 0), B5 m c (pt 0 0), B6 m c (pt 0 0), out7 m c (pt 0 0), out8 m c (pt 0 0), out9 m c (pt 0 0), X0, X1, X2, X3, X4, X5, X6⟩ : St F)
    isplitr; · ipureintro; exact fun h => absurd rfl h
    isplitl [T0]; · iexact T0
    isplitl [T1]; · iexact T1
    isplitl [T2]; · iexact T2
    isplitl [T3]; · iexact T3
    isplitl [T4]; · iexact T4
    isplitl [T5]; · iexact T5
    iexact T6
  · iexact HR

theorem hout (c : Dev nD) : (dats (F := F) m 0 c).Φ (Fin.last cfg0.N) ⊢ (Pipeline.ΦA spec0 c : sProp 𝕄) := by
  rw [show (dats m 0 c).Φ (Fin.last cfg0.N) = ΦM m c cfg0.N from rfl]
  unfold Pipeline.ΦA ΦM Scr
  rw [scopedRest0_eq]
  iintro ⟨⟨%s, -, S0, S1, S2, S3, S4, S5, S6⟩, HR⟩
  isplitl [S0 S1 S2 S3 S4 S5 S6]
  · isplitl [S0]; · iapply (scr_out c cc0_scratch0 s.a12); iexact S0
    isplitl [S1]; · iapply (scr_out c cc0_scratch1 s.a13); iexact S1
    isplitl [S2]; · iapply (scr_out c cc0_scratch2 s.a14); iexact S2
    isplitl [S3]; · iapply (scr_out c cc0_scratch3 s.a15); iexact S3
    isplitl [S4]; · iapply (scr_out c cc0_scratch4 s.a16); iexact S4
    isplitl [S5]; · iapply (scr_out c cc0_scratch5 s.a17); iexact S5
    iapply (scr_out c cc0_scratch6 s.a18); iexact S6
  · iexact HR

set_option backward.isDefEq.respectTransparency.types false in
/-- Every run of the program ends, with the operands' arrays at what the proof data say. -/
theorem run_main : θ_run defs (onTc (τ := τ) (main (F := F))) (s₀ m ρ) (fun r => Pipeline.FramePost cfgs (dats m) 0 (V m) r ∧ r.2.sem = fun _ => 0) :=
  Pipeline.θ_run_frame_track cfgs (dats m) (0 : Fin 1) launch0 defs₀ 𝒱₀ m ρ main
    (hbody := fun c => (body_obligation m c).loose) (hshare := fun c => (dats m 0 c).share_full fun _ => rfl)
    (howed := fun _ _ => rfl) (V := V m) (hmain := hmain m 𝒱₀) (hA := fun _ _ => rfl)
    (hin := fun c => hin m c) (hout := fun c => hout m c)
    (Q' := fun r => Pipeline.FramePost cfgs (dats m) 0 (V m) r ∧ r.2.sem = fun _ => 0) (hQ' := fun _ h => h)

/-- Every run of the program ends, with its arguments unchanged and every semaphore at zero. -/
theorem quiescent : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  (θ_run defs _ _).mono (fun _ hh => ⟨fun c => (fun (h : Pipeline.FramePost cfgs (dats m) 0 (V m) _) =>
    ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).1 5).trans (((dats m 0 c).arrAt_in 5 rfl _).trans (V_main_arg8 m c)),
      ((h c).2 main_arg9 (Pipeline.mem_restRefs_of main_arg9 (by decide) (by decide))).trans (V_main_arg9 m c)⟩) hh.1, hh.2⟩) (run_main m ρ)

end Cert.Main.Body
-- ==== Proof.MainIdealState.lean ====
/- The body of the pallas_call `main` (idealized) as a state transformer: its operands' contents as one record (`St`), what it means for a
   program to take that record to another (`Runs`), and the rule of every operation the body uses. -/
module

public import proofs.«01_k».proof.Proof.Gen.MainIdeal.Skeleton
public import proofs.«01_k».proof.Proof.Gen.MainIdeal.Frame
public import Idealize.ShloMosaic.Lib.Memref
public import Idealize.ShloMosaic.Lib.VecWindow
public import Idealize.ShloMosaic.Lib.Scf

@[expose] public section

set_option maxRecDepth 16384

noncomputable section

namespace Cert.MainIdeal.Body

open Cert.MainIdeal Cert.MainIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open VecWindow (window put)

variable {F : FTy → Type} [FloatOps F] [Named F]

local notation "𝕄" => MT nD τ sig Unit (Elt F) ℕ (UR sig nD τ) ℕ

/-- No loop variants. -/
abbrev 𝒱₀ : Variants := Variants.none

/-- The memory references the body is called with, each a whole buffer. -/
structure Args where
  arg2 : Memref sig .tc .smem S5x16 .f32
  harg2 : arg2.IsWhole
  arg3 : Memref sig .tc .vmem S1x16x256x256 .fp8e4m3
  harg3 : arg3.IsWhole
  arg4 : Memref sig .tc .vmem S1x16x256x256 .fp8e5m2
  harg4 : arg4.IsWhole
  arg5 : Memref sig .tc .vmem S1x8x256x256 .fp8e4m3
  harg5 : arg5.IsWhole
  arg6 : Memref sig .tc .vmem S1x8x256x256 .fp8e4m3
  harg6 : arg6.IsWhole
  arg7 : Memref sig .tc .vmem S1x16x256 .f32
  harg7 : arg7.IsWhole
  arg8 : Memref sig .tc .vmem S1x16x256 .f32
  harg8 : arg8.IsWhole
  arg9 : Memref sig .tc .vmem S1x16x256x256 .bf16
  harg9 : arg9.IsWhole
  arg10 : Memref sig .tc .vmem S1x8x256x256 .bf16
  harg10 : arg10.IsWhole
  arg11 : Memref sig .tc .vmem S1x8x256x256 .bf16
  harg11 : arg11.IsWhole
  arg12 : Memref sig .tc .vmem S5x16x256x256 .fp8e4m3
  harg12 : arg12.IsWhole
  arg13 : Memref sig .tc .vmem S5x16x256x256 .fp8e5m2
  harg13 : arg13.IsWhole
  arg14 : Memref sig .tc .vmem S5x16x256 .f32
  harg14 : arg14.IsWhole
  arg15 : Memref sig .tc .vmem S5x16x256 .f32
  harg15 : arg15.IsWhole
  arg16 : Memref sig .tc .vmem S5x16x256x256 .f32
  harg16 : arg16.IsWhole
  arg17 : Memref sig .tc .vmem S256x256 .f32
  harg17 : arg17.IsWhole
  arg18 : Memref sig .tc .vmem S256x256 .f32
  harg18 : arg18.IsWhole

/-- The contents of every operand of the body. -/
structure St (F : FTy → Type) where
  a2 : Vec F S5x16 .f32
  a3 : Vec F S1x16x256x256 .fp8e4m3
  a4 : Vec F S1x16x256x256 .fp8e5m2
  a5 : Vec F S1x8x256x256 .fp8e4m3
  a6 : Vec F S1x8x256x256 .fp8e4m3
  a7 : Vec F S1x16x256 .f32
  a8 : Vec F S1x16x256 .f32
  a9 : Vec F S1x16x256x256 .bf16
  a10 : Vec F S1x8x256x256 .bf16
  a11 : Vec F S1x8x256x256 .bf16
  a12 : Vec F S5x16x256x256 .fp8e4m3
  a13 : Vec F S5x16x256x256 .fp8e5m2
  a14 : Vec F S5x16x256 .f32
  a15 : Vec F S5x16x256 .f32
  a16 : Vec F S5x16x256x256 .f32
  a17 : Vec F S256x256 .f32
  a18 : Vec F S256x256 .f32

/-- The operands, all held, at the contents `s`. -/
def Own (c : Dev nD) (A : Args) (s : St F) : sProp 𝕄 :=
  iprop(owns (c : Thread nD τ) A.arg2 fullShare s.a2 ∗
    owns (c : Thread nD τ) A.arg3 fullShare s.a3 ∗
    owns (c : Thread nD τ) A.arg4 fullShare s.a4 ∗
    owns (c : Thread nD τ) A.arg5 fullShare s.a5 ∗
    owns (c : Thread nD τ) A.arg6 fullShare s.a6 ∗
    owns (c : Thread nD τ) A.arg7 fullShare s.a7 ∗
    owns (c : Thread nD τ) A.arg8 fullShare s.a8 ∗
    owns (c : Thread nD τ) A.arg9 fullShare s.a9 ∗
    owns (c : Thread nD τ) A.arg10 fullShare s.a10 ∗
    owns (c : Thread nD τ) A.arg11 fullShare s.a11 ∗
    owns (c : Thread nD τ) A.arg12 fullShare s.a12 ∗
    owns (c : Thread nD τ) A.arg13 fullShare s.a13 ∗
    owns (c : Thread nD τ) A.arg14 fullShare s.a14 ∗
    owns (c : Thread nD τ) A.arg15 fullShare s.a15 ∗
    owns (c : Thread nD τ) A.arg16 fullShare s.a16 ∗
    owns (c : Thread nD τ) A.arg17 fullShare s.a17 ∗
    owns (c : Thread nD τ) A.arg18 fullShare s.a18)

/-- Operand 2 taken out of the state, to be given back at any contents. -/
theorem own_2 (c : Dev nD) (A : Args) (s : St F) :
    Own c A s ⊢ iprop(owns (c : Thread nD τ) A.arg2 fullShare s.a2 ∗ ∀ X, owns (c : Thread nD τ) A.arg2 fullShare X -∗ Own c A {s with a2 := X}) := by
  unfold Own
  iintro ⟨H2, H3, H4, H5, H6, H7, H8, H9, H10, H11, H12, H13, H14, H15, H16, H17, H18⟩
  isplitl [H2]
  · iexact H2
  · iintro %X HX
    isplitl [HX]
    · iexact HX
    isplitl [H3]
    · iexact H3
    isplitl [H4]
    · iexact H4
    isplitl [H5]
    · iexact H5
    isplitl [H6]
    · iexact H6
    isplitl [H7]
    · iexact H7
    isplitl [H8]
    · iexact H8
    isplitl [H9]
    · iexact H9
    isplitl [H10]
    · iexact H10
    isplitl [H11]
    · iexact H11
    isplitl [H12]
    · iexact H12
    isplitl [H13]
    · iexact H13
    isplitl [H14]
    · iexact H14
    isplitl [H15]
    · iexact H15
    isplitl [H16]
    · iexact H16
    isplitl [H17]
    · iexact H17
    iexact H18

/-- Operand 3 taken out of the state, to be given back at any contents. -/
theorem own_3 (c : Dev nD) (A : Args) (s : St F) :
    Own c A s ⊢ iprop(owns (c : Thread nD τ) A.arg3 fullShare s.a3 ∗ ∀ X, owns (c : Thread nD τ) A.arg3 fullShare X -∗ Own c A {s with a3 := X}) := by
  unfold Own
  iintro ⟨H2, H3, H4, H5, H6, H7, H8, H9, H10, H11, H12, H13, H14, H15, H16, H17, H18⟩
  isplitl [H3]
  · iexact H3
  · iintro %X HX
    isplitl [H2]
    · iexact H2
    isplitl [HX]
    · iexact HX
    isplitl [H4]
    · iexact H4
    isplitl [H5]
    · iexact H5
    isplitl [H6]
    · iexact H6
    isplitl [H7]
    · iexact H7
    isplitl [H8]
    · iexact H8
    isplitl [H9]
    · iexact H9
    isplitl [H10]
    · iexact H10
    isplitl [H11]
    · iexact H11
    isplitl [H12]
    · iexact H12
    isplitl [H13]
    · iexact H13
    isplitl [H14]
    · iexact H14
    isplitl [H15]
    · iexact H15
    isplitl [H16]
    · iexact H16
    isplitl [H17]
    · iexact H17
    iexact H18

/-- Operand 4 taken out of the state, to be given back at any contents. -/
theorem own_4 (c : Dev nD) (A : Args) (s : St F) :
    Own c A s ⊢ iprop(owns (c : Thread nD τ) A.arg4 fullShare s.a4 ∗ ∀ X, owns (c : Thread nD τ) A.arg4 fullShare X -∗ Own c A {s with a4 := X}) := by
  unfold Own
  iintro ⟨H2, H3, H4, H5, H6, H7, H8, H9, H10, H11, H12, H13, H14, H15, H16, H17, H18⟩
  isplitl [H4]
  · iexact H4
  · iintro %X HX
    isplitl [H2]
    · iexact H2
    isplitl [H3]
    · iexact H3
    isplitl [HX]
    · iexact HX
    isplitl [H5]
    · iexact H5
    isplitl [H6]
    · iexact H6
    isplitl [H7]
    · iexact H7
    isplitl [H8]
    · iexact H8
    isplitl [H9]
    · iexact H9
    isplitl [H10]
    · iexact H10
    isplitl [H11]
    · iexact H11
    isplitl [H12]
    · iexact H12
    isplitl [H13]
    · iexact H13
    isplitl [H14]
    · iexact H14
    isplitl [H15]
    · iexact H15
    isplitl [H16]
    · iexact H16
    isplitl [H17]
    · iexact H17
    iexact H18

/-- Operand 5 taken out of the state, to be given back at any contents. -/
theorem own_5 (c : Dev nD) (A : Args) (s : St F) :
    Own c A s ⊢ iprop(owns (c : Thread nD τ) A.arg5 fullShare s.a5 ∗ ∀ X, owns (c : Thread nD τ) A.arg5 fullShare X -∗ Own c A {s with a5 := X}) := by
  unfold Own
  iintro ⟨H2, H3, H4, H5, H6, H7, H8, H9, H10, H11, H12, H13, H14, H15, H16, H17, H18⟩
  isplitl [H5]
  · iexact H5
  · iintro %X HX
    isplitl [H2]
    · iexact H2
    isplitl [H3]
    · iexact H3
    isplitl [H4]
    · iexact H4
    isplitl [HX]
    · iexact HX
    isplitl [H6]
    · iexact H6
    isplitl [H7]
    · iexact H7
    isplitl [H8]
    · iexact H8
    isplitl [H9]
    · iexact H9
    isplitl [H10]
    · iexact H10
    isplitl [H11]
    · iexact H11
    isplitl [H12]
    · iexact H12
    isplitl [H13]
    · iexact H13
    isplitl [H14]
    · iexact H14
    isplitl [H15]
    · iexact H15
    isplitl [H16]
    · iexact H16
    isplitl [H17]
    · iexact H17
    iexact H18

/-- Operand 6 taken out of the state, to be given back at any contents. -/
theorem own_6 (c : Dev nD) (A : Args) (s : St F) :
    Own c A s ⊢ iprop(owns (c : Thread nD τ) A.arg6 fullShare s.a6 ∗ ∀ X, owns (c : Thread nD τ) A.arg6 fullShare X -∗ Own c A {s with a6 := X}) := by
  unfold Own
  iintro ⟨H2, H3, H4, H5, H6, H7, H8, H9, H10, H11, H12, H13, H14, H15, H16, H17, H18⟩
  isplitl [H6]
  · iexact H6
  · iintro %X HX
    isplitl [H2]
    · iexact H2
    isplitl [H3]
    · iexact H3
    isplitl [H4]
    · iexact H4
    isplitl [H5]
    · iexact H5
    isplitl [HX]
    · iexact HX
    isplitl [H7]
    · iexact H7
    isplitl [H8]
    · iexact H8
    isplitl [H9]
    · iexact H9
    isplitl [H10]
    · iexact H10
    isplitl [H11]
    · iexact H11
    isplitl [H12]
    · iexact H12
    isplitl [H13]
    · iexact H13
    isplitl [H14]
    · iexact H14
    isplitl [H15]
    · iexact H15
    isplitl [H16]
    · iexact H16
    isplitl [H17]
    · iexact H17
    iexact H18

/-- Operand 7 taken out of the state, to be given back at any contents. -/
theorem own_7 (c : Dev nD) (A : Args) (s : St F) :
    Own c A s ⊢ iprop(owns (c : Thread nD τ) A.arg7 fullShare s.a7 ∗ ∀ X, owns (c : Thread nD τ) A.arg7 fullShare X -∗ Own c A {s with a7 := X}) := by
  unfold Own
  iintro ⟨H2, H3, H4, H5, H6, H7, H8, H9, H10, H11, H12, H13, H14, H15, H16, H17, H18⟩
  isplitl [H7]
  · iexact H7
  · iintro %X HX
    isplitl [H2]
    · iexact H2
    isplitl [H3]
    · iexact H3
    isplitl [H4]
    · iexact H4
    isplitl [H5]
    · iexact H5
    isplitl [H6]
    · iexact H6
    isplitl [HX]
    · iexact HX
    isplitl [H8]
    · iexact H8
    isplitl [H9]
    · iexact H9
    isplitl [H10]
    · iexact H10
    isplitl [H11]
    · iexact H11
    isplitl [H12]
    · iexact H12
    isplitl [H13]
    · iexact H13
    isplitl [H14]
    · iexact H14
    isplitl [H15]
    · iexact H15
    isplitl [H16]
    · iexact H16
    isplitl [H17]
    · iexact H17
    iexact H18

/-- Operand 8 taken out of the state, to be given back at any contents. -/
theorem own_8 (c : Dev nD) (A : Args) (s : St F) :
    Own c A s ⊢ iprop(owns (c : Thread nD τ) A.arg8 fullShare s.a8 ∗ ∀ X, owns (c : Thread nD τ) A.arg8 fullShare X -∗ Own c A {s with a8 := X}) := by
  unfold Own
  iintro ⟨H2, H3, H4, H5, H6, H7, H8, H9, H10, H11, H12, H13, H14, H15, H16, H17, H18⟩
  isplitl [H8]
  · iexact H8
  · iintro %X HX
    isplitl [H2]
    · iexact H2
    isplitl [H3]
    · iexact H3
    isplitl [H4]
    · iexact H4
    isplitl [H5]
    · iexact H5
    isplitl [H6]
    · iexact H6
    isplitl [H7]
    · iexact H7
    isplitl [HX]
    · iexact HX
    isplitl [H9]
    · iexact H9
    isplitl [H10]
    · iexact H10
    isplitl [H11]
    · iexact H11
    isplitl [H12]
    · iexact H12
    isplitl [H13]
    · iexact H13
    isplitl [H14]
    · iexact H14
    isplitl [H15]
    · iexact H15
    isplitl [H16]
    · iexact H16
    isplitl [H17]
    · iexact H17
    iexact H18

/-- Operand 9 taken out of the state, to be given back at any contents. -/
theorem own_9 (c : Dev nD) (A : Args) (s : St F) :
    Own c A s ⊢ iprop(owns (c : Thread nD τ) A.arg9 fullShare s.a9 ∗ ∀ X, owns (c : Thread nD τ) A.arg9 fullShare X -∗ Own c A {s with a9 := X}) := by
  unfold Own
  iintro ⟨H2, H3, H4, H5, H6, H7, H8, H9, H10, H11, H12, H13, H14, H15, H16, H17, H18⟩
  isplitl [H9]
  · iexact H9
  · iintro %X HX
    isplitl [H2]
    · iexact H2
    isplitl [H3]
    · iexact H3
    isplitl [H4]
    · iexact H4
    isplitl [H5]
    · iexact H5
    isplitl [H6]
    · iexact H6
    isplitl [H7]
    · iexact H7
    isplitl [H8]
    · iexact H8
    isplitl [HX]
    · iexact HX
    isplitl [H10]
    · iexact H10
    isplitl [H11]
    · iexact H11
    isplitl [H12]
    · iexact H12
    isplitl [H13]
    · iexact H13
    isplitl [H14]
    · iexact H14
    isplitl [H15]
    · iexact H15
    isplitl [H16]
    · iexact H16
    isplitl [H17]
    · iexact H17
    iexact H18

/-- Operand 10 taken out of the state, to be given back at any contents. -/
theorem own_10 (c : Dev nD) (A : Args) (s : St F) :
    Own c A s ⊢ iprop(owns (c : Thread nD τ) A.arg10 fullShare s.a10 ∗ ∀ X, owns (c : Thread nD τ) A.arg10 fullShare X -∗ Own c A {s with a10 := X}) := by
  unfold Own
  iintro ⟨H2, H3, H4, H5, H6, H7, H8, H9, H10, H11, H12, H13, H14, H15, H16, H17, H18⟩
  isplitl [H10]
  · iexact H10
  · iintro %X HX
    isplitl [H2]
    · iexact H2
    isplitl [H3]
    · iexact H3
    isplitl [H4]
    · iexact H4
    isplitl [H5]
    · iexact H5
    isplitl [H6]
    · iexact H6
    isplitl [H7]
    · iexact H7
    isplitl [H8]
    · iexact H8
    isplitl [H9]
    · iexact H9
    isplitl [HX]
    · iexact HX
    isplitl [H11]
    · iexact H11
    isplitl [H12]
    · iexact H12
    isplitl [H13]
    · iexact H13
    isplitl [H14]
    · iexact H14
    isplitl [H15]
    · iexact H15
    isplitl [H16]
    · iexact H16
    isplitl [H17]
    · iexact H17
    iexact H18

/-- Operand 11 taken out of the state, to be given back at any contents. -/
theorem own_11 (c : Dev nD) (A : Args) (s : St F) :
    Own c A s ⊢ iprop(owns (c : Thread nD τ) A.arg11 fullShare s.a11 ∗ ∀ X, owns (c : Thread nD τ) A.arg11 fullShare X -∗ Own c A {s with a11 := X}) := by
  unfold Own
  iintro ⟨H2, H3, H4, H5, H6, H7, H8, H9, H10, H11, H12, H13, H14, H15, H16, H17, H18⟩
  isplitl [H11]
  · iexact H11
  · iintro %X HX
    isplitl [H2]
    · iexact H2
    isplitl [H3]
    · iexact H3
    isplitl [H4]
    · iexact H4
    isplitl [H5]
    · iexact H5
    isplitl [H6]
    · iexact H6
    isplitl [H7]
    · iexact H7
    isplitl [H8]
    · iexact H8
    isplitl [H9]
    · iexact H9
    isplitl [H10]
    · iexact H10
    isplitl [HX]
    · iexact HX
    isplitl [H12]
    · iexact H12
    isplitl [H13]
    · iexact H13
    isplitl [H14]
    · iexact H14
    isplitl [H15]
    · iexact H15
    isplitl [H16]
    · iexact H16
    isplitl [H17]
    · iexact H17
    iexact H18

/-- Operand 12 taken out of the state, to be given back at any contents. -/
theorem own_12 (c : Dev nD) (A : Args) (s : St F) :
    Own c A s ⊢ iprop(owns (c : Thread nD τ) A.arg12 fullShare s.a12 ∗ ∀ X, owns (c : Thread nD τ) A.arg12 fullShare X -∗ Own c A {s with a12 := X}) := by
  unfold Own
  iintro ⟨H2, H3, H4, H5, H6, H7, H8, H9, H10, H11, H12, H13, H14, H15, H16, H17, H18⟩
  isplitl [H12]
  · iexact H12
  · iintro %X HX
    isplitl [H2]
    · iexact H2
    isplitl [H3]
    · iexact H3
    isplitl [H4]
    · iexact H4
    isplitl [H5]
    · iexact H5
    isplitl [H6]
    · iexact H6
    isplitl [H7]
    · iexact H7
    isplitl [H8]
    · iexact H8
    isplitl [H9]
    · iexact H9
    isplitl [H10]
    · iexact H10
    isplitl [H11]
    · iexact H11
    isplitl [HX]
    · iexact HX
    isplitl [H13]
    · iexact H13
    isplitl [H14]
    · iexact H14
    isplitl [H15]
    · iexact H15
    isplitl [H16]
    · iexact H16
    isplitl [H17]
    · iexact H17
    iexact H18

/-- Operand 13 taken out of the state, to be given back at any contents. -/
theorem own_13 (c : Dev nD) (A : Args) (s : St F) :
    Own c A s ⊢ iprop(owns (c : Thread nD τ) A.arg13 fullShare s.a13 ∗ ∀ X, owns (c : Thread nD τ) A.arg13 fullShare X -∗ Own c A {s with a13 := X}) := by
  unfold Own
  iintro ⟨H2, H3, H4, H5, H6, H7, H8, H9, H10, H11, H12, H13, H14, H15, H16, H17, H18⟩
  isplitl [H13]
  · iexact H13
  · iintro %X HX
    isplitl [H2]
    · iexact H2
    isplitl [H3]
    · iexact H3
    isplitl [H4]
    · iexact H4
    isplitl [H5]
    · iexact H5
    isplitl [H6]
    · iexact H6
    isplitl [H7]
    · iexact H7
    isplitl [H8]
    · iexact H8
    isplitl [H9]
    · iexact H9
    isplitl [H10]
    · iexact H10
    isplitl [H11]
    · iexact H11
    isplitl [H12]
    · iexact H12
    isplitl [HX]
    · iexact HX
    isplitl [H14]
    · iexact H14
    isplitl [H15]
    · iexact H15
    isplitl [H16]
    · iexact H16
    isplitl [H17]
    · iexact H17
    iexact H18

/-- Operand 14 taken out of the state, to be given back at any contents. -/
theorem own_14 (c : Dev nD) (A : Args) (s : St F) :
    Own c A s ⊢ iprop(owns (c : Thread nD τ) A.arg14 fullShare s.a14 ∗ ∀ X, owns (c : Thread nD τ) A.arg14 fullShare X -∗ Own c A {s with a14 := X}) := by
  unfold Own
  iintro ⟨H2, H3, H4, H5, H6, H7, H8, H9, H10, H11, H12, H13, H14, H15, H16, H17, H18⟩
  isplitl [H14]
  · iexact H14
  · iintro %X HX
    isplitl [H2]
    · iexact H2
    isplitl [H3]
    · iexact H3
    isplitl [H4]
    · iexact H4
    isplitl [H5]
    · iexact H5
    isplitl [H6]
    · iexact H6
    isplitl [H7]
    · iexact H7
    isplitl [H8]
    · iexact H8
    isplitl [H9]
    · iexact H9
    isplitl [H10]
    · iexact H10
    isplitl [H11]
    · iexact H11
    isplitl [H12]
    · iexact H12
    isplitl [H13]
    · iexact H13
    isplitl [HX]
    · iexact HX
    isplitl [H15]
    · iexact H15
    isplitl [H16]
    · iexact H16
    isplitl [H17]
    · iexact H17
    iexact H18

/-- Operand 15 taken out of the state, to be given back at any contents. -/
theorem own_15 (c : Dev nD) (A : Args) (s : St F) :
    Own c A s ⊢ iprop(owns (c : Thread nD τ) A.arg15 fullShare s.a15 ∗ ∀ X, owns (c : Thread nD τ) A.arg15 fullShare X -∗ Own c A {s with a15 := X}) := by
  unfold Own
  iintro ⟨H2, H3, H4, H5, H6, H7, H8, H9, H10, H11, H12, H13, H14, H15, H16, H17, H18⟩
  isplitl [H15]
  · iexact H15
  · iintro %X HX
    isplitl [H2]
    · iexact H2
    isplitl [H3]
    · iexact H3
    isplitl [H4]
    · iexact H4
    isplitl [H5]
    · iexact H5
    isplitl [H6]
    · iexact H6
    isplitl [H7]
    · iexact H7
    isplitl [H8]
    · iexact H8
    isplitl [H9]
    · iexact H9
    isplitl [H10]
    · iexact H10
    isplitl [H11]
    · iexact H11
    isplitl [H12]
    · iexact H12
    isplitl [H13]
    · iexact H13
    isplitl [H14]
    · iexact H14
    isplitl [HX]
    · iexact HX
    isplitl [H16]
    · iexact H16
    isplitl [H17]
    · iexact H17
    iexact H18

/-- Operand 16 taken out of the state, to be given back at any contents. -/
theorem own_16 (c : Dev nD) (A : Args) (s : St F) :
    Own c A s ⊢ iprop(owns (c : Thread nD τ) A.arg16 fullShare s.a16 ∗ ∀ X, owns (c : Thread nD τ) A.arg16 fullShare X -∗ Own c A {s with a16 := X}) := by
  unfold Own
  iintro ⟨H2, H3, H4, H5, H6, H7, H8, H9, H10, H11, H12, H13, H14, H15, H16, H17, H18⟩
  isplitl [H16]
  · iexact H16
  · iintro %X HX
    isplitl [H2]
    · iexact H2
    isplitl [H3]
    · iexact H3
    isplitl [H4]
    · iexact H4
    isplitl [H5]
    · iexact H5
    isplitl [H6]
    · iexact H6
    isplitl [H7]
    · iexact H7
    isplitl [H8]
    · iexact H8
    isplitl [H9]
    · iexact H9
    isplitl [H10]
    · iexact H10
    isplitl [H11]
    · iexact H11
    isplitl [H12]
    · iexact H12
    isplitl [H13]
    · iexact H13
    isplitl [H14]
    · iexact H14
    isplitl [H15]
    · iexact H15
    isplitl [HX]
    · iexact HX
    isplitl [H17]
    · iexact H17
    iexact H18

/-- Operand 17 taken out of the state, to be given back at any contents. -/
theorem own_17 (c : Dev nD) (A : Args) (s : St F) :
    Own c A s ⊢ iprop(owns (c : Thread nD τ) A.arg17 fullShare s.a17 ∗ ∀ X, owns (c : Thread nD τ) A.arg17 fullShare X -∗ Own c A {s with a17 := X}) := by
  unfold Own
  iintro ⟨H2, H3, H4, H5, H6, H7, H8, H9, H10, H11, H12, H13, H14, H15, H16, H17, H18⟩
  isplitl [H17]
  · iexact H17
  · iintro %X HX
    isplitl [H2]
    · iexact H2
    isplitl [H3]
    · iexact H3
    isplitl [H4]
    · iexact H4
    isplitl [H5]
    · iexact H5
    isplitl [H6]
    · iexact H6
    isplitl [H7]
    · iexact H7
    isplitl [H8]
    · iexact H8
    isplitl [H9]
    · iexact H9
    isplitl [H10]
    · iexact H10
    isplitl [H11]
    · iexact H11
    isplitl [H12]
    · iexact H12
    isplitl [H13]
    · iexact H13
    isplitl [H14]
    · iexact H14
    isplitl [H15]
    · iexact H15
    isplitl [H16]
    · iexact H16
    isplitl [HX]
    · iexact HX
    iexact H18

/-- Operand 18 taken out of the state, to be given back at any contents. -/
theorem own_18 (c : Dev nD) (A : Args) (s : St F) :
    Own c A s ⊢ iprop(owns (c : Thread nD τ) A.arg18 fullShare s.a18 ∗ ∀ X, owns (c : Thread nD τ) A.arg18 fullShare X -∗ Own c A {s with a18 := X}) := by
  unfold Own
  iintro ⟨H2, H3, H4, H5, H6, H7, H8, H9, H10, H11, H12, H13, H14, H15, H16, H17, H18⟩
  isplitl [H18]
  · iexact H18
  · iintro %X HX
    isplitl [H2]
    · iexact H2
    isplitl [H3]
    · iexact H3
    isplitl [H4]
    · iexact H4
    isplitl [H5]
    · iexact H5
    isplitl [H6]
    · iexact H6
    isplitl [H7]
    · iexact H7
    isplitl [H8]
    · iexact H8
    isplitl [H9]
    · iexact H9
    isplitl [H10]
    · iexact H10
    isplitl [H11]
    · iexact H11
    isplitl [H12]
    · iexact H12
    isplitl [H13]
    · iexact H13
    isplitl [H14]
    · iexact H14
    isplitl [H15]
    · iexact H15
    isplitl [H16]
    · iexact H16
    isplitl [H17]
    · iexact H17
    iexact HX

/-- From the state `s` the program `p` runs to the value `a` and the state `s'`. -/
def Runs (c : Dev nD) (A : Args) {α : Type} (p : Prog (TpuEff nD τ sig (Elt F) Λ₀ .tc) α) (s : St F) (a : α) (s' : St F) : Prop :=
  Own c A s ⊢ wp frame (wpE defs₀ 𝒱₀ (c : Thread nD τ) none) Set.univ p (fun r => iprop(⌜r = a⌝ ∗ Own c A s'))

theorem runs_pure (c : Dev nD) (A : Args) {α : Type} (a : α) (s : St F) : Runs c A (pure a) s a s := by
  unfold Runs
  rw [wp_pure]
  iintro H
  imodintro
  isplitr
  · ipureintro; rfl
  · iexact H

theorem runs_bind {c : Dev nD} {A : Args} {α β : Type} {p : Prog (TpuEff nD τ sig (Elt F) Λ₀ .tc) α} {k : α → Prog (TpuEff nD τ sig (Elt F) Λ₀ .tc) β}
    {s s' s'' : St F} {a : α} {b : β} (h : Runs c A p s a s') (h' : Runs c A (k a) s' b s'') : Runs c A (p >>= k) s b s'' := by
  unfold Runs at *
  rw [wp_bind]
  refine h.trans (wp_mono _ _ _ fun r => ?_)
  iintro ⟨%hr, H⟩
  subst hr
  iapply h' $$ H

/-- A loop with nothing carried: the state after `n` trips is the trip's function iterated. -/
theorem runs_for {c : Dev nD} {A : Args} (lp : Scf.Loop 32) (hok : lp.OK) (body : Fin lp.trips → Unit → Prog (TpuEff nD τ sig (Elt F) Λ₀ .tc) Unit)
    (st : ℕ → St F) (h : ∀ k : Fin lp.trips, Runs c A (body k ⟨⟩) (st k.val) ⟨⟩ (st (k.val + 1))) :
    Runs c A (Scf.Loop.for lp hok ⟨⟩ body) (st 0) ⟨⟩ (st lp.trips) := by
  unfold Runs
  refine .trans ?_ (Scf.wp_for _ _ _ _ _ _ hok ⟨⟩ body (fun k _ => Own c A (st k)) (fun k acc => ?_))
  · iintro H
    isplitl [H]
    · iexact H
    · iintro %acc H
      isplitr
      · ipureintro; rfl
      · iexact H
  · refine (h k).trans (wp_mono _ _ _ fun r => ?_)
    iintro ⟨-, H⟩
    iexact H

theorem own_load (c : Dev nD) {sh : Shape} {e : EltTy} (m : Memref sig .tc .vmem sh e) (off size : Fin sh.rank → ℕ) (inb : ∀ a, off a + size a ≤ sh.size a)
    (hl : m.view.LoadsAt (Rect.unit off size inb).toLoadRect) (X : sh.Idx → Elt F e) :
    owns (c : Thread nD τ) m fullShare X ⊢ wp frame (wpE defs₀ 𝒱₀ (c : Thread nD τ) none) Set.univ
      (Prog.lift (.load m (Rect.unit off size inb).toLoadRect hl)) (fun r => iprop(⌜r = window X off size inb⌝ ∗ (owns (c : Thread nD τ) m fullShare X : sProp 𝕄))) := by
  unfold owns
  iintro ⟨%f, %hf, Hpt⟩
  iapply (wp_load 𝒱₀ (c : Thread nD τ) none Set.univ (hl := hl) (k := .ret) (View.setOn_subset_set _ _)) $$ Hpt
  iintro Hpt
  rw [wp_ret]
  imodintro
  isplitr
  · ipureintro; subst hf; rfl
  · iexists f
    isplitr
    · ipureintro; exact hf
    · iexact Hpt

theorem own_store (c : Dev nD) {sh : Shape} {e : EltTy} (m : Memref sig .tc .vmem sh e) (off size : Fin sh.rank → ℕ) (inb : ∀ a, off a + size a ≤ sh.size a)
    (w : (Rect.unit off size inb).shape.Idx → Elt F e) (hx : (m.access (Rect.unit off size inb)).Stores Finset.univ) (hm) (X : sh.Idx → Elt F e) :
    owns (c : Thread nD τ) m fullShare X ⊢ wp frame (wpE defs₀ 𝒱₀ (c : Thread nD τ) none) Set.univ
      (Prog.lift (.store m (Rect.unit off size inb) w Finset.univ hx hm)) (fun r => iprop(⌜r = ⟨⟩⌝ ∗ (owns (c : Thread nD τ) m fullShare (put X off size w) : sProp 𝕄))) := by
  unfold owns
  iintro ⟨%f, %hf, Hpt⟩
  iapply (wp_store 𝒱₀ (c : Thread nD τ) none Set.univ (hx := hx) (hm := hm) (k := .ret) (S := m.view.set)
    ((View.setOn_subset_set _ _).trans (View.set_slice_subset _ _))) $$ Hpt
  iintro Hpt
  rw [wp_ret]
  imodintro
  isplitr
  · ipureintro; rfl
  · iexists _
    isplitr
    rotate_left
    · iexact Hpt
    · ipureintro; subst hf; exact View.read_writes_cons_put m.view f inb w [] rfl

theorem own_smem (c : Dev nD) {sh : Shape} {e : EltTy} (m : Memref sig .tc .smem sh e) (off size : Fin sh.rank → ℕ) (inb : ∀ a, off a + size a ≤ sh.size a)
    (h1 : (Rect.unit off size inb).shape.numel = 1) (hp : e.packing = 1) (X : sh.Idx → Elt F e) :
    owns (c : Thread nD τ) m fullShare X ⊢ wp frame (wpE defs₀ 𝒱₀ (c : Thread nD τ) none) Set.univ
      (smemLoad m (Rect.unit off size inb) h1 hp)
      (fun r => iprop(⌜r = window X off size inb (Shape.Idx.first (h1.symm ▸ Nat.one_pos))⌝ ∗ (owns (c : Thread nD τ) m fullShare X : sProp 𝕄))) := by
  unfold owns
  iintro ⟨%f, %hf, Hpt⟩
  unfold smemLoad smemLoadElt
  iapply (wp_load 𝒱₀ (c : Thread nD τ) none Set.univ (m := m) (r := (Rect.unit off size inb).toLoadRect) (View.setOn_subset_set _ _)) $$ Hpt
  iintro Hpt
  rw [wp_ret]
  imodintro
  isplitr
  · ipureintro; subst hf; rfl
  · iexists f
    isplitr
    · ipureintro; exact hf
    · iexact Hpt

/-- The word of the table of scales at row `off 0`, column `off 1`. -/
theorem runs_smem {c : Dev nD} {A : Args} {s : St F} (off size : Fin (S5x16).rank → ℕ) (inb h1 hp) :
    Runs c A (smemLoad A.arg2 (Rect.unit (s := S5x16) off size inb) h1 hp) s (window s.a2 off size inb (Shape.Idx.first (h1.symm ▸ Nat.one_pos))) s := by
  unfold Runs
  refine (own_2 c A s).trans ((BI.sep_mono_l (own_smem c A.arg2 off size inb h1 hp s.a2)).trans
    ((wp_frame_r _ _ _).trans (wp_mono _ _ _ fun r => ?_)))
  iintro ⟨⟨%hr, H⟩, Hr⟩
  isplitr
  · ipureintro; exact hr
  · iapply Hr $$ H

theorem runs_load_3 {c : Dev nD} {A : Args} {s : St F} (off size : Fin (S1x16x256x256).rank → ℕ) (inb hl) :
    Runs c A (Prog.lift (.load A.arg3 (Rect.unit (s := S1x16x256x256) off size inb).toLoadRect hl)) s (window s.a3 off size inb) s := by
  unfold Runs
  refine (own_3 c A s).trans ((BI.sep_mono_l (own_load c A.arg3 off size inb hl s.a3)).trans
    ((wp_frame_r _ _ _).trans (wp_mono _ _ _ fun r => ?_)))
  iintro ⟨⟨%hr, H⟩, Hr⟩
  isplitr
  · ipureintro; exact hr
  · iapply Hr $$ H

theorem runs_store_3 {c : Dev nD} {A : Args} {s : St F} (off size : Fin (S1x16x256x256).rank → ℕ) (inb w hx hm) :
    Runs c A (Prog.lift (.store A.arg3 (Rect.unit (s := S1x16x256x256) off size inb) w Finset.univ hx hm)) s ⟨⟩ {s with a3 := put s.a3 off size w} := by
  unfold Runs
  refine (own_3 c A s).trans ((BI.sep_mono_l (own_store c A.arg3 off size inb w hx hm s.a3)).trans
    ((wp_frame_r _ _ _).trans (wp_mono _ _ _ fun r => ?_)))
  iintro ⟨⟨%hr, H⟩, Hr⟩
  isplitr
  · ipureintro; exact hr
  · iapply Hr $$ H

theorem runs_load_4 {c : Dev nD} {A : Args} {s : St F} (off size : Fin (S1x16x256x256).rank → ℕ) (inb hl) :
    Runs c A (Prog.lift (.load A.arg4 (Rect.unit (s := S1x16x256x256) off size inb).toLoadRect hl)) s (window s.a4 off size inb) s := by
  unfold Runs
  refine (own_4 c A s).trans ((BI.sep_mono_l (own_load c A.arg4 off size inb hl s.a4)).trans
    ((wp_frame_r _ _ _).trans (wp_mono _ _ _ fun r => ?_)))
  iintro ⟨⟨%hr, H⟩, Hr⟩
  isplitr
  · ipureintro; exact hr
  · iapply Hr $$ H

theorem runs_store_4 {c : Dev nD} {A : Args} {s : St F} (off size : Fin (S1x16x256x256).rank → ℕ) (inb w hx hm) :
    Runs c A (Prog.lift (.store A.arg4 (Rect.unit (s := S1x16x256x256) off size inb) w Finset.univ hx hm)) s ⟨⟩ {s with a4 := put s.a4 off size w} := by
  unfold Runs
  refine (own_4 c A s).trans ((BI.sep_mono_l (own_store c A.arg4 off size inb w hx hm s.a4)).trans
    ((wp_frame_r _ _ _).trans (wp_mono _ _ _ fun r => ?_)))
  iintro ⟨⟨%hr, H⟩, Hr⟩
  isplitr
  · ipureintro; exact hr
  · iapply Hr $$ H

theorem runs_load_5 {c : Dev nD} {A : Args} {s : St F} (off size : Fin (S1x8x256x256).rank → ℕ) (inb hl) :
    Runs c A (Prog.lift (.load A.arg5 (Rect.unit (s := S1x8x256x256) off size inb).toLoadRect hl)) s (window s.a5 off size inb) s := by
  unfold Runs
  refine (own_5 c A s).trans ((BI.sep_mono_l (own_load c A.arg5 off size inb hl s.a5)).trans
    ((wp_frame_r _ _ _).trans (wp_mono _ _ _ fun r => ?_)))
  iintro ⟨⟨%hr, H⟩, Hr⟩
  isplitr
  · ipureintro; exact hr
  · iapply Hr $$ H

theorem runs_store_5 {c : Dev nD} {A : Args} {s : St F} (off size : Fin (S1x8x256x256).rank → ℕ) (inb w hx hm) :
    Runs c A (Prog.lift (.store A.arg5 (Rect.unit (s := S1x8x256x256) off size inb) w Finset.univ hx hm)) s ⟨⟩ {s with a5 := put s.a5 off size w} := by
  unfold Runs
  refine (own_5 c A s).trans ((BI.sep_mono_l (own_store c A.arg5 off size inb w hx hm s.a5)).trans
    ((wp_frame_r _ _ _).trans (wp_mono _ _ _ fun r => ?_)))
  iintro ⟨⟨%hr, H⟩, Hr⟩
  isplitr
  · ipureintro; exact hr
  · iapply Hr $$ H

theorem runs_load_6 {c : Dev nD} {A : Args} {s : St F} (off size : Fin (S1x8x256x256).rank → ℕ) (inb hl) :
    Runs c A (Prog.lift (.load A.arg6 (Rect.unit (s := S1x8x256x256) off size inb).toLoadRect hl)) s (window s.a6 off size inb) s := by
  unfold Runs
  refine (own_6 c A s).trans ((BI.sep_mono_l (own_load c A.arg6 off size inb hl s.a6)).trans
    ((wp_frame_r _ _ _).trans (wp_mono _ _ _ fun r => ?_)))
  iintro ⟨⟨%hr, H⟩, Hr⟩
  isplitr
  · ipureintro; exact hr
  · iapply Hr $$ H

theorem runs_store_6 {c : Dev nD} {A : Args} {s : St F} (off size : Fin (S1x8x256x256).rank → ℕ) (inb w hx hm) :
    Runs c A (Prog.lift (.store A.arg6 (Rect.unit (s := S1x8x256x256) off size inb) w Finset.univ hx hm)) s ⟨⟩ {s with a6 := put s.a6 off size w} := by
  unfold Runs
  refine (own_6 c A s).trans ((BI.sep_mono_l (own_store c A.arg6 off size inb w hx hm s.a6)).trans
    ((wp_frame_r _ _ _).trans (wp_mono _ _ _ fun r => ?_)))
  iintro ⟨⟨%hr, H⟩, Hr⟩
  isplitr
  · ipureintro; exact hr
  · iapply Hr $$ H

theorem runs_load_7 {c : Dev nD} {A : Args} {s : St F} (off size : Fin (S1x16x256).rank → ℕ) (inb hl) :
    Runs c A (Prog.lift (.load A.arg7 (Rect.unit (s := S1x16x256) off size inb).toLoadRect hl)) s (window s.a7 off size inb) s := by
  unfold Runs
  refine (own_7 c A s).trans ((BI.sep_mono_l (own_load c A.arg7 off size inb hl s.a7)).trans
    ((wp_frame_r _ _ _).trans (wp_mono _ _ _ fun r => ?_)))
  iintro ⟨⟨%hr, H⟩, Hr⟩
  isplitr
  · ipureintro; exact hr
  · iapply Hr $$ H

theorem runs_store_7 {c : Dev nD} {A : Args} {s : St F} (off size : Fin (S1x16x256).rank → ℕ) (inb w hx hm) :
    Runs c A (Prog.lift (.store A.arg7 (Rect.unit (s := S1x16x256) off size inb) w Finset.univ hx hm)) s ⟨⟩ {s with a7 := put s.a7 off size w} := by
  unfold Runs
  refine (own_7 c A s).trans ((BI.sep_mono_l (own_store c A.arg7 off size inb w hx hm s.a7)).trans
    ((wp_frame_r _ _ _).trans (wp_mono _ _ _ fun r => ?_)))
  iintro ⟨⟨%hr, H⟩, Hr⟩
  isplitr
  · ipureintro; exact hr
  · iapply Hr $$ H

theorem runs_load_8 {c : Dev nD} {A : Args} {s : St F} (off size : Fin (S1x16x256).rank → ℕ) (inb hl) :
    Runs c A (Prog.lift (.load A.arg8 (Rect.unit (s := S1x16x256) off size inb).toLoadRect hl)) s (window s.a8 off size inb) s := by
  unfold Runs
  refine (own_8 c A s).trans ((BI.sep_mono_l (own_load c A.arg8 off size inb hl s.a8)).trans
    ((wp_frame_r _ _ _).trans (wp_mono _ _ _ fun r => ?_)))
  iintro ⟨⟨%hr, H⟩, Hr⟩
  isplitr
  · ipureintro; exact hr
  · iapply Hr $$ H

theorem runs_store_8 {c : Dev nD} {A : Args} {s : St F} (off size : Fin (S1x16x256).rank → ℕ) (inb w hx hm) :
    Runs c A (Prog.lift (.store A.arg8 (Rect.unit (s := S1x16x256) off size inb) w Finset.univ hx hm)) s ⟨⟩ {s with a8 := put s.a8 off size w} := by
  unfold Runs
  refine (own_8 c A s).trans ((BI.sep_mono_l (own_store c A.arg8 off size inb w hx hm s.a8)).trans
    ((wp_frame_r _ _ _).trans (wp_mono _ _ _ fun r => ?_)))
  iintro ⟨⟨%hr, H⟩, Hr⟩
  isplitr
  · ipureintro; exact hr
  · iapply Hr $$ H

theorem runs_load_9 {c : Dev nD} {A : Args} {s : St F} (off size : Fin (S1x16x256x256).rank → ℕ) (inb hl) :
    Runs c A (Prog.lift (.load A.arg9 (Rect.unit (s := S1x16x256x256) off size inb).toLoadRect hl)) s (window s.a9 off size inb) s := by
  unfold Runs
  refine (own_9 c A s).trans ((BI.sep_mono_l (own_load c A.arg9 off size inb hl s.a9)).trans
    ((wp_frame_r _ _ _).trans (wp_mono _ _ _ fun r => ?_)))
  iintro ⟨⟨%hr, H⟩, Hr⟩
  isplitr
  · ipureintro; exact hr
  · iapply Hr $$ H

theorem runs_store_9 {c : Dev nD} {A : Args} {s : St F} (off size : Fin (S1x16x256x256).rank → ℕ) (inb w hx hm) :
    Runs c A (Prog.lift (.store A.arg9 (Rect.unit (s := S1x16x256x256) off size inb) w Finset.univ hx hm)) s ⟨⟩ {s with a9 := put s.a9 off size w} := by
  unfold Runs
  refine (own_9 c A s).trans ((BI.sep_mono_l (own_store c A.arg9 off size inb w hx hm s.a9)).trans
    ((wp_frame_r _ _ _).trans (wp_mono _ _ _ fun r => ?_)))
  iintro ⟨⟨%hr, H⟩, Hr⟩
  isplitr
  · ipureintro; exact hr
  · iapply Hr $$ H

theorem runs_load_10 {c : Dev nD} {A : Args} {s : St F} (off size : Fin (S1x8x256x256).rank → ℕ) (inb hl) :
    Runs c A (Prog.lift (.load A.arg10 (Rect.unit (s := S1x8x256x256) off size inb).toLoadRect hl)) s (window s.a10 off size inb) s := by
  unfold Runs
  refine (own_10 c A s).trans ((BI.sep_mono_l (own_load c A.arg10 off size inb hl s.a10)).trans
    ((wp_frame_r _ _ _).trans (wp_mono _ _ _ fun r => ?_)))
  iintro ⟨⟨%hr, H⟩, Hr⟩
  isplitr
  · ipureintro; exact hr
  · iapply Hr $$ H

theorem runs_store_10 {c : Dev nD} {A : Args} {s : St F} (off size : Fin (S1x8x256x256).rank → ℕ) (inb w hx hm) :
    Runs c A (Prog.lift (.store A.arg10 (Rect.unit (s := S1x8x256x256) off size inb) w Finset.univ hx hm)) s ⟨⟩ {s with a10 := put s.a10 off size w} := by
  unfold Runs
  refine (own_10 c A s).trans ((BI.sep_mono_l (own_store c A.arg10 off size inb w hx hm s.a10)).trans
    ((wp_frame_r _ _ _).trans (wp_mono _ _ _ fun r => ?_)))
  iintro ⟨⟨%hr, H⟩, Hr⟩
  isplitr
  · ipureintro; exact hr
  · iapply Hr $$ H

theorem runs_load_11 {c : Dev nD} {A : Args} {s : St F} (off size : Fin (S1x8x256x256).rank → ℕ) (inb hl) :
    Runs c A (Prog.lift (.load A.arg11 (Rect.unit (s := S1x8x256x256) off size inb).toLoadRect hl)) s (window s.a11 off size inb) s := by
  unfold Runs
  refine (own_11 c A s).trans ((BI.sep_mono_l (own_load c A.arg11 off size inb hl s.a11)).trans
    ((wp_frame_r _ _ _).trans (wp_mono _ _ _ fun r => ?_)))
  iintro ⟨⟨%hr, H⟩, Hr⟩
  isplitr
  · ipureintro; exact hr
  · iapply Hr $$ H

theorem runs_store_11 {c : Dev nD} {A : Args} {s : St F} (off size : Fin (S1x8x256x256).rank → ℕ) (inb w hx hm) :
    Runs c A (Prog.lift (.store A.arg11 (Rect.unit (s := S1x8x256x256) off size inb) w Finset.univ hx hm)) s ⟨⟩ {s with a11 := put s.a11 off size w} := by
  unfold Runs
  refine (own_11 c A s).trans ((BI.sep_mono_l (own_store c A.arg11 off size inb w hx hm s.a11)).trans
    ((wp_frame_r _ _ _).trans (wp_mono _ _ _ fun r => ?_)))
  iintro ⟨⟨%hr, H⟩, Hr⟩
  isplitr
  · ipureintro; exact hr
  · iapply Hr $$ H

theorem runs_load_12 {c : Dev nD} {A : Args} {s : St F} (off size : Fin (S5x16x256x256).rank → ℕ) (inb hl) :
    Runs c A (Prog.lift (.load A.arg12 (Rect.unit (s := S5x16x256x256) off size inb).toLoadRect hl)) s (window s.a12 off size inb) s := by
  unfold Runs
  refine (own_12 c A s).trans ((BI.sep_mono_l (own_load c A.arg12 off size inb hl s.a12)).trans
    ((wp_frame_r _ _ _).trans (wp_mono _ _ _ fun r => ?_)))
  iintro ⟨⟨%hr, H⟩, Hr⟩
  isplitr
  · ipureintro; exact hr
  · iapply Hr $$ H

theorem runs_store_12 {c : Dev nD} {A : Args} {s : St F} (off size : Fin (S5x16x256x256).rank → ℕ) (inb w hx hm) :
    Runs c A (Prog.lift (.store A.arg12 (Rect.unit (s := S5x16x256x256) off size inb) w Finset.univ hx hm)) s ⟨⟩ {s with a12 := put s.a12 off size w} := by
  unfold Runs
  refine (own_12 c A s).trans ((BI.sep_mono_l (own_store c A.arg12 off size inb w hx hm s.a12)).trans
    ((wp_frame_r _ _ _).trans (wp_mono _ _ _ fun r => ?_)))
  iintro ⟨⟨%hr, H⟩, Hr⟩
  isplitr
  · ipureintro; exact hr
  · iapply Hr $$ H

theorem runs_load_13 {c : Dev nD} {A : Args} {s : St F} (off size : Fin (S5x16x256x256).rank → ℕ) (inb hl) :
    Runs c A (Prog.lift (.load A.arg13 (Rect.unit (s := S5x16x256x256) off size inb).toLoadRect hl)) s (window s.a13 off size inb) s := by
  unfold Runs
  refine (own_13 c A s).trans ((BI.sep_mono_l (own_load c A.arg13 off size inb hl s.a13)).trans
    ((wp_frame_r _ _ _).trans (wp_mono _ _ _ fun r => ?_)))
  iintro ⟨⟨%hr, H⟩, Hr⟩
  isplitr
  · ipureintro; exact hr
  · iapply Hr $$ H

theorem runs_store_13 {c : Dev nD} {A : Args} {s : St F} (off size : Fin (S5x16x256x256).rank → ℕ) (inb w hx hm) :
    Runs c A (Prog.lift (.store A.arg13 (Rect.unit (s := S5x16x256x256) off size inb) w Finset.univ hx hm)) s ⟨⟩ {s with a13 := put s.a13 off size w} := by
  unfold Runs
  refine (own_13 c A s).trans ((BI.sep_mono_l (own_store c A.arg13 off size inb w hx hm s.a13)).trans
    ((wp_frame_r _ _ _).trans (wp_mono _ _ _ fun r => ?_)))
  iintro ⟨⟨%hr, H⟩, Hr⟩
  isplitr
  · ipureintro; exact hr
  · iapply Hr $$ H

theorem runs_load_14 {c : Dev nD} {A : Args} {s : St F} (off size : Fin (S5x16x256).rank → ℕ) (inb hl) :
    Runs c A (Prog.lift (.load A.arg14 (Rect.unit (s := S5x16x256) off size inb).toLoadRect hl)) s (window s.a14 off size inb) s := by
  unfold Runs
  refine (own_14 c A s).trans ((BI.sep_mono_l (own_load c A.arg14 off size inb hl s.a14)).trans
    ((wp_frame_r _ _ _).trans (wp_mono _ _ _ fun r => ?_)))
  iintro ⟨⟨%hr, H⟩, Hr⟩
  isplitr
  · ipureintro; exact hr
  · iapply Hr $$ H

theorem runs_store_14 {c : Dev nD} {A : Args} {s : St F} (off size : Fin (S5x16x256).rank → ℕ) (inb w hx hm) :
    Runs c A (Prog.lift (.store A.arg14 (Rect.unit (s := S5x16x256) off size inb) w Finset.univ hx hm)) s ⟨⟩ {s with a14 := put s.a14 off size w} := by
  unfold Runs
  refine (own_14 c A s).trans ((BI.sep_mono_l (own_store c A.arg14 off size inb w hx hm s.a14)).trans
    ((wp_frame_r _ _ _).trans (wp_mono _ _ _ fun r => ?_)))
  iintro ⟨⟨%hr, H⟩, Hr⟩
  isplitr
  · ipureintro; exact hr
  · iapply Hr $$ H

theorem runs_load_15 {c : Dev nD} {A : Args} {s : St F} (off size : Fin (S5x16x256).rank → ℕ) (inb hl) :
    Runs c A (Prog.lift (.load A.arg15 (Rect.unit (s := S5x16x256) off size inb).toLoadRect hl)) s (window s.a15 off size inb) s := by
  unfold Runs
  refine (own_15 c A s).trans ((BI.sep_mono_l (own_load c A.arg15 off size inb hl s.a15)).trans
    ((wp_frame_r _ _ _).trans (wp_mono _ _ _ fun r => ?_)))
  iintro ⟨⟨%hr, H⟩, Hr⟩
  isplitr
  · ipureintro; exact hr
  · iapply Hr $$ H

theorem runs_store_15 {c : Dev nD} {A : Args} {s : St F} (off size : Fin (S5x16x256).rank → ℕ) (inb w hx hm) :
    Runs c A (Prog.lift (.store A.arg15 (Rect.unit (s := S5x16x256) off size inb) w Finset.univ hx hm)) s ⟨⟩ {s with a15 := put s.a15 off size w} := by
  unfold Runs
  refine (own_15 c A s).trans ((BI.sep_mono_l (own_store c A.arg15 off size inb w hx hm s.a15)).trans
    ((wp_frame_r _ _ _).trans (wp_mono _ _ _ fun r => ?_)))
  iintro ⟨⟨%hr, H⟩, Hr⟩
  isplitr
  · ipureintro; exact hr
  · iapply Hr $$ H

theorem runs_load_16 {c : Dev nD} {A : Args} {s : St F} (off size : Fin (S5x16x256x256).rank → ℕ) (inb hl) :
    Runs c A (Prog.lift (.load A.arg16 (Rect.unit (s := S5x16x256x256) off size inb).toLoadRect hl)) s (window s.a16 off size inb) s := by
  unfold Runs
  refine (own_16 c A s).trans ((BI.sep_mono_l (own_load c A.arg16 off size inb hl s.a16)).trans
    ((wp_frame_r _ _ _).trans (wp_mono _ _ _ fun r => ?_)))
  iintro ⟨⟨%hr, H⟩, Hr⟩
  isplitr
  · ipureintro; exact hr
  · iapply Hr $$ H

theorem runs_store_16 {c : Dev nD} {A : Args} {s : St F} (off size : Fin (S5x16x256x256).rank → ℕ) (inb w hx hm) :
    Runs c A (Prog.lift (.store A.arg16 (Rect.unit (s := S5x16x256x256) off size inb) w Finset.univ hx hm)) s ⟨⟩ {s with a16 := put s.a16 off size w} := by
  unfold Runs
  refine (own_16 c A s).trans ((BI.sep_mono_l (own_store c A.arg16 off size inb w hx hm s.a16)).trans
    ((wp_frame_r _ _ _).trans (wp_mono _ _ _ fun r => ?_)))
  iintro ⟨⟨%hr, H⟩, Hr⟩
  isplitr
  · ipureintro; exact hr
  · iapply Hr $$ H

theorem runs_load_17 {c : Dev nD} {A : Args} {s : St F} (off size : Fin (S256x256).rank → ℕ) (inb hl) :
    Runs c A (Prog.lift (.load A.arg17 (Rect.unit (s := S256x256) off size inb).toLoadRect hl)) s (window s.a17 off size inb) s := by
  unfold Runs
  refine (own_17 c A s).trans ((BI.sep_mono_l (own_load c A.arg17 off size inb hl s.a17)).trans
    ((wp_frame_r _ _ _).trans (wp_mono _ _ _ fun r => ?_)))
  iintro ⟨⟨%hr, H⟩, Hr⟩
  isplitr
  · ipureintro; exact hr
  · iapply Hr $$ H

theorem runs_store_17 {c : Dev nD} {A : Args} {s : St F} (off size : Fin (S256x256).rank → ℕ) (inb w hx hm) :
    Runs c A (Prog.lift (.store A.arg17 (Rect.unit (s := S256x256) off size inb) w Finset.univ hx hm)) s ⟨⟩ {s with a17 := put s.a17 off size w} := by
  unfold Runs
  refine (own_17 c A s).trans ((BI.sep_mono_l (own_store c A.arg17 off size inb w hx hm s.a17)).trans
    ((wp_frame_r _ _ _).trans (wp_mono _ _ _ fun r => ?_)))
  iintro ⟨⟨%hr, H⟩, Hr⟩
  isplitr
  · ipureintro; exact hr
  · iapply Hr $$ H

theorem runs_load_18 {c : Dev nD} {A : Args} {s : St F} (off size : Fin (S256x256).rank → ℕ) (inb hl) :
    Runs c A (Prog.lift (.load A.arg18 (Rect.unit (s := S256x256) off size inb).toLoadRect hl)) s (window s.a18 off size inb) s := by
  unfold Runs
  refine (own_18 c A s).trans ((BI.sep_mono_l (own_load c A.arg18 off size inb hl s.a18)).trans
    ((wp_frame_r _ _ _).trans (wp_mono _ _ _ fun r => ?_)))
  iintro ⟨⟨%hr, H⟩, Hr⟩
  isplitr
  · ipureintro; exact hr
  · iapply Hr $$ H

theorem runs_store_18 {c : Dev nD} {A : Args} {s : St F} (off size : Fin (S256x256).rank → ℕ) (inb w hx hm) :
    Runs c A (Prog.lift (.store A.arg18 (Rect.unit (s := S256x256) off size inb) w Finset.univ hx hm)) s ⟨⟩ {s with a18 := put s.a18 off size w} := by
  unfold Runs
  refine (own_18 c A s).trans ((BI.sep_mono_l (own_store c A.arg18 off size inb w hx hm s.a18)).trans
    ((wp_frame_r _ _ _).trans (wp_mono _ _ _ fun r => ?_)))
  iintro ⟨⟨%hr, H⟩, Hr⟩
  isplitr
  · ipureintro; exact hr
  · iapply Hr $$ H

end Cert.MainIdeal.Body

end
-- ==== Proof.MainIdealRun.lean ====
/- What the body of the pallas_call `main` (idealized) does to its operands, generated part by part from its skeleton: every loop and every
   part as a function on the operands' contents. -/
module

public import proofs.«01_k».proof.Proof.MainIdealState

@[expose] public section

set_option maxRecDepth 16384

noncomputable section

namespace Cert.MainIdeal.Body

open Cert.MainIdeal Cert.MainIdeal.Gen
open Idealize.ShloMosaic Idealize.ShloMosaic.TcCoe Idealize.ShloMosaic.Tactic
open Idealize.SL Idealize.SL.RA Idealize.SL.BI Idealize.SL.Sem
open VecWindow (window put)

variable {F : FTy → Type} [FloatOps F] [Named F]

/-- The scalar read from the table of scales. -/
def smem (x : Vec F S5x16 .f32) (off : Fin (S5x16).rank → ℕ) (inb : ∀ a, off a + S1x1.size a ≤ S5x16.size a) : Elt F .f32 :=
  window x off S1x1.size inb (Shape.Idx.first (numel1_S1x1.symm ▸ Nat.one_pos))

/-- A trip function iterated over the trips of a loop. -/
def iter {N : ℕ} (f : Fin N → St F → St F) (s : St F) : ℕ → St F
  | 0 => s
  | n + 1 => if h : n < N then f ⟨n, h⟩ (iter f s n) else iter f s n

/-- A loop's state is its trip function iterated. -/
theorem runs_iter {c : Dev nD} {A : Args} (lp : Scf.Loop 32) (hok : lp.OK) (body : Fin lp.trips → Unit → Prog (TpuEff nD τ sig (Elt F) Λ₀ .tc) Unit)
    (f : Fin lp.trips → St F → St F) (h : ∀ k s, Runs c A (body k ⟨⟩) s ⟨⟩ (f k s)) (s : St F) :
    Runs c A (Scf.Loop.for lp hok ⟨⟩ body) s ⟨⟩ (iter f s lp.trips) := by
  refine runs_for lp hok body (iter f s) fun k => ?_
  have e : iter f s (k.val + 1) = f k (iter f s k.val) := by
    rw [iter, dif_pos k.isLt]
  rw [e]
  exact h k _

/-- A conditional whose two branches run to one continuation `T` of the state. -/
theorem runs_dite {c : Dev nD} {A : Args} {α : Type} {b : Prop} [Decidable b] {p : b → Prog (TpuEff nD τ sig (Elt F) Λ₀ .tc) α}
    {q : ¬b → Prog (TpuEff nD τ sig (Elt F) Λ₀ .tc) α} {s : St F} {a : α} (T : St F → St F) (s1 : b → St F) (s2 : ¬b → St F)
    (hp : ∀ h, Runs c A (p h) s a (T (s1 h))) (hq : ∀ h, Runs c A (q h) s a (T (s2 h))) :
    Runs c A (if h : b then p h else q h) s a (T (if h : b then s1 h else s2 h)) := by
  by_cases h : b
  · rw [dif_pos h, dif_pos h]; exact hp h
  · rw [dif_neg h, dif_neg h]; exact hq h

/-- Trip of loop 1: what it stores. -/
def t1St (i : grid0.Coords) (k0_h1 : k0_cond1 i = 1#1) (k0_t1 : Fin k0_t1_loop.trips) (s : St F) : St F :=
  {s with a12 := (put s.a12 ((k0_off1 k0_t1)) S1x1x256x256.size ((k0_pay10 (F := F)))), a13 := (put s.a13 ((k0_off1 k0_t1)) S1x1x256x256.size ((k0_pay11 (F := F))))}

theorem run_t1 (c : Dev nD) (A : Args) (i : grid0.Coords) (k0_h1 : k0_cond1 i = 1#1)  (k0_t1 : Fin k0_t1_loop.trips) (s : St F) :
    Runs c A (k0_t1_body (F := F) i A.arg2 A.harg2 A.arg3 A.harg3 A.arg4 A.harg4 A.arg5 A.harg5 A.arg6 A.harg6 A.arg7 A.harg7 A.arg8 A.harg8 A.arg9 A.harg9 A.arg10 A.harg10 A.arg11 A.harg11 A.arg12 A.harg12 A.arg13 A.harg13 A.arg14 A.harg14 A.arg15 A.harg15 A.arg16 A.harg16 A.arg17 A.harg17 A.arg18 A.harg18 k0_h1  k0_t1 ⟨⟩) s ⟨⟩ (t1St i k0_h1 k0_t1 s) := by
  unfold k0_t1_body
  refine runs_bind (runs_load_12 _ _ _ _) ?_
  refine runs_bind (runs_store_12 _ _ _ _ _ _) ?_
  refine runs_bind (runs_load_13 _ _ _ _) ?_
  refine runs_bind (runs_store_13 _ _ _ _ _ _) ?_
  exact runs_pure _ _ _ _

/-- Trip of loop 2: what it stores. -/
def t2St (i : grid0.Coords) (k0_h1 : k0_cond1 i = 1#1) (k0_t2 : Fin k0_t2_loop.trips) (s : St F) : St F :=
  {s with a12 := (put s.a12 ((k0_off2 k0_t2)) S1x1x256x256.size ((k0_pay14 (F := F)))), a13 := (put s.a13 ((k0_off2 k0_t2)) S1x1x256x256.size ((k0_pay15 (F := F))))}

theorem run_t2 (c : Dev nD) (A : Args) (i : grid0.Coords) (k0_h1 : k0_cond1 i = 1#1)  (k0_t2 : Fin k0_t2_loop.trips) (s : St F) :
    Runs c A (k0_t2_body (F := F) i A.arg2 A.harg2 A.arg3 A.harg3 A.arg4 A.harg4 A.arg5 A.harg5 A.arg6 A.harg6 A.arg7 A.harg7 A.arg8 A.harg8 A.arg9 A.harg9 A.arg10 A.harg10 A.arg11 A.harg11 A.arg12 A.harg12 A.arg13 A.harg13 A.arg14 A.harg14 A.arg15 A.harg15 A.arg16 A.harg16 A.arg17 A.harg17 A.arg18 A.harg18 k0_h1  k0_t2 ⟨⟩) s ⟨⟩ (t2St i k0_h1 k0_t2 s) := by
  unfold k0_t2_body
  refine runs_bind (runs_load_12 _ _ _ _) ?_
  refine runs_bind (runs_store_12 _ _ _ _ _ _) ?_
  refine runs_bind (runs_load_13 _ _ _ _) ?_
  refine runs_bind (runs_store_13 _ _ _ _ _ _) ?_
  exact runs_pure _ _ _ _

/-- Trip of loop 3: what it stores. -/
def t3St (i : grid0.Coords) (k0_h1 : k0_cond1 i = 1#1) (k0_t3 : Fin k0_t3_loop.trips) (s : St F) : St F :=
  {s with a12 := (put s.a12 ((k0_off3 k0_t3)) S1x1x256x256.size ((k0_pay18 (F := F)))), a13 := (put s.a13 ((k0_off3 k0_t3)) S1x1x256x256.size ((k0_pay19 (F := F))))}

theorem run_t3 (c : Dev nD) (A : Args) (i : grid0.Coords) (k0_h1 : k0_cond1 i = 1#1)  (k0_t3 : Fin k0_t3_loop.trips) (s : St F) :
    Runs c A (k0_t3_body (F := F) i A.arg2 A.harg2 A.arg3 A.harg3 A.arg4 A.harg4 A.arg5 A.harg5 A.arg6 A.harg6 A.arg7 A.harg7 A.arg8 A.harg8 A.arg9 A.harg9 A.arg10 A.harg10 A.arg11 A.harg11 A.arg12 A.harg12 A.arg13 A.harg13 A.arg14 A.harg14 A.arg15 A.harg15 A.arg16 A.harg16 A.arg17 A.harg17 A.arg18 A.harg18 k0_h1  k0_t3 ⟨⟩) s ⟨⟩ (t3St i k0_h1 k0_t3 s) := by
  unfold k0_t3_body
  refine runs_bind (runs_load_12 _ _ _ _) ?_
  refine runs_bind (runs_store_12 _ _ _ _ _ _) ?_
  refine runs_bind (runs_load_13 _ _ _ _) ?_
  refine runs_bind (runs_store_13 _ _ _ _ _ _) ?_
  exact runs_pure _ _ _ _

/-- Trip of loop 4: what it stores. -/
def t4St (i : grid0.Coords) (k0_h1 : k0_cond1 i = 1#1) (k0_t4 : Fin k0_t4_loop.trips) (s : St F) : St F :=
  {s with a12 := (put s.a12 ((k0_off4 k0_t4)) S1x1x256x256.size ((k0_pay23 (F := F)))), a13 := (put s.a13 ((k0_off4 k0_t4)) S1x1x256x256.size ((k0_pay24 (F := F))))}

theorem run_t4 (c : Dev nD) (A : Args) (i : grid0.Coords) (k0_h1 : k0_cond1 i = 1#1) (v29 : FVec F S16x256 .f32) (v30 : Vec F S1x16x256 .f32) (k0_t4 : Fin k0_t4_loop.trips) (s : St F) :
    Runs c A (k0_t4_body (F := F) i A.arg2 A.harg2 A.arg3 A.harg3 A.arg4 A.harg4 A.arg5 A.harg5 A.arg6 A.harg6 A.arg7 A.harg7 A.arg8 A.harg8 A.arg9 A.harg9 A.arg10 A.harg10 A.arg11 A.harg11 A.arg12 A.harg12 A.arg13 A.harg13 A.arg14 A.harg14 A.arg15 A.harg15 A.arg16 A.harg16 A.arg17 A.harg17 A.arg18 A.harg18 k0_h1 v29 v30 k0_t4 ⟨⟩) s ⟨⟩ (t4St i k0_h1 k0_t4 s) := by
  unfold k0_t4_body
  refine runs_bind (runs_load_12 _ _ _ _) ?_
  refine runs_bind (runs_store_12 _ _ _ _ _ _) ?_
  refine runs_bind (runs_load_13 _ _ _ _) ?_
  refine runs_bind (runs_store_13 _ _ _ _ _ _) ?_
  exact runs_pure _ _ _ _

/-- Trip of loop 5: what it stores. -/
def t5St (i : grid0.Coords) (k0_h1 : k0_cond1 i = 1#1) (k0_t5 : Fin k0_t5_loop.trips) (s : St F) : St F :=
  {s with a12 := (put s.a12 ((k0_off5 k0_t5)) S1x1x256x256.size ((k0_pay27 (F := F)))), a13 := (put s.a13 ((k0_off5 k0_t5)) S1x1x256x256.size ((k0_pay28 (F := F))))}

theorem run_t5 (c : Dev nD) (A : Args) (i : grid0.Coords) (k0_h1 : k0_cond1 i = 1#1) (v29 : FVec F S16x256 .f32) (v30 : Vec F S1x16x256 .f32) (k0_t5 : Fin k0_t5_loop.trips) (s : St F) :
    Runs c A (k0_t5_body (F := F) i A.arg2 A.harg2 A.arg3 A.harg3 A.arg4 A.harg4 A.arg5 A.harg5 A.arg6 A.harg6 A.arg7 A.harg7 A.arg8 A.harg8 A.arg9 A.harg9 A.arg10 A.harg10 A.arg11 A.harg11 A.arg12 A.harg12 A.arg13 A.harg13 A.arg14 A.harg14 A.arg15 A.harg15 A.arg16 A.harg16 A.arg17 A.harg17 A.arg18 A.harg18 k0_h1 v29 v30 k0_t5 ⟨⟩) s ⟨⟩ (t5St i k0_h1 k0_t5 s) := by
  unfold k0_t5_body
  refine runs_bind (runs_load_12 _ _ _ _) ?_
  refine runs_bind (runs_store_12 _ _ _ _ _ _) ?_
  refine runs_bind (runs_load_13 _ _ _ _) ?_
  refine runs_bind (runs_store_13 _ _ _ _ _ _) ?_
  exact runs_pure _ _ _ _

/-- Trip of loop 6: what it stores. -/
def t6St (i : grid0.Coords) (k0_h2 : k0_cond2 i = 1#1) (k0_t6 : Fin k0_t6_loop.trips) (s : St F) : St F :=
  {s with a12 := (put s.a12 ((k0_off8 i k0_t6)) S1x1x256x256.size ((k0_pay3 (window s.a3 ((k0_off7 k0_t6)) S1x1x256x256.size ((k0_off7_inb i k0_t6 k0_h2)))))), a13 := (put s.a13 ((k0_off8 i k0_t6)) S1x1x256x256.size ((k0_pay4 (window s.a4 ((k0_off7 k0_t6)) S1x1x256x256.size ((k0_off7_inb i k0_t6 k0_h2))))))}

theorem run_t6 (c : Dev nD) (A : Args) (i : grid0.Coords) (k0_h2 : k0_cond2 i = 1#1)  (k0_t6 : Fin k0_t6_loop.trips) (s : St F) :
    Runs c A (k0_t6_body (F := F) i A.arg2 A.harg2 A.arg3 A.harg3 A.arg4 A.harg4 A.arg5 A.harg5 A.arg6 A.harg6 A.arg7 A.harg7 A.arg8 A.harg8 A.arg9 A.harg9 A.arg10 A.harg10 A.arg11 A.harg11 A.arg12 A.harg12 A.arg13 A.harg13 A.arg14 A.harg14 A.arg15 A.harg15 A.arg16 A.harg16 A.arg17 A.harg17 A.arg18 A.harg18 k0_h2  k0_t6 ⟨⟩) s ⟨⟩ (t6St i k0_h2 k0_t6 s) := by
  unfold k0_t6_body
  refine runs_bind (runs_load_3 _ _ _ _) ?_
  refine runs_bind (runs_load_12 _ _ _ _) ?_
  refine runs_bind (runs_store_12 _ _ _ _ _ _) ?_
  refine runs_bind (runs_load_4 _ _ _ _) ?_
  refine runs_bind (runs_load_13 _ _ _ _) ?_
  refine runs_bind (runs_store_13 _ _ _ _ _ _) ?_
  exact runs_pure _ _ _ _

/-- Trip of loop 8: what it stores. -/
def t8St (i : grid0.Coords) (k0_h5 : k0_cond5 i = 1#1) (k0_t8 : Fin k0_t8_loop.trips) (s : St F) : St F :=
  {s with a9 := (put s.a9 ((k0_off19 k0_t8)) S1x1x256x256.size ((k0_pay9 (window s.a16 ((k0_off17 i k0_t8)) S1x1x256x256.size ((k0_off17_inb i k0_t8 k0_h5))) (smem s.a2 ((k0_off18 k0_t8)) ((k0_off18_inb i k0_t8 k0_h5))))))}

theorem run_t8 (c : Dev nD) (A : Args) (i : grid0.Coords) (k0_h5 : k0_cond5 i = 1#1)  (k0_t8 : Fin k0_t8_loop.trips) (s : St F) :
    Runs c A (k0_t8_body (F := F) i A.arg2 A.harg2 A.arg3 A.harg3 A.arg4 A.harg4 A.arg5 A.harg5 A.arg6 A.harg6 A.arg7 A.harg7 A.arg8 A.harg8 A.arg9 A.harg9 A.arg10 A.harg10 A.arg11 A.harg11 A.arg12 A.harg12 A.arg13 A.harg13 A.arg14 A.harg14 A.arg15 A.harg15 A.arg16 A.harg16 A.arg17 A.harg17 A.arg18 A.harg18 k0_h5  k0_t8 ⟨⟩) s ⟨⟩ (t8St i k0_h5 k0_t8 s) := by
  unfold k0_t8_body
  refine runs_bind (runs_load_16 _ _ _ _) ?_
  refine runs_bind (runs_smem _ _ _ _ _) ?_
  refine runs_bind (runs_load_9 _ _ _ _) ?_
  refine runs_bind (runs_store_9 _ _ _ _ _ _) ?_
  exact runs_pure _ _ _ _

/-- The first part of clearing the ring. -/
def part1St (i : grid0.Coords) (k0_h1 : k0_cond1 i = 1#1) (s : St F) : St F :=
  let s1 : St F := iter (t1St i k0_h1) s k0_t1_loop.trips
  let s2 : St F := {s1 with a14 := put s1.a14 (![0, 0, 0]) S1x16x256.size ((k0_pay12 (F := F)))}
  let s3 : St F := {s2 with a15 := put s2.a15 (![0, 0, 0]) S1x16x256.size ((k0_pay13 (F := F)))}
  let s4 : St F := iter (t2St i k0_h1) s3 k0_t2_loop.trips
  let s5 : St F := {s4 with a14 := put s4.a14 (![1, 0, 0]) S1x16x256.size ((k0_pay16 (F := F)))}
  let s6 : St F := {s5 with a15 := put s5.a15 (![1, 0, 0]) S1x16x256.size ((k0_pay17 (F := F)))}
  let s7 : St F := iter (t3St i k0_h1) s6 k0_t3_loop.trips
  s7

theorem run_part1 (c : Dev nD) (A : Args) (i : grid0.Coords) (k0_h1 : k0_cond1 i = 1#1) (s : St F) :
    Runs c A (k0_part1 (F := F) i A.arg2 A.harg2 A.arg3 A.harg3 A.arg4 A.harg4 A.arg5 A.harg5 A.arg6 A.harg6 A.arg7 A.harg7 A.arg8 A.harg8 A.arg9 A.harg9 A.arg10 A.harg10 A.arg11 A.harg11 A.arg12 A.harg12 A.arg13 A.harg13 A.arg14 A.harg14 A.arg15 A.harg15 A.arg16 A.harg16 A.arg17 A.harg17 A.arg18 A.harg18 k0_h1) s ⟨k0_pay20 (F := F), window (part1St i k0_h1 s).a14 ![2, 0, 0] S1x16x256.size inb_S5x16x256_S1x16x256_2_0_0⟩ (part1St i k0_h1 s) := by
  rw [k0_part1_eq_skeleton]
  unfold k0_part1_skel
  refine runs_bind (runs_iter k0_t1_loop _ _ _ (fun k s => run_t1 c A i k0_h1 k s) _) ?_
  refine runs_bind (runs_load_14 _ _ _ _) ?_
  refine runs_bind (runs_store_14 _ _ _ _ _ _) ?_
  refine runs_bind (runs_load_15 _ _ _ _) ?_
  refine runs_bind (runs_store_15 _ _ _ _ _ _) ?_
  refine runs_bind (runs_iter k0_t2_loop _ _ _ (fun k s => run_t2 c A i k0_h1 k s) _) ?_
  refine runs_bind (runs_load_14 _ _ _ _) ?_
  refine runs_bind (runs_store_14 _ _ _ _ _ _) ?_
  refine runs_bind (runs_load_15 _ _ _ _) ?_
  refine runs_bind (runs_store_15 _ _ _ _ _ _) ?_
  refine runs_bind (runs_iter k0_t3_loop _ _ _ (fun k s => run_t3 c A i k0_h1 k s) _) ?_
  refine runs_bind (runs_load_14 _ _ _ _) ?_
  exact runs_pure _ _ _ _

/-- The second part of clearing the ring. -/
def part2St (i : grid0.Coords) (k0_h1 : k0_cond1 i = 1#1) (v29 : FVec F S16x256 .f32) (s : St F) : St F :=
  let s1 : St F := {s with a14 := put s.a14 (![2, 0, 0]) S1x16x256.size ((k0_pay21 v29))}
  let s2 : St F := {s1 with a15 := put s1.a15 (![2, 0, 0]) S1x16x256.size ((k0_pay22 (F := F)))}
  let s3 : St F := iter (t4St i k0_h1) s2 k0_t4_loop.trips
  let s4 : St F := {s3 with a14 := put s3.a14 (![3, 0, 0]) S1x16x256.size ((k0_pay25 (F := F)))}
  let s5 : St F := {s4 with a15 := put s4.a15 (![3, 0, 0]) S1x16x256.size ((k0_pay26 (F := F)))}
  let s6 : St F := iter (t5St i k0_h1) s5 k0_t5_loop.trips
  let s7 : St F := {s6 with a14 := put s6.a14 (![4, 0, 0]) S1x16x256.size ((k0_pay29 (F := F)))}
  let s8 : St F := {s7 with a15 := put s7.a15 (![4, 0, 0]) S1x16x256.size ((k0_pay30 (F := F)))}
  s8

theorem run_part2 (c : Dev nD) (A : Args) (i : grid0.Coords) (k0_h1 : k0_cond1 i = 1#1) (v29 : FVec F S16x256 .f32) (v30 : Vec F S1x16x256 .f32) (s : St F) :
    Runs c A (k0_part2 (F := F) i A.arg2 A.harg2 A.arg3 A.harg3 A.arg4 A.harg4 A.arg5 A.harg5 A.arg6 A.harg6 A.arg7 A.harg7 A.arg8 A.harg8 A.arg9 A.harg9 A.arg10 A.harg10 A.arg11 A.harg11 A.arg12 A.harg12 A.arg13 A.harg13 A.arg14 A.harg14 A.arg15 A.harg15 A.arg16 A.harg16 A.arg17 A.harg17 A.arg18 A.harg18 k0_h1 v29 v30) s ⟨⟩ (part2St i k0_h1 v29 s) := by
  rw [k0_part2_eq_skeleton]
  unfold k0_part2_skel
  refine runs_bind (runs_store_14 _ _ _ _ _ _) ?_
  refine runs_bind (runs_load_15 _ _ _ _) ?_
  refine runs_bind (runs_store_15 _ _ _ _ _ _) ?_
  refine runs_bind (runs_iter k0_t4_loop _ _ _ (fun k s => run_t4 c A i k0_h1 _ _ k s) _) ?_
  refine runs_bind (runs_load_14 _ _ _ _) ?_
  refine runs_bind (runs_store_14 _ _ _ _ _ _) ?_
  refine runs_bind (runs_load_15 _ _ _ _) ?_
  refine runs_bind (runs_store_15 _ _ _ _ _ _) ?_
  refine runs_bind (runs_iter k0_t5_loop _ _ _ (fun k s => run_t5 c A i k0_h1 _ _ k s) _) ?_
  refine runs_bind (runs_load_14 _ _ _ _) ?_
  refine runs_bind (runs_store_14 _ _ _ _ _ _) ?_
  refine runs_bind (runs_load_15 _ _ _ _) ?_
  refine runs_bind (runs_store_15 _ _ _ _ _ _) ?_
  exact runs_pure _ _ _ _

theorem run_part3 (c : Dev nD) (A : Args) (i : grid0.Coords) (v0 : BitVec 32) (k0_h2 : k0_cond2 i = 1#1) (c0_i32_14 : BitVec 32) (c1_i32_16 : BitVec 32) (k0_t7 : Fin k0_t7_loop.trips) (s : St F) :
    Runs c A (k0_part3 (F := F) i A.arg2 A.harg2 A.arg3 A.harg3 A.arg4 A.harg4 A.arg5 A.harg5 A.arg6 A.harg6 A.arg7 A.harg7 A.arg8 A.harg8 A.arg9 A.harg9 A.arg10 A.harg10 A.arg11 A.harg11 A.arg12 A.harg12 A.arg13 A.harg13 A.arg14 A.harg14 A.arg15 A.harg15 A.arg16 A.harg16 A.arg17 A.harg17 A.arg18 A.harg18 v0 k0_h2 c0_i32_14 c1_i32_16 k0_t7) s
      ⟨(Scf.iv c0_i32_14 c1_i32_16 k0_t7), (Scalar.divsi (Scf.iv c0_i32_14 c1_i32_16 k0_t7) 2#32), k0_pay31 (smem s.a2 ((k0_off9 k0_t7)) ((k0_off9_inb i k0_t7 k0_h2))), (smem s.a2 ((k0_off10 k0_t7)) ((k0_off10_inb i k0_t7 k0_h2))), k0_pay32 (window s.a5 ((k0_off11 k0_t7)) S1x1x256x256.size ((k0_off11_inb i k0_t7 k0_h2))), k0_pay33 (window s.a6 ((k0_off11 k0_t7)) S1x1x256x256.size ((k0_off11_inb i k0_t7 k0_h2))), k0_pay34 (window s.a5 ((k0_off11 k0_t7)) S1x1x256x256.size ((k0_off11_inb i k0_t7 k0_h2))), (Scalar.remsi (Scalar.addi v0 0#32) 5#32), k0_pay35 (window s.a12 ((k0_off12 i k0_t7 0#32)) S1x1x256x256.size ((k0_off12_inb i k0_t7 k0_h2 0))), k0_pay36 (window s.a13 ((k0_off12 i k0_t7 0#32)) S1x1x256x256.size ((k0_off12_inb i k0_t7 k0_h2 0))), k0_pay37 (window s.a15 ((k0_off13 i k0_t7 0#32)) S1x1x256.size ((k0_off13_inb i k0_t7 k0_h2 0))), k0_pay38 (smem s.a2 ((k0_off9 k0_t7)) ((k0_off9_inb i k0_t7 k0_h2))) (window s.a5 ((k0_off11 k0_t7)) S1x1x256x256.size ((k0_off11_inb i k0_t7 k0_h2))) (window s.a12 ((k0_off12 i k0_t7 0#32)) S1x1x256x256.size ((k0_off12_inb i k0_t7 k0_h2 0))), k0_pay39 (smem s.a2 ((k0_off9 k0_t7)) ((k0_off9_inb i k0_t7 k0_h2))) (window s.a5 ((k0_off11 k0_t7)) S1x1x256x256.size ((k0_off11_inb i k0_t7 k0_h2))) (window s.a12 ((k0_off12 i k0_t7 0#32)) S1x1x256x256.size ((k0_off12_inb i k0_t7 k0_h2 0))), k0_pay40 (window s.a14 ((k0_off13 i k0_t7 0#32)) S1x1x256.size ((k0_off13_inb i k0_t7 k0_h2 0)))⟩
      s := by
  rw [k0_part3_eq_skeleton]
  unfold k0_part3_skel
  refine runs_bind (runs_smem _ _ _ _ _) ?_
  refine runs_bind (runs_smem _ _ _ _ _) ?_
  refine runs_bind (runs_load_5 _ _ _ _) ?_
  refine runs_bind (runs_load_6 _ _ _ _) ?_
  refine runs_bind (runs_load_12 _ _ _ _) ?_
  refine runs_bind (runs_load_13 _ _ _ _) ?_
  refine runs_bind (runs_load_14 _ _ _ _) ?_
  refine runs_bind (runs_load_15 _ _ _ _) ?_
  exact runs_pure _ _ _ _

theorem run_part4 (c : Dev nD) (A : Args) (i : grid0.Coords) (v0 : BitVec 32) (k0_h2 : k0_cond2 i = 1#1) (v26 : IVec S256x256 32) (v27 : IVec S256x256 32) (k0_t7 : Fin k0_t7_loop.trips) (arg19 : BitVec 32) (v34 : Elt F .f32) (v40 : FVec F S256x256 .fp8e4m3) (v42 : FVec F S256x256 .bf16) (v44 : BitVec 32) (v48 : FVec F S256x256 .fp8e4m3) (v52 : FVec F S256x256 .fp8e5m2) (v60 : FVec F S1x256 .f32) (v64 : FVec F S256x256 .f32) (v66 : FVec F S256x256 .f32) (v67 : FVec F S256x256 .f32) (s : St F) :
    Runs c A (k0_part4 (F := F) i A.arg2 A.harg2 A.arg3 A.harg3 A.arg4 A.harg4 A.arg5 A.harg5 A.arg6 A.harg6 A.arg7 A.harg7 A.arg8 A.harg8 A.arg9 A.harg9 A.arg10 A.harg10 A.arg11 A.harg11 A.arg12 A.harg12 A.arg13 A.harg13 A.arg14 A.harg14 A.arg15 A.harg15 A.arg16 A.harg16 A.arg17 A.harg17 A.arg18 A.harg18 v0 k0_h2 v26 v27 k0_t7 arg19 v34 v40 v42 v44 v48 v52 v60 v64 v66 v67) s
      ⟨k0_pay43 v26 v27 v52 v66 v67, k0_pay44 v26 v27 v34 v40 v48 v52 v60 v64 v66 v67, (Scalar.remsi (Scalar.addi v0 1#32) 5#32), k0_pay46 (window s.a12 ((k0_off12 i k0_t7 1#32)) S1x1x256x256.size ((k0_off12_inb i k0_t7 k0_h2 1))), k0_pay47 (window s.a13 ((k0_off12 i k0_t7 1#32)) S1x1x256x256.size ((k0_off12_inb i k0_t7 k0_h2 1))), k0_pay48 (window s.a14 ((k0_off13 i k0_t7 1#32)) S1x1x256.size ((k0_off13_inb i k0_t7 k0_h2 1)))⟩
      {s with a16 := (put s.a16 ((k0_off12 i k0_t7 0#32)) S1x1x256x256.size ((k0_pay45 v26 v27 v34 v40 v42 v52 v60 v64 v66 v67)))} := by
  rw [k0_part4_eq_skeleton]
  unfold k0_part4_skel
  refine runs_bind (runs_load_16 _ _ _ _) ?_
  refine runs_bind (runs_store_16 _ _ _ _ _ _) ?_
  refine runs_bind (runs_load_12 _ _ _ _) ?_
  refine runs_bind (runs_load_13 _ _ _ _) ?_
  refine runs_bind (runs_load_14 _ _ _ _) ?_
  exact runs_pure _ _ _ _

theorem run_part5 (c : Dev nD) (A : Args) (i : grid0.Coords) (v0 : BitVec 32) (k0_h2 : k0_cond2 i = 1#1) (k0_t7 : Fin k0_t7_loop.trips) (arg19 : BitVec 32) (v32 : F .f32) (v34 : Elt F .f32) (v37 : FVec F S256x256 .fp8e4m3) (v40 : FVec F S256x256 .fp8e4m3) (v42 : FVec F S256x256 .bf16) (v86 : FVec F S256x256 .f32) (v88 : FVec F S256x256 .f32) (v96 : BitVec 32) (v100 : FVec F S256x256 .fp8e4m3) (v104 : FVec F S256x256 .fp8e5m2) (v108 : FVec F S1x256 .f32) (s : St F) :
    Runs c A (k0_part5 (F := F) i A.arg2 A.harg2 A.arg3 A.harg3 A.arg4 A.harg4 A.arg5 A.harg5 A.arg6 A.harg6 A.arg7 A.harg7 A.arg8 A.harg8 A.arg9 A.harg9 A.arg10 A.harg10 A.arg11 A.harg11 A.arg12 A.harg12 A.arg13 A.harg13 A.arg14 A.harg14 A.arg15 A.harg15 A.arg16 A.harg16 A.arg17 A.harg17 A.arg18 A.harg18 v0 k0_h2 k0_t7 arg19 v32 v34 v37 v40 v42 v86 v88 v96 v100 v104 v108) s
      ⟨k0_pay52 v32 v34 v37 v40 v88 v100 v104 v108 (window s.a15 ((k0_off13 i k0_t7 1#32)) S1x1x256.size ((k0_off13_inb i k0_t7 k0_h2 1))), k0_pay53 v32 v37 v86 v100 v104 v108, (Scalar.remsi (Scalar.addi v0 2#32) 5#32)⟩
      {s with a16 := (put s.a16 ((k0_off12 i k0_t7 1#32)) S1x1x256x256.size ((k0_pay54 v32 v34 v37 v40 v42 v100 v104 v108 (window s.a15 ((k0_off13 i k0_t7 1#32)) S1x1x256.size ((k0_off13_inb i k0_t7 k0_h2 1))) (window s.a16 ((k0_off12 i k0_t7 1#32)) S1x1x256x256.size ((k0_off12_inb i k0_t7 k0_h2 1))))))} := by
  rw [k0_part5_eq_skeleton]
  unfold k0_part5_skel
  refine runs_bind (runs_load_15 _ _ _ _) ?_
  refine runs_bind (runs_load_16 _ _ _ _) ?_
  refine runs_bind (runs_load_16 _ _ _ _) ?_
  refine runs_bind (runs_store_16 _ _ _ _ _ _) ?_
  exact runs_pure _ _ _ _

theorem run_part6 (c : Dev nD) (A : Args) (i : grid0.Coords) (k0_h2 : k0_cond2 i = 1#1) (k0_t7 : Fin k0_t7_loop.trips) (arg19 : BitVec 32) (v32 : F .f32) (v34 : Elt F .f32) (v37 : FVec F S256x256 .fp8e4m3) (v40 : FVec F S256x256 .fp8e4m3) (v42 : FVec F S256x256 .bf16) (v138 : FVec F S256x256 .f32) (v139 : FVec F S256x256 .f32) (v152 : BitVec 32) (s : St F) :
    Runs c A (k0_part6 (F := F) i A.arg2 A.harg2 A.arg3 A.harg3 A.arg4 A.harg4 A.arg5 A.harg5 A.arg6 A.harg6 A.arg7 A.harg7 A.arg8 A.harg8 A.arg9 A.harg9 A.arg10 A.harg10 A.arg11 A.harg11 A.arg12 A.harg12 A.arg13 A.harg13 A.arg14 A.harg14 A.arg15 A.harg15 A.arg16 A.harg16 A.arg17 A.harg17 A.arg18 A.harg18 k0_h2 k0_t7 arg19 v32 v34 v37 v40 v42 v138 v139 v152) s
      ⟨k0_pay60 v32 v34 v37 v40 v138 (window s.a12 ((k0_off12 i k0_t7 2#32)) S1x1x256x256.size ((k0_off12_inb i k0_t7 k0_h2 2))) (window s.a13 ((k0_off12 i k0_t7 2#32)) S1x1x256x256.size ((k0_off12_inb i k0_t7 k0_h2 2))) (window s.a14 ((k0_off13 i k0_t7 2#32)) S1x1x256.size ((k0_off13_inb i k0_t7 k0_h2 2))) (window s.a15 ((k0_off13 i k0_t7 2#32)) S1x1x256.size ((k0_off13_inb i k0_t7 k0_h2 2))), k0_pay61 v32 v37 v139 (window s.a12 ((k0_off12 i k0_t7 2#32)) S1x1x256x256.size ((k0_off12_inb i k0_t7 k0_h2 2))) (window s.a13 ((k0_off12 i k0_t7 2#32)) S1x1x256x256.size ((k0_off12_inb i k0_t7 k0_h2 2))) (window s.a14 ((k0_off13 i k0_t7 2#32)) S1x1x256.size ((k0_off13_inb i k0_t7 k0_h2 2))), k0_pay62 v32 v34 v37 v40 v42 (window s.a12 ((k0_off12 i k0_t7 2#32)) S1x1x256x256.size ((k0_off12_inb i k0_t7 k0_h2 2))) (window s.a13 ((k0_off12 i k0_t7 2#32)) S1x1x256x256.size ((k0_off12_inb i k0_t7 k0_h2 2))) (window s.a14 ((k0_off13 i k0_t7 2#32)) S1x1x256.size ((k0_off13_inb i k0_t7 k0_h2 2))) (window s.a15 ((k0_off13 i k0_t7 2#32)) S1x1x256.size ((k0_off13_inb i k0_t7 k0_h2 2))) (window s.a16 ((k0_off12 i k0_t7 2#32)) S1x1x256x256.size ((k0_off12_inb i k0_t7 k0_h2 2)))⟩
      s := by
  rw [k0_part6_eq_skeleton]
  unfold k0_part6_skel
  refine runs_bind (runs_load_12 _ _ _ _) ?_
  refine runs_bind (runs_load_13 _ _ _ _) ?_
  refine runs_bind (runs_load_14 _ _ _ _) ?_
  refine runs_bind (runs_load_15 _ _ _ _) ?_
  refine runs_bind (runs_load_16 _ _ _ _) ?_
  exact runs_pure _ _ _ _

theorem run_part7 (c : Dev nD) (A : Args) (i : grid0.Coords) (v0 : BitVec 32) (k0_h2 : k0_cond2 i = 1#1) (k0_t7 : Fin k0_t7_loop.trips) (arg19 : BitVec 32) (v32 : F .f32) (v34 : Elt F .f32) (v37 : FVec F S256x256 .fp8e4m3) (v40 : FVec F S256x256 .fp8e4m3) (v152 : BitVec 32) (v201 : FVec F S256x256 .f32) (s : St F) :
    Runs c A (k0_part7 (F := F) i A.arg2 A.harg2 A.arg3 A.harg3 A.arg4 A.harg4 A.arg5 A.harg5 A.arg6 A.harg6 A.arg7 A.harg7 A.arg8 A.harg8 A.arg9 A.harg9 A.arg10 A.harg10 A.arg11 A.harg11 A.arg12 A.harg12 A.arg13 A.harg13 A.arg14 A.harg14 A.arg15 A.harg15 A.arg16 A.harg16 A.arg17 A.harg17 A.arg18 A.harg18 v0 k0_h2 k0_t7 arg19 v32 v34 v37 v40 v152 v201) s
      ⟨(Scalar.remsi (Scalar.addi v0 3#32) 5#32), k0_pay64 (window s.a12 ((k0_off12 i k0_t7 3#32)) S1x1x256x256.size ((k0_off12_inb i k0_t7 k0_h2 3))), k0_pay68 v32 v34 v37 v40 (window s.a12 ((k0_off12 i k0_t7 3#32)) S1x1x256x256.size ((k0_off12_inb i k0_t7 k0_h2 3))) (window s.a13 ((k0_off12 i k0_t7 3#32)) S1x1x256x256.size ((k0_off12_inb i k0_t7 k0_h2 3))) (window s.a14 ((k0_off13 i k0_t7 3#32)) S1x1x256.size ((k0_off13_inb i k0_t7 k0_h2 3))) (window s.a15 ((k0_off13 i k0_t7 3#32)) S1x1x256.size ((k0_off13_inb i k0_t7 k0_h2 3))), k0_pay69 v32 v37 (window s.a12 ((k0_off12 i k0_t7 3#32)) S1x1x256x256.size ((k0_off12_inb i k0_t7 k0_h2 3))) (window s.a14 ((k0_off13 i k0_t7 3#32)) S1x1x256.size ((k0_off13_inb i k0_t7 k0_h2 3))), k0_pay70 (window s.a13 ((k0_off12 i k0_t7 3#32)) S1x1x256x256.size ((k0_off12_inb i k0_t7 k0_h2 3)))⟩
      {s with a16 := (put s.a16 ((k0_off12 i k0_t7 2#32)) S1x1x256x256.size ((k0_pay63 v201)))} := by
  rw [k0_part7_eq_skeleton]
  unfold k0_part7_skel
  refine runs_bind (runs_load_16 _ _ _ _) ?_
  refine runs_bind (runs_store_16 _ _ _ _ _ _) ?_
  refine runs_bind (runs_load_12 _ _ _ _) ?_
  refine runs_bind (runs_load_13 _ _ _ _) ?_
  refine runs_bind (runs_load_14 _ _ _ _) ?_
  refine runs_bind (runs_load_15 _ _ _ _) ?_
  exact runs_pure _ _ _ _

theorem run_part8 (c : Dev nD) (A : Args) (i : grid0.Coords) (v0 : BitVec 32) (k0_h2 : k0_cond2 i = 1#1) (k0_t7 : Fin k0_t7_loop.trips) (arg19 : BitVec 32) (v32 : F .f32) (v37 : FVec F S256x256 .fp8e4m3) (v42 : FVec F S256x256 .bf16) (v194 : FVec F S256x256 .f32) (v195 : FVec F S256x256 .f32) (v208 : BitVec 32) (v212 : FVec F S256x256 .fp8e4m3) (v244 : FVec F S256x256 .bf16) (v245 : FVec F S256x256 .bf16) (v246 : FVec F S256x256 .bf16) (s : St F) :
    Runs c A (k0_part8 (F := F) i A.arg2 A.harg2 A.arg3 A.harg3 A.arg4 A.harg4 A.arg5 A.harg5 A.arg6 A.harg6 A.arg7 A.harg7 A.arg8 A.harg8 A.arg9 A.harg9 A.arg10 A.harg10 A.arg11 A.harg11 A.arg12 A.harg12 A.arg13 A.harg13 A.arg14 A.harg14 A.arg15 A.harg15 A.arg16 A.harg16 A.arg17 A.harg17 A.arg18 A.harg18 v0 k0_h2 k0_t7 arg19 v32 v37 v42 v194 v195 v208 v212 v244 v245 v246) s
      ⟨k0_pay71 v194 v212 v244, k0_pay72 v195 v245 v246, (Scalar.remsi (Scalar.addi v0 4#32) 5#32), k0_pay74 (window s.a12 ((k0_off12 i k0_t7 4#32)) S1x1x256x256.size ((k0_off12_inb i k0_t7 k0_h2 4))), k0_pay75 (window s.a13 ((k0_off12 i k0_t7 4#32)) S1x1x256x256.size ((k0_off12_inb i k0_t7 k0_h2 4))), k0_pay76 (window s.a15 ((k0_off13 i k0_t7 4#32)) S1x1x256.size ((k0_off13_inb i k0_t7 k0_h2 4))), k0_pay77 v32 v37 (window s.a12 ((k0_off12 i k0_t7 4#32)) S1x1x256x256.size ((k0_off12_inb i k0_t7 k0_h2 4))), k0_pay78 v32 v37 (window s.a12 ((k0_off12 i k0_t7 4#32)) S1x1x256x256.size ((k0_off12_inb i k0_t7 k0_h2 4))) (window s.a14 ((k0_off13 i k0_t7 4#32)) S1x1x256.size ((k0_off13_inb i k0_t7 k0_h2 4)))⟩
      {s with a16 := (put s.a16 ((k0_off12 i k0_t7 3#32)) S1x1x256x256.size ((k0_pay73 v42 v244 (window s.a16 ((k0_off12 i k0_t7 3#32)) S1x1x256x256.size ((k0_off12_inb i k0_t7 k0_h2 3))))))} := by
  rw [k0_part8_eq_skeleton]
  unfold k0_part8_skel
  refine runs_bind (runs_load_16 _ _ _ _) ?_
  refine runs_bind (runs_load_16 _ _ _ _) ?_
  refine runs_bind (runs_store_16 _ _ _ _ _ _) ?_
  refine runs_bind (runs_load_12 _ _ _ _) ?_
  refine runs_bind (runs_load_13 _ _ _ _) ?_
  refine runs_bind (runs_load_14 _ _ _ _) ?_
  refine runs_bind (runs_load_15 _ _ _ _) ?_
  exact runs_pure _ _ _ _

theorem run_part9 (c : Dev nD) (A : Args) (i : grid0.Coords) (k0_h2 : k0_cond2 i = 1#1) (v26 : IVec S256x256 32) (v27 : IVec S256x256 32) (k0_t7 : Fin k0_t7_loop.trips) (arg19 : BitVec 32) (v34 : Elt F .f32) (v40 : FVec F S256x256 .fp8e4m3) (v42 : FVec F S256x256 .bf16) (v250 : FVec F S256x256 .f32) (v251 : FVec F S256x256 .f32) (v264 : BitVec 32) (v268 : FVec F S256x256 .fp8e4m3) (v272 : FVec F S256x256 .fp8e5m2) (v280 : FVec F S1x256 .f32) (v284 : FVec F S256x256 .f32) (v288 : FVec F S256x256 .f32) (s : St F) :
    Runs c A (k0_part9 (F := F) i A.arg2 A.harg2 A.arg3 A.harg3 A.arg4 A.harg4 A.arg5 A.harg5 A.arg6 A.harg6 A.arg7 A.harg7 A.arg8 A.harg8 A.arg9 A.harg9 A.arg10 A.harg10 A.arg11 A.harg11 A.arg12 A.harg12 A.arg13 A.harg13 A.arg14 A.harg14 A.arg15 A.harg15 A.arg16 A.harg16 A.arg17 A.harg17 A.arg18 A.harg18 k0_h2 v26 v27 k0_t7 arg19 v34 v40 v42 v250 v251 v264 v268 v272 v280 v284 v288) s
      ⟨k0_pay82 v26 v27 v34 v40 v250 v268 v272 v280 v284 v288 (smem s.a2 ((k0_off14 k0_t7)) ((k0_off14_inb i k0_t7 k0_h2))), k0_pay83 v26 v27 v251 v272 v288 (smem s.a2 ((k0_off15 k0_t7)) ((k0_off15_inb i k0_t7 k0_h2))), (Scalar.extui (Scalar.cmpi .eq (Scalar.remsi arg19 2#32) 0#32)), 0#32⟩
      {s with a16 := (put s.a16 ((k0_off12 i k0_t7 4#32)) S1x1x256x256.size ((k0_pay81 v26 v27 v34 v40 v42 v272 v280 v284 v288 (window s.a16 ((k0_off12 i k0_t7 4#32)) S1x1x256x256.size ((k0_off12_inb i k0_t7 k0_h2 4))))))} := by
  rw [k0_part9_eq_skeleton]
  unfold k0_part9_skel
  refine runs_bind (runs_load_16 _ _ _ _) ?_
  refine runs_bind (runs_load_16 _ _ _ _) ?_
  refine runs_bind (runs_store_16 _ _ _ _ _ _) ?_
  refine runs_bind (runs_smem _ _ _ _ _) ?_
  refine runs_bind (runs_smem _ _ _ _ _) ?_
  exact runs_pure _ _ _ _

/-- The key block's values for one head: its block of k and v, and the four scale factors of the head. -/
structure KBlk (F : FTy → Type) where
  qs : Elt F .f32
  ds : Elt F .f32
  c2 : Elt F .f32
  c3 : Elt F .f32
  k : Vec F S1x1x256x256 .fp8e4m3
  v : Vec F S1x1x256x256 .fp8e4m3

/-- The query block's values for one head: its blocks of q and d_out, its log-sum-exp and delta. -/
structure QBlk (F : FTy → Type) where
  q : Vec F S1x1x256x256 .fp8e4m3
  d : Vec F S1x1x256x256 .fp8e5m2
  l : Vec F S1x1x256 .f32
  e : Vec F S1x1x256 .f32

/-- The row index within a block. -/
def iota0 : IVec S256x256 32 := iota .tc S256x256 32 [0] iota_S256x256_d0_w32
/-- The column index within a block. -/
def iota1 : IVec S256x256 32 := iota .tc S256x256 32 [1] iota_S256x256_d1_w32

/-- What is stored for dq of the query block 0 blocks after the key block. -/
def dq0 (K : KBlk F) (S0 : QBlk F) : FVec F S1x1x256x256 .f32 :=
  let x3 := k0_pay33 K.v
  let x4 := k0_pay34 K.k
  let x6 := k0_pay36 S0.d
  let x7 := k0_pay37 S0.e
  let x8 := k0_pay38 K.qs K.k S0.q
  let x9 := k0_pay39 K.qs K.k S0.q
  let x10 := k0_pay40 S0.l
  k0_pay45 iota0 iota1 K.ds x3 x4 x6 x7 x8 x9 x10

/-- What is stored for dq of the query block 1 blocks after the key block. -/
def dq1 (K : KBlk F) (S1 : QBlk F) (old1 : Vec F S1x1x256x256 .f32) : FVec F S1x1x256x256 .f32 :=
  let x1 := k0_pay31 K.qs
  let x2 := k0_pay32 K.k
  let x3 := k0_pay33 K.v
  let x4 := k0_pay34 K.k
  let x13 := k0_pay46 S1.q
  let x14 := k0_pay47 S1.d
  let x15 := k0_pay48 S1.l
  k0_pay54 x1 K.ds x2 x3 x4 x13 x14 x15 S1.e old1

/-- What is stored for dq of the query block 2 blocks after the key block. -/
def dq2 (K : KBlk F) (S2 : QBlk F) (old2 : Vec F S1x1x256x256 .f32) : FVec F S1x1x256x256 .f32 :=
  let x1 := k0_pay31 K.qs
  let x2 := k0_pay32 K.k
  let x3 := k0_pay33 K.v
  let x4 := k0_pay34 K.k
  let x20 := k0_pay62 x1 K.ds x2 x3 x4 S2.q S2.d S2.l S2.e old2
  k0_pay63 x20

/-- What is stored for dq of the query block 3 blocks after the key block. -/
def dq3 (K : KBlk F) (S3 : QBlk F) (old3 : Vec F S1x1x256x256 .f32) : FVec F S1x1x256x256 .f32 :=
  let x4 := k0_pay34 K.k
  let x1 := k0_pay31 K.qs
  let x2 := k0_pay32 K.k
  let x3 := k0_pay33 K.v
  let x22 := k0_pay68 x1 K.ds x2 x3 S3.q S3.d S3.l S3.e
  k0_pay73 x4 x22 old3

/-- What is stored for dq of the query block 4 blocks after the key block. -/
def dq4 (K : KBlk F) (S4 : QBlk F) (old4 : Vec F S1x1x256x256 .f32) : FVec F S1x1x256x256 .f32 :=
  let x3 := k0_pay33 K.v
  let x4 := k0_pay34 K.k
  let x28 := k0_pay75 S4.d
  let x29 := k0_pay76 S4.e
  let x1 := k0_pay31 K.qs
  let x2 := k0_pay32 K.k
  let x30 := k0_pay77 x1 x2 S4.q
  let x31 := k0_pay78 x1 x2 S4.q S4.l
  k0_pay81 iota0 iota1 K.ds x3 x4 x28 x29 x30 x31 old4

/-- One head's contribution to dk of the key block. -/
def dkHead (K : KBlk F) (S0 S1 S2 S3 S4 : QBlk F) : FVec F S256x256 .f32 :=
  let x3 := k0_pay33 K.v
  let x1 := k0_pay31 K.qs
  let x2 := k0_pay32 K.k
  let x5 := k0_pay35 S0.q
  let x6 := k0_pay36 S0.d
  let x7 := k0_pay37 S0.e
  let x8 := k0_pay38 K.qs K.k S0.q
  let x9 := k0_pay39 K.qs K.k S0.q
  let x10 := k0_pay40 S0.l
  let x12 := k0_pay44 iota0 iota1 K.ds x3 x5 x6 x7 x8 x9 x10
  let x13 := k0_pay46 S1.q
  let x14 := k0_pay47 S1.d
  let x15 := k0_pay48 S1.l
  let x16 := k0_pay52 x1 K.ds x2 x3 x12 x13 x14 x15 S1.e
  let x18 := k0_pay60 x1 K.ds x2 x3 x16 S2.q S2.d S2.l S2.e
  let x21 := k0_pay64 S3.q
  let x22 := k0_pay68 x1 K.ds x2 x3 S3.q S3.d S3.l S3.e
  let x25 := k0_pay71 x18 x21 x22
  let x27 := k0_pay74 S4.q
  let x28 := k0_pay75 S4.d
  let x29 := k0_pay76 S4.e
  let x30 := k0_pay77 x1 x2 S4.q
  let x31 := k0_pay78 x1 x2 S4.q S4.l
  let x32 := k0_pay82 iota0 iota1 K.ds x3 x25 x27 x28 x29 x30 x31 K.c2
  x32

/-- One head's contribution to dv of the key block. -/
def dvHead (K : KBlk F) (S0 S1 S2 S3 S4 : QBlk F) : FVec F S256x256 .f32 :=
  let x1 := k0_pay31 K.qs
  let x2 := k0_pay32 K.k
  let x6 := k0_pay36 S0.d
  let x9 := k0_pay39 K.qs K.k S0.q
  let x10 := k0_pay40 S0.l
  let x11 := k0_pay43 iota0 iota1 x6 x9 x10
  let x13 := k0_pay46 S1.q
  let x14 := k0_pay47 S1.d
  let x15 := k0_pay48 S1.l
  let x17 := k0_pay53 x1 x2 x11 x13 x14 x15
  let x19 := k0_pay61 x1 x2 x17 S2.q S2.d S2.l
  let x23 := k0_pay69 x1 x2 S3.q S3.l
  let x24 := k0_pay70 S3.d
  let x26 := k0_pay72 x19 x23 x24
  let x28 := k0_pay75 S4.d
  let x31 := k0_pay78 x1 x2 S4.q S4.l
  let x33 := k0_pay83 iota0 iota1 x26 x28 x31 K.c3
  x33

/-- The query block in the ring that is `m` blocks after the key block of the iteration, for head `k0_t7`. -/
def qblk (i : grid0.Coords) (k0_h2 : k0_cond2 i = 1#1) (k0_t7 : Fin k0_t7_loop.trips) (m : Fin 5) (s : St F) : QBlk F where
  q := window s.a12 (k0_off12 i k0_t7 (BitVec.ofNat 32 m.val)) S1x1x256x256.size (k0_off12_inb i k0_t7 k0_h2 m)
  d := window s.a13 (k0_off12 i k0_t7 (BitVec.ofNat 32 m.val)) S1x1x256x256.size (k0_off12_inb i k0_t7 k0_h2 m)
  l := window s.a14 (k0_off13 i k0_t7 (BitVec.ofNat 32 m.val)) S1x1x256.size (k0_off13_inb i k0_t7 k0_h2 m)
  e := window s.a15 (k0_off13 i k0_t7 (BitVec.ofNat 32 m.val)) S1x1x256.size (k0_off13_inb i k0_t7 k0_h2 m)

/-- The key block of the iteration, for head `k0_t7`. -/
def kblk (i : grid0.Coords) (k0_h2 : k0_cond2 i = 1#1) (k0_t7 : Fin k0_t7_loop.trips) (s : St F) : KBlk F where
  qs := smem s.a2 (k0_off9 k0_t7) (k0_off9_inb i k0_t7 k0_h2)
  ds := smem s.a2 (k0_off10 k0_t7) (k0_off10_inb i k0_t7 k0_h2)
  c2 := smem s.a2 (k0_off14 k0_t7) (k0_off14_inb i k0_t7 k0_h2)
  c3 := smem s.a2 (k0_off15 k0_t7) (k0_off15_inb i k0_t7 k0_h2)
  k := window s.a5 (k0_off11 k0_t7) S1x1x256x256.size (k0_off11_inb i k0_t7 k0_h2)
  v := window s.a6 (k0_off11 k0_t7) S1x1x256x256.size (k0_off11_inb i k0_t7 k0_h2)

/-- The dq accumulator of the query block `m` blocks after the key block. -/
def dqWin (i : grid0.Coords) (k0_h2 : k0_cond2 i = 1#1) (k0_t7 : Fin k0_t7_loop.trips) (m : Fin 5) (x : Vec F S5x16x256x256 .f32) : Vec F S1x1x256x256 .f32 :=
  window x (k0_off12 i k0_t7 (BitVec.ofNat 32 m.val)) S1x1x256x256.size (k0_off12_inb i k0_t7 k0_h2 m)

/-- The dq accumulator with that block stored. -/
def dqPut (i : grid0.Coords) (k0_t7 : Fin k0_t7_loop.trips) (m : Fin 5) (x : Vec F S5x16x256x256 .f32) (w : FVec F S1x1x256x256 .f32) : Vec F S5x16x256x256 .f32 :=
  put x (k0_off12 i k0_t7 (BitVec.ofNat 32 m.val)) S1x1x256x256.size w

/-- The dq accumulators after one head. -/
def dqRing (i : grid0.Coords) (k0_h2 : k0_cond2 i = 1#1) (k0_t7 : Fin k0_t7_loop.trips) (s : St F) : Vec F S5x16x256x256 .f32 :=
  let K := kblk i k0_h2 k0_t7 s
  let x0 := dqPut i k0_t7 0 s.a16 (dq0 K (qblk i k0_h2 k0_t7 0 s))
  let x1 := dqPut i k0_t7 1 x0 (dq1 K (qblk i k0_h2 k0_t7 1 s) (dqWin i k0_h2 k0_t7 1 x0))
  let x2 := dqPut i k0_t7 2 x1 (dq2 K (qblk i k0_h2 k0_t7 2 s) (dqWin i k0_h2 k0_t7 2 x1))
  let x3 := dqPut i k0_t7 3 x2 (dq3 K (qblk i k0_h2 k0_t7 3 s) (dqWin i k0_h2 k0_t7 3 x2))
  dqPut i k0_t7 4 x3 (dq4 K (qblk i k0_h2 k0_t7 4 s) (dqWin i k0_h2 k0_t7 4 x3))

/-- The head's contribution to dk. -/
def dkTrip (i : grid0.Coords) (k0_h2 : k0_cond2 i = 1#1) (k0_t7 : Fin k0_t7_loop.trips) (s : St F) : FVec F S256x256 .f32 :=
  dkHead (kblk i k0_h2 k0_t7 s) (qblk i k0_h2 k0_t7 0 s) (qblk i k0_h2 k0_t7 1 s) (qblk i k0_h2 k0_t7 2 s) (qblk i k0_h2 k0_t7 3 s) (qblk i k0_h2 k0_t7 4 s)

/-- The head's contribution to dv. -/
def dvTrip (i : grid0.Coords) (k0_h2 : k0_cond2 i = 1#1) (k0_t7 : Fin k0_t7_loop.trips) (s : St F) : FVec F S256x256 .f32 :=
  dvHead (kblk i k0_h2 k0_t7 s) (qblk i k0_h2 k0_t7 0 s) (qblk i k0_h2 k0_t7 1 s) (qblk i k0_h2 k0_t7 2 s) (qblk i k0_h2 k0_t7 3 s) (qblk i k0_h2 k0_t7 4 s)

/-- Whether the head is even, as the body computes it. -/
def evenBit (k0_t7 : Fin k0_t7_loop.trips) : BitVec 1 :=
  Scalar.cmpi (w := 32) .ne (Scalar.extui (Scalar.cmpi .eq (Scalar.remsi (Scf.iv (0#32) 1#32 k0_t7) 2#32) (0#32))) (0#32)

/-- An even head leaves its dk and dv aside. -/
def evenSt (k0_t7 : Fin k0_t7_loop.trips) (dk dv : FVec F S256x256 .f32) (s : St F) : St F :=
  if _h : evenBit k0_t7 = 1#1 then
    {s with a17 := put s.a17 ![0, 0] S256x256.size (k0_pay5 dk), a18 := put s.a18 ![0, 0] S256x256.size (k0_pay6 dv)}
  else s

/-- An odd head adds its dk and dv to those left aside and stores the sums. -/
def oddSt (k0_t7 : Fin k0_t7_loop.trips) (dk dv : FVec F S256x256 .f32) (s : St F) : St F :=
  if _h : k0_cond4 k0_t7 = 1#1 then
    {s with
      a10 := put s.a10 (k0_off16 k0_t7) S1x1x256x256.size (k0_pay7 dk (window s.a17 ![0, 0] S256x256.size inb_S256x256_S256x256_0_0))
      a11 := put s.a11 (k0_off16 k0_t7) S1x1x256x256.size (k0_pay8 dv (window s.a18 ![0, 0] S256x256.size inb_S256x256_S256x256_0_0))}
  else s

/-- One head of the backward pass. -/
def t7St (i : grid0.Coords) (k0_h2 : k0_cond2 i = 1#1) (k0_t7 : Fin k0_t7_loop.trips) (s : St F) : St F :=
  oddSt k0_t7 (dkTrip i k0_h2 k0_t7 s) (dvTrip i k0_h2 k0_t7 s) (evenSt k0_t7 (dkTrip i k0_h2 k0_t7 s) (dvTrip i k0_h2 k0_t7 s) {s with a16 := dqRing i k0_h2 k0_t7 s})

theorem run_t7 (c : Dev nD) (A : Args) (i : grid0.Coords) (v0 : BitVec 32) (k0_h2 : k0_cond2 i = 1#1) (k0_t7 : Fin k0_t7_loop.trips) (s : St F) :
    Runs c A (k0_t7_body (F := F) i A.arg2 A.harg2 A.arg3 A.harg3 A.arg4 A.harg4 A.arg5 A.harg5 A.arg6 A.harg6 A.arg7 A.harg7 A.arg8 A.harg8 A.arg9 A.harg9 A.arg10 A.harg10 A.arg11 A.harg11 A.arg12 A.harg12 A.arg13 A.harg13 A.arg14 A.harg14 A.arg15 A.harg15 A.arg16 A.harg16 A.arg17 A.harg17 A.arg18 A.harg18 v0 k0_h2 iota0 iota1 k0_t7 ⟨⟩) s ⟨⟩ (t7St i k0_h2 k0_t7 s) := by
  unfold k0_t7_body

  refine runs_bind (run_part3 c A _ _ _ _ _ _ _) ?_
  dsimp only
  refine runs_bind (run_part4 c A _ _ _ _ _ _ _ _ _ _ _ _ _ _ _ _ _ _) ?_
  dsimp only
  refine runs_bind (run_part5 c A _ _ _ _ _ _ _ _ _ _ _ _ _ _ _ _ _) ?_
  dsimp only
  refine runs_bind (run_part6 c A _ _ _ _ _ _ _ _ _ _ _ _ _) ?_
  dsimp only
  refine runs_bind (run_part7 c A _ _ _ _ _ _ _ _ _ _ _ _) ?_
  dsimp only
  refine runs_bind (run_part8 c A _ _ _ _ _ _ _ _ _ _ _ _ _ _ _ _) ?_
  dsimp only
  refine runs_bind (run_part9 c A _ _ _ _ _ _ _ _ _ _ _ _ _ _ _ _ _ _) ?_
  dsimp only
  refine runs_dite (oddSt k0_t7 (dkTrip i k0_h2 k0_t7 s) (dvTrip i k0_h2 k0_t7 s)) _ _ (fun h => ?_) (fun h => ?_)
  · refine runs_bind (runs_load_17 _ _ _ _) (runs_bind (runs_store_17 _ _ _ _ _ _)
      (runs_bind (runs_load_18 _ _ _ _) (runs_bind (runs_store_18 _ _ _ _ _ _) ?_)))
    exact runs_dite id _ _ (fun h => runs_bind (runs_load_17 _ _ _ _) (runs_bind (runs_load_10 _ _ _ _) (runs_bind (runs_store_10 _ _ _ _ _ _)
      (runs_bind (runs_load_18 _ _ _ _) (runs_bind (runs_load_11 _ _ _ _) (runs_bind (runs_store_11 _ _ _ _ _ _) (runs_pure _ _ _ _))))))) (fun h => runs_pure _ _ _ _)
  · exact runs_dite id _ _ (fun h => runs_bind (runs_load_17 _ _ _ _) (runs_bind (runs_load_10 _ _ _ _) (runs_bind (runs_store_10 _ _ _ _ _ _)
      (runs_bind (runs_load_18 _ _ _ _) (runs_bind (runs_load_11 _ _ _ _) (runs_bind (runs_store_11 _ _ _ _ _ _) (runs_pure _ _ _ _))))))) (fun h => runs_pure _ _ _ _)

/-- One iteration of the grid as a function on the operands' contents. -/
def clearSt (i : grid0.Coords) (s : St F) : St F :=
  if h : k0_cond1 i = 1#1 then part2St i h (k0_pay20 (F := F)) (part1St i h s) else s

/-- A key block enters: its query block goes into the ring, and every head is processed. -/
def mainSt (i : grid0.Coords) (k0_h2 : k0_cond2 i = 1#1) (s : St F) : St F :=
  let s1 : St F := {s with a14 := put s.a14 (k0_off6 i) S1x16x256.size (k0_pay1 (window s.a7 ![0, 0, 0] S1x16x256.size inb_S1x16x256_S1x16x256_0_0_0))}
  let s2 : St F := {s1 with a15 := put s1.a15 (k0_off6 i) S1x16x256.size (k0_pay2 (window s1.a8 ![0, 0, 0] S1x16x256.size inb_S1x16x256_S1x16x256_0_0_0))}
  let s3 : St F := iter (t6St i k0_h2) s2 k0_t6_loop.trips
  iter (t7St i k0_h2) s3 k0_t7_loop.trips

/-- A finished dq block leaves. -/
def emitSt (i : grid0.Coords) (s : St F) : St F :=
  if h : k0_cond5 i = 1#1 then iter (t8St i h) s k0_t8_loop.trips else s

/-- The key block's iteration and the leaving dq block. -/
def tailSt (i : grid0.Coords) (s : St F) : St F :=
  emitSt i (if h : k0_cond2 i = 1#1 then mainSt i h s else s)

/-- The whole body of one iteration. -/
def bodySt (i : grid0.Coords) (s : St F) : St F :=
  tailSt i (clearSt i s)

/-- The last conditional. -/
theorem run_emit (c : Dev nD) (A : Args) (i : grid0.Coords) (s : St F) :
    Runs c A (if k0_h5 : k0_cond5 i = 1#1 then (do
      Scf.Loop.for k0_t8_loop (k0_t8_ok i k0_h5) ⟨⟩ (k0_t8_body (F := F) i A.arg2 A.harg2 A.arg3 A.harg3 A.arg4 A.harg4 A.arg5 A.harg5 A.arg6 A.harg6 A.arg7 A.harg7 A.arg8 A.harg8 A.arg9 A.harg9 A.arg10 A.harg10 A.arg11 A.harg11 A.arg12 A.harg12 A.arg13 A.harg13 A.arg14 A.harg14 A.arg15 A.harg15 A.arg16 A.harg16 A.arg17 A.harg17 A.arg18 A.harg18 k0_h5)
      pure ⟨⟩) else (pure ⟨⟩)) s (PUnit.unit) (emitSt i s) :=
  runs_dite id _ _ (fun h => runs_bind (runs_iter k0_t8_loop _ _ _ (fun k s => run_t8 c A i h k s) _) (runs_pure _ _ _ _)) (fun h => runs_pure _ _ _ _)

/-- The last two conditionals. -/
theorem run_tail (c : Dev nD) (A : Args) (i : grid0.Coords) (s : St F) :
    Runs c A (if k0_h2 : k0_cond2 i = 1#1 then (do
      let v11 : Vec F S1x16x256 .f32 ← Prog.lift (.load A.arg7 (Rect.unit (s := S1x16x256) ![0, 0, 0] S1x16x256.size inb_S1x16x256_S1x16x256_0_0_0).toLoadRect (View.loadsAt_vmem h_S1x16x256))
      let v16 : Vec F S1x16x256 .f32 ← Prog.lift (.load A.arg14 (Rect.unit (s := S5x16x256) (k0_off6 i) S1x16x256.size (k0_off6_inb i k0_h2)).toLoadRect (View.loadsAt_vmem h_S1x16x256))
      Prog.lift (.store A.arg14 (Rect.unit (s := S5x16x256) (k0_off6 i) S1x16x256.size (k0_off6_inb i k0_h2)) (k0_pay1 v11) Finset.univ (View.stores_vmem_bits_univ h_S1x16x256 rfl) (.inl rfl))
      let v19 : Vec F S1x16x256 .f32 ← Prog.lift (.load A.arg8 (Rect.unit (s := S1x16x256) ![0, 0, 0] S1x16x256.size inb_S1x16x256_S1x16x256_0_0_0).toLoadRect (View.loadsAt_vmem h_S1x16x256))
      let v22 : Vec F S1x16x256 .f32 ← Prog.lift (.load A.arg15 (Rect.unit (s := S5x16x256) (k0_off6 i) S1x16x256.size (k0_off6_inb i k0_h2)).toLoadRect (View.loadsAt_vmem h_S1x16x256))
      Prog.lift (.store A.arg15 (Rect.unit (s := S5x16x256) (k0_off6 i) S1x16x256.size (k0_off6_inb i k0_h2)) (k0_pay2 v19) Finset.univ (View.stores_vmem_bits_univ h_S1x16x256 rfl) (.inl rfl))
      Scf.Loop.for k0_t6_loop (k0_t6_ok i k0_h2) ⟨⟩ (k0_t6_body i A.arg2 A.harg2 A.arg3 A.harg3 A.arg4 A.harg4 A.arg5 A.harg5 A.arg6 A.harg6 A.arg7 A.harg7 A.arg8 A.harg8 A.arg9 A.harg9 A.arg10 A.harg10 A.arg11 A.harg11 A.arg12 A.harg12 A.arg13 A.harg13 A.arg14 A.harg14 A.arg15 A.harg15 A.arg16 A.harg16 A.arg17 A.harg17 A.arg18 A.harg18 k0_h2)
      Scf.Loop.for k0_t7_loop (k0_t7_ok i k0_h2) ⟨⟩ (k0_t7_body i A.arg2 A.harg2 A.arg3 A.harg3 A.arg4 A.harg4 A.arg5 A.harg5 A.arg6 A.harg6 A.arg7 A.harg7 A.arg8 A.harg8 A.arg9 A.harg9 A.arg10 A.harg10 A.arg11 A.harg11 A.arg12 A.harg12 A.arg13 A.harg13 A.arg14 A.harg14 A.arg15 A.harg15 A.arg16 A.harg16 A.arg17 A.harg17 A.arg18 A.harg18 (Scalar.subi 63#32 (BitVec.ofNat 32 (i 1).val)) k0_h2 iota0 iota1)
      if k0_h5 : k0_cond5 i = 1#1 then (do
        Scf.Loop.for k0_t8_loop (k0_t8_ok i k0_h5) ⟨⟩ (k0_t8_body (F := F) i A.arg2 A.harg2 A.arg3 A.harg3 A.arg4 A.harg4 A.arg5 A.harg5 A.arg6 A.harg6 A.arg7 A.harg7 A.arg8 A.harg8 A.arg9 A.harg9 A.arg10 A.harg10 A.arg11 A.harg11 A.arg12 A.harg12 A.arg13 A.harg13 A.arg14 A.harg14 A.arg15 A.harg15 A.arg16 A.harg16 A.arg17 A.harg17 A.arg18 A.harg18 k0_h5)
        pure ⟨⟩) else (pure ⟨⟩)) else
      (if k0_h5 : k0_cond5 i = 1#1 then (do
        Scf.Loop.for k0_t8_loop (k0_t8_ok i k0_h5) ⟨⟩ (k0_t8_body (F := F) i A.arg2 A.harg2 A.arg3 A.harg3 A.arg4 A.harg4 A.arg5 A.harg5 A.arg6 A.harg6 A.arg7 A.harg7 A.arg8 A.harg8 A.arg9 A.harg9 A.arg10 A.harg10 A.arg11 A.harg11 A.arg12 A.harg12 A.arg13 A.harg13 A.arg14 A.harg14 A.arg15 A.harg15 A.arg16 A.harg16 A.arg17 A.harg17 A.arg18 A.harg18 k0_h5)
        pure ⟨⟩) else (pure ⟨⟩))) s (PUnit.unit) (tailSt i s) := by
  refine runs_dite (emitSt i) (fun h => mainSt i h s) (fun _ => s) (fun h => ?_) (fun h => run_emit c A i s)
  refine runs_bind (runs_load_7 _ _ _ _) ?_
  refine runs_bind (runs_load_14 _ _ _ _) ?_
  refine runs_bind (runs_store_14 _ _ _ _ _ _) ?_
  refine runs_bind (runs_load_8 _ _ _ _) ?_
  refine runs_bind (runs_load_15 _ _ _ _) ?_
  refine runs_bind (runs_store_15 _ _ _ _ _ _) ?_
  refine runs_bind (runs_iter k0_t6_loop _ _ _ (fun k s => run_t6 c A i h k s) _) ?_
  refine runs_bind (runs_iter k0_t7_loop _ _ _ (fun k s => run_t7 c A i _ h k s) _) ?_
  exact run_emit c A i _

/-- The body of the pallas_call, on operands with contents `s`, leaves them with contents `bodySt i s`. -/
theorem run_body (c : Dev nD) (A : Args) (i : grid0.Coords) (s : St F) :
    Runs c A (cc0_main (F := F) i A.arg2 A.harg2 A.arg3 A.harg3 A.arg4 A.harg4 A.arg5 A.harg5 A.arg6 A.harg6 A.arg7 A.harg7 A.arg8 A.harg8 A.arg9 A.harg9 A.arg10 A.harg10 A.arg11 A.harg11 A.arg12 A.harg12 A.arg13 A.harg13 A.arg14 A.harg14 A.arg15 A.harg15 A.arg16 A.harg16 A.arg17 A.harg17 A.arg18 A.harg18) s ⟨⟩ (bodySt i s) := by
  rw [cc0_main_eq_skeleton]
  unfold cc0_main_skel
  exact runs_dite (tailSt i) (fun h => part2St i h (k0_pay20 (F := F)) (part1St i h s)) (fun _ => s)
    (fun h => runs_bind (run_part1 c A i h s) (runs_bind (run_part2 c A i h _ _ _) (run_tail c A i _))) (fun h => run_tail c A i s)

end Cert.MainIdeal.Body
-- ==== Proof.MainIdealOff.lean ====
/- Where the body of the pallas_call `main` (idealized) reads and writes: every computed offset and condition as plain arithmetic on the
   iteration's number and the head's. -/
module

public import proofs.«01_k».proof.Proof.MainIdealRun

@[expose] public section

set_option maxRecDepth 16384

noncomputable section

namespace Cert.MainIdeal.Body

open Cert.MainIdeal Cert.MainIdeal.Gen
open Idealize.ShloMosaic Idealize.ShloMosaic.TcCoe
open VecWindow (window put)

theorem trips1 : k0_t1_loop.trips = 16 := by decide
theorem trips2 : k0_t2_loop.trips = 16 := by decide
theorem trips3 : k0_t3_loop.trips = 16 := by decide
theorem trips4 : k0_t4_loop.trips = 16 := by decide
theorem trips5 : k0_t5_loop.trips = 16 := by decide
theorem trips6 : k0_t6_loop.trips = 16 := by decide
theorem trips7 : k0_t7_loop.trips = 16 := by decide
theorem trips8 : k0_t8_loop.trips = 16 := by decide

/-- The iteration's second coordinate. -/
abbrev tt (i : grid0.Coords) : ℕ := (i 1).val

theorem tt_lt (i : grid0.Coords) : tt i < 68 := (i 1).isLt

theorem cond1_iff (i : grid0.Coords) : k0_cond1 i = 1#1 ↔ tt i = 0 :=
  (show ∀ t : Fin 68, Scalar.cmpi (w := 32) .ne (Scalar.extui (Scalar.cmpi .eq (BitVec.ofNat 32 t.val) 0#32)) 0#32 = 1#1 ↔ t.val = 0 from by decide) (i 1)

theorem cond2_iff (i : grid0.Coords) : k0_cond2 i = 1#1 ↔ tt i < 64 :=
  (show ∀ t : Fin 68, Scalar.cmpi (w := 32) .ne (Scalar.extui (Scalar.cmpi .slt (BitVec.ofNat 32 t.val) 64#32)) 0#32 = 1#1 ↔ t.val < 64 from by decide) (i 1)

theorem cond5_iff (i : grid0.Coords) : k0_cond5 i = 1#1 ↔ 4 ≤ tt i :=
  (show ∀ t : Fin 68, Scalar.cmpi (w := 32) .ne (Scalar.extui (Scalar.cmpi .sge (BitVec.ofNat 32 t.val) 4#32)) 0#32 = 1#1 ↔ 4 ≤ t.val from by decide) (i 1)

theorem even_iff : ∀ k : Fin k0_t7_loop.trips, evenBit k = 1#1 ↔ k.val % 2 = 0 := by decide

theorem cond4_iff : ∀ k : Fin k0_t7_loop.trips, k0_cond4 k = 1#1 ↔ k.val % 2 = 1 := by decide

theorem iv_toNat : ∀ k : Fin 16, (Scalar.indexCast (Scf.iv 0#32 1#32 k.val)).toNat = k.val := by decide

theorem slot_toNat : ∀ t : Fin 68, ∀ m : Fin 5, t.val < 64 →
    (Scalar.indexCast (Scalar.remsi (Scalar.addi (Scalar.subi 63#32 (BitVec.ofNat 32 t.val)) (BitVec.ofNat 32 m.val)) 5#32)).toNat = (63 - t.val + m.val) % 5 := by decide

theorem slot0_toNat : ∀ t : Fin 68, t.val < 64 →
    (Scalar.indexCast (Scalar.remsi (Scalar.subi 63#32 (BitVec.ofNat 32 t.val)) 5#32)).toNat = (63 - t.val) % 5 := by decide

theorem slot4_toNat : ∀ t : Fin 68,
    (Scalar.indexCast (Scalar.remsi (Scalar.subi (Scalar.addi (Scalar.subi 63#32 (BitVec.ofNat 32 t.val)) 5#32) 1#32) 5#32)).toNat = (67 - t.val) % 5 := by decide

theorem off1_eq : ∀ k : Fin k0_t1_loop.trips, k0_off1 k = ![0, k.val, 0, 0] := fun k => congrArg (fun n => ![0, n, 0, 0]) (iv_toNat (k.cast trips1))
theorem off2_eq : ∀ k : Fin k0_t2_loop.trips, k0_off2 k = ![1, k.val, 0, 0] := fun k => congrArg (fun n => ![1, n, 0, 0]) (iv_toNat (k.cast trips2))
theorem off3_eq : ∀ k : Fin k0_t3_loop.trips, k0_off3 k = ![2, k.val, 0, 0] := fun k => congrArg (fun n => ![2, n, 0, 0]) (iv_toNat (k.cast trips3))
theorem off4_eq : ∀ k : Fin k0_t4_loop.trips, k0_off4 k = ![3, k.val, 0, 0] := fun k => congrArg (fun n => ![3, n, 0, 0]) (iv_toNat (k.cast trips4))
theorem off5_eq : ∀ k : Fin k0_t5_loop.trips, k0_off5 k = ![4, k.val, 0, 0] := fun k => congrArg (fun n => ![4, n, 0, 0]) (iv_toNat (k.cast trips5))

theorem off6_eq (i : grid0.Coords) (h : k0_cond2 i = 1#1) : k0_off6 i = ![(63 - tt i) % 5, 0, 0] :=
  congrArg (fun n => ![n, 0, 0]) (slot0_toNat (i 1) ((cond2_iff i).1 h))

theorem off7_eq (k : Fin k0_t6_loop.trips) : k0_off7 k = ![0, k.val, 0, 0] := congrArg (fun n => ![0, n, 0, 0]) (iv_toNat (k.cast trips6))

theorem off8_eq (i : grid0.Coords) (h : k0_cond2 i = 1#1) (k : Fin k0_t6_loop.trips) : k0_off8 i k = ![(63 - tt i) % 5, k.val, 0, 0] := by
  have e1 := slot0_toNat (i 1) ((cond2_iff i).1 h)
  have e2 := iv_toNat (k.cast trips6)
  show ![_, _, 0, 0] = _
  exact congrArg₂ (fun a b => ![a, b, 0, 0]) e1 e2

theorem off9_eq (k : Fin k0_t7_loop.trips) : k0_off9 k = ![0, k.val] := congrArg (fun n => ![0, n]) (iv_toNat (k.cast trips7))
theorem off10_eq (k : Fin k0_t7_loop.trips) : k0_off10 k = ![1, k.val] := congrArg (fun n => ![1, n]) (iv_toNat (k.cast trips7))
theorem off14_eq (k : Fin k0_t7_loop.trips) : k0_off14 k = ![2, k.val] := congrArg (fun n => ![2, n]) (iv_toNat (k.cast trips7))
theorem off15_eq (k : Fin k0_t7_loop.trips) : k0_off15 k = ![3, k.val] := congrArg (fun n => ![3, n]) (iv_toNat (k.cast trips7))
theorem off18_eq (k : Fin k0_t8_loop.trips) : k0_off18 k = ![4, k.val] := congrArg (fun n => ![4, n]) (iv_toNat (k.cast trips8))
theorem off19_eq (k : Fin k0_t8_loop.trips) : k0_off19 k = ![0, k.val, 0, 0] := congrArg (fun n => ![0, n, 0, 0]) (iv_toNat (k.cast trips8))

theorem half_toNat : ∀ k : Fin 16, (Scalar.indexCast (Scalar.divsi (Scf.iv 0#32 1#32 k.val) 2#32)).toNat = k.val / 2 := by decide

theorem off11_eq (k : Fin k0_t7_loop.trips) : k0_off11 k = ![0, k.val / 2, 0, 0] := congrArg (fun n => ![0, n, 0, 0]) (half_toNat (k.cast trips7))
theorem off16_eq (k : Fin k0_t7_loop.trips) : k0_off16 k = ![0, k.val / 2, 0, 0] := congrArg (fun n => ![0, n, 0, 0]) (half_toNat (k.cast trips7))

theorem off12_eq (i : grid0.Coords) (h : k0_cond2 i = 1#1) (k : Fin k0_t7_loop.trips) (m : Fin 5) :
    k0_off12 i k (BitVec.ofNat 32 m.val) = ![(63 - tt i + m.val) % 5, k.val, 0, 0] :=
  congrArg₂ (fun a b => ![a, b, 0, 0]) (slot_toNat (i 1) m ((cond2_iff i).1 h)) (iv_toNat (k.cast trips7))

theorem off13_eq (i : grid0.Coords) (h : k0_cond2 i = 1#1) (k : Fin k0_t7_loop.trips) (m : Fin 5) :
    k0_off13 i k (BitVec.ofNat 32 m.val) = ![(63 - tt i + m.val) % 5, k.val, 0] :=
  congrArg₂ (fun a b => ![a, b, 0]) (slot_toNat (i 1) m ((cond2_iff i).1 h)) (iv_toNat (k.cast trips7))

theorem off17_eq (i : grid0.Coords) (k : Fin k0_t8_loop.trips) : k0_off17 i k = ![(67 - tt i) % 5, k.val, 0, 0] :=
  congrArg₂ (fun a b => ![a, b, 0, 0]) (slot4_toNat (i 1)) (iv_toNat (k.cast trips8))

end Cert.MainIdeal.Body
-- ==== Proof.MainIdealRing.lean ====
/- The windows of the operands of the pallas_call `main` (idealized) that its body reads and writes: a head of a ring slot, a row of scalars, a
   head of a block; and what a loop over the heads leaves in them. -/
module

public import proofs.«01_k».proof.Proof.MainIdealOff

@[expose] public section

set_option maxRecDepth 16384

noncomputable section

namespace Cert.MainIdeal.Body

open Cert.MainIdeal Cert.MainIdeal.Gen
open Idealize.ShloMosaic Idealize.ShloMosaic.TcCoe
open VecWindow (window put)

section Windows

variable {α : Type}

theorem window_congr {s : Shape} (x : s.Idx → α) {off off' size : Fin s.rank → ℕ} (e : off = off') (inb : ∀ a, off a + size a ≤ s.size a) (inb' : ∀ a, off' a + size a ≤ s.size a) :
    window x off size inb = window x off' size inb' := by subst e; rfl

theorem inb4 (r : Fin 5) (h : Fin 16) : ∀ a, (![r.val, h.val, 0, 0] : Fin 4 → ℕ) a + S1x1x256x256.size a ≤ S5x16x256x256.size a := by
  have := r.isLt; have := h.isLt
  intro a
  match a with
  | 0 => show r.val + 1 ≤ 5; omega
  | 1 => show h.val + 1 ≤ 16; omega
  | 2 => show 0 + 256 ≤ 256; omega
  | 3 => show 0 + 256 ≤ 256; omega

theorem inb16 (h : Fin 16) : ∀ a, (![0, h.val, 0, 0] : Fin 4 → ℕ) a + S1x1x256x256.size a ≤ S1x16x256x256.size a := by
  have := h.isLt
  intro a
  match a with
  | 0 => show 0 + 1 ≤ 1; omega
  | 1 => show h.val + 1 ≤ 16; omega
  | 2 => show 0 + 256 ≤ 256; omega
  | 3 => show 0 + 256 ≤ 256; omega

theorem inb8 (g : Fin 8) : ∀ a, (![0, g.val, 0, 0] : Fin 4 → ℕ) a + S1x1x256x256.size a ≤ S1x8x256x256.size a := by
  have := g.isLt
  intro a
  match a with
  | 0 => show 0 + 1 ≤ 1; omega
  | 1 => show g.val + 1 ≤ 8; omega
  | 2 => show 0 + 256 ≤ 256; omega
  | 3 => show 0 + 256 ≤ 256; omega

theorem inb3 (r : Fin 5) (h : Fin 16) : ∀ a, (![r.val, h.val, 0] : Fin 3 → ℕ) a + S1x1x256.size a ≤ S5x16x256.size a := by
  have := r.isLt; have := h.isLt
  intro a
  match a with
  | 0 => show r.val + 1 ≤ 5; omega
  | 1 => show h.val + 1 ≤ 16; omega
  | 2 => show 0 + 256 ≤ 256; omega

theorem inb3row (h : Fin 16) : ∀ a, (![0, h.val, 0] : Fin 3 → ℕ) a + S1x1x256.size a ≤ S1x16x256.size a := by
  have := h.isLt
  intro a
  match a with
  | 0 => show 0 + 1 ≤ 1; omega
  | 1 => show h.val + 1 ≤ 16; omega
  | 2 => show 0 + 256 ≤ 256; omega

theorem inb2 (r : Fin 5) (h : Fin 16) : ∀ a, (![r.val, h.val] : Fin 2 → ℕ) a + S1x1.size a ≤ S5x16.size a := by
  have := r.isLt; have := h.isLt
  intro a
  match a with
  | 0 => show r.val + 1 ≤ 5; omega
  | 1 => show h.val + 1 ≤ 16; omega

/-- Head `h` of ring slot `r`. -/
def x4 (x : S5x16x256x256.Idx → α) (r : Fin 5) (h : Fin 16) : S1x1x256x256.Idx → α := window x ![r.val, h.val, 0, 0] S1x1x256x256.size (inb4 r h)
/-- The ring with head `h` of slot `r` replaced. -/
def p4 (x : S5x16x256x256.Idx → α) (r : Fin 5) (h : Fin 16) (w : S1x1x256x256.Idx → α) : S5x16x256x256.Idx → α := put x ![r.val, h.val, 0, 0] S1x1x256x256.size w
/-- Head `h` of a block of 16 heads. -/
def z4 (x : S1x16x256x256.Idx → α) (h : Fin 16) : S1x1x256x256.Idx → α := window x ![0, h.val, 0, 0] S1x1x256x256.size (inb16 h)
/-- Head `g` of a block of 8 heads. -/
def y4 (x : S1x8x256x256.Idx → α) (g : Fin 8) : S1x1x256x256.Idx → α := window x ![0, g.val, 0, 0] S1x1x256x256.size (inb8 g)
/-- Head `h` of slot `r` of a ring of rows. -/
def x3 (x : S5x16x256.Idx → α) (r : Fin 5) (h : Fin 16) : S1x1x256.Idx → α := window x ![r.val, h.val, 0] S1x1x256.size (inb3 r h)
/-- Head `h` of a block of rows. -/
def z3 (x : S1x16x256.Idx → α) (h : Fin 16) : S1x1x256.Idx → α := window x ![0, h.val, 0] S1x1x256.size (inb3row h)

theorem window_x4 (x : S5x16x256x256.Idx → α) (off) (inb) (r : Fin 5) (h : Fin 16) (e : off = ![r.val, h.val, 0, 0]) :
    window x off S1x1x256x256.size inb = x4 x r h := window_congr x e _ _

theorem put_p4 (x : S5x16x256x256.Idx → α) (off) (w) (r : Fin 5) (h : Fin 16) (e : off = ![r.val, h.val, 0, 0]) :
    put x off S1x1x256x256.size w = p4 x r h w := by subst e; rfl

theorem x4_p4 (x : S5x16x256x256.Idx → α) (r r' : Fin 5) (h h' : Fin 16) (w : S1x1x256x256.Idx → α) :
    x4 (p4 x r h w) r' h' = if r' = r ∧ h' = h then w else x4 x r' h' := by
  split
  · rename_i e; obtain ⟨rfl, rfl⟩ := e
    exact VecWindow.window_put_same x _ _ _ w
  · rename_i e
    unfold x4 p4
    by_cases hr : r' = r
    · have hh : h'.val ≠ h.val := fun hh => e ⟨hr, Fin.ext hh⟩
      exact VecWindow.window_put_of_disjoint x _ _ _ _ _ w 1 (by show h'.val + 1 ≤ h.val ∨ h.val + 1 ≤ h'.val; omega)
    · have hh : r'.val ≠ r.val := fun hh => hr (Fin.ext hh)
      exact VecWindow.window_put_of_disjoint x _ _ _ _ _ w 0 (by show r'.val + 1 ≤ r.val ∨ r.val + 1 ≤ r'.val; omega)

/-- The block of 16 heads with head `h` replaced. -/
def pz4 (x : S1x16x256x256.Idx → α) (h : Fin 16) (w : S1x1x256x256.Idx → α) : S1x16x256x256.Idx → α := put x ![0, h.val, 0, 0] S1x1x256x256.size w
/-- The block of 8 heads with head `g` replaced. -/
def py4 (x : S1x8x256x256.Idx → α) (g : Fin 8) (w : S1x1x256x256.Idx → α) : S1x8x256x256.Idx → α := put x ![0, g.val, 0, 0] S1x1x256x256.size w

theorem z4_pz4 (x : S1x16x256x256.Idx → α) (h h' : Fin 16) (w : S1x1x256x256.Idx → α) :
    z4 (pz4 x h w) h' = if h' = h then w else z4 x h' := by
  split
  · rename_i e; subst e
    exact VecWindow.window_put_same x _ _ _ w
  · rename_i e
    have hh : h'.val ≠ h.val := fun hh => e (Fin.ext hh)
    exact VecWindow.window_put_of_disjoint x _ _ _ _ _ w 1 (by show h'.val + 1 ≤ h.val ∨ h.val + 1 ≤ h'.val; omega)

theorem y4_py4 (x : S1x8x256x256.Idx → α) (h h' : Fin 8) (w : S1x1x256x256.Idx → α) :
    y4 (py4 x h w) h' = if h' = h then w else y4 x h' := by
  split
  · rename_i e; subst e
    exact VecWindow.window_put_same x _ _ _ w
  · rename_i e
    have hh : h'.val ≠ h.val := fun hh => e (Fin.ext hh)
    exact VecWindow.window_put_of_disjoint x _ _ _ _ _ w 1 (by show h'.val + 1 ≤ h.val ∨ h.val + 1 ≤ h'.val; omega)

/-- The slot of a ring of rows replaced. -/
def p3 (x : S5x16x256.Idx → α) (r : Fin 5) (w : S1x16x256.Idx → α) : S5x16x256.Idx → α := put x ![r.val, 0, 0] S1x16x256.size w

theorem put_p3 (x : S5x16x256.Idx → α) (off) (w) (r : Fin 5) (e : off = ![r.val, 0, 0]) :
    put x off S1x16x256.size w = p3 x r w := by subst e; rfl

theorem x3_p3 (x : S5x16x256.Idx → α) (r r' : Fin 5) (h : Fin 16) (w : S1x16x256.Idx → α) :
    x3 (p3 x r w) r' h = if r' = r then z3 w h else x3 x r' h := by
  split
  · rename_i e; subst e
    refine (VecWindow.window_put_of_inside x ![r'.val, 0, 0] S1x16x256.size ![r'.val, h.val, 0] S1x1x256.size (inb3 r' h) w ?_).trans ?_
    · have := h.isLt
      intro a
      match a with
      | 0 => show r'.val ≤ r'.val ∧ r'.val + 1 ≤ r'.val + 1; omega
      | 1 => show 0 ≤ h.val ∧ h.val + 1 ≤ 0 + 16; omega
      | 2 => show 0 ≤ 0 ∧ 0 + 256 ≤ 0 + 256; omega
    · refine window_congr (s := S1x16x256) w ?_ _ _
      funext a
      match a with
      | 0 => show r'.val - r'.val = 0; omega
      | 1 => show h.val - 0 = h.val; omega
      | 2 => rfl
  · rename_i e
    have hh : r'.val ≠ r.val := fun hh => e (Fin.ext hh)
    exact VecWindow.window_put_of_disjoint x _ _ _ _ _ w 0 (by show r'.val + 1 ≤ r.val ∨ r.val + 1 ≤ r'.val; omega)

/-- The index within a head. -/
def in2 (a b : Fin 256) : S1x1x256x256.Idx := fun
  | 0 => (0 : Fin 1)
  | 1 => (0 : Fin 1)
  | 2 => a
  | 3 => b

/-- A block of 16 heads from its heads. -/
def glue16 (f : Fin 16 → S1x1x256x256.Idx → α) : S1x16x256x256.Idx → α := fun y => f (y 1) (in2 (y 2) (y 3))
/-- A block of 8 heads from its heads. -/
def glue8 (f : Fin 8 → S1x1x256x256.Idx → α) : S1x8x256x256.Idx → α := fun y => f (y 1) (in2 (y 2) (y 3))

theorem eq_glue16 (x : S1x16x256x256.Idx → α) (f : Fin 16 → S1x1x256x256.Idx → α) (hf : ∀ h, z4 x h = f h) : x = glue16 f := by
  funext y
  have e := congrFun (hf (y 1)) (in2 (y 2) (y 3))
  refine Eq.trans (congrArg x (funext fun a => ?_)) e
  match a with
  | 0 => exact Subsingleton.elim (α := Fin 1) _ _
  | 1 => exact Fin.ext (show (y 1).val = (y 1).val + 1 * 0 by omega)
  | 2 => exact Fin.ext (show (y 2).val = 0 + 1 * (y 2).val by omega)
  | 3 => exact Fin.ext (show (y 3).val = 0 + 1 * (y 3).val by omega)

theorem eq_glue8 (x : S1x8x256x256.Idx → α) (f : Fin 8 → S1x1x256x256.Idx → α) (hf : ∀ h, y4 x h = f h) : x = glue8 f := by
  funext y
  have e := congrFun (hf (y 1)) (in2 (y 2) (y 3))
  refine Eq.trans (congrArg x (funext fun a => ?_)) e
  match a with
  | 0 => exact Subsingleton.elim (α := Fin 1) _ _
  | 1 => exact Fin.ext (show (y 1).val = (y 1).val + 1 * 0 by omega)
  | 2 => exact Fin.ext (show (y 2).val = 0 + 1 * (y 2).val by omega)
  | 3 => exact Fin.ext (show (y 3).val = 0 + 1 * (y 3).val by omega)

end Windows

variable {F : FTy → Type} [FloatOps F] [Named F]

/-- An entry of the table of scales. -/
def x2 (x : Vec F S5x16 .f32) (r : Fin 5) (h : Fin 16) : Elt F .f32 := smem x ![r.val, h.val] (inb2 r h)

theorem smem_x2 (x : Vec F S5x16 .f32) (off) (inb) (r : Fin 5) (h : Fin 16) (e : off = ![r.val, h.val]) : smem x off inb = x2 x r h := by subst e; rfl

/-- A loop over the heads that replaces head after head of one slot of the two rings of blocks. -/
theorem ring_loop {N : ℕ} (hN : N = 16) (f : Fin N → St F → St F) (r : Fin 5) (u : Fin 16 → Vec F S1x1x256x256 .fp8e4m3)
    (v : Fin 16 → Vec F S1x1x256x256 .fp8e5m2) (s : St F)
    (hf : ∀ k X Y, f k {s with a12 := X, a13 := Y} = {s with a12 := p4 X r (k.cast hN) (u (k.cast hN)), a13 := p4 Y r (k.cast hN) (v (k.cast hN))}) :
    ∃ X Y, iter f s N = {s with a12 := X, a13 := Y} ∧ (∀ r' h, x4 X r' h = if r' = r then u h else x4 s.a12 r' h)
      ∧ (∀ r' h, x4 Y r' h = if r' = r then v h else x4 s.a13 r' h) := by
  subst hN
  have key : ∀ n, n ≤ 16 → ∃ X Y, iter f s n = {s with a12 := X, a13 := Y} ∧ (∀ r' h, x4 X r' h = if r' = r ∧ h.val < n then u h else x4 s.a12 r' h)
      ∧ (∀ r' h, x4 Y r' h = if r' = r ∧ h.val < n then v h else x4 s.a13 r' h) := by
    intro n
    induction n with
    | zero =>
      intro _
      refine ⟨s.a12, s.a13, rfl, fun r' h => ?_, fun r' h => ?_⟩
      · rw [if_neg (by omega)]
      · rw [if_neg (by omega)]
    | succ n ih =>
      intro hn
      obtain ⟨X, Y, e, hX, hY⟩ := ih (by omega)
      refine ⟨p4 X r ⟨n, hn⟩ (u ⟨n, hn⟩), p4 Y r ⟨n, hn⟩ (v ⟨n, hn⟩), ?_, fun r' h => ?_, fun r' h => ?_⟩
      · rw [iter, dif_pos (show n < 16 by omega), e]
        exact hf ⟨n, hn⟩ X Y
      · rw [x4_p4, hX]
        by_cases c1 : r' = r
        · by_cases c2 : h.val = n
          · obtain rfl : h = ⟨n, hn⟩ := Fin.ext c2
            rw [if_pos ⟨c1, rfl⟩, if_pos ⟨c1, by show n < n + 1; omega⟩]
          · rw [if_neg (fun hh => c2 (congrArg Fin.val hh.2))]
            by_cases c3 : h.val < n
            · rw [if_pos ⟨c1, c3⟩, if_pos ⟨c1, by omega⟩]
            · rw [if_neg (fun hh => c3 hh.2), if_neg (fun hh => by omega)]
        · rw [if_neg (fun hh => c1 hh.1), if_neg (fun hh => c1 hh.1), if_neg (fun hh => c1 hh.1)]
      · rw [x4_p4, hY]
        by_cases c1 : r' = r
        · by_cases c2 : h.val = n
          · obtain rfl : h = ⟨n, hn⟩ := Fin.ext c2
            rw [if_pos ⟨c1, rfl⟩, if_pos ⟨c1, by show n < n + 1; omega⟩]
          · rw [if_neg (fun hh => c2 (congrArg Fin.val hh.2))]
            by_cases c3 : h.val < n
            · rw [if_pos ⟨c1, c3⟩, if_pos ⟨c1, by omega⟩]
            · rw [if_neg (fun hh => c3 hh.2), if_neg (fun hh => by omega)]
        · rw [if_neg (fun hh => c1 hh.1), if_neg (fun hh => c1 hh.1), if_neg (fun hh => c1 hh.1)]
  obtain ⟨X, Y, e, hX, hY⟩ := key 16 (Nat.le_refl _)
  refine ⟨X, Y, e, fun r' h => ?_, fun r' h => ?_⟩
  · rw [hX]
    by_cases c : r' = r
    · rw [if_pos ⟨c, h.isLt⟩, if_pos c]
    · rw [if_neg (fun hh => c hh.1), if_neg c]
  · rw [hY]
    by_cases c : r' = r
    · rw [if_pos ⟨c, h.isLt⟩, if_pos c]
    · rw [if_neg (fun hh => c hh.1), if_neg c]

/-- The query block held in slot `r` of the rings, head `h`. -/
def slotQ (s : St F) (r : Fin 5) (h : Fin 16) : QBlk F := ⟨x4 s.a12 r h, x4 s.a13 r h, x3 s.a14 r h, x3 s.a15 r h⟩

/-- The block the rings are cleared to. -/
def zeroQ (h : Fin 16) : QBlk F := ⟨k0_pay10, k0_pay11, z3 (k0_pay12 (F := F)) h, z3 (k0_pay13 (F := F)) h⟩

/-- A slot of the rings, the number of blocks counted from block `n`. -/
def sl (n : ℕ) (m : Fin 5) : Fin 5 := ⟨(n + m.val) % 5, Nat.mod_lt _ (by omega)⟩

theorem sl_inj (n : ℕ) (a b : Fin 5) : sl n a = sl n b ↔ a = b := by
  constructor
  · intro e
    have e' : (n + a.val) % 5 = (n + b.val) % 5 := congrArg Fin.val e
    have := a.isLt; have := b.isLt
    exact Fin.ext (by omega)
  · rintro rfl; rfl

theorem sl_surj (n : ℕ) (r : Fin 5) : ∃ m, sl n m = r := by
  have := r.isLt
  refine ⟨⟨(r.val + 5 - n % 5) % 5, Nat.mod_lt _ (by omega)⟩, Fin.ext ?_⟩
  show (n + (r.val + 5 - n % 5) % 5) % 5 = r.val
  omega

/-- Clearing leaves every slot of the four rings cleared, and nothing else changed. -/
theorem clear_spec (i : grid0.Coords) (h1 : k0_cond1 i = 1#1) (s : St F) :
    ∃ X Y L E, part2St i h1 (k0_pay20 (F := F)) (part1St i h1 s) = {s with a12 := X, a13 := Y, a14 := L, a15 := E}
      ∧ ∀ r h, slotQ (F := F) {s with a12 := X, a13 := Y, a14 := L, a15 := E} r h = zeroQ h := by
  obtain ⟨X1, Y1, e1, hX1, hY1⟩ := ring_loop trips1 (t1St i h1) 0 (fun _ => k0_pay10) (fun _ => k0_pay11) s
    (fun k X Y => by simp only [t1St]; rw [put_p4 X _ _ 0 (k.cast trips1) (off1_eq k), put_p4 Y _ _ 0 (k.cast trips1) (off1_eq k)])
  obtain ⟨X2, Y2, e2, hX2, hY2⟩ := ring_loop trips2 (t2St i h1) 1 (fun _ => k0_pay10) (fun _ => k0_pay11)
    {s with a12 := X1, a13 := Y1, a14 := p3 s.a14 0 (k0_pay12 (F := F)), a15 := p3 s.a15 0 (k0_pay13 (F := F))}
    (fun k X Y => by simp only [t2St]; rw [put_p4 X _ _ 1 (k.cast trips2) (off2_eq k), put_p4 Y _ _ 1 (k.cast trips2) (off2_eq k)]; rfl)
  obtain ⟨X3, Y3, e3, hX3, hY3⟩ := ring_loop trips3 (t3St i h1) 2 (fun _ => k0_pay10) (fun _ => k0_pay11)
    {s with a12 := X2, a13 := Y2, a14 := p3 (p3 s.a14 0 (k0_pay12 (F := F))) 1 (k0_pay12 (F := F)), a15 := p3 (p3 s.a15 0 (k0_pay13 (F := F))) 1 (k0_pay13 (F := F))}
    (fun k X Y => by simp only [t3St]; rw [put_p4 X _ _ 2 (k.cast trips3) (off3_eq k), put_p4 Y _ _ 2 (k.cast trips3) (off3_eq k)]; rfl)
  obtain ⟨X4, Y4, e4, hX4, hY4⟩ := ring_loop trips4 (t4St i h1) 3 (fun _ => k0_pay10) (fun _ => k0_pay11)
    {s with a12 := X3, a13 := Y3, a14 := p3 (p3 (p3 s.a14 0 (k0_pay12 (F := F))) 1 (k0_pay12 (F := F))) 2 (k0_pay12 (F := F)), a15 := p3 (p3 (p3 s.a15 0 (k0_pay13 (F := F))) 1 (k0_pay13 (F := F))) 2 (k0_pay13 (F := F))}
    (fun k X Y => by simp only [t4St]; rw [put_p4 X _ _ 3 (k.cast trips4) (off4_eq k), put_p4 Y _ _ 3 (k.cast trips4) (off4_eq k)]; rfl)
  obtain ⟨X5, Y5, e5, hX5, hY5⟩ := ring_loop trips5 (t5St i h1) 4 (fun _ => k0_pay10) (fun _ => k0_pay11)
    {s with a12 := X4, a13 := Y4, a14 := p3 (p3 (p3 (p3 s.a14 0 (k0_pay12 (F := F))) 1 (k0_pay12 (F := F))) 2 (k0_pay12 (F := F))) 3 (k0_pay12 (F := F)), a15 := p3 (p3 (p3 (p3 s.a15 0 (k0_pay13 (F := F))) 1 (k0_pay13 (F := F))) 2 (k0_pay13 (F := F))) 3 (k0_pay13 (F := F))}
    (fun k X Y => by simp only [t5St]; rw [put_p4 X _ _ 4 (k.cast trips5) (off5_eq k), put_p4 Y _ _ 4 (k.cast trips5) (off5_eq k)]; rfl)
  refine ⟨X5, Y5, p3 (p3 (p3 (p3 (p3 s.a14 0 (k0_pay12 (F := F))) 1 (k0_pay12 (F := F))) 2 (k0_pay12 (F := F))) 3 (k0_pay12 (F := F))) 4 (k0_pay12 (F := F)),
    p3 (p3 (p3 (p3 (p3 s.a15 0 (k0_pay13 (F := F))) 1 (k0_pay13 (F := F))) 2 (k0_pay13 (F := F))) 3 (k0_pay13 (F := F))) 4 (k0_pay13 (F := F)), ?_, fun r h => ?_⟩
  · have p1 : part1St i h1 s = {s with a12 := X3, a13 := Y3, a14 := p3 (p3 s.a14 0 (k0_pay12 (F := F))) 1 (k0_pay12 (F := F)), a15 := p3 (p3 s.a15 0 (k0_pay13 (F := F))) 1 (k0_pay13 (F := F))} := by
      unfold part1St
      dsimp only
      rw [e1]
      refine Eq.trans ?_ e3
      refine congrArg (fun u => iter (t3St i h1) u k0_t3_loop.trips) ?_
      have e2' : iter (t2St i h1) {s with a12 := X1, a13 := Y1, a14 := put s.a14 ![0, 0, 0] S1x16x256.size (k0_pay12 (F := F)), a15 := put s.a15 ![0, 0, 0] S1x16x256.size (k0_pay13 (F := F))} k0_t2_loop.trips = _ := e2
      rw [e2']
      rfl
    rw [p1]
    unfold part2St
    dsimp only
    have e4' : iter (t4St i h1) {s with a12 := X3, a13 := Y3, a14 := put (p3 (p3 s.a14 0 (k0_pay12 (F := F))) 1 (k0_pay12 (F := F))) ![2, 0, 0] S1x16x256.size (k0_pay21 (k0_pay20 (F := F))), a15 := put (p3 (p3 s.a15 0 (k0_pay13 (F := F))) 1 (k0_pay13 (F := F))) ![2, 0, 0] S1x16x256.size (k0_pay22 (F := F))} k0_t4_loop.trips = _ := e4
    rw [e4']
    dsimp only
    have e5' : iter (t5St i h1) {s with a12 := X4, a13 := Y4, a14 := put (p3 (p3 (p3 s.a14 0 (k0_pay12 (F := F))) 1 (k0_pay12 (F := F))) 2 (k0_pay12 (F := F))) ![3, 0, 0] S1x16x256.size (k0_pay25 (F := F)), a15 := put (p3 (p3 (p3 s.a15 0 (k0_pay13 (F := F))) 1 (k0_pay13 (F := F))) 2 (k0_pay13 (F := F))) ![3, 0, 0] S1x16x256.size (k0_pay26 (F := F))} k0_t5_loop.trips = _ := e5
    rw [e5']
    rfl
  · unfold slotQ zeroQ
    dsimp only
    rw [hX5, hY5]
    dsimp only
    rw [hX4, hY4]
    dsimp only
    rw [hX3, hY3]
    dsimp only
    rw [hX2, hY2]
    dsimp only
    rw [hX1, hY1, x3_p3, x3_p3, x3_p3, x3_p3, x3_p3, x3_p3, x3_p3, x3_p3, x3_p3, x3_p3]
    match r with
    | 0 => rfl
    | 1 => rfl
    | 2 => rfl
    | 3 => rfl
    | 4 => rfl

end Cert.MainIdeal.Body
-- ==== Proof.MainIdealLoop.lean ====
/- What the loops over the heads in the body of the pallas_call `main` (idealized) leave: the new query block in its ring slot, the five query
   blocks' dq advanced, the finished heads of dk and dv, and the finished dq block. -/
module

public import proofs.«01_k».proof.Proof.MainIdealRing

@[expose] public section

set_option maxRecDepth 16384

noncomputable section

namespace Cert.MainIdeal.Body

open Cert.MainIdeal Cert.MainIdeal.Gen
open Idealize.ShloMosaic Idealize.ShloMosaic.TcCoe
open VecWindow (window put)

variable {F : FTy → Type} [FloatOps F] [Named F]

/-- The key head of a query head. -/
def half (h : Fin 16) : Fin 8 := ⟨h.val / 2, by have := h.isLt; omega⟩
/-- The first query head of a key head. -/
def ev (g : Fin 8) : Fin 16 := ⟨2 * g.val, by have := g.isLt; omega⟩
/-- The second query head of a key head. -/
def od (g : Fin 8) : Fin 16 := ⟨2 * g.val + 1, by have := g.isLt; omega⟩

/-- The key block's values for one head. -/
def kb (a2 : Vec F S5x16 .f32) (a5 a6 : Vec F S1x8x256x256 .fp8e4m3) (h : Fin 16) : KBlk F :=
  ⟨x2 a2 0 h, x2 a2 1 h, x2 a2 2 h, x2 a2 3 h, y4 a5 (half h), y4 a6 (half h)⟩

theorem kblk_eq (i : grid0.Coords) (h2 : k0_cond2 i = 1#1) (k : Fin k0_t7_loop.trips) (s : St F) : kblk i h2 k s = kb s.a2 s.a5 s.a6 (k.cast trips7) := by
  unfold kblk kb
  rw [smem_x2 s.a2 _ _ 0 (k.cast trips7) (off9_eq k), smem_x2 s.a2 _ _ 1 (k.cast trips7) (off10_eq k), smem_x2 s.a2 _ _ 2 (k.cast trips7) (off14_eq k),
    smem_x2 s.a2 _ _ 3 (k.cast trips7) (off15_eq k)]
  have e5 : window s.a5 (k0_off11 k) S1x1x256x256.size (k0_off11_inb i k h2) = y4 s.a5 (half (k.cast trips7)) := window_congr _ (off11_eq k) _ _
  have e6 : window s.a6 (k0_off11 k) S1x1x256x256.size (k0_off11_inb i k h2) = y4 s.a6 (half (k.cast trips7)) := window_congr _ (off11_eq k) _ _
  rw [e5, e6]

theorem qblk_eq (i : grid0.Coords) (h2 : k0_cond2 i = 1#1) (k : Fin k0_t7_loop.trips) (m : Fin 5) (s : St F) :
    qblk i h2 k m s = slotQ s (sl (63 - tt i) m) (k.cast trips7) := by
  unfold qblk slotQ
  rw [window_x4 s.a12 _ _ (sl (63 - tt i) m) (k.cast trips7) (off12_eq i h2 k m), window_x4 s.a13 _ _ (sl (63 - tt i) m) (k.cast trips7) (off12_eq i h2 k m)]
  have e5 : window s.a14 (k0_off13 i k (BitVec.ofNat 32 m.val)) S1x1x256.size (k0_off13_inb i k h2 m) = x3 s.a14 (sl (63 - tt i) m) (k.cast trips7) := window_congr _ (off13_eq i h2 k m) _ _
  have e6 : window s.a15 (k0_off13 i k (BitVec.ofNat 32 m.val)) S1x1x256.size (k0_off13_inb i k h2 m) = x3 s.a15 (sl (63 - tt i) m) (k.cast trips7) := window_congr _ (off13_eq i h2 k m) _ _
  rw [e5, e6]

/-- What is stored for dq of the query block `m` blocks after the key block. -/
def dqU (m : Fin 5) (K : KBlk F) (Q : QBlk F) (old : Vec F S1x1x256x256 .f32) : Vec F S1x1x256x256 .f32 :=
  match m with
  | 0 => dq0 K Q
  | 1 => dq1 K Q old
  | 2 => dq2 K Q old
  | 3 => dq3 K Q old
  | 4 => dq4 K Q old

theorem dqPut_eq (i : grid0.Coords) (h2 : k0_cond2 i = 1#1) (k : Fin k0_t7_loop.trips) (m : Fin 5) (x : Vec F S5x16x256x256 .f32) (w) :
    dqPut i k m x w = p4 x (sl (63 - tt i) m) (k.cast trips7) w := put_p4 x _ w (sl (63 - tt i) m) (k.cast trips7) (off12_eq i h2 k m)

theorem dqWin_eq (i : grid0.Coords) (h2 : k0_cond2 i = 1#1) (k : Fin k0_t7_loop.trips) (m : Fin 5) (x : Vec F S5x16x256x256 .f32) :
    dqWin i h2 k m x = x4 x (sl (63 - tt i) m) (k.cast trips7) := window_x4 x _ _ (sl (63 - tt i) m) (k.cast trips7) (off12_eq i h2 k m)

theorem dqRing_spec (i : grid0.Coords) (h2 : k0_cond2 i = 1#1) (k : Fin k0_t7_loop.trips) (s : St F) (m : Fin 5) (h : Fin 16) :
    x4 (dqRing i h2 k s) (sl (63 - tt i) m) h = if h = k.cast trips7 then
        dqU m (kb s.a2 s.a5 s.a6 h) (slotQ s (sl (63 - tt i) m) h) (x4 s.a16 (sl (63 - tt i) m) h)
      else x4 s.a16 (sl (63 - tt i) m) h := by
  unfold dqRing
  simp only [kblk_eq, qblk_eq, dqPut_eq i h2, dqWin_eq, x4_p4, sl_inj]
  by_cases e : h = k.cast trips7
  · subst e
    match m with
    | 0 => simp [dqU]
    | 1 => simp [dqU]
    | 2 => simp [dqU]
    | 3 => simp [dqU]
    | 4 => simp [dqU]
  · simp only [e, and_false, if_false]

/-- One head's contribution to dk of the key block, from the five slots of the rings. -/
def dkH (n : ℕ) (s : St F) (h : Fin 16) : FVec F S256x256 .f32 :=
  dkHead (kb s.a2 s.a5 s.a6 h) (slotQ s (sl n 0) h) (slotQ s (sl n 1) h) (slotQ s (sl n 2) h) (slotQ s (sl n 3) h) (slotQ s (sl n 4) h)

/-- One head's contribution to dv of the key block, from the five slots of the rings. -/
def dvH (n : ℕ) (s : St F) (h : Fin 16) : FVec F S256x256 .f32 :=
  dvHead (kb s.a2 s.a5 s.a6 h) (slotQ s (sl n 0) h) (slotQ s (sl n 1) h) (slotQ s (sl n 2) h) (slotQ s (sl n 3) h) (slotQ s (sl n 4) h)

theorem dkTrip_eq (i : grid0.Coords) (h2 : k0_cond2 i = 1#1) (k : Fin k0_t7_loop.trips) (s : St F) : dkTrip i h2 k s = dkH (63 - tt i) s (k.cast trips7) := by
  unfold dkTrip dkH
  simp only [kblk_eq, qblk_eq]

theorem dvTrip_eq (i : grid0.Coords) (h2 : k0_cond2 i = 1#1) (k : Fin k0_t7_loop.trips) (s : St F) : dvTrip i h2 k s = dvH (63 - tt i) s (k.cast trips7) := by
  unfold dvTrip dvH
  simp only [kblk_eq, qblk_eq]

theorem put_py4 {α : Type} (x : S1x8x256x256.Idx → α) (off) (w) (g : Fin 8) (e : off = ![0, g.val, 0, 0]) :
    put x off S1x1x256x256.size w = py4 x g w := by subst e; rfl

/-- The loop that processes the heads of one key block. -/
theorem t7_spec (i : grid0.Coords) (h2 : k0_cond2 i = 1#1) (s : St F) :
    ∃ R C D, iter (t7St i h2) s k0_t7_loop.trips = {s with
          a10 := glue8 fun g => k0_pay7 (dkH (63 - tt i) s (od g)) (k0_pay5 (dkH (63 - tt i) s (ev g)))
          a11 := glue8 fun g => k0_pay8 (dvH (63 - tt i) s (od g)) (k0_pay6 (dvH (63 - tt i) s (ev g)))
          a16 := R, a17 := C, a18 := D}
      ∧ ∀ m h, x4 R (sl (63 - tt i) m) h = dqU m (kb s.a2 s.a5 s.a6 h) (slotQ s (sl (63 - tt i) m) h) (x4 s.a16 (sl (63 - tt i) m) h) := by
  have key : ∀ n, n ≤ 16 → ∃ A B R C D, iter (t7St i h2) s n = {s with a10 := A, a11 := B, a16 := R, a17 := C, a18 := D}
      ∧ (∀ m h, x4 R (sl (63 - tt i) m) h = if h.val < n then dqU m (kb s.a2 s.a5 s.a6 h) (slotQ s (sl (63 - tt i) m) h) (x4 s.a16 (sl (63 - tt i) m) h)
          else x4 s.a16 (sl (63 - tt i) m) h)
      ∧ (∀ g : Fin 8, 2 * g.val + 1 < n → y4 A g = k0_pay7 (dkH (63 - tt i) s (od g)) (k0_pay5 (dkH (63 - tt i) s (ev g))))
      ∧ (∀ g : Fin 8, 2 * g.val + 1 < n → y4 B g = k0_pay8 (dvH (63 - tt i) s (od g)) (k0_pay6 (dvH (63 - tt i) s (ev g))))
      ∧ (∀ g : Fin 8, n = 2 * g.val + 1 → window C ![0, 0] S256x256.size inb_S256x256_S256x256_0_0 = k0_pay5 (dkH (63 - tt i) s (ev g)))
      ∧ (∀ g : Fin 8, n = 2 * g.val + 1 → window D ![0, 0] S256x256.size inb_S256x256_S256x256_0_0 = k0_pay6 (dvH (63 - tt i) s (ev g))) := by
    intro n
    induction n with
    | zero =>
      intro _
      refine ⟨s.a10, s.a11, s.a16, s.a17, s.a18, rfl, fun m h => ?_, fun g hg => ?_, fun g hg => ?_, fun g hg => ?_, fun g hg => ?_⟩
      · rw [if_neg (by omega)]
      all_goals omega
    | succ n ih =>
      intro hn
      obtain ⟨A, B, R, C, D, e, hR, hA, hB, hC, hD⟩ := ih (by omega)
      have hN : n < k0_t7_loop.trips := by rw [trips7]; omega
      have hR' : ∀ m h, x4 (dqRing i h2 ⟨n, hN⟩ {s with a10 := A, a11 := B, a16 := R, a17 := C, a18 := D}) (sl (63 - tt i) m) h =
          if h.val < n + 1 then dqU m (kb s.a2 s.a5 s.a6 h) (slotQ s (sl (63 - tt i) m) h) (x4 s.a16 (sl (63 - tt i) m) h)
          else x4 s.a16 (sl (63 - tt i) m) h := by
        intro m h
        refine (dqRing_spec i h2 ⟨n, hN⟩ {s with a10 := A, a11 := B, a16 := R, a17 := C, a18 := D} m h).trans ?_
        dsimp only
        rw [hR m h]
        by_cases c : h.val = n
        · obtain rfl : h = Fin.cast trips7 ⟨n, hN⟩ := Fin.ext c
          rw [if_pos rfl, if_neg (show ¬ (Fin.cast trips7 ⟨n, hN⟩).val < n from Nat.lt_irrefl n), if_pos (show (Fin.cast trips7 ⟨n, hN⟩).val < n + 1 from Nat.lt_succ_self n)]
          rfl
        · rw [if_neg (fun hh => c (congrArg Fin.val hh))]
          by_cases c3 : h.val < n
          · rw [if_pos c3, if_pos (by omega)]
          · rw [if_neg c3, if_neg (by omega)]
      have hk : dkTrip i h2 ⟨n, hN⟩ {s with a10 := A, a11 := B, a16 := R, a17 := C, a18 := D} = dkH (63 - tt i) s (Fin.cast trips7 ⟨n, hN⟩) := dkTrip_eq i h2 ⟨n, hN⟩ _
      have hv : dvTrip i h2 ⟨n, hN⟩ {s with a10 := A, a11 := B, a16 := R, a17 := C, a18 := D} = dvH (63 - tt i) s (Fin.cast trips7 ⟨n, hN⟩) := dvTrip_eq i h2 ⟨n, hN⟩ _
      rw [iter, dif_pos hN, e]
      unfold t7St
      rw [hk, hv]
      by_cases c : n % 2 = 0
      · have ce : evenBit ⟨n, hN⟩ = 1#1 := (even_iff _).2 c
        have co : ¬ k0_cond4 ⟨n, hN⟩ = 1#1 := fun h => by have := (cond4_iff _).1 h; dsimp only at this; omega
        unfold oddSt evenSt
        rw [dif_neg co, dif_pos ce]
        refine ⟨A, B, _, _, _, rfl, hR', fun g hg => hA g (by omega), fun g hg => hB g (by omega), fun g hg => ?_, fun g hg => ?_⟩
        · obtain rfl : n = 2 * g.val := by omega
          exact VecWindow.window_put_same C _ _ _ _
        · obtain rfl : n = 2 * g.val := by omega
          exact VecWindow.window_put_same D _ _ _ _
      · have ce : ¬ evenBit ⟨n, hN⟩ = 1#1 := fun h => c ((even_iff _).1 h)
        have co : k0_cond4 ⟨n, hN⟩ = 1#1 := (cond4_iff _).2 (by dsimp only; omega)
        unfold oddSt evenSt
        rw [dif_pos co, dif_neg ce]
        have hg2 : n / 2 < 8 := by omega
        refine ⟨py4 A ⟨n / 2, hg2⟩ (k0_pay7 (dkH (63 - tt i) s (Fin.cast trips7 ⟨n, hN⟩)) (window C ![0, 0] S256x256.size inb_S256x256_S256x256_0_0)),
          py4 B ⟨n / 2, hg2⟩ (k0_pay8 (dvH (63 - tt i) s (Fin.cast trips7 ⟨n, hN⟩)) (window D ![0, 0] S256x256.size inb_S256x256_S256x256_0_0)), _, C, D, ?_, hR', fun g hg => ?_, fun g hg => ?_, fun g hg => by omega, fun g hg => by omega⟩
        · dsimp only
          rw [put_py4 A _ _ ⟨n / 2, hg2⟩ (off16_eq _), put_py4 B _ _ ⟨n / 2, hg2⟩ (off16_eq _)]
        · rw [y4_py4]
          by_cases c2 : g.val = n / 2
          · obtain rfl : g = ⟨n / 2, hg2⟩ := Fin.ext c2
            rw [if_pos rfl, hC ⟨n / 2, hg2⟩ (by dsimp only; omega)]
            have : Fin.cast trips7 ⟨n, hN⟩ = od ⟨n / 2, hg2⟩ := Fin.ext (show n = 2 * (n / 2) + 1 by omega)
            rw [this]
          · rw [if_neg (fun hh => c2 (congrArg Fin.val hh))]
            exact hA g (by omega)
        · rw [y4_py4]
          by_cases c2 : g.val = n / 2
          · obtain rfl : g = ⟨n / 2, hg2⟩ := Fin.ext c2
            rw [if_pos rfl, hD ⟨n / 2, hg2⟩ (by dsimp only; omega)]
            have : Fin.cast trips7 ⟨n, hN⟩ = od ⟨n / 2, hg2⟩ := Fin.ext (show n = 2 * (n / 2) + 1 by omega)
            rw [this]
          · rw [if_neg (fun hh => c2 (congrArg Fin.val hh))]
            exact hB g (by omega)
  obtain ⟨A, B, R, C, D, e, hR, hA, hB, -, -⟩ := key 16 (Nat.le_refl _)
  refine ⟨R, C, D, ?_, fun m h => by rw [hR m h, if_pos h.isLt]⟩
  rw [← eq_glue8 A _ (fun g => hA g (by have := g.isLt; omega)), ← eq_glue8 B _ (fun g => hB g (by have := g.isLt; omega))]
  exact (congrArg (iter (t7St i h2) s) trips7).trans e

/-- The query block of a pair of input blocks, for one head. -/
def inQ (a3 : Vec F S1x16x256x256 .fp8e4m3) (a4 : Vec F S1x16x256x256 .fp8e5m2) (a7 a8 : Vec F S1x16x256 .f32) (h : Fin 16) : QBlk F :=
  ⟨k0_pay3 (z4 a3 h), k0_pay4 (z4 a4 h), z3 (k0_pay1 (window a7 ![0, 0, 0] S1x16x256.size inb_S1x16x256_S1x16x256_0_0_0)) h,
    z3 (k0_pay2 (window a8 ![0, 0, 0] S1x16x256.size inb_S1x16x256_S1x16x256_0_0_0)) h⟩

/-- The rows of the new query block put into their slot. -/
def midSt (n : ℕ) (s : St F) : St F :=
  {s with
    a14 := p3 s.a14 (sl n 0) (k0_pay1 (window s.a7 ![0, 0, 0] S1x16x256.size inb_S1x16x256_S1x16x256_0_0_0))
    a15 := p3 s.a15 (sl n 0) (k0_pay2 (window s.a8 ![0, 0, 0] S1x16x256.size inb_S1x16x256_S1x16x256_0_0_0))}

theorem mainSt_eq (i : grid0.Coords) (h2 : k0_cond2 i = 1#1) (s : St F) :
    mainSt i h2 s = iter (t7St i h2) (iter (t6St i h2) (midSt (63 - tt i) s) k0_t6_loop.trips) k0_t7_loop.trips := by
  have eoff : k0_off6 i = ![(sl (63 - tt i) 0).val, 0, 0] := off6_eq i h2
  unfold mainSt midSt
  rw [← put_p3 s.a14 _ _ _ eoff, ← put_p3 s.a15 _ _ _ eoff]

theorem t6St_eq (i : grid0.Coords) (h2 : k0_cond2 i = 1#1) (s : St F) (k : Fin k0_t6_loop.trips) (X Y) :
    t6St i h2 k {s with a12 := X, a13 := Y} = {s with a12 := p4 X (sl (63 - tt i) 0) (k.cast trips6) (k0_pay3 (z4 s.a3 (k.cast trips6))), a13 := p4 Y (sl (63 - tt i) 0) (k.cast trips6) (k0_pay4 (z4 s.a4 (k.cast trips6)))} := by
  have ea : window s.a3 (k0_off7 k) S1x1x256x256.size (k0_off7_inb i k h2) = z4 s.a3 (k.cast trips6) := window_congr _ (off7_eq k) _ _
  have eb : window s.a4 (k0_off7 k) S1x1x256x256.size (k0_off7_inb i k h2) = z4 s.a4 (k.cast trips6) := window_congr _ (off7_eq k) _ _
  rw [← put_p4 X _ _ (sl (63 - tt i) 0) (k.cast trips6) (off8_eq i h2 k), ← put_p4 Y _ _ (sl (63 - tt i) 0) (k.cast trips6) (off8_eq i h2 k), ← ea, ← eb]
  rfl

/-- A key block entering: what the operands then hold. -/
theorem mainSt_spec (i : grid0.Coords) (h2 : k0_cond2 i = 1#1) (s : St F) :
    ∃ (s1 : St F) (R C D : _), (∃ X Y L E, s1 = {s with a12 := X, a13 := Y, a14 := L, a15 := E}) ∧ mainSt i h2 s = {s1 with
          a10 := glue8 fun g => k0_pay7 (dkH (63 - tt i) s1 (od g)) (k0_pay5 (dkH (63 - tt i) s1 (ev g)))
          a11 := glue8 fun g => k0_pay8 (dvH (63 - tt i) s1 (od g)) (k0_pay6 (dvH (63 - tt i) s1 (ev g)))
          a16 := R, a17 := C, a18 := D}
      ∧ (∀ m h, slotQ s1 (sl (63 - tt i) m) h = if m = 0 then inQ s.a3 s.a4 s.a7 s.a8 h else slotQ s (sl (63 - tt i) m) h)
      ∧ ∀ m h, x4 R (sl (63 - tt i) m) h = dqU m (kb s.a2 s.a5 s.a6 h) (slotQ s1 (sl (63 - tt i) m) h) (x4 s.a16 (sl (63 - tt i) m) h) := by
  obtain ⟨X, Y, e1, hX, hY⟩ := ring_loop trips6 (t6St i h2) (sl (63 - tt i) 0) (fun h => k0_pay3 (z4 s.a3 h)) (fun h => k0_pay4 (z4 s.a4 h))
    (midSt (63 - tt i) s) (fun k X Y => t6St_eq i h2 (midSt (63 - tt i) s) k X Y)
  obtain ⟨R, C, D, e2, hR⟩ := t7_spec i h2 {midSt (63 - tt i) s with a12 := X, a13 := Y}
  refine ⟨{midSt (63 - tt i) s with a12 := X, a13 := Y}, R, C, D, ⟨X, Y, _, _, rfl⟩, ?_, fun m h => ?_, fun m h => ?_⟩
  · rw [mainSt_eq, e1]
    exact e2
  · unfold slotQ inQ
    dsimp only
    rw [hX, hY]
    unfold midSt
    dsimp only
    rw [x3_p3, x3_p3]
    simp only [sl_inj]
    split <;> rfl
  · exact hR m h

theorem put_pz4 {α : Type} (x : S1x16x256x256.Idx → α) (off) (w) (g : Fin 16) (e : off = ![0, g.val, 0, 0]) :
    put x off S1x1x256x256.size w = pz4 x g w := by subst e; rfl

/-- The loop that writes out a finished block of dq. -/
theorem emitSt_spec (i : grid0.Coords) (h5 : 4 ≤ tt i) (s : St F) :
    emitSt i s = {s with a9 := glue16 fun h => k0_pay9 (x4 s.a16 (sl (67 - tt i) 0) h) (x2 s.a2 4 h)} := by
  have c5 : k0_cond5 i = 1#1 := (cond5_iff i).2 h5
  unfold emitSt
  rw [dif_pos c5]
  have key : ∀ n, n ≤ 16 → ∃ A, iter (t8St i c5) s n = {s with a9 := A}
      ∧ ∀ h : Fin 16, h.val < n → z4 A h = k0_pay9 (x4 s.a16 (sl (67 - tt i) 0) h) (x2 s.a2 4 h) := by
    intro n
    induction n with
    | zero => exact fun _ => ⟨s.a9, rfl, fun h hh => by omega⟩
    | succ n ih =>
      intro hn
      obtain ⟨A, e, hA⟩ := ih (by omega)
      have hN : n < k0_t8_loop.trips := by rw [trips8]; omega
      refine ⟨pz4 A ⟨n, hn⟩ (k0_pay9 (x4 s.a16 (sl (67 - tt i) 0) ⟨n, hn⟩) (x2 s.a2 4 ⟨n, hn⟩)), ?_, fun h hh => ?_⟩
      · rw [iter, dif_pos hN, e]
        unfold t8St
        refine congrArg (fun a => ({s with a9 := a} : St F)) ?_
        refine (put_pz4 A _ _ ⟨n, hn⟩ (off19_eq ⟨n, hN⟩)).trans (congrArg (pz4 A ⟨n, hn⟩) (congrArg₂ k0_pay9 ?_ ?_))
        · exact window_x4 s.a16 _ _ (sl (67 - tt i) 0) ⟨n, hn⟩ (off17_eq i ⟨n, hN⟩)
        · exact smem_x2 s.a2 _ _ 4 ⟨n, hn⟩ (off18_eq ⟨n, hN⟩)
      · rw [z4_pz4]
        by_cases c : h.val = n
        · obtain rfl : h = ⟨n, hn⟩ := Fin.ext c
          rw [if_pos rfl]
        · rw [if_neg (fun hh => c (congrArg Fin.val hh))]
          exact hA h (by omega)
  obtain ⟨A, e, hA⟩ := key 16 (Nat.le_refl _)
  rw [← eq_glue16 A _ (fun h => hA h h.isLt)]
  exact (congrArg (iter (t8St i c5) s) trips8).trans e

theorem emitSt_early (i : grid0.Coords) (h5 : tt i < 4) (s : St F) : emitSt i s = s := by
  unfold emitSt
  rw [dif_neg (fun h => by have := (cond5_iff i).1 h; omega)]

end Cert.MainIdeal.Body
-- ==== Proof.MainIdealInv.lean ====
/- What the scratch operands of the pallas_call `main` (idealized) hold between two iterations, and one iteration's effect on it and on the
   three outputs' blocks. -/
module

public import proofs.«01_k».proof.Proof.MainIdealLoop

@[expose] public section

set_option maxRecDepth 16384

noncomputable section

namespace Cert.MainIdeal.Body

open Cert.MainIdeal Cert.MainIdeal.Gen
open Idealize.ShloMosaic Idealize.ShloMosaic.TcCoe
open VecWindow (window put)

variable {F : FTy → Type} [FloatOps F] [Named F]

/-- dq of query block `J` (unscaled), head `h`, after the key blocks `J`, `J - 1`, …, `J - n`. -/
def DQ (Kd : ℕ → Fin 16 → KBlk F) (Qd : ℕ → Fin 16 → QBlk F) (J : ℕ) (h : Fin 16) : ℕ → Vec F S1x1x256x256 .f32
  | 0 => dqU 0 (Kd J h) (Qd J h) (dq0 (Kd J h) (Qd J h))
  | n + 1 => dqU ⟨(n + 1) % 5, Nat.mod_lt _ (by omega)⟩ (Kd (J - (n + 1)) h) (Qd J h) (DQ Kd Qd J h n)

/-- dk of key block `n`, one head's part. -/
def DKh (Kd : ℕ → Fin 16 → KBlk F) (Qd : ℕ → Fin 16 → QBlk F) (n : ℕ) (h : Fin 16) : FVec F S256x256 .f32 :=
  dkHead (Kd n h) (Qd n h) (Qd (n + 1) h) (Qd (n + 2) h) (Qd (n + 3) h) (Qd (n + 4) h)
/-- dv of key block `n`, one head's part. -/
def DVh (Kd : ℕ → Fin 16 → KBlk F) (Qd : ℕ → Fin 16 → QBlk F) (n : ℕ) (h : Fin 16) : FVec F S256x256 .f32 :=
  dvHead (Kd n h) (Qd n h) (Qd (n + 1) h) (Qd (n + 2) h) (Qd (n + 3) h) (Qd (n + 4) h)

/-- The dk block of key block `n`. -/
def DKB (Kd : ℕ → Fin 16 → KBlk F) (Qd : ℕ → Fin 16 → QBlk F) (n : ℕ) : Vec F S1x8x256x256 .bf16 :=
  glue8 fun g => k0_pay7 (DKh Kd Qd n (od g)) (k0_pay5 (DKh Kd Qd n (ev g)))
/-- The dv block of key block `n`. -/
def DVB (Kd : ℕ → Fin 16 → KBlk F) (Qd : ℕ → Fin 16 → QBlk F) (n : ℕ) : Vec F S1x8x256x256 .bf16 :=
  glue8 fun g => k0_pay8 (DVh Kd Qd n (od g)) (k0_pay6 (DVh Kd Qd n (ev g)))
/-- The dq block of query block `J`, scaled by the row `a2` of factors. -/
def DQB (a2 : Vec F S5x16 .f32) (Kd : ℕ → Fin 16 → KBlk F) (Qd : ℕ → Fin 16 → QBlk F) (J : ℕ) : Vec F S1x16x256x256 .bf16 :=
  glue16 fun h => k0_pay9 (DQ Kd Qd J h (min J 4)) (x2 a2 4 h)

/-- After key block `n`: the rings hold query blocks `n … n + 4`, and the dq ring what the key blocks down to `n` give them. -/
def Inv (Kd : ℕ → Fin 16 → KBlk F) (Qd : ℕ → Fin 16 → QBlk F) (n : ℕ) (s : St F) : Prop :=
  ∀ (m : Fin 5) (h : Fin 16), slotQ s (sl n m) h = Qd (n + m.val) h ∧ (n + m.val ≤ 63 → x4 s.a16 (sl n m) h = DQ Kd Qd (n + m.val) h m.val)

theorem sl_succ (n : ℕ) (m : Fin 5) (hm : m ≠ 0) : sl n m = sl (n + 1) ⟨m.val - 1, by have := m.isLt; omega⟩ := by
  have : m.val ≠ 0 := fun h => hm (Fin.ext h)
  refine Fin.ext ?_
  show (n + m.val) % 5 = (n + 1 + (m.val - 1)) % 5
  congr 1; omega

theorem sl_add (n : ℕ) (m : Fin 5) : sl n m = sl (n + m.val) 0 := Fin.ext rfl

/-- The state before a key block enters. -/
def Before (Kd : ℕ → Fin 16 → KBlk F) (Qd : ℕ → Fin 16 → QBlk F) (n : ℕ) (s : St F) : Prop :=
  (n = 63 ∧ ∀ r h, slotQ s r h = zeroQ h) ∨ (n < 63 ∧ Inv Kd Qd (n + 1) s)

theorem main_step (Kd : ℕ → Fin 16 → KBlk F) (Qd : ℕ → Fin 16 → QBlk F) (hq : ∀ J h, 63 < J → Qd J h = zeroQ h)
    (i : grid0.Coords) (h2 : tt i < 64) (s : St F) (hs : Before Kd Qd (63 - tt i) s)
    (hin : ∀ h, inQ s.a3 s.a4 s.a7 s.a8 h = Qd (63 - tt i) h) (hk : ∀ h, kb s.a2 s.a5 s.a6 h = Kd (63 - tt i) h) :
    ∃ X Y L E R C D, mainSt i ((cond2_iff i).2 h2) s = {s with a10 := DKB Kd Qd (63 - tt i), a11 := DVB Kd Qd (63 - tt i), a12 := X, a13 := Y, a14 := L, a15 := E, a16 := R, a17 := C, a18 := D}
      ∧ Inv Kd Qd (63 - tt i) (mainSt i ((cond2_iff i).2 h2) s) := by
  obtain ⟨s1, R, C, D, ⟨X, Y, L, E, hs1⟩, e, hQ, hR⟩ := mainSt_spec i ((cond2_iff i).2 h2) s
  generalize hn : 63 - tt i = n at *
  have hn' : n ≤ 63 := by omega
  have hQ' : ∀ (m : Fin 5) h, slotQ s1 (sl n m) h = Qd (n + m.val) h := by
    intro m h
    rw [hQ m h]
    split
    · rename_i c; subst c; exact hin h
    · rename_i c
      rcases hs with ⟨e63, hz⟩ | ⟨hlt, hI⟩
      · have : m.val ≠ 0 := fun h => c (Fin.ext h)
        rw [hz, hq _ _ (by omega)]
      · have : m.val ≠ 0 := fun h => c (Fin.ext h)
        rw [sl_succ n m c, (hI _ h).1]
        congr 1
        show n + 1 + (m.val - 1) = _
        omega
  have hkS : ∀ h, kb s1.a2 s1.a5 s1.a6 h = Kd n h := by rw [hs1]; exact hk
  have hdk : ∀ h, dkH n s1 h = DKh Kd Qd n h := by
    intro h; unfold dkH DKh; rw [hkS, hQ', hQ', hQ', hQ', hQ']; rfl
  have hdv : ∀ h, dvH n s1 h = DVh Kd Qd n h := by
    intro h; unfold dvH DVh; rw [hkS, hQ', hQ', hQ', hQ', hQ']; rfl
  simp only [hdk, hdv] at e
  refine ⟨X, Y, L, E, R, C, D, ?_, ?_⟩
  · rw [e, hs1]; rfl
  · rw [e]
    intro m h
    refine ⟨hQ' m h, fun hm => ?_⟩
    refine (hR m h).trans ?_
    rw [hQ', hk]
    by_cases c : m = 0
    · subst c; rfl
    · have hm0 : m.val ≠ 0 := fun h => c (Fin.ext h)
      rcases hs with ⟨e63, hz⟩ | ⟨hlt, hI⟩
      · omega
      · have hold := (hI ⟨m.val - 1, by have := m.isLt; omega⟩ h).2 (by show n + 1 + (m.val - 1) ≤ 63; omega)
        rw [← sl_succ n m c] at hold
        rw [hold]
        obtain ⟨k, hk5⟩ : ∃ k, m.val = k + 1 := ⟨m.val - 1, by omega⟩
        have e1 : n + 1 + (m.val - 1) = n + m.val := by omega
        show dqU m (Kd n h) (Qd (n + m.val) h) (DQ Kd Qd (n + 1 + (m.val - 1)) h (m.val - 1)) = DQ Kd Qd (n + m.val) h m.val
        rw [e1]
        have e2 : m.val - 1 = k := by omega
        have e3 : (⟨(k + 1) % 5, Nat.mod_lt _ (by omega)⟩ : Fin 5) = m := Fin.ext (by have := m.isLt; show (k + 1) % 5 = m.val; omega)
        have e4 : n + m.val - (k + 1) = n := by omega
        have e5 : DQ Kd Qd (n + m.val) h (k + 1) = dqU ⟨(k + 1) % 5, Nat.mod_lt _ (by omega)⟩ (Kd (n + m.val - (k + 1)) h) (Qd (n + m.val) h) (DQ Kd Qd (n + m.val) h k) := rfl
        rw [e2, show DQ Kd Qd (n + m.val) h m.val = DQ Kd Qd (n + m.val) h (k + 1) from congrArg _ hk5, e5, e3, e4]

/-- One iteration's effect. -/
theorem body_spec (Kd : ℕ → Fin 16 → KBlk F) (Qd : ℕ → Fin 16 → QBlk F) (hq : ∀ J h, 63 < J → Qd J h = zeroQ h)
    (i : grid0.Coords) (s : St F) (hI : tt i ≠ 0 → Inv Kd Qd (64 - tt i) s)
    (hin : tt i < 64 → ∀ h, inQ s.a3 s.a4 s.a7 s.a8 h = Qd (63 - tt i) h) (hk : tt i < 64 → ∀ h, kb s.a2 s.a5 s.a6 h = Kd (63 - tt i) h) :
    ∃ A B C X Y L E R P Q, bodySt i s = {s with a9 := A, a10 := B, a11 := C, a12 := X, a13 := Y, a14 := L, a15 := E, a16 := R, a17 := P, a18 := Q}
      ∧ Inv Kd Qd (64 - (tt i + 1)) (bodySt i s)
      ∧ (A = if 4 ≤ tt i then DQB s.a2 Kd Qd (67 - tt i) else s.a9)
      ∧ (B = if tt i < 64 then DKB Kd Qd (63 - tt i) else s.a10)
      ∧ (C = if tt i < 64 then DVB Kd Qd (63 - tt i) else s.a11) := by
  have htt := tt_lt i
  -- after clearing
  have hc : ∃ X Y L E, clearSt i s = {s with a12 := X, a13 := Y, a14 := L, a15 := E} ∧ (tt i < 64 → Before Kd Qd (63 - tt i) (clearSt i s)) ∧ (64 ≤ tt i → Inv Kd Qd 0 (clearSt i s)) := by
    by_cases c : tt i = 0
    · obtain ⟨X, Y, L, E, e, hz⟩ := clear_spec i ((cond1_iff i).2 c) s
      have e' : clearSt i s = {s with a12 := X, a13 := Y, a14 := L, a15 := E} := by
        unfold clearSt; rw [dif_pos ((cond1_iff i).2 c)]; exact e
      refine ⟨X, Y, L, E, e', fun _ => .inl ⟨by omega, ?_⟩, fun h => by omega⟩
      rw [e']; exact hz
    · have e' : clearSt i s = s := by
        unfold clearSt; rw [dif_neg (fun h => c ((cond1_iff i).1 h))]
      refine ⟨s.a12, s.a13, s.a14, s.a15, e', fun h => .inr ⟨by omega, ?_⟩, fun h => ?_⟩
      · rw [e', show 63 - tt i + 1 = 64 - tt i by omega]; exact hI c
      · rw [e', show 0 = 64 - tt i by omega]; exact hI c
  obtain ⟨X, Y, L, E, ec, hB, hI0⟩ := hc
  -- after the key block
  have hm : ∃ B C X Y L E R P Q s2, tailSt i (clearSt i s) = emitSt i s2 ∧ s2 = {s with a10 := B, a11 := C, a12 := X, a13 := Y, a14 := L, a15 := E, a16 := R, a17 := P, a18 := Q}
      ∧ Inv Kd Qd (64 - (tt i + 1)) s2 ∧ (B = if tt i < 64 then DKB Kd Qd (63 - tt i) else s.a10)
      ∧ (C = if tt i < 64 then DVB Kd Qd (63 - tt i) else s.a11) := by
    by_cases c : tt i < 64
    · obtain ⟨X, Y, L, E, R, P, Q, e, hI'⟩ := main_step Kd Qd hq i c (clearSt i s) (hB c) (by rw [ec]; exact hin c) (by rw [ec]; exact hk c)
      refine ⟨_, _, X, Y, L, E, R, P, Q, mainSt i ((cond2_iff i).2 c) (clearSt i s), ?_, ?_, ?_, (if_pos c).symm, (if_pos c).symm⟩
      · unfold tailSt; rw [dif_pos ((cond2_iff i).2 c)]
      · rw [e, ec]
      · rw [show 64 - (tt i + 1) = 63 - tt i by omega]; exact hI'
    · refine ⟨_, _, X, Y, L, E, s.a16, s.a17, s.a18, clearSt i s, ?_, ?_, ?_, (if_neg c).symm, (if_neg c).symm⟩
      · unfold tailSt; rw [dif_neg (fun h => c ((cond2_iff i).1 h))]
      · rw [ec]
      · rw [show 64 - (tt i + 1) = 0 by omega]; exact hI0 (by omega)
  obtain ⟨B, C, X, Y, L, E, R, P, Q, s2, et, es2, hI2, hBB, hCC⟩ := hm
  have eb : bodySt i s = emitSt i s2 := et
  by_cases c : 4 ≤ tt i
  · have e4 := emitSt_spec i c s2
    have hdq : ∀ h, x4 s2.a16 (sl (67 - tt i) 0) h = DQ Kd Qd (67 - tt i) h (min (67 - tt i) 4) := by
      intro h
      by_cases c64 : tt i < 64
      · have := (hI2 4 h).2 (by show 64 - (tt i + 1) + 4 ≤ 63; omega)
        rw [sl_add] at this
        have e1 : 64 - (tt i + 1) + (4 : Fin 5).val = 67 - tt i := by show 64 - (tt i + 1) + 4 = _; omega
        rw [e1] at this
        rw [this, show min (67 - tt i) 4 = 4 by omega]; rfl
      · have := (hI2 ⟨67 - tt i, by omega⟩ h).2 (by show 64 - (tt i + 1) + (67 - tt i) ≤ 63; omega)
        rw [sl_add] at this
        have e1 : 64 - (tt i + 1) + (67 - tt i) = 67 - tt i := by omega
        dsimp only at this
        rw [e1] at this
        rw [this, show min (67 - tt i) 4 = 67 - tt i by omega]
    refine ⟨_, B, C, X, Y, L, E, R, P, Q, ?_, ?_, (if_pos c).symm, hBB, hCC⟩
    · rw [eb, e4]
      unfold DQB
      simp only [hdq]
      rw [es2]
    · rw [eb, e4]
      exact hI2
  · refine ⟨_, B, C, X, Y, L, E, R, P, Q, ?_, ?_, (if_neg c).symm, hBB, hCC⟩
    · rw [eb, emitSt_early i (by omega), es2]
    · rw [eb, emitSt_early i (by omega)]
      exact hI2

end Cert.MainIdeal.Body
-- ==== Proof.MainIdealDat.lean ====
/- The proof data of the pallas_call `main` (idealized): what each operand's block and the scratch hold at every grid point. -/
module

public import proofs.«01_k».proof.Proof.MainIdealInv
public import proofs.«01_k».proof.Proof.Gen.MainIdeal.Frame
public import Idealize.ShloMosaic.Lib.Pipeline.TableIdle

@[expose] public section

set_option maxRecDepth 16384

noncomputable section

namespace Cert.MainIdeal.Body

open Cert.MainIdeal Cert.MainIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The grid's points -/

theorem tt_coords : ∀ t : Fin cfg0.N, tt (grid0.coords t) = t.val % 68 :=
  (by decide +kernel : ∀ t : Fin grid0.N, tt (grid0.coords t) = t.val % 68)

theorem flush7 : ∀ t : Fin cfg0.N, t.val % 68 < 4 → (cfg0.win 7).flush t = false :=
  (by decide +kernel : ∀ t : Fin grid0.N, t.val % 68 < 4 → win0_7.flush t = false)
theorem flush8 : ∀ t : Fin cfg0.N, 64 ≤ t.val % 68 → t.val % 68 < 67 → (cfg0.win 8).flush t = false :=
  (by decide +kernel : ∀ t : Fin grid0.N, 64 ≤ t.val % 68 → t.val % 68 < 67 → win0_8.flush t = false)
theorem flush9 : ∀ t : Fin cfg0.N, 64 ≤ t.val % 68 → t.val % 68 < 67 → (cfg0.win 9).flush t = false :=
  (by decide +kernel : ∀ t : Fin grid0.N, 64 ≤ t.val % 68 → t.val % 68 < 67 → win0_9.flush t = false)
theorem flush8' : ∀ t : Fin cfg0.N, t.val % 68 = 67 → (cfg0.win 8).flush t = true :=
  (by decide +kernel : ∀ t : Fin grid0.N, t.val % 68 = 67 → win0_8.flush t = true)
theorem flush9' : ∀ t : Fin cfg0.N, t.val % 68 = 67 → (cfg0.win 9).flush t = true :=
  (by decide +kernel : ∀ t : Fin grid0.N, t.val % 68 = 67 → win0_9.flush t = true)
theorem flush8_63 : ∀ t : Fin cfg0.N, t.val % 68 = 63 → (cfg0.win 8).flush t = false :=
  (by decide +kernel : ∀ t : Fin grid0.N, t.val % 68 = 63 → win0_8.flush t = false)
theorem flush9_63 : ∀ t : Fin cfg0.N, t.val % 68 = 63 → (cfg0.win 9).flush t = false :=
  (by decide +kernel : ∀ t : Fin grid0.N, t.val % 68 = 63 → win0_9.flush t = false)

theorem not_one {b : BitVec 1} : (!(b == 1#1)) = true ↔ ¬ b = 1#1 := by simp

theorem idle7_iff (t : Fin cfg0.N) : cfg0.idle 7 (cfg0.grid.coords t) = true ↔ t.val % 68 < 4 := by
  refine (not_one (b := k0_cond5 (grid0.coords t))).trans ?_
  rw [cond5_iff, tt_coords]; omega
theorem idle8_iff (t : Fin cfg0.N) : cfg0.idle 8 (cfg0.grid.coords t) = true ↔ 64 ≤ t.val % 68 := by
  refine (not_one (b := k0_cond2 (grid0.coords t))).trans ?_
  rw [cond2_iff, tt_coords]; omega
theorem idle9_iff (t : Fin cfg0.N) : cfg0.idle 9 (cfg0.grid.coords t) = true ↔ 64 ≤ t.val % 68 := by
  refine (not_one (b := k0_cond2 (grid0.coords t))).trans ?_
  rw [cond2_iff, tt_coords]; omega

/-- The point at which batch `b`'s block `j` is fetched. -/
def pt (b j : ℕ) : Fin cfg0.N := ⟨(68 * b + (63 - j)) % 136, lt_of_lt_of_eq (Nat.mod_lt _ (by decide)) N_0.symm⟩

theorem pt_self (t : Fin cfg0.N) (h : t.val % 68 < 64) : pt (t.val / 68) (63 - t.val % 68) = t := by
  have : t.val < 136 := lt_of_lt_of_eq t.isLt N_0
  refine Fin.ext ?_
  show (68 * (t.val / 68) + (63 - (63 - t.val % 68))) % 136 = t.val
  omega

/-! ## The blocks -/

abbrev B0 (c : Dev nD) (t : Fin cfg0.N) : Vec F S5x16 .f32 := iblk m c 0 t
abbrev B1 (c : Dev nD) (t : Fin cfg0.N) : Vec F S1x16x256x256 .fp8e4m3 := iblk m c 1 t
abbrev B2 (c : Dev nD) (t : Fin cfg0.N) : Vec F S1x16x256x256 .fp8e5m2 := iblk m c 2 t
abbrev B3 (c : Dev nD) (t : Fin cfg0.N) : Vec F S1x8x256x256 .fp8e4m3 := iblk m c 3 t
abbrev B4 (c : Dev nD) (t : Fin cfg0.N) : Vec F S1x8x256x256 .fp8e4m3 := iblk m c 4 t
abbrev B5 (c : Dev nD) (t : Fin cfg0.N) : Vec F S1x16x256 .f32 := iblk m c 5 t
abbrev B6 (c : Dev nD) (t : Fin cfg0.N) : Vec F S1x16x256 .f32 := iblk m c 6 t

/-- Batch `b`'s query block `J` of head `h`: a block of zeros past the last one. -/
def Qd (c : Dev nD) (b J : ℕ) (h : Fin 16) : QBlk F :=
  if J ≤ 63 then inQ (B1 m c (pt b J)) (B2 m c (pt b J)) (B5 m c (pt b J)) (B6 m c (pt b J)) h else zeroQ h
/-- Batch `b`'s key block `j` of head `h`, with the scales. -/
def Kd (c : Dev nD) (b j : ℕ) (h : Fin 16) : KBlk F := kb (B0 m c (pt b j)) (B3 m c (pt b j)) (B4 m c (pt b j)) h

/-- The block of dq the body leaves at point `t`. -/
def out7 (c : Dev nD) (t : Fin cfg0.N) : Vec F S1x16x256x256 .bf16 :=
  DQB (B0 m c t) (Kd m c (t.val / 68)) (Qd m c (t.val / 68)) (67 - t.val % 68)
/-- The block of dk the body leaves at point `t`. -/
def out8 (c : Dev nD) (t : Fin cfg0.N) : Vec F S1x8x256x256 .bf16 :=
  DKB (Kd m c (t.val / 68)) (Qd m c (t.val / 68)) (63 - t.val % 68)
/-- The block of dv the body leaves at point `t`. -/
def out9 (c : Dev nD) (t : Fin cfg0.N) : Vec F S1x8x256x256 .bf16 :=
  DVB (Kd m c (t.val / 68)) (Qd m c (t.val / 68)) (63 - t.val % 68)

/-- The scratch operands at the contents `s`. -/
def Scr (c : Dev nD) (s : St F) : sProp 𝕄 :=
  iprop(owns (c : Thread nD τ) (Memref.whole cc0_scratch0) fullShare s.a12 ∗
    owns (c : Thread nD τ) (Memref.whole cc0_scratch1) fullShare s.a13 ∗
    owns (c : Thread nD τ) (Memref.whole cc0_scratch2) fullShare s.a14 ∗
    owns (c : Thread nD τ) (Memref.whole cc0_scratch3) fullShare s.a15 ∗
    owns (c : Thread nD τ) (Memref.whole cc0_scratch4) fullShare s.a16 ∗
    owns (c : Thread nD τ) (Memref.whole cc0_scratch5) fullShare s.a17 ∗
    owns (c : Thread nD τ) (Memref.whole cc0_scratch6) fullShare s.a18)

/-- What the scratch holds before point `T`. -/
def ScrInv (c : Dev nD) (T : ℕ) (s : St F) : Prop := T % 68 ≠ 0 → Inv (Kd m c (T / 68)) (Qd m c (T / 68)) (64 - T % 68) s

/-- The invariant before point `T`. -/
def ΦM (c : Dev nD) (T : ℕ) : sProp 𝕄 := iprop((∃ s : St F, ⌜ScrInv m c T s⌝ ∗ Scr c s) ∗ ∃ r, prngReg c r)

/-- The proof data of the pipeline. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => out7 m c t
    | ⟨8, _⟩ => out8 m c t
    | ⟨9, _⟩ => out9 m c t
  Φ T := ΦM m c T.val
  q _ := fullShare
  owed _ := 0

theorem before_0 (c : Dev nD) (t : Fin cfg0.N) (d) : (dats m 0 c).before 0 t d = iblk m c 0 t := before0_0_of m _ rfl (fun _ => rfl) t d
theorem before_1 (c : Dev nD) (t : Fin cfg0.N) (d) : (dats m 0 c).before 1 t d = iblk m c 1 t := before0_1_of m _ rfl (fun _ => rfl) t d
theorem before_2 (c : Dev nD) (t : Fin cfg0.N) (d) : (dats m 0 c).before 2 t d = iblk m c 2 t := before0_2_of m _ rfl (fun _ => rfl) t d
theorem before_3 (c : Dev nD) (t : Fin cfg0.N) (d) : (dats m 0 c).before 3 t d = iblk m c 3 t := before0_3_of m _ rfl (fun _ => rfl) t d
theorem before_4 (c : Dev nD) (t : Fin cfg0.N) (d) : (dats m 0 c).before 4 t d = iblk m c 4 t := before0_4_of m _ rfl (fun _ => rfl) t d
theorem before_5 (c : Dev nD) (t : Fin cfg0.N) (d) : (dats m 0 c).before 5 t d = iblk m c 5 t := before0_5_of m _ rfl (fun _ => rfl) t d
theorem before_6 (c : Dev nD) (t : Fin cfg0.N) (d) : (dats m 0 c).before 6 t d = iblk m c 6 t := before0_6_of m _ rfl (fun _ => rfl) t d

/-- The operands of the body at point `t`. -/
def argsAt (t : Fin cfg0.N) : Args :=
  ⟨win0_0.stage (cfg0.slots t 0), hstage0_0 ((cfg0.slots t 0).cast nbuf0_0), win0_1.stage (cfg0.slots t 1), hstage0_1 ((cfg0.slots t 1).cast nbuf0_1),
    win0_2.stage (cfg0.slots t 2), hstage0_2 ((cfg0.slots t 2).cast nbuf0_2), win0_3.stage (cfg0.slots t 3), hstage0_3 ((cfg0.slots t 3).cast nbuf0_3),
    win0_4.stage (cfg0.slots t 4), hstage0_4 ((cfg0.slots t 4).cast nbuf0_4), win0_5.stage (cfg0.slots t 5), hstage0_5 ((cfg0.slots t 5).cast nbuf0_5),
    win0_6.stage (cfg0.slots t 6), hstage0_6 ((cfg0.slots t 6).cast nbuf0_6), win0_7.stage (cfg0.slots t 7), hstage0_7 ((cfg0.slots t 7).cast nbuf0_7),
    win0_8.stage (cfg0.slots t 8), hstage0_8 ((cfg0.slots t 8).cast nbuf0_8), win0_9.stage (cfg0.slots t 9), hstage0_9 ((cfg0.slots t 9).cast nbuf0_9),
    Memref.whole cc0_scratch0, Memref.isWhole_whole _, Memref.whole cc0_scratch1, Memref.isWhole_whole _, Memref.whole cc0_scratch2, Memref.isWhole_whole _,
    Memref.whole cc0_scratch3, Memref.isWhole_whole _, Memref.whole cc0_scratch4, Memref.isWhole_whole _, Memref.whole cc0_scratch5, Memref.isWhole_whole _,
    Memref.whole cc0_scratch6, Memref.isWhole_whole _⟩

theorem defs_tc : (defs₀ (F := F)) .tc cfg0.body = fun a => cc0_main (grid0.coords a.1) (win0_0.stage (a.2 0)) (hstage0_0 ((a.2 0).cast nbuf0_0)) (win0_1.stage (a.2 1)) (hstage0_1 ((a.2 1).cast nbuf0_1)) (win0_2.stage (a.2 2)) (hstage0_2 ((a.2 2).cast nbuf0_2)) (win0_3.stage (a.2 3)) (hstage0_3 ((a.2 3).cast nbuf0_3)) (win0_4.stage (a.2 4)) (hstage0_4 ((a.2 4).cast nbuf0_4)) (win0_5.stage (a.2 5)) (hstage0_5 ((a.2 5).cast nbuf0_5)) (win0_6.stage (a.2 6)) (hstage0_6 ((a.2 6).cast nbuf0_6)) (win0_7.stage (a.2 7)) (hstage0_7 ((a.2 7).cast nbuf0_7)) (win0_8.stage (a.2 8)) (hstage0_8 ((a.2 8).cast nbuf0_8)) (win0_9.stage (a.2 9)) (hstage0_9 ((a.2 9).cast nbuf0_9)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) := rfl

/-- The body of the pipeline at point `t`. -/
theorem prog_eq (t : Fin cfg0.N) : (defs₀ (F := F)) .tc cfg0.body (cfg0.bodyArgs t (cfg0.slots t)) = bodyAt0 t := (congrFun defs_tc _).trans rfl

/-- One point of the pipeline, from its operands' contents. -/
theorem run_at (c : Dev nD) (t : Fin cfg0.N) (s : St F) : Runs c (argsAt t) (bodyAt0 t) s ⟨⟩ (bodySt (grid0.coords t) s) :=
  run_body c (argsAt t) (grid0.coords t) s

theorem idleF {b : Bool} (h : ¬ b = true) : b = false := by simpa using h

/-! ## Windows 8 and 9 at the point that writes their last block back -/

theorem fresh8 (t : Fin cfg0.N) (h : 64 ≤ t.val % 68) : cfg0.fresh 8 t.val = false := by
  have hN : t.val < 136 := lt_of_lt_of_eq t.isLt N_0
  have key : ∀ k b : ℕ, b < 2 → k < 4 → cfg0.fresh 8 (68 * b + 64 + k) = false := by
    intro k b hb
    induction k with
    | zero =>
      intro _
      have hl : 68 * b + 63 < cfg0.N := lt_of_lt_of_eq (by omega : 68 * b + 63 < 136) N_0.symm
      refine (Pipeline.Cfg.fresh_succ cfg0 8 (68 * b + 63) hl).trans ?_
      rw [flush8_63 ⟨_, hl⟩ (show (68 * b + 63) % 68 = 63 by omega), idleF (b := cfg0.idle 8 (cfg0.grid.coords ⟨_, hl⟩)) (fun hi => by
        have hi' : 64 ≤ (68 * b + 63) % 68 := (idle8_iff ⟨_, hl⟩).1 hi
        omega)]
      rfl
    | succ k ih =>
      intro hk
      have hl : 68 * b + 64 + k < cfg0.N := lt_of_lt_of_eq (by omega : 68 * b + 64 + k < 136) N_0.symm
      refine (Pipeline.Cfg.fresh_succ cfg0 8 (68 * b + 64 + k) hl).trans ?_
      rw [flush8 ⟨_, hl⟩ (show 64 ≤ (68 * b + 64 + k) % 68 by omega) (show (68 * b + 64 + k) % 68 < 67 by omega), ih (by omega), Bool.and_false]
      rfl
  have e : t.val = 68 * (t.val / 68) + 64 + (t.val % 68 - 64) := by omega
  rw [e]
  exact key _ _ (by omega) (by omega)

theorem fresh9 (t : Fin cfg0.N) (h : 64 ≤ t.val % 68) : cfg0.fresh 9 t.val = false := by
  have hN : t.val < 136 := lt_of_lt_of_eq t.isLt N_0
  have key : ∀ k b : ℕ, b < 2 → k < 4 → cfg0.fresh 9 (68 * b + 64 + k) = false := by
    intro k b hb
    induction k with
    | zero =>
      intro _
      have hl : 68 * b + 63 < cfg0.N := lt_of_lt_of_eq (by omega : 68 * b + 63 < 136) N_0.symm
      refine (Pipeline.Cfg.fresh_succ cfg0 9 (68 * b + 63) hl).trans ?_
      rw [flush9_63 ⟨_, hl⟩ (show (68 * b + 63) % 68 = 63 by omega), idleF (b := cfg0.idle 9 (cfg0.grid.coords ⟨_, hl⟩)) (fun hi => by
        have hi' : 64 ≤ (68 * b + 63) % 68 := (idle9_iff ⟨_, hl⟩).1 hi
        omega)]
      rfl
    | succ k ih =>
      intro hk
      have hl : 68 * b + 64 + k < cfg0.N := lt_of_lt_of_eq (by omega : 68 * b + 64 + k < 136) N_0.symm
      refine (Pipeline.Cfg.fresh_succ cfg0 9 (68 * b + 64 + k) hl).trans ?_
      rw [flush9 ⟨_, hl⟩ (show 64 ≤ (68 * b + 64 + k) % 68 by omega) (show (68 * b + 64 + k) % 68 < 67 by omega), ih (by omega), Bool.and_false]
      rfl
  have e : t.val = 68 * (t.val / 68) + 64 + (t.val % 68 - 64) := by omega
  rw [e]
  exact key _ _ (by omega) (by omega)

theorem out8_carry (c : Dev nD) (t : Fin cfg0.N) (h0 : t.val ≠ 0) (h : 64 ≤ t.val % 68) : out8 m c t = out8 m c ⟨t.val - 1, by omega⟩ := by
  unfold out8
  have e1 : (t.val - 1) / 68 = t.val / 68 := by omega
  have e2 : 63 - t.val % 68 = 63 - (t.val - 1) % 68 := by omega
  show _ = DKB (Kd m c ((t.val - 1) / 68)) (Qd m c ((t.val - 1) / 68)) (63 - (t.val - 1) % 68)
  rw [e1, e2]
theorem out9_carry (c : Dev nD) (t : Fin cfg0.N) (h0 : t.val ≠ 0) (h : 64 ≤ t.val % 68) : out9 m c t = out9 m c ⟨t.val - 1, by omega⟩ := by
  unfold out9
  have e1 : (t.val - 1) / 68 = t.val / 68 := by omega
  have e2 : 63 - t.val % 68 = 63 - (t.val - 1) % 68 := by omega
  show _ = DVB (Kd m c ((t.val - 1) / 68)) (Qd m c ((t.val - 1) / 68)) (63 - (t.val - 1) % 68)
  rw [e1, e2]

/-- At an idle point window 8's buffer still holds the last block of dk. -/
theorem before_8 (c : Dev nD) (t : Fin cfg0.N) (h : 64 ≤ t.val % 68) (d) : (dats m 0 c).before 8 t d = out8 m c t := by
  have h0 : t.val ≠ 0 := fun e => by rw [e] at h; omega
  refine ((dats m 0 c).before_out_traj 8 rfl (fun _ _ => rfl) (fun t' h0' hi _ => out8_carry m c t' h0' ((idle8_iff t').1 hi)) t.val t rfl d).trans ?_
  rw [fresh8 t h]
  exact (out8_carry m c t h0 h).symm
/-- At an idle point window 9's buffer still holds the last block of dv. -/
theorem before_9 (c : Dev nD) (t : Fin cfg0.N) (h : 64 ≤ t.val % 68) (d) : (dats m 0 c).before 9 t d = out9 m c t := by
  have h0 : t.val ≠ 0 := fun e => by rw [e] at h; omega
  refine ((dats m 0 c).before_out_traj 9 rfl (fun _ _ => rfl) (fun t' h0' hi _ => out9_carry m c t' h0' ((idle9_iff t').1 hi)) t.val t rfl d).trans ?_
  rw [fresh9 t h]
  exact (out9_carry m c t h0 h).symm

/-- What the body leaves in window 7's buffer is what its point leaves. -/
theorem leaves7 (c : Dev nD) (t : Fin cfg0.N) (d) (A : Vec F S1x16x256x256 .bf16)
    (hA : A = if 4 ≤ tt (grid0.coords t) then out7 m c t else (dats m 0 c).before 7 t d) :
    owns (c : Thread nD τ) (win0_7.stage (cfg0.slots t 7)) fullShare A ⊢ ((dats m 0 c).leavesExact 7 t : sProp 𝕄) := by
  rw [tt_coords] at hA
  by_cases h : 4 ≤ t.val % 68
  · rw [if_pos h] at hA
    unfold Dat.leavesExact
    rw [idleF (b := cfg0.idle 7 (cfg0.grid.coords t)) (fun hi => by have := (idle7_iff t).1 hi; omega), hA]
    exact .rfl
  · rw [if_neg h] at hA
    rw [(dats m 0 c).leavesExact_idle 7 t ((idle7_iff t).2 (by omega)) (flush7 t (by omega)), hA]
    iintro H; iexists d; iexact H
/-- What the body leaves in window 8's buffer is what its point leaves. -/
theorem leaves8 (c : Dev nD) (t : Fin cfg0.N) (d) (A : Vec F S1x8x256x256 .bf16)
    (hA : A = if tt (grid0.coords t) < 64 then out8 m c t else (dats m 0 c).before 8 t d) :
    owns (c : Thread nD τ) (win0_8.stage (cfg0.slots t 8)) fullShare A ⊢ ((dats m 0 c).leavesExact 8 t : sProp 𝕄) := by
  rw [tt_coords] at hA
  by_cases h : t.val % 68 < 64
  · rw [if_pos h] at hA
    unfold Dat.leavesExact
    rw [idleF (b := cfg0.idle 8 (cfg0.grid.coords t)) (fun hi => by have := (idle8_iff t).1 hi; omega), hA]
    exact .rfl
  · rw [if_neg h] at hA
    by_cases h' : t.val % 68 < 67
    · rw [(dats m 0 c).leavesExact_idle 8 t ((idle8_iff t).2 (by omega)) (flush8 t (by omega) h'), hA]
      iintro H; iexists d; iexact H
    · rw [before_8 m c t (by omega) d] at hA
      unfold Dat.leavesExact
      rw [(idle8_iff t).2 (by omega), flush8' t (by omega), hA]
      exact .rfl
/-- What the body leaves in window 9's buffer is what its point leaves. -/
theorem leaves9 (c : Dev nD) (t : Fin cfg0.N) (d) (A : Vec F S1x8x256x256 .bf16)
    (hA : A = if tt (grid0.coords t) < 64 then out9 m c t else (dats m 0 c).before 9 t d) :
    owns (c : Thread nD τ) (win0_9.stage (cfg0.slots t 9)) fullShare A ⊢ ((dats m 0 c).leavesExact 9 t : sProp 𝕄) := by
  rw [tt_coords] at hA
  by_cases h : t.val % 68 < 64
  · rw [if_pos h] at hA
    unfold Dat.leavesExact
    rw [idleF (b := cfg0.idle 9 (cfg0.grid.coords t)) (fun hi => by have := (idle9_iff t).1 hi; omega), hA]
    exact .rfl
  · rw [if_neg h] at hA
    by_cases h' : t.val % 68 < 67
    · rw [(dats m 0 c).leavesExact_idle 9 t ((idle9_iff t).2 (by omega)) (flush9 t (by omega) h'), hA]
      iintro H; iexists d; iexact H
    · rw [before_9 m c t (by omega) d] at hA
      unfold Dat.leavesExact
      rw [(idle9_iff t).2 (by omega), flush9' t (by omega), hA]
      exact .rfl

/-- The contents of the body's operands at point `t`, the scratch's those of `s`. -/
def stAt (c : Dev nD) (t : Fin cfg0.N) (s : St F) (X : Vec F S1x16x256x256 .bf16) (Y Z : Vec F S1x8x256x256 .bf16) : St F :=
  ⟨B0 m c t, B1 m c t, B2 m c t, B3 m c t, B4 m c t, B5 m c t, B6 m c t, X, Y, Z, s.a12, s.a13, s.a14, s.a15, s.a16, s.a17, s.a18⟩

/-- One point of the pipeline, from what its operands hold. -/
theorem point_spec (c : Dev nD) (t : Fin cfg0.N) (s : St F) (hs : ScrInv m c t.val s) (X : Vec F S1x16x256x256 .bf16) (Y Z : Vec F S1x8x256x256 .bf16) :
    ∃ A B C s', bodySt (grid0.coords t) (stAt m c t s X Y Z) = stAt m c t s' A B C ∧ ScrInv m c (t.val + 1) s'
      ∧ (A = if 4 ≤ tt (grid0.coords t) then out7 m c t else X)
      ∧ (B = if tt (grid0.coords t) < 64 then out8 m c t else Y)
      ∧ (C = if tt (grid0.coords t) < 64 then out9 m c t else Z) := by
  have ht := tt_coords t
  have hq : ∀ J h, 63 < J → Qd m c (t.val / 68) J h = zeroQ h := fun J h hJ => if_neg (by omega)
  obtain ⟨A, B, C, X', Y', L, E, R, P, Q, e, hI, hA, hB, hC⟩ := body_spec (Kd m c (t.val / 68)) (Qd m c (t.val / 68)) hq (grid0.coords t) (stAt m c t s X Y Z)
    (fun h => by rw [ht] at h ⊢; exact hs h)
    (fun h g => by
      rw [ht] at h ⊢
      unfold Qd
      rw [if_pos (by omega), pt_self t h]; rfl)
    (fun h g => by
      rw [ht] at h ⊢
      unfold Kd
      rw [pt_self t h]; rfl)
  refine ⟨A, B, C, bodySt (grid0.coords t) (stAt m c t s X Y Z), ?_, ?_, ?_, ?_, ?_⟩
  · rw [e]; rfl
  · intro h
    rw [ht] at hI
    have e1 : (t.val + 1) / 68 = t.val / 68 := by omega
    have e2 : (t.val + 1) % 68 = t.val % 68 + 1 := by omega
    rw [e1, e2]; exact hI
  · rw [hA, ht]; rfl
  · rw [hB, ht]; rfl
  · rw [hC, ht]; rfl

set_option maxHeartbeats 2000000 in
set_option backward.isDefEq.respectTransparency.types false in
/-- The body's obligation at every point. -/
theorem body_obligation (c : Dev nD) : BodyObligation (dats (F := F) m 0 c) (defs₀ (F := F)) 𝒱₀ () Set.univ := fun t => by
  rw [bigSep_W0, bigSep_W0]
  dsimp only
  simp only [before_0, before_1, before_2, before_3, before_4, before_5, before_6]
  rw [show (dats m 0 c).Φ t.castSucc = ΦM m c t.val from rfl, show (dats m 0 c).Φ t.succ = ΦM m c (t.val + 1) from rfl]
  unfold Dat.owesAt Pipeline.owesWithin
  rw [show (dats m 0 c).owed t.castSucc = 0 from rfl, show (dats m 0 c).owed t.succ = 0 from rfl]
  unfold ΦM
  iintro ⟨⟨⟨%s, %hs, HS⟩, HR⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  sl_rw [prog_eq t]
  obtain ⟨A, B, C, s', e, hI, hA, hB, hC⟩ := point_spec m c t s hs ((dats m 0 c).before 7 t d7) ((dats m 0 c).before 8 t d8) ((dats m 0 c).before 9 t d9)
  have hrun := run_at c t (stAt m c t s ((dats m 0 c).before 7 t d7) ((dats m 0 c).before 8 t d8) ((dats m 0 c).before 9 t d9))
  rw [e] at hrun
  unfold Runs at hrun
  iapply (wp_wand_r frame (wpE defs₀ 𝒱₀ (c : Thread nD τ) none))
  unfold Scr
  icases HS with ⟨S0, S1, S2, S3, S4, S5, S6⟩
  isplitl [H0 H1 H2 H3 H4 H5 H6 H7 H8 H9 S0 S1 S2 S3 S4 S5 S6]
  · iapply hrun
    unfold Own
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [S0]; · iexact S0
    isplitl [S1]; · iexact S1
    isplitl [S2]; · iexact S2
    isplitl [S3]; · iexact S3
    isplitl [S4]; · iexact S4
    isplitl [S5]; · iexact S5
    iexact S6
  iintro %r ⟨-, HO⟩
  unfold Own
  icases HO with ⟨H0, H1, H2, H3, H4, H5, H6, H7, H8, H9, S0, S1, S2, S3, S4, S5, S6⟩
  isplitl [HR S0 S1 S2 S3 S4 S5 S6]
  · isplitl [S0 S1 S2 S3 S4 S5 S6]
    · iexists s'
      isplitr; · ipureintro; exact hI
      isplitl [S0]; · iexact S0
      isplitl [S1]; · iexact S1
      isplitl [S2]; · iexact S2
      isplitl [S3]; · iexact S3
      isplitl [S4]; · iexact S4
      isplitl [S5]; · iexact S5
      iexact S6
    · iexact HR
  isplitl [HW]
  · iexists W; isplitr; · ipureintro; exact fun _ _ => Or.inl trivial
    iexact HW
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iapply (leaves7 m c t d7 A hA); iexact H7
  isplitl [H8]; · iapply (leaves8 m c t d8 B hB); iexact H8
  iapply (leaves9 m c t d9 C hC); iexact H9

/-! ## The run -/

/-- A buffer held at some contents is owned as a whole memref at some contents, -/
theorem scr_in (c : Dev nD) (r : Ref sig .tc) : iprop(∃ f : Buf (Elt F) ((c : Thread nD τ).loc r), ((c : Thread nD τ).loc r) ↦{fullShare} f)
    ⊢ (iprop(∃ X, owns (c : Thread nD τ) (Memref.whole r) fullShare X) : sProp 𝕄) := by
  iintro ⟨%f, H⟩
  iexists _
  unfold owns
  iexists f
  isplitr; · ipureintro; rfl
  rw [show (Memref.whole r).view.set = Finset.univ from View.set_whole r]
  iexact H
/-- and back. -/
theorem scr_out (c : Dev nD) (r : Ref sig .tc) (X) : (owns (c : Thread nD τ) (Memref.whole r) fullShare X : sProp 𝕄)
    ⊢ iprop(∃ f : Buf (Elt F) ((c : Thread nD τ).loc r), ((c : Thread nD τ).loc r) ↦{fullShare} f) := by
  unfold owns
  rw [show (Memref.whole r).view.set = Finset.univ from View.set_whole r]
  iintro ⟨%f, -, H⟩
  iexists f
  iexact H

theorem hin (c : Dev nD) : Pipeline.ΦA spec0 c ⊢ ((dats (F := F) m 0 c).Φ 0 : sProp 𝕄) := by
  rw [show (dats m 0 c).Φ 0 = ΦM m c 0 from rfl]
  unfold Pipeline.ΦA ΦM Scr
  rw [scopedRest0_eq]
  iintro ⟨⟨S0, S1, S2, S3, S4, S5, S6⟩, HR⟩
  ihave T0 := (scr_in c cc0_scratch0) $$ S0
  ihave T1 := (scr_in c cc0_scratch1) $$ S1
  ihave T2 := (scr_in c cc0_scratch2) $$ S2
  ihave T3 := (scr_in c cc0_scratch3) $$ S3
  ihave T4 := (scr_in c cc0_scratch4) $$ S4
  ihave T5 := (scr_in c cc0_scratch5) $$ S5
  ihave T6 := (scr_in c cc0_scratch6) $$ S6
  icases T0 with ⟨%X0, T0⟩
  icases T1 with ⟨%X1, T1⟩
  icases T2 with ⟨%X2, T2⟩
  icases T3 with ⟨%X3, T3⟩
  icases T4 with ⟨%X4, T4⟩
  icases T5 with ⟨%X5, T5⟩
  icases T6 with ⟨%X6, T6⟩
  isplitl [T0 T1 T2 T3 T4 T5 T6]
  · iexists (⟨B0 m c (pt 0 0), B1 m c (pt 0 0), B2 m c (pt 0 0), B3 m c (pt 0 0), B4 m c (pt 0 0), B5 m c (pt 0 0), B6 m c (pt 0 0), out7 m c (pt 0 0), out8 m c (pt 0 0), out9 m c (pt 0 0), X0, X1, X2, X3, X4, X5, X6⟩ : St F)
    isplitr; · ipureintro; exact fun h => absurd rfl h
    isplitl [T0]; · iexact T0
    isplitl [T1]; · iexact T1
    isplitl [T2]; · iexact T2
    isplitl [T3]; · iexact T3
    isplitl [T4]; · iexact T4
    isplitl [T5]; · iexact T5
    iexact T6
  · iexact HR

theorem hout (c : Dev nD) : (dats (F := F) m 0 c).Φ (Fin.last cfg0.N) ⊢ (Pipeline.ΦA spec0 c : sProp 𝕄) := by
  rw [show (dats m 0 c).Φ (Fin.last cfg0.N) = ΦM m c cfg0.N from rfl]
  unfold Pipeline.ΦA ΦM Scr
  rw [scopedRest0_eq]
  iintro ⟨⟨%s, -, S0, S1, S2, S3, S4, S5, S6⟩, HR⟩
  isplitl [S0 S1 S2 S3 S4 S5 S6]
  · isplitl [S0]; · iapply (scr_out c cc0_scratch0 s.a12); iexact S0
    isplitl [S1]; · iapply (scr_out c cc0_scratch1 s.a13); iexact S1
    isplitl [S2]; · iapply (scr_out c cc0_scratch2 s.a14); iexact S2
    isplitl [S3]; · iapply (scr_out c cc0_scratch3 s.a15); iexact S3
    isplitl [S4]; · iapply (scr_out c cc0_scratch4 s.a16); iexact S4
    isplitl [S5]; · iapply (scr_out c cc0_scratch5 s.a17); iexact S5
    iapply (scr_out c cc0_scratch6 s.a18); iexact S6
  · iexact HR

set_option backward.isDefEq.respectTransparency.types false in
/-- Every run of the program ends, with the operands' arrays at what the proof data say. -/
theorem run_main : θ_run defs (onTc (τ := τ) (main (F := F))) (s₀ m ρ) (fun r => Pipeline.FramePost cfgs (dats m) 0 (V m) r ∧ r.2.sem = fun _ => 0) :=
  Pipeline.θ_run_frame_track cfgs (dats m) (0 : Fin 1) launch0 defs₀ 𝒱₀ m ρ main
    (hbody := fun c => (body_obligation m c).loose) (hshare := fun c => (dats m 0 c).share_full fun _ => rfl)
    (howed := fun _ _ => rfl) (V := V m) (hmain := hmain m 𝒱₀) (hA := fun _ _ => rfl)
    (hin := fun c => hin m c) (hout := fun c => hout m c)
    (Q' := fun r => Pipeline.FramePost cfgs (dats m) 0 (V m) r ∧ r.2.sem = fun _ => 0) (hQ' := fun _ h => h)

/-- Every run of the program ends, with its arguments unchanged and every semaphore at zero. -/
theorem quiescent : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  (θ_run defs _ _).mono (fun _ hh => ⟨fun c => (fun (h : Pipeline.FramePost cfgs (dats m) 0 (V m) _) =>
    ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).1 5).trans (((dats m 0 c).arrAt_in 5 rfl _).trans (V_main_arg8 m c)),
      ((h c).2 main_arg9 (Pipeline.mem_restRefs_of main_arg9 (by decide) (by decide))).trans (V_main_arg9 m c)⟩) hh.1, hh.2⟩) (run_main m ρ)

end Cert.MainIdeal.Body
-- ==== Proof.Frames.lean ====
/- The claims that say no more than that the programs run, and the named constants. -/
module

public import proofs.«01_k».proof.Defs
public import proofs.«01_k».proof.Proof.MainDat
public import proofs.«01_k».proof.Proof.MainIdealDat
public import proofs.«01_k».proof.Proof.Gen.ReferenceIdeal.Frame
public import proofs.«01_k».proof.Proof.Gen.Delta.Frame
public import proofs.«01_k».proof.Proof.Gen.DeltaIdeal.Frame
public import proofs.«01_k».proof.Proof.Gen.DeltaRefIdeal.Frame
public import Idealize.ShloMosaic.Lib.Quiescent

@[expose] public section

noncomputable section

open Idealize.ShloMosaic Idealize.ShloMosaic.TcCoe Idealize.SL.Sem

namespace Cert.Proof

/-- The kernel's five-product call runs to the end, arguments unchanged, semaphores at zero. -/
theorem frame_main : Cert.quiescent_Main := fun m ρ _ => Cert.Main.Body.quiescent m ρ
/-- The same of its idealization. -/
theorem frame_mainIdeal : Cert.quiescent_MainIdeal := fun m ρ _ => Cert.MainIdeal.Body.quiescent m ρ
/-- The same of the reference. -/
theorem frame_reference : Cert.quiescent_ReferenceIdeal := fun m ρ _ => Cert.ReferenceIdeal.Gen.frame m ρ
/-- The same of the call that computes delta, -/
theorem frame_delta : Cert.quiescent_Delta := fun m ρ _ => Cert.Delta.Gen.frame m ρ
/-- of its idealization, -/
theorem frame_deltaIdeal : Cert.quiescent_DeltaIdeal := fun m ρ _ => Cert.DeltaIdeal.Gen.frame m ρ
/-- and of its reference. -/
theorem frame_deltaRef : Cert.quiescent_DeltaRefIdeal := fun m ρ _ => Cert.DeltaRefIdeal.Gen.frame m ρ

/-- The three folded constants are the reals they were computed from. -/
theorem preserves_main : Cert.preserves_Main_MainIdeal :=
  ⟨IdealRules.named_const.statement Cert.MainIdeal.κ "log2e" .f32 0x3FB8AA3B#32 (((Real.log 2)⁻¹ : ℝ) : EReal) rfl,
    IdealRules.named_const.statement Cert.MainIdeal.κ "scale_over_cap" .f32 0x3C4CCCCD#32 ((1 / 80 : ℝ) : EReal) rfl,
    IdealRules.named_const.statement Cert.MainIdeal.κ "cap_log2e" .f32 0x40E6D4CA#32 ((5 * (Real.log 2)⁻¹ : ℝ) : EReal) rfl⟩

end Cert.Proof

end
-- ==== Proof.Spec.lean ====
/- The gradients of soft-capped sliding-window attention as plain sums over the arguments' elements, in the reference's own order. -/
module

public import Idealize.ShloMosaic.Lib.Pointwise

@[expose] public section

noncomputable section

namespace Cert.Spec

open Idealize.ShloMosaic

/-- The ten arguments: q, its scales, k, its scales, v, its scales, d_out, its scales, the log-sum-exp and delta. -/
structure Args where
  q : Fin 2 → Fin 16384 → Fin 16 → Fin 256 → EReal
  qs : Fin 16 → EReal
  k : Fin 2 → Fin 16384 → Fin 8 → Fin 256 → EReal
  ks : Fin 8 → EReal
  v : Fin 2 → Fin 16384 → Fin 8 → Fin 256 → EReal
  vs : Fin 8 → EReal
  d : Fin 2 → Fin 16384 → Fin 16 → Fin 256 → EReal
  ds : Fin 16 → EReal
  l : Fin 2 → Fin 16 → Fin 16384 → EReal
  e : Fin 2 → Fin 16384 → Fin 16 → EReal

/-- The head of q that is number `r` in the group of key head `g`. -/
def hd (g : Fin 8) (r : Fin 2) : Fin 16 := ⟨g.val * 2 + r.val, by have := g.isLt; have := r.isLt; omega⟩

/-- The softmax scale, 1/16. -/
def c16 : EReal := Ideal.ofBits .f32 0x3D800000#32

/-- The soft cap, 5. -/
def c5 : EReal := Ideal.ofBits .f32 0x40A00000#32

/-- Query row `i` sees key row `j`: not later than itself and fewer than 1024 rows back. -/
def sees (i j : Fin 16384) : Prop := j.val ≤ i.val ∧ i.val < j.val + 1024

instance (i j : Fin 16384) : Decidable (sees i j) := inferInstanceAs (Decidable (_ ∧ _))

/-- The tanh of the scaled score over the cap. -/
def T (A : Args) (b : Fin 2) (g : Fin 8) (r : Fin 2) (i j : Fin 16384) : EReal :=
  Ideal.tanh (Ideal.div ((∑ x : Fin 256, A.k b j g x * A.q b i (hd g r) x) * (A.qs (hd g r) * A.ks g * c16)) c5)

/-- The attention weight. -/
def P (A : Args) (b : Fin 2) (g : Fin 8) (r : Fin 2) (i j : Fin 16384) : EReal :=
  if sees i j then Ideal.exp (c5 * T A b g r i j - A.l b (hd g r) i) else 0

/-- The gradient at the score. -/
def DS (A : Args) (b : Fin 2) (g : Fin 8) (r : Fin 2) (i j : Fin 16384) : EReal :=
  P A b g r i j * ((∑ x : Fin 256, A.v b j g x * A.d b i (hd g r) x) * (A.ds (hd g r) * A.vs g) - A.e b i (hd g r)) *
    (1 - T A b g r i j * T A b g r i j)

/-- The gradient with respect to q. -/
def dq (A : Args) (b : Fin 2) (g : Fin 8) (r : Fin 2) (i : Fin 16384) (x : Fin 256) : EReal :=
  (∑ j : Fin 16384, DS A b g r i j * A.k b j g x) * (A.ks g * c16)

/-- One query head's part of the gradient with respect to k. -/
def dkH (A : Args) (b : Fin 2) (g : Fin 8) (j : Fin 16384) (x : Fin 256) (r : Fin 2) : EReal :=
  (∑ i : Fin 16384, DS A b g r i j * A.q b i (hd g r) x) * (A.qs (hd g r) * c16)

/-- One query head's part of the gradient with respect to v. -/
def dvH (A : Args) (b : Fin 2) (g : Fin 8) (j : Fin 16384) (x : Fin 256) (r : Fin 2) : EReal :=
  (∑ i : Fin 16384, P A b g r i j * A.d b i (hd g r) x) * A.ds (hd g r)

end Cert.Spec
-- ==== Proof.Sums.lean ====
/- Sums over the 16384 rows of a sequence split into blocks of 256 rows, when only five consecutive blocks contribute. -/
module

public import proofs.«01_k».proof.Proof.Spec

@[expose] public section

noncomputable section

namespace Cert.Spec

open Finset

/-- Row `r` of block `J`. -/
def row (J : ℕ) (h : J < 64) (r : Fin 256) : Fin 16384 := ⟨256 * J + r.val, by have := r.isLt; omega⟩

/-- The sum over one block's rows, 0 past the last block. -/
def blkSum (F : Fin 16384 → EReal) (J : ℕ) : EReal := ∑ r : Fin 256, if h : J < 64 then F (row J h r) else 0

theorem blkSum_lt (F : Fin 16384 → EReal) (J : ℕ) (h : J < 64) : blkSum F J = ∑ r : Fin 256, F (row J h r) := by
  unfold blkSum
  simp only [h, dif_pos]

theorem blkSum_ge (F : Fin 16384 → EReal) (J : ℕ) (h : ¬ J < 64) : blkSum F J = 0 := by
  unfold blkSum
  simp only [h, dif_neg, not_false_eq_true, sum_const_zero]

/-- A sum over all rows, block by block. -/
theorem sum_blocks (F : Fin 16384 → EReal) : ∑ i, F i = ∑ J ∈ range 64, blkSum F J := by
  rw [← Fin.sum_univ_eq_sum_range]
  have e : ∀ J : Fin 64, blkSum F J.val = ∑ r : Fin 256, F (finProdFinEquiv (m := 64) (n := 256) (J, r)) := by
    intro J
    rw [blkSum_lt F J.val J.isLt]
    refine sum_congr rfl fun r _ => congrArg F (Fin.ext ?_)
    show 256 * J.val + r.val = r.val + 256 * J.val
    omega
  rw [sum_congr rfl fun J _ => e J, ← Fintype.sum_prod_type', Equiv.sum_comp (finProdFinEquiv (m := 64) (n := 256)) F]

theorem blkSum_zero (F : Fin 16384 → EReal) (J : ℕ) (hz : ∀ (h : J < 64) r, F (row J h r) = 0) : blkSum F J = 0 := by
  by_cases h : J < 64
  · rw [blkSum_lt F J h]; exact sum_eq_zero fun r _ => hz h r
  · exact blkSum_ge F J h

/-- Only block `n` and the four after it contribute. -/
theorem sum_up (F : Fin 16384 → EReal) (n : ℕ) (hn : n < 64)
    (hz : ∀ J (h : J < 64) r, (J < n ∨ n + 4 < J) → F (row J h r) = 0) :
    ∑ i, F i = blkSum F n + blkSum F (n + 1) + blkSum F (n + 2) + blkSum F (n + 3) + blkSum F (n + 4) := by
  rw [sum_blocks]
  have e1 : ∑ J ∈ range 64, blkSum F J = ∑ J ∈ range 69, blkSum F J :=
    sum_subset (range_subset_range.2 (by omega)) fun J _ hJ => blkSum_ge F J (by simpa using hJ)
  have e2 : ∑ J ∈ Ico n (n + 5), blkSum F J = ∑ J ∈ range 69, blkSum F J := by
    refine sum_subset (fun J hJ => ?_) fun J _ hJ => blkSum_zero F J fun h r => hz J h r ?_
    · rw [mem_Ico] at hJ; rw [mem_range]; omega
    · rw [mem_Ico] at hJ; omega
  rw [e1, ← e2, sum_Ico_eq_sum_range]
  simp only [Nat.add_sub_cancel_left, sum_range_succ, sum_range_zero, zero_add, Nat.add_zero]

/-- Only block `J` and the four before it contribute. -/
theorem sum_down (F : Fin 16384 → EReal) (J : ℕ) (hJ : J < 64)
    (hz : ∀ j (h : j < 64) r, (J < j ∨ j + 4 < J) → F (row j h r) = 0) :
    ∑ i, F i = ∑ k ∈ range (min J 4 + 1), blkSum F (J - k) := by
  rw [sum_blocks]
  have e : ∑ k ∈ range (min J 4 + 1), blkSum F (J - k) = ∑ j ∈ (range (min J 4 + 1)).image (fun k => J - k), blkSum F j := by
    rw [sum_image]
    intro a ha b hb hab
    have ha' := mem_range.1 ha
    have hb' := mem_range.1 hb
    dsimp only at hab
    omega
  rw [e]
  symm
  refine sum_subset (fun j hj => ?_) fun j _ hj => blkSum_zero F j fun h r => hz j h r ?_
  · rw [mem_image] at hj
    obtain ⟨k, hk, rfl⟩ := hj
    rw [mem_range]; omega
  · by_contra hc
    refine hj (mem_image.2 ⟨J - j, mem_range.2 (by omega), by omega⟩)

end Cert.Spec
-- ==== Proof.Tile.lean ====
/- One tile of the idealized pallas_call `main` over the reals: the products of one key block with one query block, read at an index. -/
module

public import proofs.«01_k».proof.Proof.MainIdealLoop
public import Idealize.ShloMosaic.Lib.Pointwise
public import Idealize.ShloMosaic.Lib.WordCmp

@[expose] public section

set_option maxRecDepth 16384

noncomputable section

namespace Cert.MainIdeal.Val

open Cert.MainIdeal Cert.MainIdeal.Gen Cert.MainIdeal.Body
open Idealize.ShloMosaic Idealize.ShloMosaic.TcCoe

/-- The score of key row `a` against query row `r`, scaled and passed through tanh. -/
def tt (s : EReal) (k q : Fin 256 → Fin 256 → EReal) (a r : Fin 256) : EReal :=
  Ideal.tanh ((∑ x : Fin 256, k a x * q r x) * s)

/-- Whether key row `a` is within the window of query row `r`, `m` blocks further on. -/
def vis (m : ℕ) (a r : Fin 256) : Prop := (m = 0 → a ≤ r) ∧ (m = 4 → r < a)

instance (m : ℕ) (a r : Fin 256) : Decidable (vis m a r) := inferInstanceAs (Decidable (_ ∧ _))

/-- The named factor 5 / log 2. -/
def capLog2e : EReal := Named.named (F := Ideal) κ "cap_log2e" (φ := .f32) 0x40E6D4CA#32

/-- The attention weight of key row `a` for query row `r`. -/
def pp (m : ℕ) (s : EReal) (k q : Fin 256 → Fin 256 → EReal) (l : Fin 256 → EReal) (a r : Fin 256) : EReal :=
  if vis m a r then Ideal.exp2 (tt s k q a r * capLog2e - l r) else 0

/-- The gradient at the score of key row `a` for query row `r`. -/
def dd (m : ℕ) (s w : EReal) (k v q d : Fin 256 → Fin 256 → EReal) (l e : Fin 256 → EReal) (a r : Fin 256) : EReal :=
  pp m s k q l a r * ((∑ x : Fin 256, v a x * d r x) * w - e r) * (1 - tt s k q a r * tt s k q a r)

theorem sge_word (a r : Fin 256) : IntOp.cmpi .sge (BitVec.ofNat 32 r.val) (BitVec.ofNat 32 a.val) = if vis 0 a r then 1#1 else 0#1 := by
  have ha := a.isLt
  have hr := r.isLt
  have e : vis 0 a r ↔ a.val ≤ r.val := by simp [vis]
  rw [WordCmp.cmpi_sge_ofNat (by norm_num; omega) (by norm_num; omega)]
  by_cases h : a.val ≤ r.val <;> simp [h, e]

theorem slt_word (a r : Fin 256) : IntOp.cmpi .slt (BitVec.ofNat 32 r.val) (BitVec.ofNat 32 a.val) = if vis 4 a r then 1#1 else 0#1 := by
  have ha := a.isLt
  have hr := r.isLt
  have e : vis 4 a r ↔ r.val < a.val := by simp [vis]
  rw [WordCmp.cmpi_slt_ofNat (by norm_num; omega) (by norm_num; omega)]
  by_cases h : r.val < a.val <;> simp [h, e]

theorem select_if (p : Prop) [Decidable p] (x y : EReal) : Scalar.select (if p then 1#1 else 0#1) x y = if p then x else y := by
  split <;> simp [Scalar.select]

theorem pay32_at (v : S1x1x256x256.Idx → EReal) (a x : Fin 256) : k0_pay32 (F := Ideal) v (ix2 a x) = v (ix4 0 0 a x) := by
  pointwise [k0_pay32]

theorem pay33_at (v : S1x1x256x256.Idx → EReal) (a x : Fin 256) : k0_pay33 (F := Ideal) v (ix2 a x) = v (ix4 0 0 a x) := by
  pointwise [k0_pay33]

theorem pay35_at (v : S1x1x256x256.Idx → EReal) (a x : Fin 256) : k0_pay35 (F := Ideal) v (ix2 a x) = v (ix4 0 0 a x) := by
  pointwise [k0_pay35]

theorem pay36_at (v : S1x1x256x256.Idx → EReal) (a x : Fin 256) : k0_pay36 (F := Ideal) v (ix2 a x) = v (ix4 0 0 a x) := by
  pointwise [k0_pay36]

theorem pay46_at (v : S1x1x256x256.Idx → EReal) (a x : Fin 256) : k0_pay46 (F := Ideal) v (ix2 a x) = v (ix4 0 0 a x) := by
  pointwise [k0_pay46]

theorem pay47_at (v : S1x1x256x256.Idx → EReal) (a x : Fin 256) : k0_pay47 (F := Ideal) v (ix2 a x) = v (ix4 0 0 a x) := by
  pointwise [k0_pay47]

theorem pay55_at (v : S1x1x256x256.Idx → EReal) (a x : Fin 256) : k0_pay55 (F := Ideal) v (ix2 a x) = v (ix4 0 0 a x) := by
  pointwise [k0_pay55]

theorem pay56_at (v : S1x1x256x256.Idx → EReal) (a x : Fin 256) : k0_pay56 (F := Ideal) v (ix2 a x) = v (ix4 0 0 a x) := by
  pointwise [k0_pay56]

theorem pay64_at (v : S1x1x256x256.Idx → EReal) (a x : Fin 256) : k0_pay64 (F := Ideal) v (ix2 a x) = v (ix4 0 0 a x) := by
  pointwise [k0_pay64]

theorem pay65_at (v : S1x1x256x256.Idx → EReal) (a x : Fin 256) : k0_pay65 (F := Ideal) v (ix2 a x) = v (ix4 0 0 a x) := by
  pointwise [k0_pay65]

theorem pay74_at (v : S1x1x256x256.Idx → EReal) (a x : Fin 256) : k0_pay74 (F := Ideal) v (ix2 a x) = v (ix4 0 0 a x) := by
  pointwise [k0_pay74]

theorem pay75_at (v : S1x1x256x256.Idx → EReal) (a x : Fin 256) : k0_pay75 (F := Ideal) v (ix2 a x) = v (ix4 0 0 a x) := by
  pointwise [k0_pay75]

theorem pay34_at (v : S1x1x256x256.Idx → EReal) (x a : Fin 256) : k0_pay34 (F := Ideal) v (ix2 x a) = v (ix4 0 0 a x) := by
  pointwise [k0_pay34, k0_pay32]

theorem pay38_at (v31 : EReal) (v36 v47 : S1x1x256x256.Idx → EReal) (a r : Fin 256) :
    k0_pay38 (F := Ideal) v31 v36 v47 (ix2 a r) = tt (k0_pay31 (F := Ideal) v31) (fun a x => v36 (ix4 0 0 a x)) (fun a x => v47 (ix4 0 0 a x)) a r := by
  unfold tt
  pointwise [k0_pay38, k0_pay32, k0_pay35]

theorem pay41_at (v66 v67 : S256x256.Idx → EReal) (a r : Fin 256) :
    k0_pay41 (F := Ideal) iota0 iota1 v66 v67 (ix2 a r) = if vis 0 a r then Ideal.exp2 (v66 (ix2 a r) - v67 (ix2 a r)) else 0 := by
  pointwise [k0_pay41, iota0, iota1]
  rw [sge_word, select_if]
  rfl

theorem pay79_at (v288 : S256x256.Idx → EReal) (a r : Fin 256) :
    k0_pay79 (F := Ideal) iota0 iota1 v288 (ix2 a r) = if vis 4 a r then Ideal.exp2 (v288 (ix2 a r)) else 0 := by
  pointwise [k0_pay79, iota0, iota1]
  rw [slt_word, select_if]
  rfl

theorem pay41_kq (v31 : EReal) (v36 v47 : S1x1x256x256.Idx → EReal) (v55 : S1x1x256.Idx → EReal) (a r : Fin 256) :
    k0_pay41 (F := Ideal) iota0 iota1 (k0_pay39 (F := Ideal) v31 v36 v47) (k0_pay40 (F := Ideal) v55) (ix2 a r) =
      pp 0 (k0_pay31 (F := Ideal) v31) (fun a x => v36 (ix4 0 0 a x)) (fun a x => v47 (ix4 0 0 a x)) (fun r => v55 (ix3 0 0 r)) a r := by
  rw [pay41_at]
  unfold pp
  congr 2
  pointwise [k0_pay39, k0_pay40, pay38_at]
  rfl

theorem pay42_kq (w v31 : EReal) (v36 v39 v47 v51 : S1x1x256x256.Idx → EReal) (v55 v59 : S1x1x256.Idx → EReal) (a r : Fin 256) :
    k0_pay42 (F := Ideal) iota0 iota1 w (k0_pay33 (F := Ideal) v39) (k0_pay36 (F := Ideal) v51) (k0_pay37 (F := Ideal) v59) (k0_pay38 (F := Ideal) v31 v36 v47)
        (k0_pay39 (F := Ideal) v31 v36 v47) (k0_pay40 (F := Ideal) v55) (ix2 a r) =
      dd 0 (k0_pay31 (F := Ideal) v31) w (fun a x => v36 (ix4 0 0 a x)) (fun a x => v39 (ix4 0 0 a x)) (fun a x => v47 (ix4 0 0 a x))
        (fun a x => v51 (ix4 0 0 a x)) (fun r => v55 (ix3 0 0 r)) (fun r => v59 (ix3 0 0 r)) a r := by
  unfold dd
  pointwise [k0_pay42, k0_pay33, k0_pay36, k0_pay37, pay38_at, pay41_kq]

theorem pay50_kq (s : EReal) (v36 v47 : S1x1x256x256.Idx → EReal) (v55 : S1x1x256.Idx → EReal) (a r : Fin 256) :
    k0_pay50 (F := Ideal) s (k0_pay32 (F := Ideal) v36) (k0_pay46 (F := Ideal) v47) (k0_pay48 (F := Ideal) v55) (ix2 a r) =
      pp 1 s (fun a x => v36 (ix4 0 0 a x)) (fun a x => v47 (ix4 0 0 a x)) (fun r => v55 (ix3 0 0 r)) a r := by
  unfold pp tt capLog2e
  rw [if_pos (by simp [vis])]
  pointwise [k0_pay50, k0_pay49, k0_pay32, k0_pay46, k0_pay48]
  rfl

theorem pay51_kq (s w : EReal) (v36 v39 v47 v51 : S1x1x256x256.Idx → EReal) (v55 v59 : S1x1x256.Idx → EReal) (a r : Fin 256) :
    k0_pay51 (F := Ideal) s w (k0_pay32 (F := Ideal) v36) (k0_pay33 (F := Ideal) v39) (k0_pay46 (F := Ideal) v47) (k0_pay47 (F := Ideal) v51) (k0_pay48 (F := Ideal) v55) v59 (ix2 a r) =
      dd 1 s w (fun a x => v36 (ix4 0 0 a x)) (fun a x => v39 (ix4 0 0 a x)) (fun a x => v47 (ix4 0 0 a x))
        (fun a x => v51 (ix4 0 0 a x)) (fun r => v55 (ix3 0 0 r)) (fun r => v59 (ix3 0 0 r)) a r := by
  unfold dd tt
  pointwise [k0_pay51, pay50_kq, k0_pay49, pay32_at, pay33_at, pay46_at, pay47_at]

theorem pay58_kq (s : EReal) (v36 v47 : S1x1x256x256.Idx → EReal) (v55 : S1x1x256.Idx → EReal) (a r : Fin 256) :
    k0_pay58 (F := Ideal) s (k0_pay32 (F := Ideal) v36) v47 v55 (ix2 a r) =
      pp 2 s (fun a x => v36 (ix4 0 0 a x)) (fun a x => v47 (ix4 0 0 a x)) (fun r => v55 (ix3 0 0 r)) a r := by
  unfold pp tt capLog2e
  rw [if_pos (by simp [vis])]
  pointwise [k0_pay58, k0_pay57, k0_pay32, k0_pay55]
  rfl

theorem pay59_kq (s w : EReal) (v36 v39 v47 v51 : S1x1x256x256.Idx → EReal) (v55 v59 : S1x1x256.Idx → EReal) (a r : Fin 256) :
    k0_pay59 (F := Ideal) s w (k0_pay32 (F := Ideal) v36) (k0_pay33 (F := Ideal) v39) v47 v51 v55 v59 (ix2 a r) =
      dd 2 s w (fun a x => v36 (ix4 0 0 a x)) (fun a x => v39 (ix4 0 0 a x)) (fun a x => v47 (ix4 0 0 a x))
        (fun a x => v51 (ix4 0 0 a x)) (fun r => v55 (ix3 0 0 r)) (fun r => v59 (ix3 0 0 r)) a r := by
  unfold dd tt
  pointwise [k0_pay59, pay58_kq, k0_pay57, pay32_at, pay33_at, pay55_at, pay56_at]

theorem pay67_kq (s : EReal) (v36 v47 : S1x1x256x256.Idx → EReal) (v55 : S1x1x256.Idx → EReal) (a r : Fin 256) :
    k0_pay67 (F := Ideal) s (k0_pay32 (F := Ideal) v36) v47 v55 (ix2 a r) =
      pp 3 s (fun a x => v36 (ix4 0 0 a x)) (fun a x => v47 (ix4 0 0 a x)) (fun r => v55 (ix3 0 0 r)) a r := by
  unfold pp tt capLog2e
  rw [if_pos (by simp [vis])]
  pointwise [k0_pay67, k0_pay66, k0_pay32, k0_pay64]
  rfl

theorem pay68_kq (s w : EReal) (v36 v39 v47 v51 : S1x1x256x256.Idx → EReal) (v55 v59 : S1x1x256.Idx → EReal) (a r : Fin 256) :
    k0_pay68 (F := Ideal) s w (k0_pay32 (F := Ideal) v36) (k0_pay33 (F := Ideal) v39) v47 v51 v55 v59 (ix2 a r) =
      dd 3 s w (fun a x => v36 (ix4 0 0 a x)) (fun a x => v39 (ix4 0 0 a x)) (fun a x => v47 (ix4 0 0 a x))
        (fun a x => v51 (ix4 0 0 a x)) (fun r => v55 (ix3 0 0 r)) (fun r => v59 (ix3 0 0 r)) a r := by
  unfold dd tt
  pointwise [k0_pay68, pay67_kq, k0_pay66, pay32_at, pay33_at, pay64_at, pay65_at]

theorem pay79_kq (s : EReal) (v36 v47 : S1x1x256x256.Idx → EReal) (v55 : S1x1x256.Idx → EReal) (a r : Fin 256) :
    k0_pay79 (F := Ideal) iota0 iota1 (k0_pay78 (F := Ideal) s (k0_pay32 (F := Ideal) v36) v47 v55) (ix2 a r) =
      pp 4 s (fun a x => v36 (ix4 0 0 a x)) (fun a x => v47 (ix4 0 0 a x)) (fun r => v55 (ix3 0 0 r)) a r := by
  rw [pay79_at]
  unfold pp tt capLog2e
  congr 2
  pointwise [k0_pay78, k0_pay77, k0_pay32, k0_pay74]

theorem pay80_kq (s w : EReal) (v36 v39 v47 v51 : S1x1x256x256.Idx → EReal) (v55 v59 : S1x1x256.Idx → EReal) (a r : Fin 256) :
    k0_pay80 (F := Ideal) iota0 iota1 w (k0_pay33 (F := Ideal) v39) (k0_pay75 (F := Ideal) v51) (k0_pay76 (F := Ideal) v59)
        (k0_pay77 (F := Ideal) s (k0_pay32 (F := Ideal) v36) v47) (k0_pay78 (F := Ideal) s (k0_pay32 (F := Ideal) v36) v47 v55) (ix2 a r) =
      dd 4 s w (fun a x => v36 (ix4 0 0 a x)) (fun a x => v39 (ix4 0 0 a x)) (fun a x => v47 (ix4 0 0 a x))
        (fun a x => v51 (ix4 0 0 a x)) (fun r => v55 (ix3 0 0 r)) (fun r => v59 (ix3 0 0 r)) a r := by
  unfold dd tt
  pointwise [k0_pay80, pay79_kq, k0_pay77, pay32_at, pay33_at, pay74_at, pay75_at, k0_pay76]

/-- The weights of a key block for a query block `m` blocks further on. -/
def PP (m : ℕ) (K : KBlk Ideal) (Q : QBlk Ideal) (a r : Fin 256) : EReal :=
  pp m (k0_pay31 (F := Ideal) K.qs) (fun a x => K.k (ix4 0 0 a x)) (fun a x => Q.q (ix4 0 0 a x)) (fun r => Q.l (ix3 0 0 r)) a r

/-- The score gradients of a key block for a query block `m` blocks further on. -/
def DD (m : ℕ) (K : KBlk Ideal) (Q : QBlk Ideal) (a r : Fin 256) : EReal :=
  dd m (k0_pay31 (F := Ideal) K.qs) K.ds (fun a x => K.k (ix4 0 0 a x)) (fun a x => K.v (ix4 0 0 a x)) (fun a x => Q.q (ix4 0 0 a x))
    (fun a x => Q.d (ix4 0 0 a x)) (fun r => Q.l (ix3 0 0 r)) (fun r => Q.e (ix3 0 0 r)) a r

/-- One head's contribution to dk of a key block, at a row and a column. -/
theorem dkHead_at (K : KBlk Ideal) (S0 S1 S2 S3 S4 : QBlk Ideal) (a x : Fin 256) :
    (dkHead K S0 S1 S2 S3 S4 (ix2 a x) : EReal) =
      (∑ r : Fin 256, DD 0 K S0 a r * S0.q (ix4 0 0 r x) + ∑ r : Fin 256, DD 1 K S1 a r * S1.q (ix4 0 0 r x) +
        ∑ r : Fin 256, DD 2 K S2 a r * S2.q (ix4 0 0 r x) + ∑ r : Fin 256, DD 3 K S3 a r * S3.q (ix4 0 0 r x) +
        ∑ r : Fin 256, DD 4 K S4 a r * S4.q (ix4 0 0 r x)) * K.c2 := by
  unfold DD
  pointwise [dkHead, k0_pay44, k0_pay52, k0_pay60, k0_pay71, k0_pay82, pay42_kq, pay51_kq, pay59_kq, pay68_kq, pay80_kq, pay35_at, pay46_at, pay55_at, pay64_at, pay74_at]

/-- One head's contribution to dv of a key block, at a row and a column. -/
theorem dvHead_at (K : KBlk Ideal) (S0 S1 S2 S3 S4 : QBlk Ideal) (a x : Fin 256) :
    (dvHead K S0 S1 S2 S3 S4 (ix2 a x) : EReal) =
      (∑ r : Fin 256, PP 0 K S0 a r * S0.d (ix4 0 0 r x) + ∑ r : Fin 256, PP 1 K S1 a r * S1.d (ix4 0 0 r x) +
        ∑ r : Fin 256, PP 2 K S2 a r * S2.d (ix4 0 0 r x) + ∑ r : Fin 256, PP 3 K S3 a r * S3.d (ix4 0 0 r x) +
        ∑ r : Fin 256, PP 4 K S4 a r * S4.d (ix4 0 0 r x)) * K.c3 := by
  unfold PP
  pointwise [dvHead, k0_pay43, k0_pay53, k0_pay61, k0_pay69, k0_pay70, k0_pay72, k0_pay83, pay41_kq, pay50_kq, pay58_kq, pay67_kq, pay79_kq, pay36_at, pay47_at, pay56_at, pay65_at, pay75_at]

/-- What a key block adds to dq of the query block `m` blocks further on, at a column of the head and a query row. -/
theorem dqU_at (m : Fin 5) (K : KBlk Ideal) (Q : QBlk Ideal) (old : Vec Ideal S1x1x256x256 .f32) (x r : Fin 256) :
    (dqU m K Q old (ix4 0 0 x r) : EReal) =
      (if m.val = 0 then 0 else (old (ix4 0 0 x r) : EReal)) + ∑ a : Fin 256, K.k (ix4 0 0 a x) * DD m.val K Q a r := by
  unfold DD
  match m with
  | 0 => simp only [Fin.val_zero, if_true]; pointwise [dqU, dq0, k0_pay45, pay42_kq, pay34_at]
  | 1 => pointwise [dqU, dq1, k0_pay54, pay51_kq, pay34_at]
  | 2 => pointwise [dqU, dq2, k0_pay62, k0_pay63, pay59_kq, pay34_at]
  | 3 => pointwise [dqU, dq3, k0_pay73, pay68_kq, pay34_at]
  | 4 => pointwise [dqU, dq4, k0_pay81, pay80_kq, pay34_at]

end Cert.MainIdeal.Val
-- ==== Proof.Scalars.lean ====
/- The constants of the two programs over the reals: the folded scales and the exponential in base 2. -/
module

public import proofs.«01_k».proof.Proof.Spec
public import proofs.«01_k».proof.Proof.Tile

@[expose] public section

noncomputable section

namespace Cert.MainIdeal.Val

open Cert.MainIdeal Cert.MainIdeal.Gen Cert.MainIdeal.Body
open Idealize.ShloMosaic Idealize.ShloMosaic.TcCoe
open Cert.Spec (c5 c16)

theorem c16_eq : c16 = ((1 / 16 : ℝ) : EReal) := by
  unfold c16
  simp [Ideal.ofBits, Ideal.ieee, -EReal.coe_mul]; norm_num

theorem c5_eq : c5 = ((5 : ℝ) : EReal) := by
  unfold c5
  simp [Ideal.ofBits, Ideal.ieee, -EReal.coe_mul]; norm_num

theorem capLog2e_eq : capLog2e = ((5 * (Real.log 2)⁻¹ : ℝ) : EReal) :=
  IdealRules.named_const.ideal_named_scalar _ _ _ _ rfl

/-- The named factor 1 / log 2. -/
def log2e : EReal := Named.named (F := Ideal) κ "log2e" (φ := .f32) 0x3FB8AA3B#32

theorem log2e_eq : log2e = (((Real.log 2)⁻¹ : ℝ) : EReal) :=
  IdealRules.named_const.ideal_named_scalar _ _ _ _ rfl

/-- The named factor 1 / 80. -/
theorem pay31_eq (v : EReal) : k0_pay31 (F := Ideal) v = v * ((1 / 80 : ℝ) : EReal) := by
  have e : Named.named (F := Ideal) κ "scale_over_cap" (φ := .f32) 0x3C4CCCCD#32 = ((1 / 80 : ℝ) : EReal) :=
    IdealRules.named_const.ideal_named_scalar _ _ _ _ rfl
  rw [← e]
  rfl

/-- The scale over the cap, folded into one factor. -/
theorem fold_scale (acc a : EReal) : acc * (a * ((1 / 80 : ℝ) : EReal)) = Ideal.div (acc * (a * c16)) c5 := by
  rw [c5_eq, Ideal.div_coe (by norm_num), c16_eq, mul_assoc, mul_assoc, ← EReal.coe_mul]
  norm_num

/-- The exponential of the capped score less the log-sum-exp, in base 2. -/
theorem fold_exp (t : ℝ) (l : EReal) : Ideal.exp2 ((t : EReal) * capLog2e - l * log2e) = Ideal.exp (c5 * (t : EReal) - l) := by
  have h2 : 0 < Real.log 2 := Real.log_pos (by norm_num)
  have hi : 0 < (Real.log 2)⁻¹ := inv_pos.2 h2
  rw [capLog2e_eq, log2e_eq, c5_eq, ← EReal.coe_mul, ← EReal.coe_mul]
  induction l using EReal.rec with
  | bot => rw [EReal.bot_mul_coe_of_pos hi]; rfl
  | top => rw [EReal.top_mul_coe_of_pos hi]; rfl
  | coe l =>
    rw [← EReal.coe_mul, ← EReal.coe_sub, ← EReal.coe_sub]
    show ((Real.rpow 2 _ : ℝ) : EReal) = ((Real.exp _ : ℝ) : EReal)
    congr 1
    refine (Real.rpow_def_of_pos (by norm_num) _).trans ?_
    congr 1
    field_simp

theorem tanh_real (x : EReal) : ∃ t : ℝ, Ideal.tanh x = (t : EReal) := by
  induction x using EReal.rec with
  | bot => exact ⟨-1, rfl⟩
  | top => exact ⟨1, rfl⟩
  | coe x => exact ⟨Real.tanh x, rfl⟩

end Cert.MainIdeal.Val
-- ==== Proof.Blocks.lean ====
/- The operands' blocks of the idealized pallas_call `main` over the reals, read at an index: elements of the arguments. -/
module

public import proofs.«01_k».proof.Proof.MainIdealDat
public import proofs.«01_k».proof.Proof.Sums
public import proofs.«01_k».proof.Proof.Scalars
public import Idealize.ShloMosaic.Lib.Pointwise
public import Idealize.ShloMosaic.Lib.StableHlo.ReadAt
public import Idealize.ShloMosaic.Lib.Pipeline.ValueKit

@[expose] public section

set_option maxRecDepth 16384

noncomputable section

namespace Cert.MainIdeal.Val

open Cert.MainIdeal Cert.MainIdeal.Gen Cert.MainIdeal.Body
open Idealize.ShloMosaic Idealize.ShloMosaic.TcCoe

variable (m : (ℓ : Loc nD τ sig) → Buf (Elt Ideal) ℓ)

/-- The kernel's arguments, element by element. -/
def args (c : Dev nD) : Cert.Spec.Args where
  q b i h x := m ((c : Thread nD τ).loc main_arg0) (ix4 b i h x)
  qs h := m ((c : Thread nD τ).loc main_arg1) (ix1 h)
  k b j g x := m ((c : Thread nD τ).loc main_arg2) (ix4 b j g x)
  ks g := m ((c : Thread nD τ).loc main_arg3) (ix1 g)
  v b j g x := m ((c : Thread nD τ).loc main_arg4) (ix4 b j g x)
  vs g := m ((c : Thread nD τ).loc main_arg5) (ix1 g)
  d b i h x := m ((c : Thread nD τ).loc main_arg6) (ix4 b i h x)
  ds h := m ((c : Thread nD τ).loc main_arg7) (ix1 h)
  l b h i := m ((c : Thread nD τ).loc main_arg8) (ix3 b h i)
  e b i h := m ((c : Thread nD τ).loc main_arg9) (ix3 b i h)

/-- The host's buffers before the five rows of scalars are put together. -/
abbrev U (c : Dev nD) (b : Ref sig .tc) := StableHlo.upto hostOps0 (fun b => m (c, b)) 18 (Proc.devRef .tc b)

theorem U11 (c : Dev nD) (h : Fin 16) : (U m c main_v11 (ix2 0 h) : EReal) = (args m c).qs h * (args m c).ks (half h) := by
  unfold U StableHlo.upto args
  after_reads_at
  try rfl

theorem U12 (c : Dev nD) (h : Fin 16) : (U m c main_v12 (ix2 0 h) : EReal) = (args m c).ds h * (args m c).vs (half h) := by
  unfold U StableHlo.upto args
  after_reads_at
  try rfl

theorem U13 (c : Dev nD) (h : Fin 16) : (U m c main_v13 (ix2 0 h) : EReal) = (args m c).qs h * Cert.Spec.c16 := by
  unfold U StableHlo.upto args
  after_reads_at
  try rfl

theorem U14 (c : Dev nD) (h : Fin 16) : (U m c main_v14 (ix2 0 h) : EReal) = (args m c).ds h := by
  unfold U StableHlo.upto args
  after_reads_at
  try rfl

theorem U15 (c : Dev nD) (h : Fin 16) : (U m c main_v15 (ix2 0 h) : EReal) = (args m c).ks (half h) * Cert.Spec.c16 := by
  unfold U StableHlo.upto args
  after_reads_at
  try rfl

theorem V16 (c : Dev nD) : V m c main_v16 = concatenate S5x16 0 [⟨S1x16, U m c main_v11⟩, ⟨S1x16, U m c main_v12⟩, ⟨S1x16, U m c main_v13⟩, ⟨S1x16, U m c main_v14⟩, ⟨S1x16, U m c main_v15⟩]
    concatenates_S1x16_S1x16_S1x16_S1x16_S1x16_S5x16_d0 := by
  refine (StableHlo.after_last_write (i := 18) [main_v17, main_v18, main_v19, main_v20] rfl rfl (by decide) _).trans ?_
  exact StableHlo.nary_result' _ _ _ _ _

theorem V16_0 (c : Dev nD) (h : Fin 16) : (V m c main_v16 (ix2 0 h) : EReal) = (args m c).qs h * (args m c).ks (half h) := by
  rw [V16, ← U11]
  pointwise

theorem V16_1 (c : Dev nD) (h : Fin 16) : (V m c main_v16 (ix2 1 h) : EReal) = (args m c).ds h * (args m c).vs (half h) := by
  rw [V16, ← U12]
  pointwise

theorem V16_2 (c : Dev nD) (h : Fin 16) : (V m c main_v16 (ix2 2 h) : EReal) = (args m c).qs h * Cert.Spec.c16 := by
  rw [V16, ← U13]
  pointwise

theorem V16_3 (c : Dev nD) (h : Fin 16) : (V m c main_v16 (ix2 3 h) : EReal) = (args m c).ds h := by
  rw [V16, ← U14]
  pointwise

theorem V16_4 (c : Dev nD) (h : Fin 16) : (V m c main_v16 (ix2 4 h) : EReal) = (args m c).ks (half h) * Cert.Spec.c16 := by
  rw [V16, ← U15]
  pointwise

/-! ## The operands' arrays -/

theorem V17 (c : Dev nD) (b : Fin 2) (h : Fin 16) (i : Fin 16384) (x : Fin 256) : (V m c main_v17 (ix4 b h i x) : EReal) = (args m c).q b i h x := by
  entry_read
  unfold args
  pointwise
  try rfl

theorem V18 (c : Dev nD) (b : Fin 2) (h : Fin 16) (i : Fin 16384) (x : Fin 256) : (V m c main_v18 (ix4 b h i x) : EReal) = (args m c).d b i h x := by
  entry_read
  unfold args
  pointwise
  try rfl

theorem V19 (c : Dev nD) (b : Fin 2) (g : Fin 8) (j : Fin 16384) (x : Fin 256) : (V m c main_v19 (ix4 b g j x) : EReal) = (args m c).k b j g x := by
  entry_read
  unfold args
  pointwise
  try rfl

theorem V20 (c : Dev nD) (b : Fin 2) (g : Fin 8) (j : Fin 16384) (x : Fin 256) : (V m c main_v20 (ix4 b g j x) : EReal) = (args m c).v b j g x := by
  entry_read
  unfold args
  pointwise
  try rfl

theorem V0 (c : Dev nD) (b : Fin 2) (h : Fin 16) (i : Fin 16384) : (V m c main_v0 (ix3 b h i) : EReal) = (args m c).e b i h := by
  entry_read
  unfold args
  pointwise
  try rfl

theorem V8 (c : Dev nD) (b : Fin 2) (h : Fin 16) (i : Fin 16384) : (V m c main_arg8 (ix3 b h i) : EReal) = (args m c).l b h i := by
  rw [V_main_arg8]
  rfl

/-! ## The windows' block indices at the point that fetches a block -/

theorem idx0 : ∀ t : Fin cfg0.N, win0_0.index t = ![0, 0] :=
  (by decide +kernel : ∀ t : Fin grid0.N, win0_0.index t = ![0, 0])
theorem idx1 : ∀ t : Fin cfg0.N, t.val % 68 < 64 → win0_1.index t = ![t.val / 68, 0, 63 - t.val % 68, 0] :=
  (by decide +kernel : ∀ t : Fin grid0.N, t.val % 68 < 64 → win0_1.index t = ![t.val / 68, 0, 63 - t.val % 68, 0])
theorem idx2 : ∀ t : Fin cfg0.N, t.val % 68 < 64 → win0_2.index t = ![t.val / 68, 0, 63 - t.val % 68, 0] :=
  (by decide +kernel : ∀ t : Fin grid0.N, t.val % 68 < 64 → win0_2.index t = ![t.val / 68, 0, 63 - t.val % 68, 0])
theorem idx3 : ∀ t : Fin cfg0.N, t.val % 68 < 64 → win0_3.index t = ![t.val / 68, 0, 63 - t.val % 68, 0] :=
  (by decide +kernel : ∀ t : Fin grid0.N, t.val % 68 < 64 → win0_3.index t = ![t.val / 68, 0, 63 - t.val % 68, 0])
theorem idx4 : ∀ t : Fin cfg0.N, t.val % 68 < 64 → win0_4.index t = ![t.val / 68, 0, 63 - t.val % 68, 0] :=
  (by decide +kernel : ∀ t : Fin grid0.N, t.val % 68 < 64 → win0_4.index t = ![t.val / 68, 0, 63 - t.val % 68, 0])
theorem idx5 : ∀ t : Fin cfg0.N, t.val % 68 < 64 → win0_5.index t = ![t.val / 68, 0, 63 - t.val % 68] :=
  (by decide +kernel : ∀ t : Fin grid0.N, t.val % 68 < 64 → win0_5.index t = ![t.val / 68, 0, 63 - t.val % 68])
theorem idx6 : ∀ t : Fin cfg0.N, t.val % 68 < 64 → win0_6.index t = ![t.val / 68, 0, 63 - t.val % 68] :=
  (by decide +kernel : ∀ t : Fin grid0.N, t.val % 68 < 64 → win0_6.index t = ![t.val / 68, 0, 63 - t.val % 68])
theorem idx7 : ∀ t : Fin cfg0.N, 4 ≤ t.val % 68 → win0_7.index t = ![t.val / 68, 0, 67 - t.val % 68, 0] :=
  (by decide +kernel : ∀ t : Fin grid0.N, 4 ≤ t.val % 68 → win0_7.index t = ![t.val / 68, 0, 67 - t.val % 68, 0])
theorem idx8 : ∀ t : Fin cfg0.N, win0_8.index t = ![t.val / 68, 0, 63 - t.val % 68, 0] :=
  (by decide +kernel : ∀ t : Fin grid0.N, win0_8.index t = ![t.val / 68, 0, 63 - t.val % 68, 0])
theorem idx9 : ∀ t : Fin cfg0.N, win0_9.index t = ![t.val / 68, 0, 63 - t.val % 68, 0] :=
  (by decide +kernel : ∀ t : Fin grid0.N, win0_9.index t = ![t.val / 68, 0, 63 - t.val % 68, 0])

theorem pt_val (b : Fin 2) (J : ℕ) : (pt b.val J).val = 68 * b.val + (63 - J) := by
  have := b.isLt
  show (68 * b.val + (63 - J)) % 136 = _
  omega

/-! ## The blocks -/

theorem smem_at (x : S5x16.Idx → EReal) (r : Fin 5) (h : Fin 16) (hi) : (smem (F := Ideal) x ![r.val, h.val] hi : EReal) = x (ix2 r h) := by
  refine congrArg x (funext fun a => Fin.ext ?_)
  match a with
  | 0 => rfl
  | 1 => rfl

theorem B0_0 (c : Dev nD) (t : Fin cfg0.N) (h : Fin 16) : (x2 (B0 m c t) 0 h : EReal) = (args m c).qs h * (args m c).ks (half h) := by
  rw [← V16_0]
  trans B0 m c t (ix2 0 h)
  · exact smem_at _ _ _ _
  · blk_ext! [B0, iblk, idx0 t]

theorem B0_1 (c : Dev nD) (t : Fin cfg0.N) (h : Fin 16) : (x2 (B0 m c t) 1 h : EReal) = (args m c).ds h * (args m c).vs (half h) := by
  rw [← V16_1]
  trans B0 m c t (ix2 1 h)
  · exact smem_at _ _ _ _
  · blk_ext! [B0, iblk, idx0 t]

theorem B0_2 (c : Dev nD) (t : Fin cfg0.N) (h : Fin 16) : (x2 (B0 m c t) 2 h : EReal) = (args m c).qs h * Cert.Spec.c16 := by
  rw [← V16_2]
  trans B0 m c t (ix2 2 h)
  · exact smem_at _ _ _ _
  · blk_ext! [B0, iblk, idx0 t]

theorem B0_3 (c : Dev nD) (t : Fin cfg0.N) (h : Fin 16) : (x2 (B0 m c t) 3 h : EReal) = (args m c).ds h := by
  rw [← V16_3]
  trans B0 m c t (ix2 3 h)
  · exact smem_at _ _ _ _
  · blk_ext! [B0, iblk, idx0 t]

theorem B0_4 (c : Dev nD) (t : Fin cfg0.N) (h : Fin 16) : (x2 (B0 m c t) 4 h : EReal) = (args m c).ks (half h) * Cert.Spec.c16 := by
  rw [← V16_4]
  trans B0 m c t (ix2 4 h)
  · exact smem_at _ _ _ _
  · blk_ext! [B0, iblk, idx0 t]

theorem B1_at (c : Dev nD) (b : Fin 2) (J : ℕ) (hJ : J < 64) (h : Fin 16) (r x : Fin 256) : (B1 m c (pt b.val J) (ix4 0 h r x) : EReal) = (args m c).q b (Cert.Spec.row J hJ r) h x := by
  rw [← V17]
  have hb := b.isLt
  have ht := pt_val b J
  have e := idx1 (pt b.val J) (by omega)
  rw [show (pt b.val J).val / 68 = b.val by omega, show 63 - (pt b.val J).val % 68 = J by omega] at e
  unfold Cert.Spec.row
  blk_ext! [B1, iblk, e]

theorem B2_at (c : Dev nD) (b : Fin 2) (J : ℕ) (hJ : J < 64) (h : Fin 16) (r x : Fin 256) : (B2 m c (pt b.val J) (ix4 0 h r x) : EReal) = (args m c).d b (Cert.Spec.row J hJ r) h x := by
  rw [← V18]
  have hb := b.isLt
  have ht := pt_val b J
  have e := idx2 (pt b.val J) (by omega)
  rw [show (pt b.val J).val / 68 = b.val by omega, show 63 - (pt b.val J).val % 68 = J by omega] at e
  unfold Cert.Spec.row
  blk_ext! [B2, iblk, e]

theorem B3_at (c : Dev nD) (b : Fin 2) (J : ℕ) (hJ : J < 64) (g : Fin 8) (r x : Fin 256) : (B3 m c (pt b.val J) (ix4 0 g r x) : EReal) = (args m c).k b (Cert.Spec.row J hJ r) g x := by
  rw [← V19]
  have hb := b.isLt
  have ht := pt_val b J
  have e := idx3 (pt b.val J) (by omega)
  rw [show (pt b.val J).val / 68 = b.val by omega, show 63 - (pt b.val J).val % 68 = J by omega] at e
  unfold Cert.Spec.row
  blk_ext! [B3, iblk, e]

theorem B4_at (c : Dev nD) (b : Fin 2) (J : ℕ) (hJ : J < 64) (g : Fin 8) (r x : Fin 256) : (B4 m c (pt b.val J) (ix4 0 g r x) : EReal) = (args m c).v b (Cert.Spec.row J hJ r) g x := by
  rw [← V20]
  have hb := b.isLt
  have ht := pt_val b J
  have e := idx4 (pt b.val J) (by omega)
  rw [show (pt b.val J).val / 68 = b.val by omega, show 63 - (pt b.val J).val % 68 = J by omega] at e
  unfold Cert.Spec.row
  blk_ext! [B4, iblk, e]

theorem B5_at (c : Dev nD) (b : Fin 2) (J : ℕ) (hJ : J < 64) (h : Fin 16) (r : Fin 256) : (B5 m c (pt b.val J) (ix3 0 h r) : EReal) = (args m c).l b h (Cert.Spec.row J hJ r) := by
  rw [← V8]
  have hb := b.isLt
  have ht := pt_val b J
  have e := idx5 (pt b.val J) (by omega)
  rw [show (pt b.val J).val / 68 = b.val by omega, show 63 - (pt b.val J).val % 68 = J by omega] at e
  unfold Cert.Spec.row
  blk_ext! [B5, iblk, e]

theorem B6_at (c : Dev nD) (b : Fin 2) (J : ℕ) (hJ : J < 64) (h : Fin 16) (r : Fin 256) : (B6 m c (pt b.val J) (ix3 0 h r) : EReal) = (args m c).e b (Cert.Spec.row J hJ r) h := by
  rw [← V0]
  have hb := b.isLt
  have ht := pt_val b J
  have e := idx6 (pt b.val J) (by omega)
  rw [show (pt b.val J).val / 68 = b.val by omega, show 63 - (pt b.val J).val % 68 = J by omega] at e
  unfold Cert.Spec.row
  blk_ext! [B6, iblk, e]

/-! ## The key and query blocks at an element -/

theorem y4_at (X : S1x8x256x256.Idx → EReal) (g : Fin 8) (a x : Fin 256) : y4 X g (ix4 0 0 a x) = X (ix4 0 g a x) := by
  refine congrArg X (funext fun k => Fin.ext ?_)
  match k with
  | 0 => simp
  | 1 => simp
  | 2 => simp
  | 3 => simp

theorem z4_at (X : S1x16x256x256.Idx → EReal) (g : Fin 16) (a x : Fin 256) : z4 X g (ix4 0 0 a x) = X (ix4 0 g a x) := by
  refine congrArg X (funext fun k => Fin.ext ?_)
  match k with
  | 0 => simp
  | 1 => simp
  | 2 => simp
  | 3 => simp

theorem z3_at (X : S1x16x256.Idx → EReal) (g : Fin 16) (a : Fin 256) : z3 X g (ix3 0 0 a) = X (ix3 0 g a) := by
  refine congrArg X (funext fun k => Fin.ext ?_)
  match k with
  | 0 => simp
  | 1 => simp
  | 2 => simp

theorem whole_at (X : S1x16x256.Idx → EReal) (hi) (g : Fin 16) (a : Fin 256) : VecWindow.window X ![0, 0, 0] S1x16x256.size hi (ix3 0 g a) = X (ix3 0 g a) := by
  refine congrArg X (funext fun k => Fin.ext ?_)
  match k with
  | 0 => simp
  | 1 => simp
  | 2 => simp

theorem pay1_at (X : S1x16x256.Idx → EReal) (j : S1x16x256.Idx) : (k0_pay1 (F := Ideal) X j : EReal) = X j * log2e := by
  unfold log2e
  idx_vars j
  pointwise [k0_pay1]
  rw [Subsingleton.elim j0 0]

theorem pay2_at (X : S1x16x256.Idx → EReal) (j : S1x16x256.Idx) : (k0_pay2 (F := Ideal) X j : EReal) = X j := by
  idx_vars j
  pointwise [k0_pay2]

theorem pay3_at (X : S1x1x256x256.Idx → EReal) (a x : Fin 256) : (k0_pay3 (F := Ideal) X (ix4 0 0 a x) : EReal) = X (ix4 0 0 a x) := by
  pointwise [k0_pay3]

theorem pay4_at (X : S1x1x256x256.Idx → EReal) (a x : Fin 256) : (k0_pay4 (F := Ideal) X (ix4 0 0 a x) : EReal) = X (ix4 0 0 a x) := by
  pointwise [k0_pay4]

section Q

variable (c : Dev nD) (b : Fin 2) (J : ℕ) (hJ : J < 64) (h : Fin 16)

theorem Qd_eq (hJ : J < 64) : Qd m c b.val J h = inQ (B1 m c (pt b.val J)) (B2 m c (pt b.val J)) (B5 m c (pt b.val J)) (B6 m c (pt b.val J)) h := by
  unfold Qd
  rw [if_pos (by omega)]

theorem Qd_q (r x : Fin 256) : ((Qd m c b.val J h).q (ix4 0 0 r x) : EReal) = (args m c).q b (Cert.Spec.row J hJ r) h x := by
  rw [Qd_eq m c b J h hJ, ← B1_at]
  dsimp only [inQ]
  rw [pay3_at, z4_at]

theorem Qd_d (r x : Fin 256) : ((Qd m c b.val J h).d (ix4 0 0 r x) : EReal) = (args m c).d b (Cert.Spec.row J hJ r) h x := by
  rw [Qd_eq m c b J h hJ, ← B2_at]
  dsimp only [inQ]
  rw [pay4_at, z4_at]

theorem Qd_l (r : Fin 256) : ((Qd m c b.val J h).l (ix3 0 0 r) : EReal) = (args m c).l b h (Cert.Spec.row J hJ r) * log2e := by
  rw [Qd_eq m c b J h hJ, ← B5_at]
  dsimp only [inQ]
  rw [z3_at, pay1_at, whole_at]

theorem Qd_e (r : Fin 256) : ((Qd m c b.val J h).e (ix3 0 0 r) : EReal) = (args m c).e b (Cert.Spec.row J hJ r) h := by
  rw [Qd_eq m c b J h hJ, ← B6_at]
  dsimp only [inQ]
  rw [z3_at, pay2_at, whole_at]

/-- Past the last block the query block's q is zero, -/
theorem Qd_q_zero (hJ : ¬ J < 64) (r x : Fin 256) : ((Qd m c b.val J h).q (ix4 0 0 r x) : EReal) = 0 := by
  unfold Qd
  rw [if_neg (by omega)]
  dsimp only [zeroQ]
  pointwise [k0_pay10]
  exact Ideal.ofBits_zero _

/-- and its d_out. -/
theorem Qd_d_zero (hJ : ¬ J < 64) (r x : Fin 256) : ((Qd m c b.val J h).d (ix4 0 0 r x) : EReal) = 0 := by
  unfold Qd
  rw [if_neg (by omega)]
  dsimp only [zeroQ]
  pointwise [k0_pay11]
  exact Ideal.ofBits_zero _

theorem Kd_k (a x : Fin 256) : ((Kd m c b.val J h).k (ix4 0 0 a x) : EReal) = (args m c).k b (Cert.Spec.row J hJ a) (half h) x := by
  rw [← B3_at]
  dsimp only [Kd, kb]
  rw [y4_at]

theorem Kd_v (a x : Fin 256) : ((Kd m c b.val J h).v (ix4 0 0 a x) : EReal) = (args m c).v b (Cert.Spec.row J hJ a) (half h) x := by
  rw [← B4_at]
  dsimp only [Kd, kb]
  rw [y4_at]

theorem Kd_qs : ((Kd m c b.val J h).qs : EReal) = (args m c).qs h * (args m c).ks (half h) := by
  dsimp only [Kd, kb]
  exact B0_0 m c _ h
theorem Kd_ds : ((Kd m c b.val J h).ds : EReal) = (args m c).ds h * (args m c).vs (half h) := by
  dsimp only [Kd, kb]
  exact B0_1 m c _ h
theorem Kd_c2 : ((Kd m c b.val J h).c2 : EReal) = (args m c).qs h * Cert.Spec.c16 := by
  dsimp only [Kd, kb]
  exact B0_2 m c _ h
theorem Kd_c3 : ((Kd m c b.val J h).c3 : EReal) = (args m c).ds h := by
  dsimp only [Kd, kb]
  exact B0_3 m c _ h

end Q

end Cert.MainIdeal.Val
-- ==== Proof.Kernel.lean ====
/- The blocks that the idealized pallas_call `main` leaves over the reals, as the gradients' plain sums. -/
module

public import proofs.«01_k».proof.Proof.Blocks

@[expose] public section

set_option maxRecDepth 16384

noncomputable section

namespace Cert.MainIdeal.Val

open Cert.MainIdeal Cert.MainIdeal.Gen Cert.MainIdeal.Body
open Idealize.ShloMosaic Idealize.ShloMosaic.TcCoe
open Cert.Spec (row hd blkSum)

theorem half_hd (g : Fin 8) (r : Fin 2) : half (hd g r) = g := Fin.ext (by
  have := r.isLt
  show (g.val * 2 + r.val) / 2 = g.val
  omega)

theorem ev_eq (g : Fin 8) : ev g = hd g 0 := Fin.ext (show 2 * g.val = g.val * 2 + 0 by omega)
theorem od_eq (g : Fin 8) : od g = hd g 1 := Fin.ext (show 2 * g.val + 1 = g.val * 2 + 1 by omega)

theorem in2_eq (a x : Fin 256) : in2 a x = ix4 0 0 a x := by
  funext k
  match k with
  | 0 => rfl
  | 1 => rfl
  | 2 => rfl
  | 3 => rfl

/-- The window, block against block. -/
theorem sees_iff (n k J : ℕ) (hn : n < 64) (hJ : J < 64) (e : J = n + k) (hk : k < 5) (a r : Fin 256) :
    Cert.Spec.sees (row J hJ r) (row n hn a) ↔ vis k a r := by
  have ha := a.isLt
  have hr := r.isLt
  unfold Cert.Spec.sees vis row
  simp only [Fin.le_def, Fin.lt_def]
  omega

theorem not_sees (n J : ℕ) (hn : n < 64) (hJ : J < 64) (h : J < n ∨ n + 4 < J) (a r : Fin 256) : ¬ Cert.Spec.sees (row J hJ r) (row n hn a) := by
  have ha := a.isLt
  have hr := r.isLt
  unfold Cert.Spec.sees row
  dsimp only
  omega

theorem P_zero (A : Cert.Spec.Args) (b : Fin 2) (g : Fin 8) (rr : Fin 2) (i j : Fin 16384) (h : ¬ Cert.Spec.sees i j) : Cert.Spec.P A b g rr i j = 0 := by
  unfold Cert.Spec.P
  rw [if_neg h]

theorem DS_zero (A : Cert.Spec.Args) (b : Fin 2) (g : Fin 8) (rr : Fin 2) (i j : Fin 16384) (h : ¬ Cert.Spec.sees i j) : Cert.Spec.DS A b g rr i j = 0 := by
  unfold Cert.Spec.DS
  rw [P_zero A b g rr i j h, zero_mul, zero_mul]

variable (m : (ℓ : Loc nD τ sig) → Buf (Elt Ideal) ℓ) (c : Dev nD) (b : Fin 2) (g : Fin 8) (rr : Fin 2)

section tile

variable (n k J : ℕ) (hn : n < 64) (hJ : J < 64) (e : J = n + k) (hk : k < 5) (a r : Fin 256)

/-- The tanh of a tile is the specification's. -/
theorem tt_eq : tt (k0_pay31 (F := Ideal) (Kd m c b.val n (hd g rr)).qs) (fun a x => (Kd m c b.val n (hd g rr)).k (ix4 0 0 a x))
    (fun a x => (Qd m c b.val J (hd g rr)).q (ix4 0 0 a x)) a r = Cert.Spec.T (args m c) b g rr (row J hJ r) (row n hn a) := by
  unfold tt Cert.Spec.T
  dsimp only
  rw [pay31_eq, fold_scale, Kd_qs m c b n, half_hd]
  congr 3
  refine Finset.sum_congr rfl fun x _ => ?_
  rw [Kd_k m c b n hn, Qd_q m c b J hJ, half_hd]

include e hk in
/-- The weights of a tile are the specification's. -/
theorem PP_eq : PP k (Kd m c b.val n (hd g rr)) (Qd m c b.val J (hd g rr)) a r = Cert.Spec.P (args m c) b g rr (row J hJ r) (row n hn a) := by
  unfold PP pp Cert.Spec.P
  rw [tt_eq m c b g rr n J hn hJ]
  dsimp only
  rw [Qd_l m c b J hJ]
  obtain ⟨t, ht⟩ : ∃ t : ℝ, Cert.Spec.T (args m c) b g rr (row J hJ r) (row n hn a) = (t : EReal) := tanh_real _
  rw [ht, fold_exp]
  exact if_congr (sees_iff n k J hn hJ e hk a r).symm rfl rfl

include e hk in
/-- The score gradients of a tile are the specification's. -/
theorem DD_eq : DD k (Kd m c b.val n (hd g rr)) (Qd m c b.val J (hd g rr)) a r = Cert.Spec.DS (args m c) b g rr (row J hJ r) (row n hn a) := by
  have hP := PP_eq m c b g rr n k J hn hJ e hk a r
  unfold PP at hP
  unfold DD dd Cert.Spec.DS
  rw [hP, tt_eq m c b g rr n J hn hJ]
  dsimp only
  rw [Qd_e m c b J hJ, Kd_ds m c b n, half_hd]
  congr 4
  refine Finset.sum_congr rfl fun x _ => ?_
  rw [Kd_v m c b n hn, Qd_d m c b J hJ, half_hd]

end tile

/-! ## dk and dv -/

section dkv

variable (n : ℕ) (hn : n < 64) (a x : Fin 256)

/-- One query block's part of dk. -/
theorem dk_term (k : ℕ) (hk : k < 5) :
    (∑ r : Fin 256, DD k (Kd m c b.val n (hd g rr)) (Qd m c b.val (n + k) (hd g rr)) a r * ((Qd m c b.val (n + k) (hd g rr)).q (ix4 0 0 r x) : EReal) : EReal) =
      blkSum (fun i => Cert.Spec.DS (args m c) b g rr i (row n hn a) * (args m c).q b i (hd g rr) x) (n + k) := by
  by_cases hJ : n + k < 64
  · rw [Cert.Spec.blkSum_lt _ _ hJ]
    refine Finset.sum_congr rfl fun r _ => ?_
    rw [DD_eq m c b g rr n k (n + k) hn hJ rfl hk, Qd_q m c b (n + k) hJ]
  · rw [Cert.Spec.blkSum_ge _ _ hJ]
    refine Finset.sum_eq_zero fun r _ => ?_
    rw [Qd_q_zero m c b (n + k) _ hJ, mul_zero]

/-- One query block's part of dv. -/
theorem dv_term (k : ℕ) (hk : k < 5) :
    (∑ r : Fin 256, PP k (Kd m c b.val n (hd g rr)) (Qd m c b.val (n + k) (hd g rr)) a r * ((Qd m c b.val (n + k) (hd g rr)).d (ix4 0 0 r x) : EReal) : EReal) =
      blkSum (fun i => Cert.Spec.P (args m c) b g rr i (row n hn a) * (args m c).d b i (hd g rr) x) (n + k) := by
  by_cases hJ : n + k < 64
  · rw [Cert.Spec.blkSum_lt _ _ hJ]
    refine Finset.sum_congr rfl fun r _ => ?_
    rw [PP_eq m c b g rr n k (n + k) hn hJ rfl hk, Qd_d m c b (n + k) hJ]
  · rw [Cert.Spec.blkSum_ge _ _ hJ]
    refine Finset.sum_eq_zero fun r _ => ?_
    rw [Qd_d_zero m c b (n + k) _ hJ, mul_zero]

/-- One query head's part of dk of a key block. -/
theorem DKh_at : (DKh (Kd m c b.val) (Qd m c b.val) n (hd g rr) (ix2 a x) : EReal) = Cert.Spec.dkH (args m c) b g (row n hn a) x rr := by
  unfold DKh Cert.Spec.dkH
  rw [dkHead_at, Kd_c2 m c b n,
    Cert.Spec.sum_up (fun i => Cert.Spec.DS (args m c) b g rr i (row n hn a) * (args m c).q b i (hd g rr) x) n hn fun J hJ r h => by
      rw [DS_zero _ _ _ _ _ _ (not_sees n J hn hJ h a r), zero_mul]]
  have t := dk_term m c b g rr n hn a x
  have t0 := t 0 (by omega)
  rw [Nat.add_zero] at t0
  rw [t0, t 1 (by omega), t 2 (by omega), t 3 (by omega), t 4 (by omega)]

/-- One query head's part of dv of a key block. -/
theorem DVh_at : (DVh (Kd m c b.val) (Qd m c b.val) n (hd g rr) (ix2 a x) : EReal) = Cert.Spec.dvH (args m c) b g (row n hn a) x rr := by
  unfold DVh Cert.Spec.dvH
  rw [dvHead_at, Kd_c3 m c b n,
    Cert.Spec.sum_up (fun i => Cert.Spec.P (args m c) b g rr i (row n hn a) * (args m c).d b i (hd g rr) x) n hn fun J hJ r h => by
      rw [P_zero _ _ _ _ _ _ (not_sees n J hn hJ h a r), zero_mul]]
  have t := dv_term m c b g rr n hn a x
  have t0 := t 0 (by omega)
  rw [Nat.add_zero] at t0
  rw [t0, t 1 (by omega), t 2 (by omega), t 3 (by omega), t 4 (by omega)]

theorem pay7_at (u v : S256x256.Idx → EReal) : (k0_pay7 (F := Ideal) u (k0_pay5 (F := Ideal) v) (ix4 0 0 a x) : EReal) = v (ix2 a x) + u (ix2 a x) := by
  pointwise [k0_pay7, k0_pay5]

theorem pay8_at (u v : S256x256.Idx → EReal) : (k0_pay8 (F := Ideal) u (k0_pay6 (F := Ideal) v) (ix4 0 0 a x) : EReal) = v (ix2 a x) + u (ix2 a x) := by
  pointwise [k0_pay8, k0_pay6]

/-- The dk block of a key block: both query heads' parts. -/
theorem DKB_at : (DKB (Kd m c b.val) (Qd m c b.val) n (ix4 0 g a x) : EReal) = ∑ r : Fin 2, Cert.Spec.dkH (args m c) b g (row n hn a) x r := by
  show (k0_pay7 (DKh (Kd m c b.val) (Qd m c b.val) n (od g)) (k0_pay5 (DKh (Kd m c b.val) (Qd m c b.val) n (ev g))) (in2 a x) : EReal) = _
  rw [in2_eq, pay7_at, ev_eq, od_eq, DKh_at m c b g 0 n hn, DKh_at m c b g 1 n hn, Fin.sum_univ_two]

/-- The dv block of a key block: both query heads' parts. -/
theorem DVB_at : (DVB (Kd m c b.val) (Qd m c b.val) n (ix4 0 g a x) : EReal) = ∑ r : Fin 2, Cert.Spec.dvH (args m c) b g (row n hn a) x r := by
  show (k0_pay8 (DVh (Kd m c b.val) (Qd m c b.val) n (od g)) (k0_pay6 (DVh (Kd m c b.val) (Qd m c b.val) n (ev g))) (in2 a x) : EReal) = _
  rw [in2_eq, pay8_at, ev_eq, od_eq, DVh_at m c b g 0 n hn, DVh_at m c b g 1 n hn, Fin.sum_univ_two]

end dkv

/-! ## dq -/

section dqs

variable (J : ℕ) (hJ : J < 64) (r x : Fin 256)

/-- One key block's part of dq. -/
theorem dq_term (k : ℕ) (hk : k ≤ min J 4) :
    (∑ a : Fin 256, ((Kd m c b.val (J - k) (hd g rr)).k (ix4 0 0 a x) : EReal) * DD k (Kd m c b.val (J - k) (hd g rr)) (Qd m c b.val J (hd g rr)) a r : EReal) =
      blkSum (fun j => Cert.Spec.DS (args m c) b g rr (row J hJ r) j * (args m c).k b j g x) (J - k) := by
  have hn : J - k < 64 := by omega
  rw [Cert.Spec.blkSum_lt _ _ hn]
  refine Finset.sum_congr rfl fun a _ => ?_
  rw [DD_eq m c b g rr (J - k) k J hn hJ (by omega) (by omega), Kd_k m c b (J - k) hn, half_hd, mul_comm]

/-- The dq of a query block after the key blocks down to the one `k` before it. -/
theorem DQ_at (k : ℕ) (hk : k ≤ min J 4) :
    (DQ (Kd m c b.val) (Qd m c b.val) J (hd g rr) k (ix4 0 0 x r) : EReal) =
      ∑ i ∈ Finset.range (k + 1), blkSum (fun j => Cert.Spec.DS (args m c) b g rr (row J hJ r) j * (args m c).k b j g x) (J - i) := by
  induction k with
  | zero =>
    unfold DQ
    rw [dqU_at, Finset.sum_range_one, ← dq_term m c b g rr J hJ r x 0 hk]
    simp
  | succ k ih =>
    have e : (k + 1) % 5 = k + 1 := Nat.mod_eq_of_lt (by omega)
    unfold DQ
    rw [dqU_at, Finset.sum_range_succ, ← ih (by omega), ← dq_term m c b g rr J hJ r x (k + 1) hk]
    simp [e]

theorem pay9_at (s : EReal) (v : S1x1x256x256.Idx → EReal) : (k0_pay9 (F := Ideal) v s (ix4 0 0 r x) : EReal) = v (ix4 0 0 x r) * s := by
  pointwise [k0_pay9]

/-- The dq block of a query block. -/
theorem DQB_at (t : Fin cfg0.N) : (DQB (B0 m c t) (Kd m c b.val) (Qd m c b.val) J (ix4 0 (hd g rr) r x) : EReal) = Cert.Spec.dq (args m c) b g rr (row J hJ r) x := by
  show (k0_pay9 (DQ (Kd m c b.val) (Qd m c b.val) J (hd g rr) (min J 4)) (x2 (B0 m c t) 4 (hd g rr)) (in2 r x) : EReal) = _
  unfold Cert.Spec.dq
  rw [in2_eq, pay9_at, DQ_at m c b g rr J hJ r x (min J 4) le_rfl, B0_4, half_hd,
    Cert.Spec.sum_down (fun j => Cert.Spec.DS (args m c) b g rr (row J hJ r) j * (args m c).k b j g x) J hJ fun j hj a h => by
      rw [DS_zero _ _ _ _ _ _ (not_sees j J hj hJ (by omega) a r), zero_mul]]

end dqs

end Cert.MainIdeal.Val
-- ==== Proof.Results.lean ====
/- The result arrays of the idealized pallas_call `main` over the reals, read at an index. -/
module

public import proofs.«01_k».proof.Proof.Kernel

@[expose] public section

set_option maxRecDepth 16384

noncomputable section

namespace Cert.MainIdeal.Val

open Cert.MainIdeal Cert.MainIdeal.Gen Cert.MainIdeal.Body
open Idealize.ShloMosaic Idealize.ShloMosaic.TcCoe
open Cert.Spec (row hd blkSum)

variable (m : (ℓ : Loc nD τ sig) → Buf (Elt Ideal) ℓ) (c : Dev nD)

/-- The number of a query head within its key head's group. -/
def par (h : Fin 16) : Fin 2 := ⟨h.val % 2, by omega⟩

theorem hd_half_par (h : Fin 16) : hd (half h) (par h) = h := Fin.ext (by
  show h.val / 2 * 2 + h.val % 2 = h.val
  omega)

theorem par_hd (g : Fin 8) (r : Fin 2) : par (hd g r) = r := Fin.ext (by
  have := r.isLt
  show (g.val * 2 + r.val) % 2 = r.val
  omega)

/-- dq, as an array. -/
def G7 : S2x16x16384x256.Idx → EReal := fun y => Cert.Spec.dq (args m c) (y 0) (half (y 1)) (par (y 1)) (y 2) (y 3)
/-- dk, as an array. -/
def G8 : S2x8x16384x256.Idx → EReal := fun y => ∑ r : Fin 2, Cert.Spec.dkH (args m c) (y 0) (y 1) (y 2) (y 3) r
/-- dv, as an array. -/
def G9 : S2x8x16384x256.Idx → EReal := fun y => ∑ r : Fin 2, Cert.Spec.dvH (args m c) (y 0) (y 1) (y 2) (y 3) r

theorem bt (t : Fin cfg0.N) : t.val / 68 < 2 := by
  have : t.val < 136 := lt_of_lt_of_eq t.isLt N_0
  omega

theorem out7_at (t : Fin cfg0.N) (ht : 4 ≤ t.val % 68) (h : Fin 16) (r x : Fin 256) :
    (out7 m c t (ix4 0 h r x) : EReal) = G7 m c (ix4 ⟨t.val / 68, bt t⟩ h (row (67 - t.val % 68) (by omega) r) x) := by
  have e := DQB_at m c ⟨t.val / 68, bt t⟩ (half h) (par h) (67 - t.val % 68) (by omega) r x t
  rw [hd_half_par] at e
  exact e

theorem out8_at (t : Fin cfg0.N) (g : Fin 8) (a x : Fin 256) :
    (out8 m c t (ix4 0 g a x) : EReal) = G8 m c (ix4 ⟨t.val / 68, bt t⟩ g (row (63 - t.val % 68) (by omega) a) x) :=
  DKB_at m c ⟨t.val / 68, bt t⟩ g (63 - t.val % 68) (by omega) a x

theorem out9_at (t : Fin cfg0.N) (g : Fin 8) (a x : Fin 256) :
    (out9 m c t (ix4 0 g a x) : EReal) = G9 m c (ix4 ⟨t.val / 68, bt t⟩ g (row (63 - t.val % 68) (by omega) a) x) :=
  DVB_at m c ⟨t.val / 68, bt t⟩ g (63 - t.val % 68) (by omega) a x

theorem arr7 : (dats m 0 c).arrAt 7 cfg0.N = G7 m c := by
  refine (dats m 0 c).arrAt_eq_of_covers 7 (G7 m c) (by decide +kernel) fun t hf y => ?_
  have ht : 4 ≤ t.val % 68 := by
    by_contra h
    rw [flush7 t (by omega)] at hf
    exact absurd hf (by decide)
  blk_simp
  show (out7 m c t y : EReal) = _
  idx_vars y
  rw [Subsingleton.elim y0 0, out7_at m c t ht]
  congr 1
  blk_ext! [idx7 t ht]
  show 256 * (67 - t.val % 68) + y2.val = _
  omega

theorem arr8 : (dats m 0 c).arrAt 8 cfg0.N = G8 m c := by
  refine (dats m 0 c).arrAt_eq_of_covers 8 (G8 m c) (by decide +kernel) fun t hf y => ?_
  blk_simp
  show (out8 m c t y : EReal) = _
  idx_vars y
  rw [Subsingleton.elim y0 0, out8_at]
  congr 1
  blk_ext! [idx8 t]
  show 256 * (63 - t.val % 68) + y2.val = _
  omega

theorem arr9 : (dats m 0 c).arrAt 9 cfg0.N = G9 m c := by
  refine (dats m 0 c).arrAt_eq_of_covers 9 (G9 m c) (by decide +kernel) fun t hf y => ?_
  blk_simp
  show (out9 m c t y : EReal) = _
  idx_vars y
  rw [Subsingleton.elim y0 0, out9_at]
  congr 1
  blk_ext! [idx9 t]
  show 256 * (63 - t.val % 68) + y2.val = _
  omega

end Cert.MainIdeal.Val
-- ==== Proof.RefValue.lean ====
/- The idealized reference's three results over the reals, read at an index. -/
module

public import proofs.«01_k».proof.Proof.Gen.ReferenceIdeal.Value
public import proofs.«01_k».proof.Proof.Spec
public import Idealize.ShloMosaic.Lib.Pointwise
public import Idealize.ShloMosaic.Lib.WordCmp
public import Idealize.ShloMosaic.Lib.Pipeline.ValueKit

@[expose] public section

set_option maxRecDepth 16384

noncomputable section

namespace Cert.ReferenceIdeal.Val

open Cert.ReferenceIdeal Cert.ReferenceIdeal.Gen
open Idealize.ShloMosaic Idealize.ShloMosaic.TcCoe

/-- The mask bit says whether the query row sees the key row. -/
theorem mask_at (i j : Fin 16384) : k0_pay6 (ix2 i j) = if Cert.Spec.sees i j then 1#1 else 0#1 := by
  pointwise [k0_pay6]
  have hi := i.isLt
  have hj := j.isLt
  rw [WordCmp.cmpi_sle_ofNat (by omega) (by omega)]
  have h2 : IntOp.cmpi .sgt (BitVec.ofNat 32 j.val) (IntOp.subi (BitVec.ofNat 32 i.val) 1024#32)
      = BitVec.ofBool (decide (i.val < j.val + 1024)) := by
    show BitVec.ofBool (BitVec.slt (BitVec.ofNat 32 i.val - 1024#32) (BitVec.ofNat 32 j.val)) = _
    congr 1
    rw [BitVec.slt_eq_decide]
    congr 1
    rw [BitVec.toInt_sub, WordCmp.toInt_ofNat_of_lt (by omega), WordCmp.toInt_ofNat_of_lt (by omega)]
    rw [Int.bmod_eq_of_le (by omega) (by omega), WordCmp.toInt_ofNat_of_lt (by omega)]
    apply propext; omega
  rw [h2]
  unfold Cert.Spec.sees
  by_cases a : j.val ≤ i.val <;> by_cases b : i.val < j.val + 1024 <;> simp [a, b, IntOp.andi]

variable (m : (ℓ : Loc nD τ sig) → Buf (Elt Ideal) ℓ)

/-- The reference's arguments, element by element. -/
def args (c : Dev nD) : Cert.Spec.Args where
  q b i h x := m ((c : Thread nD τ).loc main_arg0) (ix4 b i h x)
  qs h := m ((c : Thread nD τ).loc main_arg1) (ix1 h)
  k b j g x := m ((c : Thread nD τ).loc main_arg2) (ix4 b j g x)
  ks g := m ((c : Thread nD τ).loc main_arg3) (ix1 g)
  v b j g x := m ((c : Thread nD τ).loc main_arg4) (ix4 b j g x)
  vs g := m ((c : Thread nD τ).loc main_arg5) (ix1 g)
  d b i h x := m ((c : Thread nD τ).loc main_arg6) (ix4 b i h x)
  ds h := m ((c : Thread nD τ).loc main_arg7) (ix1 h)
  l b h i := m ((c : Thread nD τ).loc main_arg8) (ix3 b h i)
  e b i h := m ((c : Thread nD τ).loc main_arg9) (ix3 b i h)

theorem i0 : win0_0.index t0_0 = fun _ => 0 := rfl

/-- Operand 0 of the call at an element. -/
theorem blk0 (c : Dev nD) (b : Fin 2) (i : Fin 16384) (g : Fin 8) (r : Fin 2) (x : Fin 256) :
    iblk m c 0 t0_0 (ix5 b i g r x) = (args m c).q b i (Cert.Spec.hd g r) x := by
  trans V m c main_v0 (ix5 b i g r x)
  · blk_ext! [iblk, i0]
  · entry_read
    unfold args
    pointwise
    try rfl

theorem i1 : win0_1.index t0_0 = fun _ => 0 := rfl

/-- Operand 1 of the call at an element. -/
theorem blk1 (c : Dev nD) (g : Fin 8) (r : Fin 2) :
    iblk m c 1 t0_0 (ix2 g r) = (args m c).qs (Cert.Spec.hd g r) := by
  trans V m c main_v1 (ix2 g r)
  · blk_ext! [iblk, i1]
  · entry_read
    unfold args
    pointwise
    try rfl

theorem i2 : win0_2.index t0_0 = fun _ => 0 := rfl

/-- Operand 2 of the call at an element. -/
theorem blk2 (c : Dev nD) (b : Fin 2) (j : Fin 16384) (g : Fin 8) (x : Fin 256) :
    iblk m c 2 t0_0 (ix4 b j g x) = (args m c).k b j g x := by
  trans V m c main_arg2 (ix4 b j g x)
  · blk_ext! [iblk, i2]
  · entry_read
    unfold args
    pointwise
    try rfl

theorem i3 : win0_3.index t0_0 = fun _ => 0 := rfl

/-- Operand 3 of the call at an element. -/
theorem blk3 (c : Dev nD) (g : Fin 8) :
    iblk m c 3 t0_0 (ix1 g) = (args m c).ks g := by
  trans V m c main_arg3 (ix1 g)
  · blk_ext! [iblk, i3]
  · entry_read
    unfold args
    pointwise
    try rfl

theorem i4 : win0_4.index t0_0 = fun _ => 0 := rfl

/-- Operand 4 of the call at an element. -/
theorem blk4 (c : Dev nD) (b : Fin 2) (j : Fin 16384) (g : Fin 8) (x : Fin 256) :
    iblk m c 4 t0_0 (ix4 b j g x) = (args m c).v b j g x := by
  trans V m c main_arg4 (ix4 b j g x)
  · blk_ext! [iblk, i4]
  · entry_read
    unfold args
    pointwise
    try rfl

theorem i5 : win0_5.index t0_0 = fun _ => 0 := rfl

/-- Operand 5 of the call at an element. -/
theorem blk5 (c : Dev nD) (g : Fin 8) :
    iblk m c 5 t0_0 (ix1 g) = (args m c).vs g := by
  trans V m c main_arg5 (ix1 g)
  · blk_ext! [iblk, i5]
  · entry_read
    unfold args
    pointwise
    try rfl

theorem i6 : win0_6.index t0_0 = fun _ => 0 := rfl

/-- Operand 6 of the call at an element. -/
theorem blk6 (c : Dev nD) (b : Fin 2) (i : Fin 16384) (g : Fin 8) (r : Fin 2) (x : Fin 256) :
    iblk m c 6 t0_0 (ix5 b i g r x) = (args m c).d b i (Cert.Spec.hd g r) x := by
  trans V m c main_v2 (ix5 b i g r x)
  · blk_ext! [iblk, i6]
  · entry_read
    unfold args
    pointwise
    try rfl

theorem i7 : win0_7.index t0_0 = fun _ => 0 := rfl

/-- Operand 7 of the call at an element. -/
theorem blk7 (c : Dev nD) (g : Fin 8) (r : Fin 2) :
    iblk m c 7 t0_0 (ix2 g r) = (args m c).ds (Cert.Spec.hd g r) := by
  trans V m c main_v3 (ix2 g r)
  · blk_ext! [iblk, i7]
  · entry_read
    unfold args
    pointwise
    try rfl

theorem i8 : win0_8.index t0_0 = fun _ => 0 := rfl

/-- Operand 8 of the call at an element. -/
theorem blk8 (c : Dev nD) (b : Fin 2) (g : Fin 8) (r : Fin 2) (i : Fin 16384) :
    iblk m c 8 t0_0 (ix4 b g r i) = (args m c).l b (Cert.Spec.hd g r) i := by
  trans V m c main_v4 (ix4 b g r i)
  · blk_ext! [iblk, i8]
  · entry_read
    unfold args
    pointwise
    try rfl

theorem i9 : win0_9.index t0_0 = fun _ => 0 := rfl

/-- Operand 9 of the call at an element. -/
theorem blk9 (c : Dev nD) (b : Fin 2) (g : Fin 8) (r : Fin 2) (i : Fin 16384) :
    iblk m c 9 t0_0 (ix4 b g r i) = (args m c).e b i (Cert.Spec.hd g r) := by
  trans V m c main_v6 (ix4 b g r i)
  · blk_ext! [iblk, i9]
  · entry_read
    unfold args
    pointwise
    try rfl

theorem i10 : win0_10.index t0_0 = fun _ => 0 := rfl

/-- Result 1 is what the one grid point leaves. -/
theorem arr10 (c : Dev nD) : (dats m 0 c).arrAt 10 cfg0.N = out0_10 (iblk m c 0 t0_0) (iblk m c 1 t0_0) (iblk m c 2 t0_0) (iblk m c 3 t0_0) (iblk m c 4 t0_0) (iblk m c 5 t0_0) (iblk m c 6 t0_0) (iblk m c 7 t0_0) (iblk m c 8 t0_0) (iblk m c 9 t0_0) := by
  refine (dats m 0 c).arrAt_eq_of_covers 10 _ (by decide +kernel) fun t hf y => ?_
  rw [fin_N0 t]
  blk_simp
  rw [after0_10]
  congr 1
  blk_ext! [i10]

theorem i11 : win0_11.index t0_0 = fun _ => 0 := rfl

/-- Result 2 is what the one grid point leaves. -/
theorem arr11 (c : Dev nD) : (dats m 0 c).arrAt 11 cfg0.N = out0_11 (iblk m c 0 t0_0) (iblk m c 1 t0_0) (iblk m c 2 t0_0) (iblk m c 3 t0_0) (iblk m c 4 t0_0) (iblk m c 5 t0_0) (iblk m c 6 t0_0) (iblk m c 7 t0_0) (iblk m c 8 t0_0) (iblk m c 9 t0_0) := by
  refine (dats m 0 c).arrAt_eq_of_covers 11 _ (by decide +kernel) fun t hf y => ?_
  rw [fin_N0 t]
  blk_simp
  rw [after0_11]
  congr 1
  blk_ext! [i11]

theorem i12 : win0_12.index t0_0 = fun _ => 0 := rfl

/-- Result 3 is what the one grid point leaves. -/
theorem arr12 (c : Dev nD) : (dats m 0 c).arrAt 12 cfg0.N = out0_12 (iblk m c 0 t0_0) (iblk m c 1 t0_0) (iblk m c 2 t0_0) (iblk m c 3 t0_0) (iblk m c 4 t0_0) (iblk m c 5 t0_0) (iblk m c 6 t0_0) (iblk m c 7 t0_0) (iblk m c 8 t0_0) (iblk m c 9 t0_0) := by
  refine (dats m 0 c).arrAt_eq_of_covers 12 _ (by decide +kernel) fun t hf y => ?_
  rw [fin_N0 t]
  blk_simp
  rw [after0_12]
  congr 1
  blk_ext! [i12]

section Body

variable (A : Cert.Spec.Args) (x0 x6 : S2x16384x8x2x256.Idx → EReal) (x1 x7 : S8x2.Idx → EReal) (x2 x4 : S2x16384x8x256.Idx → EReal) (x3 x5 : S8.Idx → EReal) (x8 x9 : S2x8x2x16384.Idx → EReal)
    (h0 : ∀ b i g r x, x0 (ix5 b i g r x) = A.q b i (Cert.Spec.hd g r) x) (h1 : ∀ g r, x1 (ix2 g r) = A.qs (Cert.Spec.hd g r))
    (h2 : ∀ b j g x, x2 (ix4 b j g x) = A.k b j g x) (h3 : ∀ g, x3 (ix1 g) = A.ks g)
    (h4 : ∀ b j g x, x4 (ix4 b j g x) = A.v b j g x) (h5 : ∀ g, x5 (ix1 g) = A.vs g)
    (h6 : ∀ b i g r x, x6 (ix5 b i g r x) = A.d b i (Cert.Spec.hd g r) x) (h7 : ∀ g r, x7 (ix2 g r) = A.ds (Cert.Spec.hd g r))
    (h8 : ∀ b g r i, x8 (ix4 b g r i) = A.l b (Cert.Spec.hd g r) i) (h9 : ∀ b g r i, x9 (ix4 b g r i) = A.e b i (Cert.Spec.hd g r))

include h0 h1 h2 h3

/-- The tanh of the scores, at an element. -/
theorem T_at (b : Fin 2) (g : Fin 8) (r : Fin 2) (i j : Fin 16384) :
    k0_pay7 (F := Ideal) x0 x2 x1 x3 (ix5 b g r i j) = Cert.Spec.T A b g r i j := by
  pointwise [k0_pay7, k0_pay4]
  simp only [h0, h1, h2, h3]
  rfl

/-- The capped scores, at an element. -/
theorem S_at (b : Fin 2) (g : Fin 8) (r : Fin 2) (i j : Fin 16384) :
    k0_pay8 (F := Ideal) x0 x2 x1 x3 (ix5 b g r i j) = Cert.Spec.c5 * Cert.Spec.T A b g r i j := by
  pointwise [k0_pay8, T_at A x0 x1 x2 x3 h0 h1 h2 h3]
  rfl

include h8

/-- The weights, at an element. -/
theorem P_at (b : Fin 2) (g : Fin 8) (r : Fin 2) (i j : Fin 16384) :
    k0_pay9 (F := Ideal) k0_pay6 (k0_pay8 (F := Ideal) x0 x2 x1 x3) x8 (ix5 b g r i j) = Cert.Spec.P A b g r i j := by
  pointwise [k0_pay9, mask_at, S_at A x0 x1 x2 x3 h0 h1 h2 h3]
  rw [h8]
  unfold Cert.Spec.P Scalar.select
  by_cases h : Cert.Spec.sees i j <;> simp [h]

include h4 h5 h6 h7 h9

/-- The gradient at the scores, at an element. -/
theorem DS_at (b : Fin 2) (g : Fin 8) (r : Fin 2) (i j : Fin 16384) :
    k0_pay10 (F := Ideal) x4 (k0_pay5 x6) k0_pay6 (k0_pay7 (F := Ideal) x0 x2 x1 x3) (k0_pay8 (F := Ideal) x0 x2 x1 x3) x8 x7 x5 x9 (ix5 b g r i j) = Cert.Spec.DS A b g r i j := by
  pointwise [k0_pay10, k0_pay5, P_at A x0 x1 x2 x3 x8 h0 h1 h2 h3 h8, T_at A x0 x1 x2 x3 h0 h1 h2 h3]
  simp only [h4, h5, h6, h7, h9]
  rfl

/-- The gradient with respect to q, at an element. -/
theorem dq_at (b : Fin 2) (g : Fin 8) (r : Fin 2) (i : Fin 16384) (x : Fin 256) :
    k0_pay1 (k0_pay11 (F := Ideal) x2 x4 (k0_pay5 x6) k0_pay6 (k0_pay7 (F := Ideal) x0 x2 x1 x3) (k0_pay8 (F := Ideal) x0 x2 x1 x3) x8 x7 x5 x9 x3) (ix4 b (Cert.Spec.hd g r) i x) = Cert.Spec.dq A b g r i x := by
  pointwise [k0_pay1, k0_pay11]
  have e1 : ∀ h, (⟨(Cert.Spec.hd g r).val / 2, h⟩ : Fin 8) = g := fun h => Fin.ext (by show (g.val * 2 + r.val) / 2 = g.val; have := r.isLt; omega)
  have e2 : ∀ h, (⟨(Cert.Spec.hd g r).val % 2, h⟩ : Fin 2) = r := fun h => Fin.ext (by show (g.val * 2 + r.val) % 2 = r.val; have := r.isLt; omega)
  simp only [e1, e2, DS_at A x0 x6 x1 x7 x2 x4 x3 x5 x8 x9 h0 h1 h2 h3 h4 h5 h6 h7 h8 h9, h2, h3]
  rfl

/-- The gradient with respect to k, at an element. -/
theorem dk_at (b : Fin 2) (g : Fin 8) (j : Fin 16384) (x : Fin 256) :
    k0_pay2 (k0_pay4 x0) (k0_pay10 (F := Ideal) x4 (k0_pay5 x6) k0_pay6 (k0_pay7 (F := Ideal) x0 x2 x1 x3) (k0_pay8 (F := Ideal) x0 x2 x1 x3) x8 x7 x5 x9) x1 (ix4 b g j x) = ∑ r, Cert.Spec.dkH A b g j x r := by
  pointwise [k0_pay2, k0_pay4]
  simp only [DS_at A x0 x6 x1 x7 x2 x4 x3 x5 x8 x9 h0 h1 h2 h3 h4 h5 h6 h7 h8 h9, h0, h1]
  rfl

omit h4 h5 h9

/-- The gradient with respect to v, at an element. -/
theorem dv_at (b : Fin 2) (g : Fin 8) (j : Fin 16384) (x : Fin 256) :
    k0_pay3 (k0_pay5 x6) (k0_pay9 (F := Ideal) k0_pay6 (k0_pay8 (F := Ideal) x0 x2 x1 x3) x8) x7 (ix4 b g j x) = ∑ r, Cert.Spec.dvH A b g j x r := by
  pointwise [k0_pay3, k0_pay5]
  simp only [P_at A x0 x1 x2 x3 x8 h0 h1 h2 h3 h8, h6, h7]
  rfl

end Body

theorem hz1 : (![0] : Fin 1 → Nat) = fun _ => 0 := funext fun a => by fin_cases a <;> rfl
theorem hz2 : (![0, 0] : Fin 2 → Nat) = fun _ => 0 := funext fun a => by fin_cases a <;> rfl
theorem hz4 : (![0, 0, 0, 0] : Fin 4 → Nat) = fun _ => 0 := funext fun a => by fin_cases a <;> rfl
theorem hz5 : (![0, 0, 0, 0, 0] : Fin 5 → Nat) = fun _ => 0 := funext fun a => by fin_cases a <;> rfl

theorem ld0 {e : EltTy} (x : S2x16384x8x2x256.Idx → Elt Ideal e) : View.ld x r0_0 = x := View.ld_unit_zero hz5 _ _

theorem ld1 {e : EltTy} (x : S2x16384x8x256.Idx → Elt Ideal e) : View.ld x r0_1 = x := View.ld_unit_zero hz4 _ _

theorem ld2 {e : EltTy} (x : S8x2.Idx → Elt Ideal e) : View.ld x r0_2 = x := View.ld_unit_zero hz2 _ _

theorem ld3 {e : EltTy} (x : S8.Idx → Elt Ideal e) : View.ld x r0_3 = x := View.ld_unit_zero hz1 _ _

theorem ld4 {e : EltTy} (x : S2x8x2x16384.Idx → Elt Ideal e) : View.ld x r0_4 = x := View.ld_unit_zero hz4 _ _

/-- The first result of the call at an element. -/
theorem res10 (c : Dev nD) (b : Fin 2) (g : Fin 8) (r : Fin 2) (i : Fin 16384) (x : Fin 256) :
    (dats m 0 c).arrAt 10 cfg0.N (ix4 b (Cert.Spec.hd g r) i x) = Cert.Spec.dq (args m c) b g r i x := by
  rw [arr10]
  unfold_out out0_10
  rw [View.canon_unit_zero hz4]
  rw [ld0, ld0, ld1, ld1, ld2, ld2, ld3, ld3, ld4, ld4]
  exact dq_at (args m c) _ _ _ _ _ _ _ _ _ _ (blk0 m c) (blk1 m c) (blk2 m c) (blk3 m c) (blk4 m c) (blk5 m c) (blk6 m c) (blk7 m c) (blk8 m c) (blk9 m c) b g r i x

/-- The second result of the call at an element. -/
theorem res11 (c : Dev nD) (b : Fin 2) (g : Fin 8) (j : Fin 16384) (x : Fin 256) :
    (dats m 0 c).arrAt 11 cfg0.N (ix4 b g j x) = ∑ r, Cert.Spec.dkH (args m c) b g j x r := by
  rw [arr11]
  unfold_out out0_11
  rw [View.canon_unit_zero hz4]
  rw [ld0, ld0, ld1, ld1, ld2, ld2, ld3, ld3, ld4, ld4]
  exact dk_at (args m c) _ _ _ _ _ _ _ _ _ _ (blk0 m c) (blk1 m c) (blk2 m c) (blk3 m c) (blk4 m c) (blk5 m c) (blk6 m c) (blk7 m c) (blk8 m c) (blk9 m c) b g j x

/-- The third result of the call at an element. -/
theorem res12 (c : Dev nD) (b : Fin 2) (g : Fin 8) (j : Fin 16384) (x : Fin 256) :
    (dats m 0 c).arrAt 12 cfg0.N (ix4 b g j x) = ∑ r, Cert.Spec.dvH (args m c) b g j x r := by
  rw [arr12]
  unfold_out out0_12
  rw [View.canon_unit_zero hz4]
  rw [ld0, ld0, ld1, ld2, ld2, ld3, ld4]
  exact dv_at (args m c) _ _ _ _ _ _ _ (blk0 m c) (blk1 m c) (blk2 m c) (blk3 m c) (blk6 m c) (blk7 m c) (blk8 m c) b g j x

end Cert.ReferenceIdeal.Val
-- ==== Proof.Algebraic.lean ====
/- The idealized pallas_call `main` and the reference leave the same three gradients. -/
module

public import proofs.«01_k».proof.Defs
public import proofs.«01_k».proof.Proof.Results
public import proofs.«01_k».proof.Proof.RefValue
public import proofs.«01_k».proof.Proof.Gen.MainIdeal
public import proofs.«01_k».proof.Proof.Gen.ReferenceIdeal
public import Idealize.ShloMosaic.Adequacy

@[expose] public section

set_option maxRecDepth 16384

noncomputable section

open Idealize.ShloMosaic Idealize.ShloMosaic.TcCoe Idealize.SL.Sem

namespace Cert.MainIdeal.Val

open Cert.MainIdeal Cert.MainIdeal.Gen Cert.MainIdeal.Body

/-- Every run of the idealized pallas_call ends with the three gradients in its results and its arguments unchanged. -/
theorem run_values (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v21_0) = G7 m c
      ∧ r.2.mem ((c.tc : Thread nD τ).loc main_v21_1) = G8 m c
      ∧ r.2.mem ((c.tc : Thread nD τ).loc main_v21_2) = G9 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ hh c => (fun (h : Pipeline.FramePost cfgs (dats m) 0 (V m) _) =>
    ⟨((h c).1 7).trans (arr7 m c), ((h c).1 8).trans (arr8 m c), ((h c).1 9).trans (arr9 m c),
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).1 5).trans (((dats m 0 c).arrAt_in 5 rfl _).trans (V_main_arg8 m c)),
      ((h c).2 main_arg9 (Pipeline.mem_restRefs_of main_arg9 (by decide) (by decide))).trans (V_main_arg9 m c)⟩) hh.1) (run_main m ρ)

end Cert.MainIdeal.Val

namespace Cert.Proof

open Cert.MainIdeal.Val (G7 G8 G9 par hd_half_par)
open Cert.MainIdeal.Body (half)

section

variable (m : (ℓ : Loc Cert.MainIdeal.nD Cert.MainIdeal.τ Cert.MainIdeal.sig) → Buf (Elt Ideal) ℓ)
  (m' : (ℓ : Loc Cert.ReferenceIdeal.nD Cert.ReferenceIdeal.τ Cert.ReferenceIdeal.sig) → Buf (Elt Ideal) ℓ)

/-- The reference's first result is the kernel's. -/
theorem ref10 (c : Dev Cert.MainIdeal.nD) (hA : Cert.ReferenceIdeal.Val.args m' c = Cert.MainIdeal.Val.args m c) :
    (Cert.ReferenceIdeal.Gen.dats m' 0 c).arrAt 10 Cert.ReferenceIdeal.cfg0.N = G7 m c := by
  funext y
  idx_vars y
  have e := Cert.ReferenceIdeal.Val.res10 m' c y0 (half y1) (par y1) y2 y3
  rw [hd_half_par, hA] at e
  exact e

/-- The reference's second result is the kernel's. -/
theorem ref11 (c : Dev Cert.MainIdeal.nD) (hA : Cert.ReferenceIdeal.Val.args m' c = Cert.MainIdeal.Val.args m c) :
    (Cert.ReferenceIdeal.Gen.dats m' 0 c).arrAt 11 Cert.ReferenceIdeal.cfg0.N = G8 m c := by
  funext y
  idx_vars y
  have e := Cert.ReferenceIdeal.Val.res11 m' c y0 y1 y2 y3
  rw [hA] at e
  exact e

/-- The reference's third result is the kernel's. -/
theorem ref12 (c : Dev Cert.MainIdeal.nD) (hA : Cert.ReferenceIdeal.Val.args m' c = Cert.MainIdeal.Val.args m c) :
    (Cert.ReferenceIdeal.Gen.dats m' 0 c).arrAt 12 Cert.ReferenceIdeal.cfg0.N = G9 m c := by
  funext y
  idx_vars y
  have e := Cert.ReferenceIdeal.Val.res12 m' c y0 y1 y2 y3
  rw [hA] at e
  exact e

end

/-- From equal arguments the kernel's five-product call and the reference end with equal dq, dk and dv. -/
theorem algebraic : Cert.algebraic_MainIdeal_ReferenceIdeal := by
  intro m ρ m' ρ' _ hagree
  have hA : ∀ c, Cert.ReferenceIdeal.Val.args m' c = Cert.MainIdeal.Val.args m c := fun c => by
    obtain ⟨h0, h1, h2, h3, h4, h5, h6, h7, h8, h9⟩ := hagree c
    unfold Cert.ReferenceIdeal.Val.args Cert.MainIdeal.Val.args
    congr 1
    · exact funext fun b => funext fun i => funext fun h => funext fun x => congrFun h0 (ix4 b i h x)
    · exact funext fun h => congrFun h1 (ix1 h)
    · exact funext fun b => funext fun i => funext fun h => funext fun x => congrFun h2 (ix4 b i h x)
    · exact funext fun h => congrFun h3 (ix1 h)
    · exact funext fun b => funext fun i => funext fun h => funext fun x => congrFun h4 (ix4 b i h x)
    · exact funext fun h => congrFun h5 (ix1 h)
    · exact funext fun b => funext fun i => funext fun h => funext fun x => congrFun h6 (ix4 b i h x)
    · exact funext fun h => congrFun h7 (ix1 h)
    · exact funext fun b => funext fun h => funext fun i => congrFun h8 (ix3 b h i)
    · exact funext fun b => funext fun i => funext fun h => congrFun h9 (ix3 b i h)
  refine ⟨fun c => G7 m c, fun c => G8 m c, fun c => G9 m c, Cert.MainIdeal.Val.run_values m ρ, ?_⟩
  refine (θ_run Cert.ReferenceIdeal.defs _ _).mono (fun _ h c => ?_) (Cert.ReferenceIdeal.Value.run_blocks (F := Ideal) m' ρ')
  obtain ⟨r0, r1, r2, h0, h1, h2, h3, h4, h5, h6, h7, h8, h9⟩ := h c
  exact ⟨r0.trans (ref10 m m' c (hA c)), r1.trans (ref11 m m' c (hA c)), r2.trans (ref12 m m' c (hA c)), h0, h1, h2, h3, h4, h5, h6, h7, h8, h9⟩

end Cert.Proof

end
-- ==== Proof.DeltaValue.lean ====
/- The idealized pallas_call `delta` and its reference leave the same row sums. -/
module

public import proofs.«01_k».proof.Defs
public import proofs.«01_k».proof.Proof.Gen.DeltaIdeal.Value
public import proofs.«01_k».proof.Proof.Gen.DeltaRefIdeal.Value
public import proofs.«01_k».proof.Proof.Gen.DeltaIdeal
public import proofs.«01_k».proof.Proof.Gen.DeltaRefIdeal
public import proofs.«01_k».proof.Proof.Gen.Pre_scale_finite
public import Idealize.ShloMosaic.Lib.Pointwise
public import Idealize.ShloMosaic.Lib.Pipeline.ValueKit
public import Idealize.ShloMosaic.Adequacy

@[expose] public section

set_option maxRecDepth 16384

noncomputable section

open Idealize.ShloMosaic Idealize.ShloMosaic.TcCoe Idealize.SL.Sem

namespace Cert.DeltaIdeal.Val

open Cert.DeltaIdeal Cert.DeltaIdeal.Gen

/-- The scaled row sums of d_out * out. -/
def rows (s : S16.Idx → EReal) (d o : S2x16384x16x256.Idx → EReal) : S2x16384x16.Idx → EReal :=
  fun y => (∑ x : Fin 256, d (ix4 (y 0) (y 1) (y 2) x) * o (ix4 (y 0) (y 1) (y 2) x)) * s (ix1 (y 2))

/-- What one grid point stores, at an index. -/
theorem pay1_at (d : S1x128x16x256.Idx → EReal) (o : S1x128x16x256.Idx → EReal) (s : S1x16.Idx → EReal) (i : Fin 128) (h : Fin 16) :
    (k0_pay1 (F := Ideal) d o s (ix3 0 i h) : EReal) = (∑ x : Fin 256, d (ix4 0 i h x) * o (ix4 0 i h x)) * s (ix2 0 h) := by
  pointwise [k0_pay1]

variable (m : (ℓ : Loc nD τ sig) → Buf (Elt Ideal) ℓ) (c : Dev nD)

/-- The arguments. -/
abbrev sArg : S16.Idx → EReal := m ((c : Thread nD τ).loc main_arg0)
abbrev dArg : S2x16384x16x256.Idx → EReal := m ((c : Thread nD τ).loc main_arg1)
abbrev oArg : S2x16384x16x256.Idx → EReal := m ((c : Thread nD τ).loc main_arg2)

theorem idx0 : ∀ t : Fin cfg0.N, win0_0.index t = ![t.val / 128, t.val % 128, 0, 0] :=
  (by decide +kernel : ∀ t : Fin grid0.N, win0_0.index t = ![t.val / 128, t.val % 128, 0, 0])
theorem idx1 : ∀ t : Fin cfg0.N, win0_1.index t = ![t.val / 128, t.val % 128, 0, 0] :=
  (by decide +kernel : ∀ t : Fin grid0.N, win0_1.index t = ![t.val / 128, t.val % 128, 0, 0])
theorem idx2 : ∀ t : Fin cfg0.N, win0_2.index t = ![0, 0] :=
  (by decide +kernel : ∀ t : Fin grid0.N, win0_2.index t = ![0, 0])
theorem idx3 : ∀ t : Fin cfg0.N, win0_3.index t = ![t.val / 128, t.val % 128, 0] :=
  (by decide +kernel : ∀ t : Fin grid0.N, win0_3.index t = ![t.val / 128, t.val % 128, 0])

theorem N_0 : cfg0.N = 256 := by decide +kernel

theorem bt (t : Fin cfg0.N) : t.val / 128 < 2 := by
  have : t.val < 256 := lt_of_lt_of_eq t.isLt N_0
  omega

/-- Row `i` of a point's block. -/
def rw_ (t : Fin cfg0.N) (i : Fin 128) : Fin 16384 := ⟨t.val % 128 * 128 + i.val, by have := i.isLt; omega⟩

theorem blk0 (t : Fin cfg0.N) (i : Fin 128) (h : Fin 16) (x : Fin 256) :
    (iblk m c 0 t (ix4 0 i h x) : EReal) = dArg m c (ix4 ⟨t.val / 128, bt t⟩ (rw_ t i) h x) := by
  trans V m c main_arg1 (ix4 ⟨t.val / 128, bt t⟩ (rw_ t i) h x)
  · blk_ext! [iblk, idx0 t, rw_]
  · rw [V_main_arg1]

theorem blk1 (t : Fin cfg0.N) (i : Fin 128) (h : Fin 16) (x : Fin 256) :
    (iblk m c 1 t (ix4 0 i h x) : EReal) = oArg m c (ix4 ⟨t.val / 128, bt t⟩ (rw_ t i) h x) := by
  trans V m c main_arg2 (ix4 ⟨t.val / 128, bt t⟩ (rw_ t i) h x)
  · blk_ext! [iblk, idx1 t, rw_]
  · rw [V_main_arg2]

theorem blk2 (t : Fin cfg0.N) (h : Fin 16) : (iblk m c 2 t (ix2 0 h) : EReal) = sArg m c (ix1 h) := by
  trans V m c main_v0 (ix2 0 h)
  · blk_ext! [iblk, idx2 t]
  · entry_read
    pointwise
    try rfl

theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

theorem ld0 {e : EltTy} (x : S1x128x16x256.Idx → Elt Ideal e) : View.ld x r0_0 = x := View.ld_unit_zero hz4 _ _
theorem ld1 {e : EltTy} (x : S1x16.Idx → Elt Ideal e) : View.ld x r0_1 = x := View.ld_unit_zero hz2 _ _

/-- The result array is the scaled row sums. -/
theorem arr3 : (dats m 0 c).arrAt 3 cfg0.N = rows (sArg m c) (dArg m c) (oArg m c) := by
  refine (dats m 0 c).arrAt_eq_of_covers 3 (rows (sArg m c) (dArg m c) (oArg m c)) (by decide +kernel) fun t hf y => ?_
  blk_simp
  rw [after0_3]
  unfold out0_3
  rw [View.canon_unit_zero hz3]
  rw [ld0, ld0, ld1]
  idx_vars y
  rw [Subsingleton.elim y0 0]
  refine (pay1_at _ _ _ _ _).trans ?_
  simp only [blk0, blk1, blk2]
  trans rows (sArg m c) (dArg m c) (oArg m c) (ix3 ⟨t.val / 128, bt t⟩ (rw_ t y1) y2)
  · rfl
  congr 1
  blk_ext! [idx3 t, rw_]

end Cert.DeltaIdeal.Val

namespace Cert.DeltaRefIdeal.Val

open Cert.DeltaRefIdeal Cert.DeltaRefIdeal.Gen

/-- What the reference stores, at an index. -/
theorem pay1_at (d : S2x16384x16x256.Idx → EReal) (s : S16.Idx → EReal) (o : S2x16384x16x256.Idx → EReal) (b : Fin 2) (i : Fin 16384) (h : Fin 16) :
    (k0_pay1 (F := Ideal) d s o (ix3 b i h) : EReal) = ∑ x : Fin 256, d (ix4 b i h x) * s (ix1 h) * o (ix4 b i h x) := by
  pointwise [k0_pay1]

/-- A scale that is finite and not negative comes out of a sum. -/
theorem sum_scale {ι : Type} (t : Finset ι) (d o : ι → EReal) (s : EReal) (h0 : 0 ≤ s) (h1 : s ≠ ⊤) :
    ∑ x ∈ t, d x * s * o x = (∑ x ∈ t, d x * o x) * s := by
  classical
  induction t using Finset.induction_on with
  | empty => simp
  | insert a t ha ih =>
    rw [Finset.sum_insert ha, Finset.sum_insert ha, ih, EReal.right_distrib_of_nonneg_of_ne_top h0 h1, mul_right_comm]

/-- What the precondition says of the scales. -/
theorem of_pre (s : S16.Idx → EReal) (d o) (h : Cert.Pre_scale_finite.fn (F := Ideal) s d o = fun _ => 1#1) (k : Fin 16) :
    0 ≤ s (ix1 k) ∧ s (ix1 k) ≠ ⊤ := by
  have e := congrFun h (ix1 k)
  have htop : Ideal.ofBits .f32 0x7F800000#32 = ⊤ := by simp [Ideal.ofBits, Ideal.ieee]
  simp only [Cert.Pre_scale_finite.fn, andi, cmpf, broadcastInDim, constant] at e
  have e' : BitVec.ofBool (decide (Ideal.ofBits .f32 0#32 ≤ s (ix1 k))) &&& BitVec.ofBool (decide (s (ix1 k) < Ideal.ofBits .f32 0x7F800000#32)) = 1#1 := e
  rw [Ideal.ofBits_zero _, htop] at e'
  by_cases h0 : (0 : EReal) ≤ s (ix1 k)
  · by_cases h1 : s (ix1 k) < ⊤
    · exact ⟨h0, h1.ne⟩
    · simp [h1] at e'
  · simp [h0] at e'

end Cert.DeltaRefIdeal.Val

namespace Cert.Proof

/-- From equal arguments, the scales finite and not negative, the pallas_call `delta` and its reference end with equal row sums. -/
theorem algebraicDelta : Cert.algebraic_DeltaIdeal_DeltaRefIdeal_pre_scale_finite := by
  intro m ρ m' ρ' hpre hagree
  have run1 : θ_run Cert.DeltaIdeal.defs (onTc Cert.DeltaIdeal.main) { mem := m, sem := fun _ => 0, prng := ρ } fun r =>
      ∀ c : Dev Cert.DeltaIdeal.nD,
        r.2.mem ((c : Thread Cert.DeltaIdeal.nD Cert.DeltaIdeal.τ).loc Cert.DeltaIdeal.main_v1) = Cert.DeltaIdeal.Val.rows (Cert.DeltaIdeal.Val.sArg m c) (Cert.DeltaIdeal.Val.dArg m c) (Cert.DeltaIdeal.Val.oArg m c) ∧
        r.2.mem ((c : Thread Cert.DeltaIdeal.nD Cert.DeltaIdeal.τ).loc Cert.DeltaIdeal.main_arg0) = m ((c : Thread Cert.DeltaIdeal.nD Cert.DeltaIdeal.τ).loc Cert.DeltaIdeal.main_arg0) ∧
        r.2.mem ((c : Thread Cert.DeltaIdeal.nD Cert.DeltaIdeal.τ).loc Cert.DeltaIdeal.main_arg1) = m ((c : Thread Cert.DeltaIdeal.nD Cert.DeltaIdeal.τ).loc Cert.DeltaIdeal.main_arg1) ∧
        r.2.mem ((c : Thread Cert.DeltaIdeal.nD Cert.DeltaIdeal.τ).loc Cert.DeltaIdeal.main_arg2) = m ((c : Thread Cert.DeltaIdeal.nD Cert.DeltaIdeal.τ).loc Cert.DeltaIdeal.main_arg2) := by
    refine (θ_run Cert.DeltaIdeal.defs _ _).mono (fun _ h c => ?_) (Cert.DeltaIdeal.Value.run_blocks (F := Ideal) m ρ)
    obtain ⟨r, h0, h1, h2⟩ := h c
    exact ⟨r.trans (Cert.DeltaIdeal.Val.arr3 m c), h0, h1, h2⟩
  refine ⟨_, run1, ?_⟩
  refine (θ_run Cert.DeltaRefIdeal.defs _ _).mono (fun _ h c => ?_) (Cert.DeltaRefIdeal.Value.run (F := Ideal) m' ρ')
  obtain ⟨r, h0, h1, h2⟩ := h c
  obtain ⟨a0, a1, a2⟩ := hagree c
  refine ⟨r.trans ?_, h0, h1, h2⟩
  have e0 : m' ((c : Thread Cert.DeltaRefIdeal.nD Cert.DeltaRefIdeal.τ).loc Cert.DeltaRefIdeal.main_arg0) = Cert.DeltaIdeal.Val.sArg m c := a0
  have e1 : m' ((c : Thread Cert.DeltaRefIdeal.nD Cert.DeltaRefIdeal.τ).loc Cert.DeltaRefIdeal.main_arg1) = Cert.DeltaIdeal.Val.dArg m c := a1
  have e2 : m' ((c : Thread Cert.DeltaRefIdeal.nD Cert.DeltaRefIdeal.τ).loc Cert.DeltaRefIdeal.main_arg2) = Cert.DeltaIdeal.Val.oArg m c := a2
  rw [e0, e1, e2]
  funext y
  idx_vars y
  obtain ⟨p0, p1⟩ := Cert.DeltaRefIdeal.Val.of_pre _ _ _ (hpre c) y2
  exact (Cert.DeltaRefIdeal.Val.pay1_at _ _ _ _ _ _).trans (Cert.DeltaRefIdeal.Val.sum_scale _ _ _ _ p0 p1)

end Cert.Proof

end
-- ==== Proof.lean ====
module

public import proofs.«01_k».proof.Proof.Gen.ReferenceIdeal.Value
public import proofs.«01_k».proof.Proof.Gen.DeltaIdeal.Value
public import proofs.«01_k».proof.Proof.Gen.DeltaRefIdeal.Value
public import proofs.«01_k».proof.Defs
public import proofs.«01_k».proof.Proof.Frames
public import proofs.«01_k».proof.Proof.Algebraic
public import proofs.«01_k».proof.Proof.DeltaValue
public import proofs.«01_k».proof.Proof.Gen.Main
public import proofs.«01_k».proof.Proof.Gen.MainIdeal
public import proofs.«01_k».proof.Proof.Gen.ReferenceIdeal
public import proofs.«01_k».proof.Proof.Gen.Delta
public import proofs.«01_k».proof.Proof.Gen.DeltaIdeal
public import proofs.«01_k».proof.Proof.Gen.DeltaRefIdeal
public import proofs.«01_k».proof.Proof.Gen.Pre_scale_finite
public import Idealize.ShloMosaic.Adequacy
public import Idealize.ShloMosaic.Init

@[expose] public section

noncomputable section

namespace Cert.Proof

open Idealize.ShloMosaic Idealize.SL.Sem

theorem claim : Cert.Claim :=
  ⟨Cert.Main.Gen.facts, Cert.MainIdeal.Gen.facts, Cert.ReferenceIdeal.Gen.facts, Cert.Delta.Gen.facts, Cert.DeltaIdeal.Gen.facts, Cert.DeltaRefIdeal.Gen.facts, Cert.Pre_scale_finite.Gen.facts,
    frame_main, frame_mainIdeal, frame_reference, frame_delta, frame_deltaIdeal, fun m ρ _ => Cert.DeltaIdeal.Gen.frame m ρ,
    frame_deltaRef, fun m ρ _ => Cert.DeltaRefIdeal.Gen.frame m ρ, preserves_main, algebraic, trivial, algebraicDelta⟩

end Cert.Proof

end
